-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S128x2x128 Cert.KernelIdeal.S128x1x128
  ∧ IdealRules.bf16_pair.Statement Cert.KernelIdeal.S256x128 Cert.KernelIdeal.S128x128
  ∧ IdealRules.named_const.Statement Cert.KernelIdeal.κ "log2e" .f32 0x3FB8AA3B#32 (((Real.log 2)⁻¹ : ℝ) : EReal)
  ∧ IdealRules.named_const.Statement Cert.KernelIdeal.κ "score_c" .f32 0x3E0293EE#32 (((11863283 / 134217728) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_3)) (v4 : (c : Dev Cert.KernelIdeal.nD) → Buf (Elt Ideal) ((c.tc : Thread Cert.KernelIdeal.nD Cert.KernelIdeal.τ).loc Cert.KernelIdeal.main_v17_4)) (v5 : (c : Dev Cert.KernelIdeal.nD) → Buf (Elt Ideal) ((c.tc : Thread Cert.KernelIdeal.nD Cert.KernelIdeal.τ).loc Cert.KernelIdeal.main_v17_5)) (v6 : (c : Dev Cert.KernelIdeal.nD) → Buf (Elt Ideal) ((c.tc : Thread Cert.KernelIdeal.nD Cert.KernelIdeal.τ).loc Cert.KernelIdeal.main_v17_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_3) = v3 c
          ∧ r.2.mem ((c.tc : Thread Cert.KernelIdeal.nD Cert.KernelIdeal.τ).loc Cert.KernelIdeal.main_v17_4) = v4 c
          ∧ r.2.mem ((c.tc : Thread Cert.KernelIdeal.nD Cert.KernelIdeal.τ).loc Cert.KernelIdeal.main_v17_5) = v5 c
          ∧ r.2.mem ((c.tc : Thread Cert.KernelIdeal.nD Cert.KernelIdeal.τ).loc Cert.KernelIdeal.main_v17_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v163) = v1 c
          ∧ r.2.mem ((c.tc : Thread Cert.ReferenceIdeal.nD Cert.ReferenceIdeal.τ).loc Cert.ReferenceIdeal.main_v164) = v2 c
          ∧ r.2.mem ((c.tc : Thread Cert.ReferenceIdeal.nD Cert.ReferenceIdeal.τ).loc Cert.ReferenceIdeal.main_v166) = v3 c
          ∧ r.2.mem ((c.tc : Thread Cert.ReferenceIdeal.nD Cert.ReferenceIdeal.τ).loc Cert.ReferenceIdeal.main_v167) = v4 c
          ∧ r.2.mem ((c.tc : Thread Cert.ReferenceIdeal.nD Cert.ReferenceIdeal.τ).loc Cert.ReferenceIdeal.main_v168) = v5 c
          ∧ r.2.mem ((c.tc : Thread Cert.ReferenceIdeal.nD Cert.ReferenceIdeal.τ).loc Cert.ReferenceIdeal.main_v169) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x640x40x128 : Shape := ⟨4, ![3, 640, 40, 128]⟩
abbrev S3x640x8x128 : Shape := ⟨4, ![3, 640, 8, 128]⟩
abbrev S3x3x640 : Shape := ⟨3, ![3, 3, 640]⟩
abbrev S64 : Shape := ⟨1, ![64]⟩
abbrev S_ : Shape := ⟨0, ![]⟩
abbrev S64x1 : Shape := ⟨2, ![64, 1]⟩
abbrev S64x128 : Shape := ⟨2, ![64, 128]⟩
abbrev S76800x128 : Shape := ⟨2, ![76800, 128]⟩
abbrev S15360x128 : Shape := ⟨2, ![15360, 128]⟩
abbrev S3x640x5120 : Shape := ⟨3, ![3, 640, 5120]⟩
abbrev S3x40x640 : Shape := ⟨3, ![3, 40, 640]⟩
abbrev S3x8x640 : Shape := ⟨3, ![3, 8, 640]⟩
abbrev S3x1x640 : Shape := ⟨3, ![3, 1, 640]⟩
abbrev S5120x128 : Shape := ⟨2, ![5120, 128]⟩
abbrev S1024x128 : Shape := ⟨2, ![1024, 128]⟩
abbrev S1x3x128 : Shape := ⟨3, ![1, 3, 128]⟩
abbrev S1x128x5120 : Shape := ⟨3, ![1, 128, 5120]⟩
abbrev S1x40x128 : Shape := ⟨3, ![1, 40, 128]⟩
abbrev S1x8x128 : Shape := ⟨3, ![1, 8, 128]⟩
abbrev S1x1x128 : Shape := ⟨3, ![1, 1, 128]⟩
abbrev S8x640x128 : Shape := ⟨3, ![8, 640, 128]⟩
abbrev S8x128x640 : Shape := ⟨3, ![8, 128, 640]⟩
abbrev S5248x128 : Shape := ⟨2, ![5248, 128]⟩
abbrev S1152x128 : Shape := ⟨2, ![1152, 128]⟩
abbrev S8x128 : Shape := ⟨2, ![8, 128]⟩
abbrev S128x5120 : Shape := ⟨2, ![128, 5120]⟩
abbrev S3x128 : Shape := ⟨2, ![3, 128]⟩
abbrev S1x128 : Shape := ⟨2, ![1, 128]⟩
abbrev S512x128 : Shape := ⟨2, ![512, 128]⟩
abbrev S128x128 : Shape := ⟨2, ![128, 128]⟩
abbrev S512x2x128 : Shape := ⟨3, ![512, 2, 128]⟩
abbrev S128x2x128 : Shape := ⟨3, ![128, 2, 128]⟩
abbrev S128x1x128 : Shape := ⟨3, ![128, 1, 128]⟩
abbrev S128 : Shape := ⟨1, ![128]⟩
abbrev S1x128x128 : Shape := ⟨3, ![1, 128, 128]⟩
abbrev S32x128 : Shape := ⟨2, ![32, 128]⟩
abbrev S2560x128 : Shape := ⟨2, ![2560, 128]⟩
abbrev S2560x2x128 : Shape := ⟨3, ![2560, 2, 128]⟩
abbrev S40x128 : Shape := ⟨2, ![40, 128]⟩
abbrev S160x128 : Shape := ⟨2, ![160, 128]⟩
abbrev S1x256x128 : Shape := ⟨3, ![1, 256, 128]⟩
abbrev S256x128 : Shape := ⟨2, ![256, 128]⟩
abbrev S1x128x256 : Shape := ⟨3, ![1, 128, 256]⟩
abbrev S128x256 : Shape := ⟨2, ![128, 256]⟩
abbrev S1x384x128 : Shape := ⟨3, ![1, 384, 128]⟩
abbrev S384x128 : Shape := ⟨2, ![384, 128]⟩
abbrev S1x128x384 : Shape := ⟨3, ![1, 128, 384]⟩
abbrev S128x384 : Shape := ⟨2, ![128, 384]⟩
abbrev S1x512x128 : Shape := ⟨3, ![1, 512, 128]⟩
abbrev S1x128x512 : Shape := ⟨3, ![1, 128, 512]⟩
abbrev S128x512 : Shape := ⟨2, ![128, 512]⟩
abbrev S1x640x128 : Shape := ⟨3, ![1, 640, 128]⟩
abbrev S640x128 : Shape := ⟨2, ![640, 128]⟩
abbrev S1x128x640 : Shape := ⟨3, ![1, 128, 640]⟩
abbrev S128x640 : Shape := ⟨2, ![128, 640]⟩

abbrev nBuf : Space → Nat
  | .hbm => 33
  | .vmem => 30
  | .smem => 0
  | _ => 0

abbrev bufTy : (tb : Table) → Fin (tcTables nBuf tb) → BufTy
  | .hbm, ⟨0, _⟩ => ⟨S3x640x40x128, .bf16⟩
  | .hbm, ⟨1, _⟩ => ⟨S3x640x8x128, .bf16⟩
  | .hbm, ⟨2, _⟩ => ⟨S3x640x8x128, .bf16⟩
  | .hbm, ⟨3, _⟩ => ⟨S3x3x640, .i32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64x1, .f32⟩
  | .hbm, ⟨21, _⟩ => ⟨S64x128, .f32⟩
  | .hbm, ⟨22, _⟩ => ⟨S3x3x640, .i32⟩
  | .hbm, ⟨23, _⟩ => ⟨S76800x128, .bf16⟩
  | .hbm, ⟨24, _⟩ => ⟨S15360x128, .bf16⟩
  | .hbm, ⟨25, _⟩ => ⟨S15360x128, .bf16⟩
  | .hbm, ⟨26, _⟩ => ⟨S3x640x5120, .bf16⟩
  | .hbm, ⟨27, _⟩ => ⟨S76800x128, .fp8e4m3⟩
  | .hbm, ⟨28, _⟩ => ⟨S3x40x640, .f32⟩
  | .hbm, ⟨29, _⟩ => ⟨S15360x128, .fp8e4m3⟩
  | .hbm, ⟨30, _⟩ => ⟨S3x8x640, .f32⟩
  | .hbm, ⟨31, _⟩ => ⟨S3x640x5120, .fp8e4m3⟩
  | .hbm, ⟨32, _⟩ => ⟨S3x1x640, .f32⟩
  | .local _ .vmem, ⟨0, _⟩ => ⟨S5120x128, .bf16⟩
  | .local _ .vmem, ⟨1, _⟩ => ⟨S5120x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1x3x128, .i32⟩
  | .local _ .vmem, ⟨7, _⟩ => ⟨S1x3x128, .i32⟩
  | .local _ .vmem, ⟨8, _⟩ => ⟨S64x128, .f32⟩
  | .local _ .vmem, ⟨9, _⟩ => ⟨S1x128x5120, .bf16⟩
  | .local _ .vmem, ⟨10, _⟩ => ⟨S1x128x5120, .bf16⟩
  | .local _ .vmem, ⟨11, _⟩ => ⟨S5120x128, .fp8e4m3⟩
  | .local _ .vmem, ⟨12, _⟩ => ⟨S5120x128, .fp8e4m3⟩
  | .local _ .vmem, ⟨13, _⟩ => ⟨S1x40x128, .f32⟩
  | .local _ .vmem, ⟨14, _⟩ => ⟨S1x40x128, .f32⟩
  | .local _ .vmem, ⟨15, _⟩ => ⟨S1024x128, .fp8e4m3⟩
  | .local _ .vmem, ⟨16, _⟩ => ⟨S1024x128, .fp8e4m3⟩
  | .local _ .vmem, ⟨17, _⟩ => ⟨S1x8x128, .f32⟩
  | .local _ .vmem, ⟨18, _⟩ => ⟨S1x8x128, .f32⟩
  | .local _ .vmem, ⟨19, _⟩ => ⟨S1x128x5120, .fp8e4m3⟩
  | .local _ .vmem, ⟨20, _⟩ => ⟨S1x128x5120, .fp8e4m3⟩
  | .local _ .vmem, ⟨21, _⟩ => ⟨S1x1x128, .f32⟩
  | .local _ .vmem, ⟨22, _⟩ => ⟨S1x1x128, .f32⟩
  | .local _ .vmem, ⟨23, _⟩ => ⟨S8x640x128, .fp8e4m3⟩
  | .local _ .vmem, ⟨24, _⟩ => ⟨S8x640x128, .f32⟩
  | .local _ .vmem, ⟨25, _⟩ => ⟨S8x128x640, .bf16⟩
  | .local _ .vmem, ⟨26, _⟩ => ⟨S5248x128, .f32⟩
  | .local _ .vmem, ⟨27, _⟩ => ⟨S1152x128, .f32⟩
  | .local _ .vmem, ⟨28, _⟩ => ⟨S8x128, .f32⟩
  | .local _ .vmem, ⟨29, _⟩ => ⟨S128x5120, .f32⟩
  | _, _ => ⟨S3x640x40x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev main_v17_4 : Ref sig .tc := ⟨.hbm, 30, rfl⟩
abbrev main_v17_5 : Ref sig .tc := ⟨.hbm, 31, rfl⟩
abbrev main_v17_6 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [BitOps F]

abbrev grid0 : Pipeline.Grid := ⟨2, ![3, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c4_i32_10 : BitVec 32 := 4#32
  let v39 : BitVec 32 := Scalar.addi c0_i32_9 c4_i32_10
  let c1_i32_11 : BitVec 32 := 1#32
  ⟨c0_i32_9, v39, c1_i32_11⟩
def k0_off1 (k0_t1 : Fin k0_t1_loop.trips) : Fin 3 → Nat :=
  let c0_i32_40 : BitVec 32 := 0#32
  let c0_i32_9 : BitVec 32 := 0#32
  let c1_i32_11 : BitVec 32 := 1#32
  let arg21 : BitVec 32 := Scf.iv c0_i32_9 c1_i32_11 k0_t1
  let c1_i32_39 : BitVec 32 := 1#32
  let v76 : BitVec 32 := Scalar.muli arg21 c1_i32_39
  let v77 : BitVec 32 := Scalar.addi c0_i32_40 v76
  let v79 : Index := Scalar.indexCast v77
  let c0_41 : Index := 0#32
  ![v79.toNat, 0, 0]
def k0_off2 (k0_t1 : Fin k0_t1_loop.trips) : Fin 3 → Nat :=
  let c0_56 : Index := 0#32
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t1
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v133 : Index := Scalar.indexCast v86
  let c0_57 : Index := 0#32
  ![0, v133.toNat, 0]
def k0_off3 (k0_t1 : Fin k0_t1_loop.trips) : Fin 3 → Nat :=
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t1
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v145 : Index := Scalar.indexCast v86
  let c0_60 : Index := 0#32
  let c0_61 : Index := 0#32
  ![v145.toNat, 0, 0]
def k0_off4 (k0_t1 : Fin k0_t1_loop.trips) : Fin 2 → Nat :=
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t1
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v149 : Index := Scalar.indexCast v86
  let c0_62 : Index := 0#32
  ![v149.toNat, 0]
def k0_off5 (k0_t1 : Fin k0_t1_loop.trips) : Fin 3 → Nat :=
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t1
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v163 : Index := Scalar.indexCast v86
  let c0_66 : Index := 0#32
  let c0_67 : Index := 0#32
  ![v163.toNat, 0, 0]
def k0_off6 (k0_t1 : Fin k0_t1_loop.trips) : Fin 3 → Nat :=
  let c0_75 : Index := 0#32
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t1
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v195 : Index := Scalar.indexCast v88
  let c0_76 : Index := 0#32
  ![0, v195.toNat, 0]
def k0_off7 (k0_t1 : Fin k0_t1_loop.trips) : Fin 3 → Nat :=
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t1
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v207 : Index := Scalar.indexCast v88
  let c0_79 : Index := 0#32
  let c0_80 : Index := 0#32
  ![v207.toNat, 0, 0]
def k0_off8 (k0_t1 : Fin k0_t1_loop.trips) : Fin 2 → Nat :=
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t1
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v211 : Index := Scalar.indexCast v88
  let c0_81 : Index := 0#32
  ![v211.toNat, 0]
def k0_off9 (k0_t1 : Fin k0_t1_loop.trips) : Fin 3 → Nat :=
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t1
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v225 : Index := Scalar.indexCast v88
  let c0_85 : Index := 0#32
  let c0_86 : Index := 0#32
  ![v225.toNat, 0, 0]
@[reducible] def k0_t2_loop : Scf.Loop 32 :=
  let c0_i32_13 : BitVec 32 := 0#32
  let c32_i32 : BitVec 32 := 32#32
  let v40 : BitVec 32 := Scalar.addi c0_i32_13 c32_i32
  let c1_i32_14 : BitVec 32 := 1#32
  ⟨c0_i32_13, v40, c1_i32_14⟩
def k0_off10 (k0_t2 : Fin k0_t2_loop.trips) (c0_i32_42 : BitVec 32) : Fin 2 → Nat :=
  let c4_i32_41 : BitVec 32 := 4#32
  let c0_i32_40 : BitVec 32 := 0#32
  let c0_i32_13 : BitVec 32 := 0#32
  let c1_i32_14 : BitVec 32 := 1#32
  let arg21 : BitVec 32 := Scf.iv c0_i32_13 c1_i32_14 k0_t2
  let c1_i32_39 : BitVec 32 := 1#32
  let v76 : BitVec 32 := Scalar.muli arg21 c1_i32_39
  let v77 : BitVec 32 := Scalar.addi c0_i32_40 v76
  let v78 : BitVec 32 := Scalar.muli c4_i32_41 v77
  let v79 : BitVec 32 := Scalar.addi v78 c0_i32_42
  let c9_i32 : BitVec 32 := 9#32
  let v80 : BitVec 32 := Scalar.muli v79 c9_i32
  let v81 : Index := Scalar.indexCast v80
  let c0_43 : Index := 0#32
  ![v81.toNat, 0]
def k0_off11 (k0_t2 : Fin k0_t2_loop.trips) : Fin 2 → Nat :=
  let c4_i32_41 : BitVec 32 := 4#32
  let c0_i32_40 : BitVec 32 := 0#32
  let c0_i32_13 : BitVec 32 := 0#32
  let c1_i32_14 : BitVec 32 := 1#32
  let arg21 : BitVec 32 := Scf.iv c0_i32_13 c1_i32_14 k0_t2
  let c1_i32_39 : BitVec 32 := 1#32
  let v76 : BitVec 32 := Scalar.muli arg21 c1_i32_39
  let v77 : BitVec 32 := Scalar.addi c0_i32_40 v76
  let v78 : BitVec 32 := Scalar.muli c4_i32_41 v77
  let c8_i32 : BitVec 32 := 8#32
  let v97 : BitVec 32 := Scalar.muli v78 c8_i32
  let v98 : Index := Scalar.indexCast v97
  let c0_53 : Index := 0#32
  ![v98.toNat, 0]
@[reducible] def k0_t3_loop : Scf.Loop 32 :=
  let c0_i32_18 : BitVec 32 := 0#32
  let c20_i32 : BitVec 32 := 20#32
  let v48 : BitVec 32 := Scalar.addi c0_i32_18 c20_i32
  let c1_i32_19 : BitVec 32 := 1#32
  ⟨c0_i32_18, v48, c1_i32_19⟩
def k0_off12 (k0_t3 : Fin k0_t3_loop.trips) : Fin 3 → Nat :=
  let c0_i32_18 : BitVec 32 := 0#32
  let c1_i32_19 : BitVec 32 := 1#32
  let arg21 : BitVec 32 := Scf.iv c0_i32_18 c1_i32_19 k0_t3
  let v77 : Index := Scalar.indexCast arg21
  let c0_39 : Index := 0#32
  ![v77.toNat, 0, 0]
def k0_off13 (k0_t3 : Fin k0_t3_loop.trips) : Fin 3 → Nat :=
  let c0_51 : Index := 0#32
  let c2_i32_40 : BitVec 32 := 2#32
  let c0_i32_18 : BitVec 32 := 0#32
  let c1_i32_19 : BitVec 32 := 1#32
  let arg21 : BitVec 32 := Scf.iv c0_i32_18 c1_i32_19 k0_t3
  let v80 : BitVec 32 := Scalar.muli c2_i32_40 arg21
  let v119 : Index := Scalar.indexCast v80
  let c0_52 : Index := 0#32
  ![0, v119.toNat, 0]
def k0_off14 (k0_t3 : Fin k0_t3_loop.trips) : Fin 2 → Nat :=
  let c2_i32_40 : BitVec 32 := 2#32
  let c0_i32_18 : BitVec 32 := 0#32
  let c1_i32_19 : BitVec 32 := 1#32
  let arg21 : BitVec 32 := Scf.iv c0_i32_18 c1_i32_19 k0_t3
  let v80 : BitVec 32 := Scalar.muli c2_i32_40 arg21
  let v130 : Index := Scalar.indexCast v80
  let c0_55 : Index := 0#32
  ![v130.toNat, 0]
def k0_off15 (k0_t3 : Fin k0_t3_loop.trips) : Fin 3 → Nat :=
  let c2_i32_40 : BitVec 32 := 2#32
  let c0_i32_18 : BitVec 32 := 0#32
  let c1_i32_19 : BitVec 32 := 1#32
  let arg21 : BitVec 32 := Scf.iv c0_i32_18 c1_i32_19 k0_t3
  let v80 : BitVec 32 := Scalar.muli c2_i32_40 arg21
  let c5_i32 : BitVec 32 := 5#32
  let v134 : BitVec 32 := Scalar.divsi v80 c5_i32
  let v135 : Index := Scalar.indexCast v134
  let c0_56 : Index := 0#32
  let c0_57 : Index := 0#32
  ![v135.toNat, 0, 0]
def k0_off16 (k0_t3 : Fin k0_t3_loop.trips) : Fin 3 → Nat :=
  let c2_i32_40 : BitVec 32 := 2#32
  let c0_i32_18 : BitVec 32 := 0#32
  let c1_i32_19 : BitVec 32 := 1#32
  let arg21 : BitVec 32 := Scf.iv c0_i32_18 c1_i32_19 k0_t3
  let v80 : BitVec 32 := Scalar.muli c2_i32_40 arg21
  let c5_i32 : BitVec 32 := 5#32
  let v134 : BitVec 32 := Scalar.divsi v80 c5_i32
  let v155 : Index := Scalar.indexCast v134
  let c0_63 : Index := 0#32
  let c0_64 : Index := 0#32
  ![v155.toNat, 0, 0]
def k0_off17 (k0_t3 : Fin k0_t3_loop.trips) : Fin 2 → Nat :=
  let c0_67 : Index := 0#32
  let c2_i32_40 : BitVec 32 := 2#32
  let c0_i32_18 : BitVec 32 := 0#32
  let c1_i32_19 : BitVec 32 := 1#32
  let arg21 : BitVec 32 := Scf.iv c0_i32_18 c1_i32_19 k0_t3
  let v80 : BitVec 32 := Scalar.muli c2_i32_40 arg21
  let c128_i32 : BitVec 32 := 128#32
  let v167 : BitVec 32 := Scalar.muli v80 c128_i32
  let v168 : Index := Scalar.indexCast v167
  ![0, v168.toNat]
def k0_off18 (k0_t3 : Fin k0_t3_loop.trips) : Fin 3 → Nat :=
  let c0_69 : Index := 0#32
  let c0_70 : Index := 0#32
  let c2_i32_40 : BitVec 32 := 2#32
  let c0_i32_18 : BitVec 32 := 0#32
  let c1_i32_19 : BitVec 32 := 1#32
  let arg21 : BitVec 32 := Scf.iv c0_i32_18 c1_i32_19 k0_t3
  let v80 : BitVec 32 := Scalar.muli c2_i32_40 arg21
  let c128_i32_68 : BitVec 32 := 128#32
  let v173 : BitVec 32 := Scalar.muli v80 c128_i32_68
  let v174 : Index := Scalar.indexCast v173
  ![0, 0, v174.toNat]
def k0_off19 (k0_t3 : Fin k0_t3_loop.trips) : Fin 3 → Nat :=
  let c0_78 : Index := 0#32
  let c2_i32_41 : BitVec 32 := 2#32
  let c0_i32_18 : BitVec 32 := 0#32
  let c1_i32_19 : BitVec 32 := 1#32
  let arg21 : BitVec 32 := Scf.iv c0_i32_18 c1_i32_19 k0_t3
  let v81 : BitVec 32 := Scalar.muli c2_i32_41 arg21
  let c1_i32_42 : BitVec 32 := 1#32
  let v82 : BitVec 32 := Scalar.addi v81 c1_i32_42
  let v206 : Index := Scalar.indexCast v82
  let c0_79 : Index := 0#32
  ![0, v206.toNat, 0]
def k0_off20 (k0_t3 : Fin k0_t3_loop.trips) : Fin 2 → Nat :=
  let c2_i32_41 : BitVec 32 := 2#32
  let c0_i32_18 : BitVec 32 := 0#32
  let c1_i32_19 : BitVec 32 := 1#32
  let arg21 : BitVec 32 := Scf.iv c0_i32_18 c1_i32_19 k0_t3
  let v81 : BitVec 32 := Scalar.muli c2_i32_41 arg21
  let c1_i32_42 : BitVec 32 := 1#32
  let v82 : BitVec 32 := Scalar.addi v81 c1_i32_42
  let v217 : Index := Scalar.indexCast v82
  let c0_82 : Index := 0#32
  ![v217.toNat, 0]
def k0_off21 (k0_t3 : Fin k0_t3_loop.trips) : Fin 3 → Nat :=
  let c2_i32_41 : BitVec 32 := 2#32
  let c0_i32_18 : BitVec 32 := 0#32
  let c1_i32_19 : BitVec 32 := 1#32
  let arg21 : BitVec 32 := Scf.iv c0_i32_18 c1_i32_19 k0_t3
  let v81 : BitVec 32 := Scalar.muli c2_i32_41 arg21
  let c1_i32_42 : BitVec 32 := 1#32
  let v82 : BitVec 32 := Scalar.addi v81 c1_i32_42
  let c5_i32_83 : BitVec 32 := 5#32
  let v221 : BitVec 32 := Scalar.divsi v82 c5_i32_83
  let v222 : Index := Scalar.indexCast v221
  let c0_84 : Index := 0#32
  let c0_85 : Index := 0#32
  ![v222.toNat, 0, 0]
def k0_off22 (k0_t3 : Fin k0_t3_loop.trips) : Fin 3 → Nat :=
  let c2_i32_41 : BitVec 32 := 2#32
  let c0_i32_18 : BitVec 32 := 0#32
  let c1_i32_19 : BitVec 32 := 1#32
  let arg21 : BitVec 32 := Scf.iv c0_i32_18 c1_i32_19 k0_t3
  let v81 : BitVec 32 := Scalar.muli c2_i32_41 arg21
  let c1_i32_42 : BitVec 32 := 1#32
  let v82 : BitVec 32 := Scalar.addi v81 c1_i32_42
  let c5_i32_83 : BitVec 32 := 5#32
  let v221 : BitVec 32 := Scalar.divsi v82 c5_i32_83
  let v242 : Index := Scalar.indexCast v221
  let c0_91 : Index := 0#32
  let c0_92 : Index := 0#32
  ![v242.toNat, 0, 0]
def k0_off23 (k0_t3 : Fin k0_t3_loop.trips) : Fin 2 → Nat :=
  let c0_96 : Index := 0#32
  let c2_i32_41 : BitVec 32 := 2#32
  let c0_i32_18 : BitVec 32 := 0#32
  let c1_i32_19 : BitVec 32 := 1#32
  let arg21 : BitVec 32 := Scf.iv c0_i32_18 c1_i32_19 k0_t3
  let v81 : BitVec 32 := Scalar.muli c2_i32_41 arg21
  let c1_i32_42 : BitVec 32 := 1#32
  let v82 : BitVec 32 := Scalar.addi v81 c1_i32_42
  let c128_i32_95 : BitVec 32 := 128#32
  let v254 : BitVec 32 := Scalar.muli v82 c128_i32_95
  let v255 : Index := Scalar.indexCast v254
  ![0, v255.toNat]
def k0_off24 (k0_t3 : Fin k0_t3_loop.trips) : Fin 3 → Nat :=
  let c0_98 : Index := 0#32
  let c0_99 : Index := 0#32
  let c2_i32_41 : BitVec 32 := 2#32
  let c0_i32_18 : BitVec 32 := 0#32
  let c1_i32_19 : BitVec 32 := 1#32
  let arg21 : BitVec 32 := Scf.iv c0_i32_18 c1_i32_19 k0_t3
  let v81 : BitVec 32 := Scalar.muli c2_i32_41 arg21
  let c1_i32_42 : BitVec 32 := 1#32
  let v82 : BitVec 32 := Scalar.addi v81 c1_i32_42
  let c128_i32_97 : BitVec 32 := 128#32
  let v260 : BitVec 32 := Scalar.muli v82 c128_i32_97
  let v261 : Index := Scalar.indexCast v260
  ![0, 0, v261.toNat]
@[reducible] def k0_t4_loop : Scf.Loop 32 :=
  let c0_i32_21 : BitVec 32 := 0#32
  let c32_i32_22 : BitVec 32 := 32#32
  let v50 : BitVec 32 := Scalar.addi c0_i32_21 c32_i32_22
  let c1_i32_23 : BitVec 32 := 1#32
  ⟨c0_i32_21, v50, c1_i32_23⟩
def k0_off25 (k0_t4 : Fin k0_t4_loop.trips) (c0_i32_42 : BitVec 32) : Fin 2 → Nat :=
  let c4_i32_41 : BitVec 32 := 4#32
  let c0_i32_40 : BitVec 32 := 0#32
  let c0_i32_21 : BitVec 32 := 0#32
  let c1_i32_23 : BitVec 32 := 1#32
  let arg21 : BitVec 32 := Scf.iv c0_i32_21 c1_i32_23 k0_t4
  let c1_i32_39 : BitVec 32 := 1#32
  let v76 : BitVec 32 := Scalar.muli arg21 c1_i32_39
  let v77 : BitVec 32 := Scalar.addi c0_i32_40 v76
  let v78 : BitVec 32 := Scalar.muli c4_i32_41 v77
  let v79 : BitVec 32 := Scalar.addi v78 c0_i32_42
  let c41_i32 : BitVec 32 := 41#32
  let v80 : BitVec 32 := Scalar.muli v79 c41_i32
  let v81 : Index := Scalar.indexCast v80
  let c0_43 : Index := 0#32
  ![v81.toNat, 0]
def k0_off26 (k0_t4 : Fin k0_t4_loop.trips) : Fin 2 → Nat :=
  let c4_i32_41 : BitVec 32 := 4#32
  let c0_i32_40 : BitVec 32 := 0#32
  let c0_i32_21 : BitVec 32 := 0#32
  let c1_i32_23 : BitVec 32 := 1#32
  let arg21 : BitVec 32 := Scf.iv c0_i32_21 c1_i32_23 k0_t4
  let c1_i32_39 : BitVec 32 := 1#32
  let v76 : BitVec 32 := Scalar.muli arg21 c1_i32_39
  let v77 : BitVec 32 := Scalar.addi c0_i32_40 v76
  let v78 : BitVec 32 := Scalar.muli c4_i32_41 v77
  let c40_i32_53 : BitVec 32 := 40#32
  let v97 : BitVec 32 := Scalar.muli v78 c40_i32_53
  let v98 : Index := Scalar.indexCast v97
  let c0_54 : Index := 0#32
  ![v98.toNat, 0]
@[reducible] def k0_t5_loop : Scf.Loop 32 :=
  let c0_i32_35 : BitVec 32 := 0#32
  let c40_i32_36 : BitVec 32 := 40#32
  let v75 : BitVec 32 := Scalar.addi c0_i32_35 c40_i32_36
  let c1_i32_37 : BitVec 32 := 1#32
  ⟨c0_i32_35, v75, c1_i32_37⟩
def k0_off27 (k0_t5 : Fin k0_t5_loop.trips) : Fin 2 → Nat :=
  let c0_41 : Index := 0#32
  let c0_i32_40 : BitVec 32 := 0#32
  let c0_i32_35 : BitVec 32 := 0#32
  let c1_i32_37 : BitVec 32 := 1#32
  let arg21 : BitVec 32 := Scf.iv c0_i32_35 c1_i32_37 k0_t5
  let c1_i32_39 : BitVec 32 := 1#32
  let v76 : BitVec 32 := Scalar.muli arg21 c1_i32_39
  let v77 : BitVec 32 := Scalar.addi c0_i32_40 v76
  let c128_i32 : BitVec 32 := 128#32
  let v78 : BitVec 32 := Scalar.muli v77 c128_i32
  let v79 : Index := Scalar.indexCast v78
  ![0, v79.toNat]
def k0_off28 (k0_t5 : Fin k0_t5_loop.trips) : Fin 3 → Nat :=
  let c0_45 : Index := 0#32
  let c0_46 : Index := 0#32
  let c0_i32_40 : BitVec 32 := 0#32
  let c0_i32_35 : BitVec 32 := 0#32
  let c1_i32_37 : BitVec 32 := 1#32
  let arg21 : BitVec 32 := Scf.iv c0_i32_35 c1_i32_37 k0_t5
  let c1_i32_39 : BitVec 32 := 1#32
  let v76 : BitVec 32 := Scalar.muli arg21 c1_i32_39
  let v77 : BitVec 32 := Scalar.addi c0_i32_40 v76
  let c128_i32_44 : BitVec 32 := 128#32
  let v87 : BitVec 32 := Scalar.muli v77 c128_i32_44
  let v88 : Index := Scalar.indexCast v87
  ![0, 0, v88.toNat]
def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

@[reducible] def k0_t6_loop : Scf.Loop 32 :=
  let c0_i32_9 : BitVec 32 := 0#32
  let c4_i32_10 : BitVec 32 := 4#32
  let v39 : BitVec 32 := Scalar.addi c0_i32_9 c4_i32_10
  let c1_i32_11 : BitVec 32 := 1#32
  ⟨c0_i32_9, v39, c1_i32_11⟩
def k0_off29 (k0_t6 : Fin k0_t6_loop.trips) : Fin 3 → Nat :=
  let c0_i32_40 : BitVec 32 := 0#32
  let c0_i32_9 : BitVec 32 := 0#32
  let c1_i32_11 : BitVec 32 := 1#32
  let arg21 : BitVec 32 := Scf.iv c0_i32_9 c1_i32_11 k0_t6
  let c1_i32_39 : BitVec 32 := 1#32
  let v76 : BitVec 32 := Scalar.muli arg21 c1_i32_39
  let v77 : BitVec 32 := Scalar.addi c0_i32_40 v76
  let v79 : Index := Scalar.indexCast v77
  let c0_41 : Index := 0#32
  ![v79.toNat, 0, 0]
def k0_off30 (k0_t6 : Fin k0_t6_loop.trips) : Fin 3 → Nat :=
  let c0_56 : Index := 0#32
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t6
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v133 : Index := Scalar.indexCast v86
  let c0_57 : Index := 0#32
  ![0, v133.toNat, 0]
def k0_off31 (k0_t6 : Fin k0_t6_loop.trips) : Fin 3 → Nat :=
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t6
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v145 : Index := Scalar.indexCast v86
  let c128 : Index := 128#32
  let c0_60 : Index := 0#32
  ![v145.toNat, 128, 0]
def k0_off32 (k0_t6 : Fin k0_t6_loop.trips) : Fin 2 → Nat :=
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t6
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v149 : Index := Scalar.indexCast v86
  let c0_61 : Index := 0#32
  ![v149.toNat, 0]
def k0_off33 (k0_t6 : Fin k0_t6_loop.trips) : Fin 3 → Nat :=
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t6
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v163 : Index := Scalar.indexCast v86
  let c0_65 : Index := 0#32
  let c128_66 : Index := 128#32
  ![v163.toNat, 0, 128]
def k0_off34 (k0_t6 : Fin k0_t6_loop.trips) : Fin 3 → Nat :=
  let c0_74 : Index := 0#32
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t6
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v195 : Index := Scalar.indexCast v88
  let c0_75 : Index := 0#32
  ![0, v195.toNat, 0]
def k0_off35 (k0_t6 : Fin k0_t6_loop.trips) : Fin 3 → Nat :=
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t6
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v207 : Index := Scalar.indexCast v88
  let c128_78 : Index := 128#32
  let c0_79 : Index := 0#32
  ![v207.toNat, 128, 0]
def k0_off36 (k0_t6 : Fin k0_t6_loop.trips) : Fin 2 → Nat :=
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t6
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v211 : Index := Scalar.indexCast v88
  let c0_80 : Index := 0#32
  ![v211.toNat, 0]
def k0_off37 (k0_t6 : Fin k0_t6_loop.trips) : Fin 3 → Nat :=
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t6
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v225 : Index := Scalar.indexCast v88
  let c0_84 : Index := 0#32
  let c128_85 : Index := 128#32
  ![v225.toNat, 0, 128]
@[reducible] def k0_t7_loop : Scf.Loop 32 :=
  let c0_i32_13 : BitVec 32 := 0#32
  let c32_i32 : BitVec 32 := 32#32
  let v40 : BitVec 32 := Scalar.addi c0_i32_13 c32_i32
  let c1_i32_14 : BitVec 32 := 1#32
  ⟨c0_i32_13, v40, c1_i32_14⟩
def k0_off38 (k0_t7 : Fin k0_t7_loop.trips) (c0_i32_42 : BitVec 32) : Fin 2 → Nat :=
  let c4_i32_41 : BitVec 32 := 4#32
  let c0_i32_40 : BitVec 32 := 0#32
  let c0_i32_13 : BitVec 32 := 0#32
  let c1_i32_14 : BitVec 32 := 1#32
  let arg21 : BitVec 32 := Scf.iv c0_i32_13 c1_i32_14 k0_t7
  let c1_i32_39 : BitVec 32 := 1#32
  let v76 : BitVec 32 := Scalar.muli arg21 c1_i32_39
  let v77 : BitVec 32 := Scalar.addi c0_i32_40 v76
  let v78 : BitVec 32 := Scalar.muli c4_i32_41 v77
  let v79 : BitVec 32 := Scalar.addi v78 c0_i32_42
  let c9_i32 : BitVec 32 := 9#32
  let v80 : BitVec 32 := Scalar.muli v79 c9_i32
  let v81 : Index := Scalar.indexCast v80
  let c0_43 : Index := 0#32
  ![v81.toNat, 0]
def k0_off39 (k0_t7 : Fin k0_t7_loop.trips) : Fin 2 → Nat :=
  let c4_i32_41 : BitVec 32 := 4#32
  let c0_i32_40 : BitVec 32 := 0#32
  let c0_i32_13 : BitVec 32 := 0#32
  let c1_i32_14 : BitVec 32 := 1#32
  let arg21 : BitVec 32 := Scf.iv c0_i32_13 c1_i32_14 k0_t7
  let c1_i32_39 : BitVec 32 := 1#32
  let v76 : BitVec 32 := Scalar.muli arg21 c1_i32_39
  let v77 : BitVec 32 := Scalar.addi c0_i32_40 v76
  let v78 : BitVec 32 := Scalar.muli c4_i32_41 v77
  let c8_i32 : BitVec 32 := 8#32
  let v97 : BitVec 32 := Scalar.muli v78 c8_i32
  let v98 : Index := Scalar.indexCast v97
  let c0_53 : Index := 0#32
  ![v98.toNat, 0]
@[reducible] def k0_t8_loop : Scf.Loop 32 :=
  let c0_i32_18 : BitVec 32 := 0#32
  let c20_i32 : BitVec 32 := 20#32
  let v48 : BitVec 32 := Scalar.addi c0_i32_18 c20_i32
  let c1_i32_19 : BitVec 32 := 1#32
  ⟨c0_i32_18, v48, c1_i32_19⟩
def k0_off40 (k0_t8 : Fin k0_t8_loop.trips) : Fin 3 → Nat :=
  let c0_i32_18 : BitVec 32 := 0#32
  let c1_i32_19 : BitVec 32 := 1#32
  let arg21 : BitVec 32 := Scf.iv c0_i32_18 c1_i32_19 k0_t8
  let v77 : Index := Scalar.indexCast arg21
  let c0_39 : Index := 0#32
  ![v77.toNat, 0, 0]
def k0_off41 (k0_t8 : Fin k0_t8_loop.trips) : Fin 3 → Nat :=
  let c0_51 : Index := 0#32
  let c2_i32_40 : BitVec 32 := 2#32
  let c0_i32_18 : BitVec 32 := 0#32
  let c1_i32_19 : BitVec 32 := 1#32
  let arg21 : BitVec 32 := Scf.iv c0_i32_18 c1_i32_19 k0_t8
  let v80 : BitVec 32 := Scalar.muli c2_i32_40 arg21
  let v119 : Index := Scalar.indexCast v80
  let c0_52 : Index := 0#32
  ![0, v119.toNat, 0]
def k0_off42 (k0_t8 : Fin k0_t8_loop.trips) : Fin 2 → Nat :=
  let c2_i32_40 : BitVec 32 := 2#32
  let c0_i32_18 : BitVec 32 := 0#32
  let c1_i32_19 : BitVec 32 := 1#32
  let arg21 : BitVec 32 := Scf.iv c0_i32_18 c1_i32_19 k0_t8
  let v80 : BitVec 32 := Scalar.muli c2_i32_40 arg21
  let v130 : Index := Scalar.indexCast v80
  let c0_55 : Index := 0#32
  ![v130.toNat, 0]
def k0_off43 (k0_t8 : Fin k0_t8_loop.trips) : Fin 3 → Nat :=
  let c2_i32_40 : BitVec 32 := 2#32
  let c0_i32_18 : BitVec 32 := 0#32
  let c1_i32_19 : BitVec 32 := 1#32
  let arg21 : BitVec 32 := Scf.iv c0_i32_18 c1_i32_19 k0_t8
  let v80 : BitVec 32 := Scalar.muli c2_i32_40 arg21
  let c5_i32 : BitVec 32 := 5#32
  let v134 : BitVec 32 := Scalar.divsi v80 c5_i32
  let v135 : Index := Scalar.indexCast v134
  let c0_56 : Index := 0#32
  let c0_57 : Index := 0#32
  ![v135.toNat, 0, 0]
def k0_off44 (k0_t8 : Fin k0_t8_loop.trips) : Fin 3 → Nat :=
  let c2_i32_40 : BitVec 32 := 2#32
  let c0_i32_18 : BitVec 32 := 0#32
  let c1_i32_19 : BitVec 32 := 1#32
  let arg21 : BitVec 32 := Scf.iv c0_i32_18 c1_i32_19 k0_t8
  let v80 : BitVec 32 := Scalar.muli c2_i32_40 arg21
  let c5_i32 : BitVec 32 := 5#32
  let v134 : BitVec 32 := Scalar.divsi v80 c5_i32
  let v158 : Index := Scalar.indexCast v134
  let c0_63 : Index := 0#32
  let c0_64 : Index := 0#32
  ![v158.toNat, 0, 0]
def k0_off45 (k0_t8 : Fin k0_t8_loop.trips) : Fin 2 → Nat :=
  let c0_67 : Index := 0#32
  let c2_i32_40 : BitVec 32 := 2#32
  let c0_i32_18 : BitVec 32 := 0#32
  let c1_i32_19 : BitVec 32 := 1#32
  let arg21 : BitVec 32 := Scf.iv c0_i32_18 c1_i32_19 k0_t8
  let v80 : BitVec 32 := Scalar.muli c2_i32_40 arg21
  let c128_i32 : BitVec 32 := 128#32
  let v170 : BitVec 32 := Scalar.muli v80 c128_i32
  let v171 : Index := Scalar.indexCast v170
  ![0, v171.toNat]
def k0_off46 (k0_t8 : Fin k0_t8_loop.trips) : Fin 3 → Nat :=
  let c0_69 : Index := 0#32
  let c0_70 : Index := 0#32
  let c2_i32_40 : BitVec 32 := 2#32
  let c0_i32_18 : BitVec 32 := 0#32
  let c1_i32_19 : BitVec 32 := 1#32
  let arg21 : BitVec 32 := Scf.iv c0_i32_18 c1_i32_19 k0_t8
  let v80 : BitVec 32 := Scalar.muli c2_i32_40 arg21
  let c128_i32_68 : BitVec 32 := 128#32
  let v176 : BitVec 32 := Scalar.muli v80 c128_i32_68
  let v177 : Index := Scalar.indexCast v176
  ![0, 0, v177.toNat]
def k0_off47 (k0_t8 : Fin k0_t8_loop.trips) : Fin 3 → Nat :=
  let c0_78 : Index := 0#32
  let c2_i32_41 : BitVec 32 := 2#32
  let c0_i32_18 : BitVec 32 := 0#32
  let c1_i32_19 : BitVec 32 := 1#32
  let arg21 : BitVec 32 := Scf.iv c0_i32_18 c1_i32_19 k0_t8
  let v81 : BitVec 32 := Scalar.muli c2_i32_41 arg21
  let c1_i32_42 : BitVec 32 := 1#32
  let v82 : BitVec 32 := Scalar.addi v81 c1_i32_42
  let v209 : Index := Scalar.indexCast v82
  let c0_79 : Index := 0#32
  ![0, v209.toNat, 0]
def k0_off48 (k0_t8 : Fin k0_t8_loop.trips) : Fin 2 → Nat :=
  let c2_i32_41 : BitVec 32 := 2#32
  let c0_i32_18 : BitVec 32 := 0#32
  let c1_i32_19 : BitVec 32 := 1#32
  let arg21 : BitVec 32 := Scf.iv c0_i32_18 c1_i32_19 k0_t8
  let v81 : BitVec 32 := Scalar.muli c2_i32_41 arg21
  let c1_i32_42 : BitVec 32 := 1#32
  let v82 : BitVec 32 := Scalar.addi v81 c1_i32_42
  let v220 : Index := Scalar.indexCast v82
  let c0_82 : Index := 0#32
  ![v220.toNat, 0]
def k0_off49 (k0_t8 : Fin k0_t8_loop.trips) : Fin 3 → Nat :=
  let c2_i32_41 : BitVec 32 := 2#32
  let c0_i32_18 : BitVec 32 := 0#32
  let c1_i32_19 : BitVec 32 := 1#32
  let arg21 : BitVec 32 := Scf.iv c0_i32_18 c1_i32_19 k0_t8
  let v81 : BitVec 32 := Scalar.muli c2_i32_41 arg21
  let c1_i32_42 : BitVec 32 := 1#32
  let v82 : BitVec 32 := Scalar.addi v81 c1_i32_42
  let c5_i32_83 : BitVec 32 := 5#32
  let v224 : BitVec 32 := Scalar.divsi v82 c5_i32_83
  let v225 : Index := Scalar.indexCast v224
  let c0_84 : Index := 0#32
  let c0_85 : Index := 0#32
  ![v225.toNat, 0, 0]
def k0_off50 (k0_t8 : Fin k0_t8_loop.trips) : Fin 3 → Nat :=
  let c2_i32_41 : BitVec 32 := 2#32
  let c0_i32_18 : BitVec 32 := 0#32
  let c1_i32_19 : BitVec 32 := 1#32
  let arg21 : BitVec 32 := Scf.iv c0_i32_18 c1_i32_19 k0_t8
  let v81 : BitVec 32 := Scalar.muli c2_i32_41 arg21
  let c1_i32_42 : BitVec 32 := 1#32
  let v82 : BitVec 32 := Scalar.addi v81 c1_i32_42
  let c5_i32_83 : BitVec 32 := 5#32
  let v224 : BitVec 32 := Scalar.divsi v82 c5_i32_83
  let v248 : Index := Scalar.indexCast v224
  let c0_91 : Index := 0#32
  let c0_92 : Index := 0#32
  ![v248.toNat, 0, 0]
def k0_off51 (k0_t8 : Fin k0_t8_loop.trips) : Fin 2 → Nat :=
  let c0_96 : Index := 0#32
  let c2_i32_41 : BitVec 32 := 2#32
  let c0_i32_18 : BitVec 32 := 0#32
  let c1_i32_19 : BitVec 32 := 1#32
  let arg21 : BitVec 32 := Scf.iv c0_i32_18 c1_i32_19 k0_t8
  let v81 : BitVec 32 := Scalar.muli c2_i32_41 arg21
  let c1_i32_42 : BitVec 32 := 1#32
  let v82 : BitVec 32 := Scalar.addi v81 c1_i32_42
  let c128_i32_95 : BitVec 32 := 128#32
  let v260 : BitVec 32 := Scalar.muli v82 c128_i32_95
  let v261 : Index := Scalar.indexCast v260
  ![0, v261.toNat]
def k0_off52 (k0_t8 : Fin k0_t8_loop.trips) : Fin 3 → Nat :=
  let c0_98 : Index := 0#32
  let c0_99 : Index := 0#32
  let c2_i32_41 : BitVec 32 := 2#32
  let c0_i32_18 : BitVec 32 := 0#32
  let c1_i32_19 : BitVec 32 := 1#32
  let arg21 : BitVec 32 := Scf.iv c0_i32_18 c1_i32_19 k0_t8
  let v81 : BitVec 32 := Scalar.muli c2_i32_41 arg21
  let c1_i32_42 : BitVec 32 := 1#32
  let v82 : BitVec 32 := Scalar.addi v81 c1_i32_42
  let c128_i32_97 : BitVec 32 := 128#32
  let v266 : BitVec 32 := Scalar.muli v82 c128_i32_97
  let v267 : Index := Scalar.indexCast v266
  ![0, 0, v267.toNat]
@[reducible] def k0_t9_loop : Scf.Loop 32 :=
  let c0_i32_21 : BitVec 32 := 0#32
  let c32_i32_22 : BitVec 32 := 32#32
  let v50 : BitVec 32 := Scalar.addi c0_i32_21 c32_i32_22
  let c1_i32_23 : BitVec 32 := 1#32
  ⟨c0_i32_21, v50, c1_i32_23⟩
def k0_off53 (k0_t9 : Fin k0_t9_loop.trips) (c0_i32_42 : BitVec 32) : Fin 2 → Nat :=
  let c4_i32_41 : BitVec 32 := 4#32
  let c0_i32_40 : BitVec 32 := 0#32
  let c0_i32_21 : BitVec 32 := 0#32
  let c1_i32_23 : BitVec 32 := 1#32
  let arg21 : BitVec 32 := Scf.iv c0_i32_21 c1_i32_23 k0_t9
  let c1_i32_39 : BitVec 32 := 1#32
  let v76 : BitVec 32 := Scalar.muli arg21 c1_i32_39
  let v77 : BitVec 32 := Scalar.addi c0_i32_40 v76
  let v78 : BitVec 32 := Scalar.muli c4_i32_41 v77
  let v79 : BitVec 32 := Scalar.addi v78 c0_i32_42
  let c41_i32 : BitVec 32 := 41#32
  let v80 : BitVec 32 := Scalar.muli v79 c41_i32
  let v81 : Index := Scalar.indexCast v80
  let c0_43 : Index := 0#32
  ![v81.toNat, 0]
def k0_off54 (k0_t9 : Fin k0_t9_loop.trips) : Fin 2 → Nat :=
  let c4_i32_41 : BitVec 32 := 4#32
  let c0_i32_40 : BitVec 32 := 0#32
  let c0_i32_21 : BitVec 32 := 0#32
  let c1_i32_23 : BitVec 32 := 1#32
  let arg21 : BitVec 32 := Scf.iv c0_i32_21 c1_i32_23 k0_t9
  let c1_i32_39 : BitVec 32 := 1#32
  let v76 : BitVec 32 := Scalar.muli arg21 c1_i32_39
  let v77 : BitVec 32 := Scalar.addi c0_i32_40 v76
  let v78 : BitVec 32 := Scalar.muli c4_i32_41 v77
  let c40_i32_53 : BitVec 32 := 40#32
  let v97 : BitVec 32 := Scalar.muli v78 c40_i32_53
  let v98 : Index := Scalar.indexCast v97
  let c0_54 : Index := 0#32
  ![v98.toNat, 0]
@[reducible] def k0_t10_loop : Scf.Loop 32 :=
  let c0_i32_35 : BitVec 32 := 0#32
  let c40_i32_36 : BitVec 32 := 40#32
  let v75 : BitVec 32 := Scalar.addi c0_i32_35 c40_i32_36
  let c1_i32_37 : BitVec 32 := 1#32
  ⟨c0_i32_35, v75, c1_i32_37⟩
def k0_off55 (k0_t10 : Fin k0_t10_loop.trips) : Fin 2 → Nat :=
  let c0_41 : Index := 0#32
  let c0_i32_40 : BitVec 32 := 0#32
  let c0_i32_35 : BitVec 32 := 0#32
  let c1_i32_37 : BitVec 32 := 1#32
  let arg21 : BitVec 32 := Scf.iv c0_i32_35 c1_i32_37 k0_t10
  let c1_i32_39 : BitVec 32 := 1#32
  let v76 : BitVec 32 := Scalar.muli arg21 c1_i32_39
  let v77 : BitVec 32 := Scalar.addi c0_i32_40 v76
  let c128_i32 : BitVec 32 := 128#32
  let v78 : BitVec 32 := Scalar.muli v77 c128_i32
  let v79 : Index := Scalar.indexCast v78
  ![0, v79.toNat]
def k0_off56 (k0_t10 : Fin k0_t10_loop.trips) : Fin 3 → Nat :=
  let c0_45 : Index := 0#32
  let c0_46 : Index := 0#32
  let c0_i32_40 : BitVec 32 := 0#32
  let c0_i32_35 : BitVec 32 := 0#32
  let c1_i32_37 : BitVec 32 := 1#32
  let arg21 : BitVec 32 := Scf.iv c0_i32_35 c1_i32_37 k0_t10
  let c1_i32_39 : BitVec 32 := 1#32
  let v76 : BitVec 32 := Scalar.muli arg21 c1_i32_39
  let v77 : BitVec 32 := Scalar.addi c0_i32_40 v76
  let c128_i32_44 : BitVec 32 := 128#32
  let v87 : BitVec 32 := Scalar.muli v77 c128_i32_44
  let v88 : Index := Scalar.indexCast v87
  ![0, 0, v88.toNat]
def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

@[reducible] def k0_t11_loop : Scf.Loop 32 :=
  let c0_i32_9 : BitVec 32 := 0#32
  let c4_i32_10 : BitVec 32 := 4#32
  let v39 : BitVec 32 := Scalar.addi c0_i32_9 c4_i32_10
  let c1_i32_11 : BitVec 32 := 1#32
  ⟨c0_i32_9, v39, c1_i32_11⟩
def k0_off57 (k0_t11 : Fin k0_t11_loop.trips) : Fin 3 → Nat :=
  let c0_i32_40 : BitVec 32 := 0#32
  let c0_i32_9 : BitVec 32 := 0#32
  let c1_i32_11 : BitVec 32 := 1#32
  let arg21 : BitVec 32 := Scf.iv c0_i32_9 c1_i32_11 k0_t11
  let c1_i32_39 : BitVec 32 := 1#32
  let v76 : BitVec 32 := Scalar.muli arg21 c1_i32_39
  let v77 : BitVec 32 := Scalar.addi c0_i32_40 v76
  let v79 : Index := Scalar.indexCast v77
  let c0_41 : Index := 0#32
  ![v79.toNat, 0, 0]
def k0_off58 (k0_t11 : Fin k0_t11_loop.trips) : Fin 3 → Nat :=
  let c0_56 : Index := 0#32
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t11
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v133 : Index := Scalar.indexCast v86
  let c0_57 : Index := 0#32
  ![0, v133.toNat, 0]
def k0_off59 (k0_t11 : Fin k0_t11_loop.trips) : Fin 3 → Nat :=
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t11
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v145 : Index := Scalar.indexCast v86
  let c256 : Index := 256#32
  let c0_60 : Index := 0#32
  ![v145.toNat, 256, 0]
def k0_off60 (k0_t11 : Fin k0_t11_loop.trips) : Fin 2 → Nat :=
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t11
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v149 : Index := Scalar.indexCast v86
  let c0_61 : Index := 0#32
  ![v149.toNat, 0]
def k0_off61 (k0_t11 : Fin k0_t11_loop.trips) : Fin 3 → Nat :=
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t11
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v163 : Index := Scalar.indexCast v86
  let c0_65 : Index := 0#32
  let c256_66 : Index := 256#32
  ![v163.toNat, 0, 256]
def k0_off62 (k0_t11 : Fin k0_t11_loop.trips) : Fin 3 → Nat :=
  let c0_74 : Index := 0#32
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t11
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v195 : Index := Scalar.indexCast v88
  let c0_75 : Index := 0#32
  ![0, v195.toNat, 0]
def k0_off63 (k0_t11 : Fin k0_t11_loop.trips) : Fin 3 → Nat :=
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t11
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v207 : Index := Scalar.indexCast v88
  let c256_78 : Index := 256#32
  let c0_79 : Index := 0#32
  ![v207.toNat, 256, 0]
def k0_off64 (k0_t11 : Fin k0_t11_loop.trips) : Fin 2 → Nat :=
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t11
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v211 : Index := Scalar.indexCast v88
  let c0_80 : Index := 0#32
  ![v211.toNat, 0]
def k0_off65 (k0_t11 : Fin k0_t11_loop.trips) : Fin 3 → Nat :=
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t11
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v225 : Index := Scalar.indexCast v88
  let c0_84 : Index := 0#32
  let c256_85 : Index := 256#32
  ![v225.toNat, 0, 256]
@[reducible] def k0_t12_loop : Scf.Loop 32 :=
  let c0_i32_13 : BitVec 32 := 0#32
  let c32_i32 : BitVec 32 := 32#32
  let v40 : BitVec 32 := Scalar.addi c0_i32_13 c32_i32
  let c1_i32_14 : BitVec 32 := 1#32
  ⟨c0_i32_13, v40, c1_i32_14⟩
def k0_off66 (k0_t12 : Fin k0_t12_loop.trips) (c0_i32_42 : BitVec 32) : Fin 2 → Nat :=
  let c4_i32_41 : BitVec 32 := 4#32
  let c0_i32_40 : BitVec 32 := 0#32
  let c0_i32_13 : BitVec 32 := 0#32
  let c1_i32_14 : BitVec 32 := 1#32
  let arg21 : BitVec 32 := Scf.iv c0_i32_13 c1_i32_14 k0_t12
  let c1_i32_39 : BitVec 32 := 1#32
  let v76 : BitVec 32 := Scalar.muli arg21 c1_i32_39
  let v77 : BitVec 32 := Scalar.addi c0_i32_40 v76
  let v78 : BitVec 32 := Scalar.muli c4_i32_41 v77
  let v79 : BitVec 32 := Scalar.addi v78 c0_i32_42
  let c9_i32 : BitVec 32 := 9#32
  let v80 : BitVec 32 := Scalar.muli v79 c9_i32
  let v81 : Index := Scalar.indexCast v80
  let c0_43 : Index := 0#32
  ![v81.toNat, 0]
def k0_off67 (k0_t12 : Fin k0_t12_loop.trips) : Fin 2 → Nat :=
  let c4_i32_41 : BitVec 32 := 4#32
  let c0_i32_40 : BitVec 32 := 0#32
  let c0_i32_13 : BitVec 32 := 0#32
  let c1_i32_14 : BitVec 32 := 1#32
  let arg21 : BitVec 32 := Scf.iv c0_i32_13 c1_i32_14 k0_t12
  let c1_i32_39 : BitVec 32 := 1#32
  let v76 : BitVec 32 := Scalar.muli arg21 c1_i32_39
  let v77 : BitVec 32 := Scalar.addi c0_i32_40 v76
  let v78 : BitVec 32 := Scalar.muli c4_i32_41 v77
  let c8_i32 : BitVec 32 := 8#32
  let v97 : BitVec 32 := Scalar.muli v78 c8_i32
  let v98 : Index := Scalar.indexCast v97
  let c0_53 : Index := 0#32
  ![v98.toNat, 0]
@[reducible] def k0_t13_loop : Scf.Loop 32 :=
  let c0_i32_18 : BitVec 32 := 0#32
  let c20_i32 : BitVec 32 := 20#32
  let v48 : BitVec 32 := Scalar.addi c0_i32_18 c20_i32
  let c1_i32_19 : BitVec 32 := 1#32
  ⟨c0_i32_18, v48, c1_i32_19⟩
def k0_off68 (k0_t13 : Fin k0_t13_loop.trips) : Fin 3 → Nat :=
  let c0_i32_18 : BitVec 32 := 0#32
  let c1_i32_19 : BitVec 32 := 1#32
  let arg21 : BitVec 32 := Scf.iv c0_i32_18 c1_i32_19 k0_t13
  let v77 : Index := Scalar.indexCast arg21
  let c0_39 : Index := 0#32
  ![v77.toNat, 0, 0]
def k0_off69 (k0_t13 : Fin k0_t13_loop.trips) : Fin 3 → Nat :=
  let c0_51 : Index := 0#32
  let c2_i32_40 : BitVec 32 := 2#32
  let c0_i32_18 : BitVec 32 := 0#32
  let c1_i32_19 : BitVec 32 := 1#32
  let arg21 : BitVec 32 := Scf.iv c0_i32_18 c1_i32_19 k0_t13
  let v80 : BitVec 32 := Scalar.muli c2_i32_40 arg21
  let v119 : Index := Scalar.indexCast v80
  let c0_52 : Index := 0#32
  ![0, v119.toNat, 0]
def k0_off70 (k0_t13 : Fin k0_t13_loop.trips) : Fin 2 → Nat :=
  let c2_i32_40 : BitVec 32 := 2#32
  let c0_i32_18 : BitVec 32 := 0#32
  let c1_i32_19 : BitVec 32 := 1#32
  let arg21 : BitVec 32 := Scf.iv c0_i32_18 c1_i32_19 k0_t13
  let v80 : BitVec 32 := Scalar.muli c2_i32_40 arg21
  let v130 : Index := Scalar.indexCast v80
  let c0_55 : Index := 0#32
  ![v130.toNat, 0]
def k0_off71 (k0_t13 : Fin k0_t13_loop.trips) : Fin 3 → Nat :=
  let c2_i32_40 : BitVec 32 := 2#32
  let c0_i32_18 : BitVec 32 := 0#32
  let c1_i32_19 : BitVec 32 := 1#32
  let arg21 : BitVec 32 := Scf.iv c0_i32_18 c1_i32_19 k0_t13
  let v80 : BitVec 32 := Scalar.muli c2_i32_40 arg21
  let c5_i32 : BitVec 32 := 5#32
  let v134 : BitVec 32 := Scalar.divsi v80 c5_i32
  let v135 : Index := Scalar.indexCast v134
  let c0_56 : Index := 0#32
  let c0_57 : Index := 0#32
  ![v135.toNat, 0, 0]
def k0_off72 (k0_t13 : Fin k0_t13_loop.trips) : Fin 3 → Nat :=
  let c2_i32_40 : BitVec 32 := 2#32
  let c0_i32_18 : BitVec 32 := 0#32
  let c1_i32_19 : BitVec 32 := 1#32
  let arg21 : BitVec 32 := Scf.iv c0_i32_18 c1_i32_19 k0_t13
  let v80 : BitVec 32 := Scalar.muli c2_i32_40 arg21
  let c5_i32 : BitVec 32 := 5#32
  let v134 : BitVec 32 := Scalar.divsi v80 c5_i32
  let v158 : Index := Scalar.indexCast v134
  let c0_63 : Index := 0#32
  let c0_64 : Index := 0#32
  ![v158.toNat, 0, 0]
def k0_off73 (k0_t13 : Fin k0_t13_loop.trips) : Fin 2 → Nat :=
  let c0_67 : Index := 0#32
  let c2_i32_40 : BitVec 32 := 2#32
  let c0_i32_18 : BitVec 32 := 0#32
  let c1_i32_19 : BitVec 32 := 1#32
  let arg21 : BitVec 32 := Scf.iv c0_i32_18 c1_i32_19 k0_t13
  let v80 : BitVec 32 := Scalar.muli c2_i32_40 arg21
  let c128_i32 : BitVec 32 := 128#32
  let v170 : BitVec 32 := Scalar.muli v80 c128_i32
  let v171 : Index := Scalar.indexCast v170
  ![0, v171.toNat]
def k0_off74 (k0_t13 : Fin k0_t13_loop.trips) : Fin 3 → Nat :=
  let c0_69 : Index := 0#32
  let c0_70 : Index := 0#32
  let c2_i32_40 : BitVec 32 := 2#32
  let c0_i32_18 : BitVec 32 := 0#32
  let c1_i32_19 : BitVec 32 := 1#32
  let arg21 : BitVec 32 := Scf.iv c0_i32_18 c1_i32_19 k0_t13
  let v80 : BitVec 32 := Scalar.muli c2_i32_40 arg21
  let c128_i32_68 : BitVec 32 := 128#32
  let v176 : BitVec 32 := Scalar.muli v80 c128_i32_68
  let v177 : Index := Scalar.indexCast v176
  ![0, 0, v177.toNat]
def k0_off75 (k0_t13 : Fin k0_t13_loop.trips) : Fin 3 → Nat :=
  let c0_78 : Index := 0#32
  let c2_i32_41 : BitVec 32 := 2#32
  let c0_i32_18 : BitVec 32 := 0#32
  let c1_i32_19 : BitVec 32 := 1#32
  let arg21 : BitVec 32 := Scf.iv c0_i32_18 c1_i32_19 k0_t13
  let v81 : BitVec 32 := Scalar.muli c2_i32_41 arg21
  let c1_i32_42 : BitVec 32 := 1#32
  let v82 : BitVec 32 := Scalar.addi v81 c1_i32_42
  let v209 : Index := Scalar.indexCast v82
  let c0_79 : Index := 0#32
  ![0, v209.toNat, 0]
def k0_off76 (k0_t13 : Fin k0_t13_loop.trips) : Fin 2 → Nat :=
  let c2_i32_41 : BitVec 32 := 2#32
  let c0_i32_18 : BitVec 32 := 0#32
  let c1_i32_19 : BitVec 32 := 1#32
  let arg21 : BitVec 32 := Scf.iv c0_i32_18 c1_i32_19 k0_t13
  let v81 : BitVec 32 := Scalar.muli c2_i32_41 arg21
  let c1_i32_42 : BitVec 32 := 1#32
  let v82 : BitVec 32 := Scalar.addi v81 c1_i32_42
  let v220 : Index := Scalar.indexCast v82
  let c0_82 : Index := 0#32
  ![v220.toNat, 0]
def k0_off77 (k0_t13 : Fin k0_t13_loop.trips) : Fin 3 → Nat :=
  let c2_i32_41 : BitVec 32 := 2#32
  let c0_i32_18 : BitVec 32 := 0#32
  let c1_i32_19 : BitVec 32 := 1#32
  let arg21 : BitVec 32 := Scf.iv c0_i32_18 c1_i32_19 k0_t13
  let v81 : BitVec 32 := Scalar.muli c2_i32_41 arg21
  let c1_i32_42 : BitVec 32 := 1#32
  let v82 : BitVec 32 := Scalar.addi v81 c1_i32_42
  let c5_i32_83 : BitVec 32 := 5#32
  let v224 : BitVec 32 := Scalar.divsi v82 c5_i32_83
  let v225 : Index := Scalar.indexCast v224
  let c0_84 : Index := 0#32
  let c0_85 : Index := 0#32
  ![v225.toNat, 0, 0]
def k0_off78 (k0_t13 : Fin k0_t13_loop.trips) : Fin 3 → Nat :=
  let c2_i32_41 : BitVec 32 := 2#32
  let c0_i32_18 : BitVec 32 := 0#32
  let c1_i32_19 : BitVec 32 := 1#32
  let arg21 : BitVec 32 := Scf.iv c0_i32_18 c1_i32_19 k0_t13
  let v81 : BitVec 32 := Scalar.muli c2_i32_41 arg21
  let c1_i32_42 : BitVec 32 := 1#32
  let v82 : BitVec 32 := Scalar.addi v81 c1_i32_42
  let c5_i32_83 : BitVec 32 := 5#32
  let v224 : BitVec 32 := Scalar.divsi v82 c5_i32_83
  let v248 : Index := Scalar.indexCast v224
  let c0_91 : Index := 0#32
  let c0_92 : Index := 0#32
  ![v248.toNat, 0, 0]
def k0_off79 (k0_t13 : Fin k0_t13_loop.trips) : Fin 2 → Nat :=
  let c0_96 : Index := 0#32
  let c2_i32_41 : BitVec 32 := 2#32
  let c0_i32_18 : BitVec 32 := 0#32
  let c1_i32_19 : BitVec 32 := 1#32
  let arg21 : BitVec 32 := Scf.iv c0_i32_18 c1_i32_19 k0_t13
  let v81 : BitVec 32 := Scalar.muli c2_i32_41 arg21
  let c1_i32_42 : BitVec 32 := 1#32
  let v82 : BitVec 32 := Scalar.addi v81 c1_i32_42
  let c128_i32_95 : BitVec 32 := 128#32
  let v260 : BitVec 32 := Scalar.muli v82 c128_i32_95
  let v261 : Index := Scalar.indexCast v260
  ![0, v261.toNat]
def k0_off80 (k0_t13 : Fin k0_t13_loop.trips) : Fin 3 → Nat :=
  let c0_98 : Index := 0#32
  let c0_99 : Index := 0#32
  let c2_i32_41 : BitVec 32 := 2#32
  let c0_i32_18 : BitVec 32 := 0#32
  let c1_i32_19 : BitVec 32 := 1#32
  let arg21 : BitVec 32 := Scf.iv c0_i32_18 c1_i32_19 k0_t13
  let v81 : BitVec 32 := Scalar.muli c2_i32_41 arg21
  let c1_i32_42 : BitVec 32 := 1#32
  let v82 : BitVec 32 := Scalar.addi v81 c1_i32_42
  let c128_i32_97 : BitVec 32 := 128#32
  let v266 : BitVec 32 := Scalar.muli v82 c128_i32_97
  let v267 : Index := Scalar.indexCast v266
  ![0, 0, v267.toNat]
@[reducible] def k0_t14_loop : Scf.Loop 32 :=
  let c0_i32_21 : BitVec 32 := 0#32
  let c32_i32_22 : BitVec 32 := 32#32
  let v50 : BitVec 32 := Scalar.addi c0_i32_21 c32_i32_22
  let c1_i32_23 : BitVec 32 := 1#32
  ⟨c0_i32_21, v50, c1_i32_23⟩
def k0_off81 (k0_t14 : Fin k0_t14_loop.trips) (c0_i32_42 : BitVec 32) : Fin 2 → Nat :=
  let c4_i32_41 : BitVec 32 := 4#32
  let c0_i32_40 : BitVec 32 := 0#32
  let c0_i32_21 : BitVec 32 := 0#32
  let c1_i32_23 : BitVec 32 := 1#32
  let arg21 : BitVec 32 := Scf.iv c0_i32_21 c1_i32_23 k0_t14
  let c1_i32_39 : BitVec 32 := 1#32
  let v76 : BitVec 32 := Scalar.muli arg21 c1_i32_39
  let v77 : BitVec 32 := Scalar.addi c0_i32_40 v76
  let v78 : BitVec 32 := Scalar.muli c4_i32_41 v77
  let v79 : BitVec 32 := Scalar.addi v78 c0_i32_42
  let c41_i32 : BitVec 32 := 41#32
  let v80 : BitVec 32 := Scalar.muli v79 c41_i32
  let v81 : Index := Scalar.indexCast v80
  let c0_43 : Index := 0#32
  ![v81.toNat, 0]
def k0_off82 (k0_t14 : Fin k0_t14_loop.trips) : Fin 2 → Nat :=
  let c4_i32_41 : BitVec 32 := 4#32
  let c0_i32_40 : BitVec 32 := 0#32
  let c0_i32_21 : BitVec 32 := 0#32
  let c1_i32_23 : BitVec 32 := 1#32
  let arg21 : BitVec 32 := Scf.iv c0_i32_21 c1_i32_23 k0_t14
  let c1_i32_39 : BitVec 32 := 1#32
  let v76 : BitVec 32 := Scalar.muli arg21 c1_i32_39
  let v77 : BitVec 32 := Scalar.addi c0_i32_40 v76
  let v78 : BitVec 32 := Scalar.muli c4_i32_41 v77
  let c40_i32_53 : BitVec 32 := 40#32
  let v97 : BitVec 32 := Scalar.muli v78 c40_i32_53
  let v98 : Index := Scalar.indexCast v97
  let c0_54 : Index := 0#32
  ![v98.toNat, 0]
@[reducible] def k0_t15_loop : Scf.Loop 32 :=
  let c0_i32_35 : BitVec 32 := 0#32
  let c40_i32_36 : BitVec 32 := 40#32
  let v75 : BitVec 32 := Scalar.addi c0_i32_35 c40_i32_36
  let c1_i32_37 : BitVec 32 := 1#32
  ⟨c0_i32_35, v75, c1_i32_37⟩
def k0_off83 (k0_t15 : Fin k0_t15_loop.trips) : Fin 2 → Nat :=
  let c0_41 : Index := 0#32
  let c0_i32_40 : BitVec 32 := 0#32
  let c0_i32_35 : BitVec 32 := 0#32
  let c1_i32_37 : BitVec 32 := 1#32
  let arg21 : BitVec 32 := Scf.iv c0_i32_35 c1_i32_37 k0_t15
  let c1_i32_39 : BitVec 32 := 1#32
  let v76 : BitVec 32 := Scalar.muli arg21 c1_i32_39
  let v77 : BitVec 32 := Scalar.addi c0_i32_40 v76
  let c128_i32 : BitVec 32 := 128#32
  let v78 : BitVec 32 := Scalar.muli v77 c128_i32
  let v79 : Index := Scalar.indexCast v78
  ![0, v79.toNat]
def k0_off84 (k0_t15 : Fin k0_t15_loop.trips) : Fin 3 → Nat :=
  let c0_45 : Index := 0#32
  let c0_46 : Index := 0#32
  let c0_i32_40 : BitVec 32 := 0#32
  let c0_i32_35 : BitVec 32 := 0#32
  let c1_i32_37 : BitVec 32 := 1#32
  let arg21 : BitVec 32 := Scf.iv c0_i32_35 c1_i32_37 k0_t15
  let c1_i32_39 : BitVec 32 := 1#32
  let v76 : BitVec 32 := Scalar.muli arg21 c1_i32_39
  let v77 : BitVec 32 := Scalar.addi c0_i32_40 v76
  let c128_i32_44 : BitVec 32 := 128#32
  let v87 : BitVec 32 := Scalar.muli v77 c128_i32_44
  let v88 : Index := Scalar.indexCast v87
  ![0, 0, v88.toNat]
def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

@[reducible] def k0_t16_loop : Scf.Loop 32 :=
  let c0_i32_9 : BitVec 32 := 0#32
  let c4_i32_10 : BitVec 32 := 4#32
  let v39 : BitVec 32 := Scalar.addi c0_i32_9 c4_i32_10
  let c1_i32_11 : BitVec 32 := 1#32
  ⟨c0_i32_9, v39, c1_i32_11⟩
def k0_off85 (k0_t16 : Fin k0_t16_loop.trips) : Fin 3 → Nat :=
  let c0_i32_40 : BitVec 32 := 0#32
  let c0_i32_9 : BitVec 32 := 0#32
  let c1_i32_11 : BitVec 32 := 1#32
  let arg21 : BitVec 32 := Scf.iv c0_i32_9 c1_i32_11 k0_t16
  let c1_i32_39 : BitVec 32 := 1#32
  let v76 : BitVec 32 := Scalar.muli arg21 c1_i32_39
  let v77 : BitVec 32 := Scalar.addi c0_i32_40 v76
  let v79 : Index := Scalar.indexCast v77
  let c0_41 : Index := 0#32
  ![v79.toNat, 0, 0]
def k0_off86 (k0_t16 : Fin k0_t16_loop.trips) : Fin 3 → Nat :=
  let c0_56 : Index := 0#32
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t16
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v133 : Index := Scalar.indexCast v86
  let c0_57 : Index := 0#32
  ![0, v133.toNat, 0]
def k0_off87 (k0_t16 : Fin k0_t16_loop.trips) : Fin 3 → Nat :=
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t16
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v145 : Index := Scalar.indexCast v86
  let c384 : Index := 384#32
  let c0_60 : Index := 0#32
  ![v145.toNat, 384, 0]
def k0_off88 (k0_t16 : Fin k0_t16_loop.trips) : Fin 2 → Nat :=
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t16
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v149 : Index := Scalar.indexCast v86
  let c0_61 : Index := 0#32
  ![v149.toNat, 0]
def k0_off89 (k0_t16 : Fin k0_t16_loop.trips) : Fin 3 → Nat :=
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t16
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v163 : Index := Scalar.indexCast v86
  let c0_65 : Index := 0#32
  let c384_66 : Index := 384#32
  ![v163.toNat, 0, 384]
def k0_off90 (k0_t16 : Fin k0_t16_loop.trips) : Fin 3 → Nat :=
  let c0_74 : Index := 0#32
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t16
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v195 : Index := Scalar.indexCast v88
  let c0_75 : Index := 0#32
  ![0, v195.toNat, 0]
def k0_off91 (k0_t16 : Fin k0_t16_loop.trips) : Fin 3 → Nat :=
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t16
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v207 : Index := Scalar.indexCast v88
  let c384_78 : Index := 384#32
  let c0_79 : Index := 0#32
  ![v207.toNat, 384, 0]
def k0_off92 (k0_t16 : Fin k0_t16_loop.trips) : Fin 2 → Nat :=
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t16
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v211 : Index := Scalar.indexCast v88
  let c0_80 : Index := 0#32
  ![v211.toNat, 0]
def k0_off93 (k0_t16 : Fin k0_t16_loop.trips) : Fin 3 → Nat :=
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t16
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v225 : Index := Scalar.indexCast v88
  let c0_84 : Index := 0#32
  let c384_85 : Index := 384#32
  ![v225.toNat, 0, 384]
@[reducible] def k0_t17_loop : Scf.Loop 32 :=
  let c0_i32_13 : BitVec 32 := 0#32
  let c32_i32 : BitVec 32 := 32#32
  let v40 : BitVec 32 := Scalar.addi c0_i32_13 c32_i32
  let c1_i32_14 : BitVec 32 := 1#32
  ⟨c0_i32_13, v40, c1_i32_14⟩
def k0_off94 (k0_t17 : Fin k0_t17_loop.trips) (c0_i32_42 : BitVec 32) : Fin 2 → Nat :=
  let c4_i32_41 : BitVec 32 := 4#32
  let c0_i32_40 : BitVec 32 := 0#32
  let c0_i32_13 : BitVec 32 := 0#32
  let c1_i32_14 : BitVec 32 := 1#32
  let arg21 : BitVec 32 := Scf.iv c0_i32_13 c1_i32_14 k0_t17
  let c1_i32_39 : BitVec 32 := 1#32
  let v76 : BitVec 32 := Scalar.muli arg21 c1_i32_39
  let v77 : BitVec 32 := Scalar.addi c0_i32_40 v76
  let v78 : BitVec 32 := Scalar.muli c4_i32_41 v77
  let v79 : BitVec 32 := Scalar.addi v78 c0_i32_42
  let c9_i32 : BitVec 32 := 9#32
  let v80 : BitVec 32 := Scalar.muli v79 c9_i32
  let v81 : Index := Scalar.indexCast v80
  let c0_43 : Index := 0#32
  ![v81.toNat, 0]
def k0_off95 (k0_t17 : Fin k0_t17_loop.trips) : Fin 2 → Nat :=
  let c4_i32_41 : BitVec 32 := 4#32
  let c0_i32_40 : BitVec 32 := 0#32
  let c0_i32_13 : BitVec 32 := 0#32
  let c1_i32_14 : BitVec 32 := 1#32
  let arg21 : BitVec 32 := Scf.iv c0_i32_13 c1_i32_14 k0_t17
  let c1_i32_39 : BitVec 32 := 1#32
  let v76 : BitVec 32 := Scalar.muli arg21 c1_i32_39
  let v77 : BitVec 32 := Scalar.addi c0_i32_40 v76
  let v78 : BitVec 32 := Scalar.muli c4_i32_41 v77
  let c8_i32 : BitVec 32 := 8#32
  let v97 : BitVec 32 := Scalar.muli v78 c8_i32
  let v98 : Index := Scalar.indexCast v97
  let c0_53 : Index := 0#32
  ![v98.toNat, 0]
@[reducible] def k0_t18_loop : Scf.Loop 32 :=
  let c0_i32_18 : BitVec 32 := 0#32
  let c20_i32 : BitVec 32 := 20#32
  let v48 : BitVec 32 := Scalar.addi c0_i32_18 c20_i32
  let c1_i32_19 : BitVec 32 := 1#32
  ⟨c0_i32_18, v48, c1_i32_19⟩
def k0_off96 (k0_t18 : Fin k0_t18_loop.trips) : Fin 3 → Nat :=
  let c0_i32_18 : BitVec 32 := 0#32
  let c1_i32_19 : BitVec 32 := 1#32
  let arg21 : BitVec 32 := Scf.iv c0_i32_18 c1_i32_19 k0_t18
  let v77 : Index := Scalar.indexCast arg21
  let c0_39 : Index := 0#32
  ![v77.toNat, 0, 0]
def k0_off97 (k0_t18 : Fin k0_t18_loop.trips) : Fin 3 → Nat :=
  let c0_51 : Index := 0#32
  let c2_i32_40 : BitVec 32 := 2#32
  let c0_i32_18 : BitVec 32 := 0#32
  let c1_i32_19 : BitVec 32 := 1#32
  let arg21 : BitVec 32 := Scf.iv c0_i32_18 c1_i32_19 k0_t18
  let v80 : BitVec 32 := Scalar.muli c2_i32_40 arg21
  let v119 : Index := Scalar.indexCast v80
  let c0_52 : Index := 0#32
  ![0, v119.toNat, 0]
def k0_off98 (k0_t18 : Fin k0_t18_loop.trips) : Fin 2 → Nat :=
  let c2_i32_40 : BitVec 32 := 2#32
  let c0_i32_18 : BitVec 32 := 0#32
  let c1_i32_19 : BitVec 32 := 1#32
  let arg21 : BitVec 32 := Scf.iv c0_i32_18 c1_i32_19 k0_t18
  let v80 : BitVec 32 := Scalar.muli c2_i32_40 arg21
  let v130 : Index := Scalar.indexCast v80
  let c0_55 : Index := 0#32
  ![v130.toNat, 0]
def k0_off99 (k0_t18 : Fin k0_t18_loop.trips) : Fin 3 → Nat :=
  let c2_i32_40 : BitVec 32 := 2#32
  let c0_i32_18 : BitVec 32 := 0#32
  let c1_i32_19 : BitVec 32 := 1#32
  let arg21 : BitVec 32 := Scf.iv c0_i32_18 c1_i32_19 k0_t18
  let v80 : BitVec 32 := Scalar.muli c2_i32_40 arg21
  let c5_i32 : BitVec 32 := 5#32
  let v134 : BitVec 32 := Scalar.divsi v80 c5_i32
  let v135 : Index := Scalar.indexCast v134
  let c0_56 : Index := 0#32
  let c0_57 : Index := 0#32
  ![v135.toNat, 0, 0]
def k0_off100 (k0_t18 : Fin k0_t18_loop.trips) : Fin 3 → Nat :=
  let c2_i32_40 : BitVec 32 := 2#32
  let c0_i32_18 : BitVec 32 := 0#32
  let c1_i32_19 : BitVec 32 := 1#32
  let arg21 : BitVec 32 := Scf.iv c0_i32_18 c1_i32_19 k0_t18
  let v80 : BitVec 32 := Scalar.muli c2_i32_40 arg21
  let c5_i32 : BitVec 32 := 5#32
  let v134 : BitVec 32 := Scalar.divsi v80 c5_i32
  let v158 : Index := Scalar.indexCast v134
  let c0_63 : Index := 0#32
  let c0_64 : Index := 0#32
  ![v158.toNat, 0, 0]
def k0_off101 (k0_t18 : Fin k0_t18_loop.trips) : Fin 2 → Nat :=
  let c0_67 : Index := 0#32
  let c2_i32_40 : BitVec 32 := 2#32
  let c0_i32_18 : BitVec 32 := 0#32
  let c1_i32_19 : BitVec 32 := 1#32
  let arg21 : BitVec 32 := Scf.iv c0_i32_18 c1_i32_19 k0_t18
  let v80 : BitVec 32 := Scalar.muli c2_i32_40 arg21
  let c128_i32 : BitVec 32 := 128#32
  let v170 : BitVec 32 := Scalar.muli v80 c128_i32
  let v171 : Index := Scalar.indexCast v170
  ![0, v171.toNat]
def k0_off102 (k0_t18 : Fin k0_t18_loop.trips) : Fin 3 → Nat :=
  let c0_69 : Index := 0#32
  let c0_70 : Index := 0#32
  let c2_i32_40 : BitVec 32 := 2#32
  let c0_i32_18 : BitVec 32 := 0#32
  let c1_i32_19 : BitVec 32 := 1#32
  let arg21 : BitVec 32 := Scf.iv c0_i32_18 c1_i32_19 k0_t18
  let v80 : BitVec 32 := Scalar.muli c2_i32_40 arg21
  let c128_i32_68 : BitVec 32 := 128#32
  let v176 : BitVec 32 := Scalar.muli v80 c128_i32_68
  let v177 : Index := Scalar.indexCast v176
  ![0, 0, v177.toNat]
def k0_off103 (k0_t18 : Fin k0_t18_loop.trips) : Fin 3 → Nat :=
  let c0_78 : Index := 0#32
  let c2_i32_41 : BitVec 32 := 2#32
  let c0_i32_18 : BitVec 32 := 0#32
  let c1_i32_19 : BitVec 32 := 1#32
  let arg21 : BitVec 32 := Scf.iv c0_i32_18 c1_i32_19 k0_t18
  let v81 : BitVec 32 := Scalar.muli c2_i32_41 arg21
  let c1_i32_42 : BitVec 32 := 1#32
  let v82 : BitVec 32 := Scalar.addi v81 c1_i32_42
  let v209 : Index := Scalar.indexCast v82
  let c0_79 : Index := 0#32
  ![0, v209.toNat, 0]
def k0_off104 (k0_t18 : Fin k0_t18_loop.trips) : Fin 2 → Nat :=
  let c2_i32_41 : BitVec 32 := 2#32
  let c0_i32_18 : BitVec 32 := 0#32
  let c1_i32_19 : BitVec 32 := 1#32
  let arg21 : BitVec 32 := Scf.iv c0_i32_18 c1_i32_19 k0_t18
  let v81 : BitVec 32 := Scalar.muli c2_i32_41 arg21
  let c1_i32_42 : BitVec 32 := 1#32
  let v82 : BitVec 32 := Scalar.addi v81 c1_i32_42
  let v220 : Index := Scalar.indexCast v82
  let c0_82 : Index := 0#32
  ![v220.toNat, 0]
def k0_off105 (k0_t18 : Fin k0_t18_loop.trips) : Fin 3 → Nat :=
  let c2_i32_41 : BitVec 32 := 2#32
  let c0_i32_18 : BitVec 32 := 0#32
  let c1_i32_19 : BitVec 32 := 1#32
  let arg21 : BitVec 32 := Scf.iv c0_i32_18 c1_i32_19 k0_t18
  let v81 : BitVec 32 := Scalar.muli c2_i32_41 arg21
  let c1_i32_42 : BitVec 32 := 1#32
  let v82 : BitVec 32 := Scalar.addi v81 c1_i32_42
  let c5_i32_83 : BitVec 32 := 5#32
  let v224 : BitVec 32 := Scalar.divsi v82 c5_i32_83
  let v225 : Index := Scalar.indexCast v224
  let c0_84 : Index := 0#32
  let c0_85 : Index := 0#32
  ![v225.toNat, 0, 0]
def k0_off106 (k0_t18 : Fin k0_t18_loop.trips) : Fin 3 → Nat :=
  let c2_i32_41 : BitVec 32 := 2#32
  let c0_i32_18 : BitVec 32 := 0#32
  let c1_i32_19 : BitVec 32 := 1#32
  let arg21 : BitVec 32 := Scf.iv c0_i32_18 c1_i32_19 k0_t18
  let v81 : BitVec 32 := Scalar.muli c2_i32_41 arg21
  let c1_i32_42 : BitVec 32 := 1#32
  let v82 : BitVec 32 := Scalar.addi v81 c1_i32_42
  let c5_i32_83 : BitVec 32 := 5#32
  let v224 : BitVec 32 := Scalar.divsi v82 c5_i32_83
  let v248 : Index := Scalar.indexCast v224
  let c0_91 : Index := 0#32
  let c0_92 : Index := 0#32
  ![v248.toNat, 0, 0]
def k0_off107 (k0_t18 : Fin k0_t18_loop.trips) : Fin 2 → Nat :=
  let c0_96 : Index := 0#32
  let c2_i32_41 : BitVec 32 := 2#32
  let c0_i32_18 : BitVec 32 := 0#32
  let c1_i32_19 : BitVec 32 := 1#32
  let arg21 : BitVec 32 := Scf.iv c0_i32_18 c1_i32_19 k0_t18
  let v81 : BitVec 32 := Scalar.muli c2_i32_41 arg21
  let c1_i32_42 : BitVec 32 := 1#32
  let v82 : BitVec 32 := Scalar.addi v81 c1_i32_42
  let c128_i32_95 : BitVec 32 := 128#32
  let v260 : BitVec 32 := Scalar.muli v82 c128_i32_95
  let v261 : Index := Scalar.indexCast v260
  ![0, v261.toNat]
def k0_off108 (k0_t18 : Fin k0_t18_loop.trips) : Fin 3 → Nat :=
  let c0_98 : Index := 0#32
  let c0_99 : Index := 0#32
  let c2_i32_41 : BitVec 32 := 2#32
  let c0_i32_18 : BitVec 32 := 0#32
  let c1_i32_19 : BitVec 32 := 1#32
  let arg21 : BitVec 32 := Scf.iv c0_i32_18 c1_i32_19 k0_t18
  let v81 : BitVec 32 := Scalar.muli c2_i32_41 arg21
  let c1_i32_42 : BitVec 32 := 1#32
  let v82 : BitVec 32 := Scalar.addi v81 c1_i32_42
  let c128_i32_97 : BitVec 32 := 128#32
  let v266 : BitVec 32 := Scalar.muli v82 c128_i32_97
  let v267 : Index := Scalar.indexCast v266
  ![0, 0, v267.toNat]
@[reducible] def k0_t19_loop : Scf.Loop 32 :=
  let c0_i32_21 : BitVec 32 := 0#32
  let c32_i32_22 : BitVec 32 := 32#32
  let v50 : BitVec 32 := Scalar.addi c0_i32_21 c32_i32_22
  let c1_i32_23 : BitVec 32 := 1#32
  ⟨c0_i32_21, v50, c1_i32_23⟩
def k0_off109 (k0_t19 : Fin k0_t19_loop.trips) (c0_i32_42 : BitVec 32) : Fin 2 → Nat :=
  let c4_i32_41 : BitVec 32 := 4#32
  let c0_i32_40 : BitVec 32 := 0#32
  let c0_i32_21 : BitVec 32 := 0#32
  let c1_i32_23 : BitVec 32 := 1#32
  let arg21 : BitVec 32 := Scf.iv c0_i32_21 c1_i32_23 k0_t19
  let c1_i32_39 : BitVec 32 := 1#32
  let v76 : BitVec 32 := Scalar.muli arg21 c1_i32_39
  let v77 : BitVec 32 := Scalar.addi c0_i32_40 v76
  let v78 : BitVec 32 := Scalar.muli c4_i32_41 v77
  let v79 : BitVec 32 := Scalar.addi v78 c0_i32_42
  let c41_i32 : BitVec 32 := 41#32
  let v80 : BitVec 32 := Scalar.muli v79 c41_i32
  let v81 : Index := Scalar.indexCast v80
  let c0_43 : Index := 0#32
  ![v81.toNat, 0]
def k0_off110 (k0_t19 : Fin k0_t19_loop.trips) : Fin 2 → Nat :=
  let c4_i32_41 : BitVec 32 := 4#32
  let c0_i32_40 : BitVec 32 := 0#32
  let c0_i32_21 : BitVec 32 := 0#32
  let c1_i32_23 : BitVec 32 := 1#32
  let arg21 : BitVec 32 := Scf.iv c0_i32_21 c1_i32_23 k0_t19
  let c1_i32_39 : BitVec 32 := 1#32
  let v76 : BitVec 32 := Scalar.muli arg21 c1_i32_39
  let v77 : BitVec 32 := Scalar.addi c0_i32_40 v76
  let v78 : BitVec 32 := Scalar.muli c4_i32_41 v77
  let c40_i32_53 : BitVec 32 := 40#32
  let v97 : BitVec 32 := Scalar.muli v78 c40_i32_53
  let v98 : Index := Scalar.indexCast v97
  let c0_54 : Index := 0#32
  ![v98.toNat, 0]
@[reducible] def k0_t20_loop : Scf.Loop 32 :=
  let c0_i32_35 : BitVec 32 := 0#32
  let c40_i32_36 : BitVec 32 := 40#32
  let v75 : BitVec 32 := Scalar.addi c0_i32_35 c40_i32_36
  let c1_i32_37 : BitVec 32 := 1#32
  ⟨c0_i32_35, v75, c1_i32_37⟩
def k0_off111 (k0_t20 : Fin k0_t20_loop.trips) : Fin 2 → Nat :=
  let c0_41 : Index := 0#32
  let c0_i32_40 : BitVec 32 := 0#32
  let c0_i32_35 : BitVec 32 := 0#32
  let c1_i32_37 : BitVec 32 := 1#32
  let arg21 : BitVec 32 := Scf.iv c0_i32_35 c1_i32_37 k0_t20
  let c1_i32_39 : BitVec 32 := 1#32
  let v76 : BitVec 32 := Scalar.muli arg21 c1_i32_39
  let v77 : BitVec 32 := Scalar.addi c0_i32_40 v76
  let c128_i32 : BitVec 32 := 128#32
  let v78 : BitVec 32 := Scalar.muli v77 c128_i32
  let v79 : Index := Scalar.indexCast v78
  ![0, v79.toNat]
def k0_off112 (k0_t20 : Fin k0_t20_loop.trips) : Fin 3 → Nat :=
  let c0_45 : Index := 0#32
  let c0_46 : Index := 0#32
  let c0_i32_40 : BitVec 32 := 0#32
  let c0_i32_35 : BitVec 32 := 0#32
  let c1_i32_37 : BitVec 32 := 1#32
  let arg21 : BitVec 32 := Scf.iv c0_i32_35 c1_i32_37 k0_t20
  let c1_i32_39 : BitVec 32 := 1#32
  let v76 : BitVec 32 := Scalar.muli arg21 c1_i32_39
  let v77 : BitVec 32 := Scalar.addi c0_i32_40 v76
  let c128_i32_44 : BitVec 32 := 128#32
  let v87 : BitVec 32 := Scalar.muli v77 c128_i32_44
  let v88 : Index := Scalar.indexCast v87
  ![0, 0, v88.toNat]
def k0_cond5 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

@[reducible] def k0_t21_loop : Scf.Loop 32 :=
  let c0_i32_9 : BitVec 32 := 0#32
  let c4_i32_10 : BitVec 32 := 4#32
  let v39 : BitVec 32 := Scalar.addi c0_i32_9 c4_i32_10
  let c1_i32_11 : BitVec 32 := 1#32
  ⟨c0_i32_9, v39, c1_i32_11⟩
def k0_off113 (k0_t21 : Fin k0_t21_loop.trips) : Fin 3 → Nat :=
  let c0_i32_40 : BitVec 32 := 0#32
  let c0_i32_9 : BitVec 32 := 0#32
  let c1_i32_11 : BitVec 32 := 1#32
  let arg21 : BitVec 32 := Scf.iv c0_i32_9 c1_i32_11 k0_t21
  let c1_i32_39 : BitVec 32 := 1#32
  let v76 : BitVec 32 := Scalar.muli arg21 c1_i32_39
  let v77 : BitVec 32 := Scalar.addi c0_i32_40 v76
  let v79 : Index := Scalar.indexCast v77
  let c0_41 : Index := 0#32
  ![v79.toNat, 0, 0]
def k0_off114 (k0_t21 : Fin k0_t21_loop.trips) : Fin 3 → Nat :=
  let c0_56 : Index := 0#32
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t21
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v133 : Index := Scalar.indexCast v86
  let c0_57 : Index := 0#32
  ![0, v133.toNat, 0]
def k0_off115 (k0_t21 : Fin k0_t21_loop.trips) : Fin 3 → Nat :=
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t21
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v145 : Index := Scalar.indexCast v86
  let c512 : Index := 512#32
  let c0_60 : Index := 0#32
  ![v145.toNat, 512, 0]
def k0_off116 (k0_t21 : Fin k0_t21_loop.trips) : Fin 2 → Nat :=
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t21
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v149 : Index := Scalar.indexCast v86
  let c0_61 : Index := 0#32
  ![v149.toNat, 0]
def k0_off117 (k0_t21 : Fin k0_t21_loop.trips) : Fin 3 → Nat :=
  let c2_i32_43 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t21
  let c1_i32_39 : BitVec 32 := 1#32
  let v76 : BitVec 32 := Scalar.muli arg21 c1_i32_39
  let v77 : BitVec 32 := Scalar.addi c0_i32_40 v76
  let v86 : BitVec 32 := Scalar.muli c2_i32_43 v77
  let v163 : Index := Scalar.indexCast v86
  let c0_65 : Index := 0#32
  let c512_66 : Index := 512#32
  ![v163.toNat, 0, 512]
def k0_off118 (k0_t21 : Fin k0_t21_loop.trips) : Fin 3 → Nat :=
  let c0_74 : Index := 0#32
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t21
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v195 : Index := Scalar.indexCast v88
  let c0_75 : Index := 0#32
  ![0, v195.toNat, 0]
def k0_off119 (k0_t21 : Fin k0_t21_loop.trips) : Fin 3 → Nat :=
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t21
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v207 : Index := Scalar.indexCast v88
  let c512_78 : Index := 512#32
  let c0_79 : Index := 0#32
  ![v207.toNat, 512, 0]
def k0_off120 (k0_t21 : Fin k0_t21_loop.trips) : Fin 2 → Nat :=
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t21
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v211 : Index := Scalar.indexCast v88
  let c0_80 : Index := 0#32
  ![v211.toNat, 0]
def k0_off121 (k0_t21 : Fin k0_t21_loop.trips) : Fin 3 → Nat :=
  let c2_i32_44 : BitVec 32 := 2#32
  let c0_i32_40 : BitVec 32 := 0#32
  let c0_i32_9 : BitVec 32 := 0#32
  let c1_i32_11 : BitVec 32 := 1#32
  let arg21 : BitVec 32 := Scf.iv c0_i32_9 c1_i32_11 k0_t21
  let c1_i32_39 : BitVec 32 := 1#32
  let v76 : BitVec 32 := Scalar.muli arg21 c1_i32_39
  let v77 : BitVec 32 := Scalar.addi c0_i32_40 v76
  let v87 : BitVec 32 := Scalar.muli c2_i32_44 v77
  let c1_i32_45 : BitVec 32 := 1#32
  let v88 : BitVec 32 := Scalar.addi v87 c1_i32_45
  let v225 : Index := Scalar.indexCast v88
  let c0_84 : Index := 0#32
  let c512_85 : Index := 512#32
  ![v225.toNat, 0, 512]
@[reducible] def k0_t22_loop : Scf.Loop 32 :=
  let c0_i32_13 : BitVec 32 := 0#32
  let c32_i32 : BitVec 32 := 32#32
  let v40 : BitVec 32 := Scalar.addi c0_i32_13 c32_i32
  let c1_i32_14 : BitVec 32 := 1#32
  ⟨c0_i32_13, v40, c1_i32_14⟩
def k0_off122 (k0_t22 : Fin k0_t22_loop.trips) (c0_i32_42 : BitVec 32) : Fin 2 → Nat :=
  let c4_i32_41 : BitVec 32 := 4#32
  let c0_i32_40 : BitVec 32 := 0#32
  let c0_i32_13 : BitVec 32 := 0#32
  let c1_i32_14 : BitVec 32 := 1#32
  let arg21 : BitVec 32 := Scf.iv c0_i32_13 c1_i32_14 k0_t22
  let c1_i32_39 : BitVec 32 := 1#32
  let v76 : BitVec 32 := Scalar.muli arg21 c1_i32_39
  let v77 : BitVec 32 := Scalar.addi c0_i32_40 v76
  let v78 : BitVec 32 := Scalar.muli c4_i32_41 v77
  let v79 : BitVec 32 := Scalar.addi v78 c0_i32_42
  let c9_i32 : BitVec 32 := 9#32
  let v80 : BitVec 32 := Scalar.muli v79 c9_i32
  let v81 : Index := Scalar.indexCast v80
  let c0_43 : Index := 0#32
  ![v81.toNat, 0]
def k0_off123 (k0_t22 : Fin k0_t22_loop.trips) : Fin 2 → Nat :=
  let c4_i32_41 : BitVec 32 := 4#32
  let c0_i32_40 : BitVec 32 := 0#32
  let c0_i32_13 : BitVec 32 := 0#32
  let c1_i32_14 : BitVec 32 := 1#32
  let arg21 : BitVec 32 := Scf.iv c0_i32_13 c1_i32_14 k0_t22
  let c1_i32_39 : BitVec 32 := 1#32
  let v76 : BitVec 32 := Scalar.muli arg21 c1_i32_39
  let v77 : BitVec 32 := Scalar.addi c0_i32_40 v76
  let v78 : BitVec 32 := Scalar.muli c4_i32_41 v77
  let c8_i32 : BitVec 32 := 8#32
  let v97 : BitVec 32 := Scalar.muli v78 c8_i32
  let v98 : Index := Scalar.indexCast v97
  let c0_53 : Index := 0#32
  ![v98.toNat, 0]
@[reducible] def k0_t23_loop : Scf.Loop 32 :=
  let c0_i32_18 : BitVec 32 := 0#32
  let c20_i32 : BitVec 32 := 20#32
  let v48 : BitVec 32 := Scalar.addi c0_i32_18 c20_i32
  let c1_i32_19 : BitVec 32 := 1#32
  ⟨c0_i32_18, v48, c1_i32_19⟩
def k0_off124 (k0_t23 : Fin k0_t23_loop.trips) : Fin 3 → Nat :=
  let c0_i32_18 : BitVec 32 := 0#32
  let c1_i32_19 : BitVec 32 := 1#32
  let arg21 : BitVec 32 := Scf.iv c0_i32_18 c1_i32_19 k0_t23
  let v77 : Index := Scalar.indexCast arg21
  let c0_39 : Index := 0#32
  ![v77.toNat, 0, 0]
def k0_off125 (k0_t23 : Fin k0_t23_loop.trips) : Fin 3 → Nat :=
  let c0_51 : Index := 0#32
  let c2_i32_40 : BitVec 32 := 2#32
  let c0_i32_18 : BitVec 32 := 0#32
  let c1_i32_19 : BitVec 32 := 1#32
  let arg21 : BitVec 32 := Scf.iv c0_i32_18 c1_i32_19 k0_t23
  let v80 : BitVec 32 := Scalar.muli c2_i32_40 arg21
  let v119 : Index := Scalar.indexCast v80
  let c0_52 : Index := 0#32
  ![0, v119.toNat, 0]
def k0_off126 (k0_t23 : Fin k0_t23_loop.trips) : Fin 2 → Nat :=
  let c2_i32_40 : BitVec 32 := 2#32
  let c0_i32_18 : BitVec 32 := 0#32
  let c1_i32_19 : BitVec 32 := 1#32
  let arg21 : BitVec 32 := Scf.iv c0_i32_18 c1_i32_19 k0_t23
  let v80 : BitVec 32 := Scalar.muli c2_i32_40 arg21
  let v130 : Index := Scalar.indexCast v80
  let c0_55 : Index := 0#32
  ![v130.toNat, 0]
def k0_off127 (k0_t23 : Fin k0_t23_loop.trips) : Fin 3 → Nat :=
  let c2_i32_40 : BitVec 32 := 2#32
  let c0_i32_18 : BitVec 32 := 0#32
  let c1_i32_19 : BitVec 32 := 1#32
  let arg21 : BitVec 32 := Scf.iv c0_i32_18 c1_i32_19 k0_t23
  let v80 : BitVec 32 := Scalar.muli c2_i32_40 arg21
  let c5_i32 : BitVec 32 := 5#32
  let v134 : BitVec 32 := Scalar.divsi v80 c5_i32
  let v135 : Index := Scalar.indexCast v134
  let c0_56 : Index := 0#32
  let c0_57 : Index := 0#32
  ![v135.toNat, 0, 0]
def k0_off128 (k0_t23 : Fin k0_t23_loop.trips) : Fin 3 → Nat :=
  let c2_i32_40 : BitVec 32 := 2#32
  let c0_i32_18 : BitVec 32 := 0#32
  let c1_i32_19 : BitVec 32 := 1#32
  let arg21 : BitVec 32 := Scf.iv c0_i32_18 c1_i32_19 k0_t23
  let v80 : BitVec 32 := Scalar.muli c2_i32_40 arg21
  let c5_i32 : BitVec 32 := 5#32
  let v134 : BitVec 32 := Scalar.divsi v80 c5_i32
  let v158 : Index := Scalar.indexCast v134
  let c0_63 : Index := 0#32
  let c0_64 : Index := 0#32
  ![v158.toNat, 0, 0]
def k0_off129 (k0_t23 : Fin k0_t23_loop.trips) : Fin 2 → Nat :=
  let c0_67 : Index := 0#32
  let c2_i32_40 : BitVec 32 := 2#32
  let c0_i32_18 : BitVec 32 := 0#32
  let c1_i32_19 : BitVec 32 := 1#32
  let arg21 : BitVec 32 := Scf.iv c0_i32_18 c1_i32_19 k0_t23
  let v80 : BitVec 32 := Scalar.muli c2_i32_40 arg21
  let c128_i32 : BitVec 32 := 128#32
  let v170 : BitVec 32 := Scalar.muli v80 c128_i32
  let v171 : Index := Scalar.indexCast v170
  ![0, v171.toNat]
def k0_off130 (k0_t23 : Fin k0_t23_loop.trips) : Fin 3 → Nat :=
  let c0_69 : Index := 0#32
  let c0_70 : Index := 0#32
  let c2_i32_40 : BitVec 32 := 2#32
  let c0_i32_18 : BitVec 32 := 0#32
  let c1_i32_19 : BitVec 32 := 1#32
  let arg21 : BitVec 32 := Scf.iv c0_i32_18 c1_i32_19 k0_t23
  let v80 : BitVec 32 := Scalar.muli c2_i32_40 arg21
  let c128_i32_68 : BitVec 32 := 128#32
  let v176 : BitVec 32 := Scalar.muli v80 c128_i32_68
  let v177 : Index := Scalar.indexCast v176
  ![0, 0, v177.toNat]
def k0_off131 (k0_t23 : Fin k0_t23_loop.trips) : Fin 3 → Nat :=
  let c0_78 : Index := 0#32
  let c2_i32_41 : BitVec 32 := 2#32
  let c0_i32_18 : BitVec 32 := 0#32
  let c1_i32_19 : BitVec 32 := 1#32
  let arg21 : BitVec 32 := Scf.iv c0_i32_18 c1_i32_19 k0_t23
  let v81 : BitVec 32 := Scalar.muli c2_i32_41 arg21
  let c1_i32_42 : BitVec 32 := 1#32
  let v82 : BitVec 32 := Scalar.addi v81 c1_i32_42
  let v209 : Index := Scalar.indexCast v82
  let c0_79 : Index := 0#32
  ![0, v209.toNat, 0]
def k0_off132 (k0_t23 : Fin k0_t23_loop.trips) : Fin 2 → Nat :=
  let c2_i32_41 : BitVec 32 := 2#32
  let c0_i32_18 : BitVec 32 := 0#32
  let c1_i32_19 : BitVec 32 := 1#32
  let arg21 : BitVec 32 := Scf.iv c0_i32_18 c1_i32_19 k0_t23
  let v81 : BitVec 32 := Scalar.muli c2_i32_41 arg21
  let c1_i32_42 : BitVec 32 := 1#32
  let v82 : BitVec 32 := Scalar.addi v81 c1_i32_42
  let v220 : Index := Scalar.indexCast v82
  let c0_82 : Index := 0#32
  ![v220.toNat, 0]
def k0_off133 (k0_t23 : Fin k0_t23_loop.trips) : Fin 3 → Nat :=
  let c2_i32_41 : BitVec 32 := 2#32
  let c0_i32_18 : BitVec 32 := 0#32
  let c1_i32_19 : BitVec 32 := 1#32
  let arg21 : BitVec 32 := Scf.iv c0_i32_18 c1_i32_19 k0_t23
  let v81 : BitVec 32 := Scalar.muli c2_i32_41 arg21
  let c1_i32_42 : BitVec 32 := 1#32
  let v82 : BitVec 32 := Scalar.addi v81 c1_i32_42
  let c5_i32_83 : BitVec 32 := 5#32
  let v224 : BitVec 32 := Scalar.divsi v82 c5_i32_83
  let v225 : Index := Scalar.indexCast v224
  let c0_84 : Index := 0#32
  let c0_85 : Index := 0#32
  ![v225.toNat, 0, 0]
def k0_off134 (k0_t23 : Fin k0_t23_loop.trips) : Fin 3 → Nat :=
  let c2_i32_41 : BitVec 32 := 2#32
  let c0_i32_18 : BitVec 32 := 0#32
  let c1_i32_19 : BitVec 32 := 1#32
  let arg21 : BitVec 32 := Scf.iv c0_i32_18 c1_i32_19 k0_t23
  let v81 : BitVec 32 := Scalar.muli c2_i32_41 arg21
  let c1_i32_42 : BitVec 32 := 1#32
  let v82 : BitVec 32 := Scalar.addi v81 c1_i32_42
  let c5_i32_83 : BitVec 32 := 5#32
  let v224 : BitVec 32 := Scalar.divsi v82 c5_i32_83
  let v248 : Index := Scalar.indexCast v224
  let c0_91 : Index := 0#32
  let c0_92 : Index := 0#32
  ![v248.toNat, 0, 0]
def k0_off135 (k0_t23 : Fin k0_t23_loop.trips) : Fin 2 → Nat :=
  let c0_96 : Index := 0#32
  let c2_i32_41 : BitVec 32 := 2#32
  let c0_i32_18 : BitVec 32 := 0#32
  let c1_i32_19 : BitVec 32 := 1#32
  let arg21 : BitVec 32 := Scf.iv c0_i32_18 c1_i32_19 k0_t23
  let v81 : BitVec 32 := Scalar.muli c2_i32_41 arg21
  let c1_i32_42 : BitVec 32 := 1#32
  let v82 : BitVec 32 := Scalar.addi v81 c1_i32_42
  let c128_i32_95 : BitVec 32 := 128#32
  let v260 : BitVec 32 := Scalar.muli v82 c128_i32_95
  let v261 : Index := Scalar.indexCast v260
  ![0, v261.toNat]
def k0_off136 (k0_t23 : Fin k0_t23_loop.trips) : Fin 3 → Nat :=
  let c0_98 : Index := 0#32
  let c0_99 : Index := 0#32
  let c2_i32_41 : BitVec 32 := 2#32
  let c0_i32_18 : BitVec 32 := 0#32
  let c1_i32_19 : BitVec 32 := 1#32
  let arg21 : BitVec 32 := Scf.iv c0_i32_18 c1_i32_19 k0_t23
  let v81 : BitVec 32 := Scalar.muli c2_i32_41 arg21
  let c1_i32_42 : BitVec 32 := 1#32
  let v82 : BitVec 32 := Scalar.addi v81 c1_i32_42
  let c128_i32_97 : BitVec 32 := 128#32
  let v266 : BitVec 32 := Scalar.muli v82 c128_i32_97
  let v267 : Index := Scalar.indexCast v266
  ![0, 0, v267.toNat]
@[reducible] def k0_t24_loop : Scf.Loop 32 :=
  let c0_i32_21 : BitVec 32 := 0#32
  let c32_i32_22 : BitVec 32 := 32#32
  let v50 : BitVec 32 := Scalar.addi c0_i32_21 c32_i32_22
  let c1_i32_23 : BitVec 32 := 1#32
  ⟨c0_i32_21, v50, c1_i32_23⟩
def k0_off137 (k0_t24 : Fin k0_t24_loop.trips) (c0_i32_42 : BitVec 32) : Fin 2 → Nat :=
  let c4_i32_41 : BitVec 32 := 4#32
  let c0_i32_40 : BitVec 32 := 0#32
  let c0_i32_21 : BitVec 32 := 0#32
  let c1_i32_23 : BitVec 32 := 1#32
  let arg21 : BitVec 32 := Scf.iv c0_i32_21 c1_i32_23 k0_t24
  let c1_i32_39 : BitVec 32 := 1#32
  let v76 : BitVec 32 := Scalar.muli arg21 c1_i32_39
  let v77 : BitVec 32 := Scalar.addi c0_i32_40 v76
  let v78 : BitVec 32 := Scalar.muli c4_i32_41 v77
  let v79 : BitVec 32 := Scalar.addi v78 c0_i32_42
  let c41_i32 : BitVec 32 := 41#32
  let v80 : BitVec 32 := Scalar.muli v79 c41_i32
  let v81 : Index := Scalar.indexCast v80
  let c0_43 : Index := 0#32
  ![v81.toNat, 0]
def k0_off138 (k0_t24 : Fin k0_t24_loop.trips) : Fin 2 → Nat :=
  let c4_i32_41 : BitVec 32 := 4#32
  let c0_i32_40 : BitVec 32 := 0#32
  let c0_i32_21 : BitVec 32 := 0#32
  let c1_i32_23 : BitVec 32 := 1#32
  let arg21 : BitVec 32 := Scf.iv c0_i32_21 c1_i32_23 k0_t24
  let c1_i32_39 : BitVec 32 := 1#32
  let v76 : BitVec 32 := Scalar.muli arg21 c1_i32_39
  let v77 : BitVec 32 := Scalar.addi c0_i32_40 v76
  let v78 : BitVec 32 := Scalar.muli c4_i32_41 v77
  let c40_i32_53 : BitVec 32 := 40#32
  let v97 : BitVec 32 := Scalar.muli v78 c40_i32_53
  let v98 : Index := Scalar.indexCast v97
  let c0_54 : Index := 0#32
  ![v98.toNat, 0]
@[reducible] def k0_t25_loop : Scf.Loop 32 :=
  let c0_i32_35 : BitVec 32 := 0#32
  let c40_i32_36 : BitVec 32 := 40#32
  let v75 : BitVec 32 := Scalar.addi c0_i32_35 c40_i32_36
  let c1_i32_37 : BitVec 32 := 1#32
  ⟨c0_i32_35, v75, c1_i32_37⟩
def k0_off139 (k0_t25 : Fin k0_t25_loop.trips) : Fin 2 → Nat :=
  let c0_41 : Index := 0#32
  let c0_i32_40 : BitVec 32 := 0#32
  let c0_i32_35 : BitVec 32 := 0#32
  let c1_i32_37 : BitVec 32 := 1#32
  let arg21 : BitVec 32 := Scf.iv c0_i32_35 c1_i32_37 k0_t25
  let c1_i32_39 : BitVec 32 := 1#32
  let v76 : BitVec 32 := Scalar.muli arg21 c1_i32_39
  let v77 : BitVec 32 := Scalar.addi c0_i32_40 v76
  let c128_i32 : BitVec 32 := 128#32
  let v78 : BitVec 32 := Scalar.muli v77 c128_i32
  let v79 : Index := Scalar.indexCast v78
  ![0, v79.toNat]
def k0_off140 (k0_t25 : Fin k0_t25_loop.trips) : Fin 3 → Nat :=
  let c0_45 : Index := 0#32
  let c0_46 : Index := 0#32
  let c0_i32_40 : BitVec 32 := 0#32
  let c0_i32_35 : BitVec 32 := 0#32
  let c1_i32_37 : BitVec 32 := 1#32
  let arg21 : BitVec 32 := Scf.iv c0_i32_35 c1_i32_37 k0_t25
  let c1_i32_39 : BitVec 32 := 1#32
  let v76 : BitVec 32 := Scalar.muli arg21 c1_i32_39
  let v77 : BitVec 32 := Scalar.addi c0_i32_40 v76
  let c128_i32_44 : BitVec 32 := 128#32
  let v87 : BitVec 32 := Scalar.muli v77 c128_i32_44
  let v88 : Index := Scalar.indexCast v87
  ![0, 0, v88.toNat]
def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S5120x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S5120x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x40x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x5120 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "log2e" => some (((Real.log 2)⁻¹ : ℝ) : EReal)
  | "score_c" => some (((11863283 / 134217728) * (Real.log 2)⁻¹ : ℝ) : EReal)
  | _ => none
-- ==== ReferenceIdeal.lean ====
abbrev S3x640x40x128 : Shape := ⟨4, ![3, 640, 40, 128]⟩
abbrev S3x640x8x128 : Shape := ⟨4, ![3, 640, 8, 128]⟩
abbrev S3x3x640 : Shape := ⟨3, ![3, 3, 640]⟩
abbrev S64 : Shape := ⟨1, ![64]⟩
abbrev S_ : Shape := ⟨0, ![]⟩
abbrev S1x3x640 : Shape := ⟨3, ![1, 3, 640]⟩
abbrev S3x640 : Shape := ⟨2, ![3, 640]⟩
abbrev S3x640x1 : Shape := ⟨3, ![3, 640, 1]⟩
abbrev S3x640x16 : Shape := ⟨3, ![3, 640, 16]⟩
abbrev S3x640x24 : Shape := ⟨3, ![3, 640, 24]⟩
abbrev S3x640x64 : Shape := ⟨3, ![3, 640, 64]⟩
abbrev S1x1x64 : Shape := ⟨3, ![1, 1, 64]⟩
abbrev S3x640x128 : Shape := ⟨3, ![3, 640, 128]⟩
abbrev S3x640x40x64 : Shape := ⟨4, ![3, 640, 40, 64]⟩
abbrev S3x640x1x128 : Shape := ⟨4, ![3, 640, 1, 128]⟩
abbrev S3x640x40 : Shape := ⟨3, ![3, 640, 40]⟩
abbrev S3x640x40x1 : Shape := ⟨4, ![3, 640, 40, 1]⟩
abbrev S3x640x8x64 : Shape := ⟨4, ![3, 640, 8, 64]⟩
abbrev S3x640x8 : Shape := ⟨3, ![3, 640, 8]⟩
abbrev S3x640x8x1 : Shape := ⟨4, ![3, 640, 8, 1]⟩
abbrev S3x640x8x5x128 : Shape := ⟨5, ![3, 640, 8, 5, 128]⟩
abbrev S3x640x8x5 : Shape := ⟨4, ![3, 640, 8, 5]⟩
abbrev S3x8x640 : Shape := ⟨3, ![3, 8, 640]⟩
abbrev S3x8x1x1x640 : Shape := ⟨5, ![3, 8, 1, 1, 640]⟩
abbrev S3x8x640x640x5 : Shape := ⟨5, ![3, 8, 640, 640, 5]⟩
abbrev S3x8x5x640x640 : Shape := ⟨5, ![3, 8, 5, 640, 640]⟩
abbrev S3x8x5x640 : Shape := ⟨4, ![3, 8, 5, 640]⟩
abbrev S3x8x5x640x1 : Shape := ⟨5, ![3, 8, 5, 640, 1]⟩
abbrev S640 : Shape := ⟨1, ![640]⟩
abbrev S1x640 : Shape := ⟨2, ![1, 640]⟩
abbrev S640x1 : Shape := ⟨2, ![640, 1]⟩
abbrev S640x640 : Shape := ⟨2, ![640, 640]⟩
abbrev S3x8x128x5x640 : Shape := ⟨5, ![3, 8, 128, 5, 640]⟩
abbrev S3x640x5120 : Shape := ⟨3, ![3, 640, 5120]⟩
abbrev S76800x128 : Shape := ⟨2, ![76800, 128]⟩
abbrev S3x40x640 : Shape := ⟨3, ![3, 40, 640]⟩
abbrev S15360x128 : Shape := ⟨2, ![15360, 128]⟩
abbrev S3x1x640 : Shape := ⟨3, ![3, 1, 640]⟩

abbrev nBuf : Space → Nat
  | .hbm => 235
  | .vmem => 0
  | .smem => 0
  | _ => 0

abbrev hbmTy0_0 (i : Nat) : BufTy := match i % 128 with
  | 0 => ⟨S3x640x40x128, .bf16⟩
  | 1 => ⟨S3x640x8x128, .bf16⟩
  | 2 => ⟨S3x640x8x128, .bf16⟩
  | 3 => ⟨S3x3x640, .i32⟩
  | 4 => ⟨S64, .f32⟩
  | 5 => ⟨S_, .f32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S1x3x640, .i32⟩
  | 21 => ⟨S3x640, .i32⟩
  | 22 => ⟨S3x640x1, .i32⟩
  | 23 => ⟨S3x640x16, .i32⟩
  | 24 => ⟨S1x3x640, .i32⟩
  | 25 => ⟨S3x640, .i32⟩
  | 26 => ⟨S3x640x1, .i32⟩
  | 27 => ⟨S3x640x24, .i32⟩
  | 28 => ⟨S1x3x640, .i32⟩
  | 29 => ⟨S3x640, .i32⟩
  | 30 => ⟨S3x640x1, .i32⟩
  | 31 => ⟨S3x640x24, .i32⟩
  | 32 => ⟨S3x640x64, .i32⟩
  | 33 => ⟨S3x640x64, .f32⟩
  | 34 => ⟨S1x1x64, .f32⟩
  | 35 => ⟨S3x640x64, .f32⟩
  | 36 => ⟨S3x640x64, .f32⟩
  | 37 => ⟨S3x640x64, .f32⟩
  | 38 => ⟨S3x640x64, .f32⟩
  | 39 => ⟨S3x640x128, .f32⟩
  | 40 => ⟨S3x640x128, .f32⟩
  | 41 => ⟨S3x640x40x128, .f32⟩
  | 42 => ⟨S3x640x40x64, .f32⟩
  | 43 => ⟨S3x640x40x64, .f32⟩
  | 44 => ⟨S3x640x40x64, .f32⟩
  | 45 => ⟨S3x640x40x128, .f32⟩
  | 46 => ⟨S3x640x1x128, .f32⟩
  | 47 => ⟨S3x640x40x128, .f32⟩
  | 48 => ⟨S3x640x40x128, .f32⟩
  | 49 => ⟨S3x640x1x128, .f32⟩
  | 50 => ⟨S3x640x40x128, .f32⟩
  | 51 => ⟨S3x640x40x128, .f32⟩
  | 52 => ⟨S3x640x40x128, .f32⟩
  | 53 => ⟨S3x640x40x128, .f32⟩
  | 54 => ⟨S_, .f32⟩
  | 55 => ⟨S3x640x40, .f32⟩
  | 56 => ⟨S3x640x40x1, .f32⟩
  | 57 => ⟨S_, .f32⟩
  | 58 => ⟨S3x640x40x1, .f32⟩
  | 59 => ⟨S3x640x40x1, .f32⟩
  | 60 => ⟨S_, .f32⟩
  | 61 => ⟨S3x640x40x1, .f32⟩
  | 62 => ⟨S3x640x40x1, .i1⟩
  | 63 => ⟨S3x640x40x1, .f32⟩
  | 64 => ⟨S_, .f32⟩
  | 65 => ⟨S3x640x40x1, .f32⟩
  | 66 => ⟨S3x640x40x1, .f32⟩
  | 67 => ⟨S3x640x40x1, .f32⟩
  | 68 => ⟨S3x640x40x1, .f32⟩
  | 69 => ⟨S_, .f32⟩
  | 70 => ⟨S3x640x40x1, .f32⟩
  | 71 => ⟨S3x640x40x1, .f32⟩
  | 72 => ⟨S_, .f32⟩
  | 73 => ⟨S_, .f32⟩
  | 74 => ⟨S3x640x40x1, .f32⟩
  | 75 => ⟨S3x640x40x1, .f32⟩
  | 76 => ⟨S_, .f32⟩
  | 77 => ⟨S3x640x40x1, .f32⟩
  | 78 => ⟨S3x640x40x1, .f32⟩
  | 79 => ⟨S3x640x40x1, .f32⟩
  | 80 => ⟨S3x640x40x128, .f32⟩
  | 81 => ⟨S3x640x40x128, .f32⟩
  | 82 => ⟨S_, .f32⟩
  | 83 => ⟨S_, .f32⟩
  | 84 => ⟨S_, .f32⟩
  | 85 => ⟨S3x640x40x128, .f32⟩
  | 86 => ⟨S3x640x40x128, .f32⟩
  | 87 => ⟨S_, .f32⟩
  | 88 => ⟨S3x640x40x128, .f32⟩
  | 89 => ⟨S3x640x40x128, .f32⟩
  | 90 => ⟨S3x640x40x1, .f32⟩
  | 91 => ⟨S3x640x40, .f32⟩
  | 92 => ⟨S3x640x8x128, .f32⟩
  | 93 => ⟨S3x640x8x64, .f32⟩
  | 94 => ⟨S3x640x8x64, .f32⟩
  | 95 => ⟨S3x640x8x64, .f32⟩
  | 96 => ⟨S3x640x8x128, .f32⟩
  | 97 => ⟨S3x640x1x128, .f32⟩
  | 98 => ⟨S3x640x8x128, .f32⟩
  | 99 => ⟨S3x640x8x128, .f32⟩
  | 100 => ⟨S3x640x1x128, .f32⟩
  | 101 => ⟨S3x640x8x128, .f32⟩
  | 102 => ⟨S3x640x8x128, .f32⟩
  | 103 => ⟨S3x640x8x128, .f32⟩
  | 104 => ⟨S3x640x8x128, .f32⟩
  | 105 => ⟨S_, .f32⟩
  | 106 => ⟨S3x640x8, .f32⟩
  | 107 => ⟨S3x640x8x1, .f32⟩
  | 108 => ⟨S_, .f32⟩
  | 109 => ⟨S3x640x8x1, .f32⟩
  | 110 => ⟨S3x640x8x1, .f32⟩
  | 111 => ⟨S_, .f32⟩
  | 112 => ⟨S3x640x8x1, .f32⟩
  | 113 => ⟨S3x640x8x1, .i1⟩
  | 114 => ⟨S3x640x8x1, .f32⟩
  | 115 => ⟨S_, .f32⟩
  | 116 => ⟨S3x640x8x1, .f32⟩
  | 117 => ⟨S3x640x8x1, .f32⟩
  | 118 => ⟨S3x640x8x1, .f32⟩
  | 119 => ⟨S3x640x8x1, .f32⟩
  | 120 => ⟨S_, .f32⟩
  | 121 => ⟨S3x640x8x1, .f32⟩
  | 122 => ⟨S3x640x8x1, .f32⟩
  | 123 => ⟨S_, .f32⟩
  | 124 => ⟨S_, .f32⟩
  | 125 => ⟨S3x640x8x1, .f32⟩
  | 126 => ⟨S3x640x8x1, .f32⟩
  | 127 => ⟨S_, .f32⟩
  | _ => ⟨S3x640x40x128, .bf16⟩

abbrev hbmTy0_1 (i : Nat) : BufTy := match i % 128 with
  | 0 => ⟨S3x640x8x1, .f32⟩
  | 1 => ⟨S3x640x8x1, .f32⟩
  | 2 => ⟨S3x640x8x1, .f32⟩
  | 3 => ⟨S3x640x8x128, .f32⟩
  | 4 => ⟨S3x640x8x128, .f32⟩
  | 5 => ⟨S_, .f32⟩
  | 6 => ⟨S_, .f32⟩
  | 7 => ⟨S_, .f32⟩
  | 8 => ⟨S3x640x8x128, .f32⟩
  | 9 => ⟨S3x640x8x128, .f32⟩
  | 10 => ⟨S_, .f32⟩
  | 11 => ⟨S3x640x8x128, .f32⟩
  | 12 => ⟨S3x640x8x128, .f32⟩
  | 13 => ⟨S3x640x8x1, .f32⟩
  | 14 => ⟨S3x640x8, .f32⟩
  | 15 => ⟨S3x640x8x5x128, .f32⟩
  | 16 => ⟨S3x640x8x5, .f32⟩
  | 17 => ⟨S3x8x640, .f32⟩
  | 18 => ⟨S3x8x1x1x640, .f32⟩
  | 19 => ⟨S3x8x640x640x5, .f32⟩
  | 20 => ⟨S3x8x5x640x640, .f32⟩
  | 21 => ⟨S3x8x5x640, .f32⟩
  | 22 => ⟨S3x8x5x640x1, .f32⟩
  | 23 => ⟨S3x8x5x640x640, .f32⟩
  | 24 => ⟨S3x8x5x640x640, .f32⟩
  | 25 => ⟨S3x8x5x640x640, .f32⟩
  | 26 => ⟨S3x8x5x640x640, .f32⟩
  | 27 => ⟨S_, .f32⟩
  | 28 => ⟨S3x8x5x640x640, .f32⟩
  | 29 => ⟨S3x8x5x640x640, .f32⟩
  | 30 => ⟨S640, .i32⟩
  | 31 => ⟨S1x640, .i32⟩
  | 32 => ⟨S640x1, .i32⟩
  | 33 => ⟨S640x640, .i32⟩
  | 34 => ⟨S640x640, .i32⟩
  | 35 => ⟨S640x640, .i1⟩
  | 36 => ⟨S_, .f32⟩
  | 37 => ⟨S_, .f32⟩
  | 38 => ⟨S3x8x5x640x640, .i1⟩
  | 39 => ⟨S3x8x5x640x640, .f32⟩
  | 40 => ⟨S3x8x5x640x640, .f32⟩
  | 41 => ⟨S_, .f32⟩
  | 42 => ⟨S3x8x5x640, .f32⟩
  | 43 => ⟨S_, .f32⟩
  | 44 => ⟨S3x8x5x640, .f32⟩
  | 45 => ⟨S3x8x5x640, .f32⟩
  | 46 => ⟨S3x8x5x640x1, .f32⟩
  | 47 => ⟨S3x8x5x640x640, .f32⟩
  | 48 => ⟨S3x8x5x640x640, .f32⟩
  | 49 => ⟨S3x8x5x640x640, .f32⟩
  | 50 => ⟨S_, .f32⟩
  | 51 => ⟨S3x8x5x640, .f32⟩
  | 52 => ⟨S3x8x5x640x1, .f32⟩
  | 53 => ⟨S3x8x5x640x640, .f32⟩
  | 54 => ⟨S3x8x5x640x640, .f32⟩
  | 55 => ⟨S3x8x5x640x640, .bf16⟩
  | 56 => ⟨S3x8x128x5x640, .f32⟩
  | 57 => ⟨S3x640x8x5x128, .f32⟩
  | 58 => ⟨S3x640x5120, .f32⟩
  | 59 => ⟨S3x640x5120, .f32⟩
  | 60 => ⟨S_, .f32⟩
  | 61 => ⟨S3x640, .f32⟩
  | 62 => ⟨S3x640x1, .f32⟩
  | 63 => ⟨S_, .f32⟩
  | 64 => ⟨S3x640x1, .f32⟩
  | 65 => ⟨S3x640x1, .f32⟩
  | 66 => ⟨S_, .f32⟩
  | 67 => ⟨S3x640x1, .f32⟩
  | 68 => ⟨S3x640x1, .i1⟩
  | 69 => ⟨S3x640x1, .f32⟩
  | 70 => ⟨S_, .f32⟩
  | 71 => ⟨S3x640x1, .f32⟩
  | 72 => ⟨S3x640x1, .f32⟩
  | 73 => ⟨S3x640x1, .f32⟩
  | 74 => ⟨S3x640x1, .f32⟩
  | 75 => ⟨S_, .f32⟩
  | 76 => ⟨S3x640x1, .f32⟩
  | 77 => ⟨S3x640x1, .f32⟩
  | 78 => ⟨S_, .f32⟩
  | 79 => ⟨S_, .f32⟩
  | 80 => ⟨S3x640x1, .f32⟩
  | 81 => ⟨S3x640x1, .f32⟩
  | 82 => ⟨S_, .f32⟩
  | 83 => ⟨S3x640x1, .f32⟩
  | 84 => ⟨S3x640x1, .f32⟩
  | 85 => ⟨S3x640x1, .f32⟩
  | 86 => ⟨S3x640x5120, .f32⟩
  | 87 => ⟨S3x640x5120, .f32⟩
  | 88 => ⟨S_, .f32⟩
  | 89 => ⟨S_, .f32⟩
  | 90 => ⟨S_, .f32⟩
  | 91 => ⟨S3x640x5120, .f32⟩
  | 92 => ⟨S3x640x5120, .f32⟩
  | 93 => ⟨S_, .f32⟩
  | 94 => ⟨S3x640x5120, .f32⟩
  | 95 => ⟨S3x640x5120, .f32⟩
  | 96 => ⟨S3x640x1, .f32⟩
  | 97 => ⟨S3x640, .f32⟩
  | 98 => ⟨S3x640x5120, .bf16⟩
  | 99 => ⟨S3x640x40x128, .fp8e4m3⟩
  | 100 => ⟨S76800x128, .fp8e4m3⟩
  | 101 => ⟨S3x40x640, .f32⟩
  | 102 => ⟨S3x640x8x128, .fp8e4m3⟩
  | 103 => ⟨S15360x128, .fp8e4m3⟩
  | 104 => ⟨S3x8x640, .f32⟩
  | 105 => ⟨S3x640x5120, .fp8e4m3⟩
  | 106 => ⟨S3x1x640, .f32⟩
  | _ => ⟨S3x640x40x128, .bf16⟩

abbrev hbmTy (i : Nat) : BufTy := match i / 128 with
  | 0 => hbmTy0_0 i
  | 1 => hbmTy0_1 i
  | _ => ⟨S3x640x40x128, .bf16⟩

abbrev bufTy : (tb : Table) → Fin (tcTables nBuf tb) → BufTy
  | .hbm, ⟨i, _⟩ => hbmTy i
  | _, _ => ⟨S3x640x40x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_cst_5 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_call0_v0 : Ref sig .tc := ⟨.hbm, 73, rfl⟩
abbrev main_call0_v1 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_11 : Ref sig .tc := ⟨.hbm, 82, rfl⟩
abbrev main_cst_12 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_13 : Ref sig .tc := ⟨.hbm, 105, rfl⟩
abbrev main_v80 : Ref sig .tc := ⟨.hbm, 106, rfl⟩
abbrev main_v81 : Ref sig .tc := ⟨.hbm, 107, rfl⟩
abbrev main_cst_14 : Ref sig .tc := ⟨.hbm, 108, rfl⟩
abbrev main_v82 : Ref sig .tc := ⟨.hbm, 109, rfl⟩
abbrev main_v83 : Ref sig .tc := ⟨.hbm, 110, rfl⟩
abbrev main_cst_15 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_16 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_17 : Ref sig .tc := ⟨.hbm, 120, rfl⟩
abbrev main_v91 : Ref sig .tc := ⟨.hbm, 121, rfl⟩
abbrev main_v92 : Ref sig .tc := ⟨.hbm, 122, rfl⟩
abbrev main_cst_18 : Ref sig .tc := ⟨.hbm, 123, rfl⟩
abbrev main_call2_v0 : Ref sig .tc := ⟨.hbm, 124, rfl⟩
abbrev main_call2_v1 : Ref sig .tc := ⟨.hbm, 125, rfl⟩
abbrev main_v93 : Ref sig .tc := ⟨.hbm, 126, rfl⟩
abbrev main_cst_19 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_20 : Ref sig .tc := ⟨.hbm, 133, rfl⟩
abbrev main_cst_21 : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_22 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_23 : Ref sig .tc := ⟨.hbm, 164, rfl⟩
abbrev main_call4_v0 : Ref sig .tc := ⟨.hbm, 165, rfl⟩
abbrev main_call4_v1 : Ref sig .tc := ⟨.hbm, 166, rfl⟩
abbrev main_call4_v2 : Ref sig .tc := ⟨.hbm, 167, rfl⟩
abbrev main_v122 : Ref sig .tc := ⟨.hbm, 168, rfl⟩
abbrev main_cst_24 : Ref sig .tc := ⟨.hbm, 169, rfl⟩
abbrev main_v123 : Ref sig .tc := ⟨.hbm, 170, rfl⟩
abbrev main_cst_25 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_26 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_cst_27 : Ref sig .tc := ⟨.hbm, 188, rfl⟩
abbrev main_v139 : Ref sig .tc := ⟨.hbm, 189, rfl⟩
abbrev main_v140 : Ref sig .tc := ⟨.hbm, 190, rfl⟩
abbrev main_cst_28 : Ref sig .tc := ⟨.hbm, 191, rfl⟩
abbrev main_v141 : Ref sig .tc := ⟨.hbm, 192, rfl⟩
abbrev main_v142 : Ref sig .tc := ⟨.hbm, 193, rfl⟩
abbrev main_cst_29 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_cst_30 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_31 : Ref sig .tc := ⟨.hbm, 203, rfl⟩
abbrev main_v150 : Ref sig .tc := ⟨.hbm, 204, rfl⟩
abbrev main_v151 : Ref sig .tc := ⟨.hbm, 205, rfl⟩
abbrev main_cst_32 : Ref sig .tc := ⟨.hbm, 206, rfl⟩
abbrev main_call5_v0 : Ref sig .tc := ⟨.hbm, 207, rfl⟩
abbrev main_call5_v1 : Ref sig .tc := ⟨.hbm, 208, rfl⟩
abbrev main_v152 : Ref sig .tc := ⟨.hbm, 209, rfl⟩
abbrev main_cst_33 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_cst_34 : Ref sig .tc := ⟨.hbm, 216, rfl⟩
abbrev main_cst_35 : Ref sig .tc := ⟨.hbm, 217, rfl⟩
abbrev main_call6_v0 : Ref sig .tc := ⟨.hbm, 218, rfl⟩
abbrev main_call6_v1 : Ref sig .tc := ⟨.hbm, 219, rfl⟩
abbrev main_call6_v2 : Ref sig .tc := ⟨.hbm, 220, rfl⟩
abbrev main_call6_v3 : Ref sig .tc := ⟨.hbm, 221, rfl⟩
abbrev main_call6_v4 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩

abbrev nD : Nat := 1
abbrev τ : Topo := Topo.v7x

variable {F : FTy → Type} [FloatOps F]
-- ==== Proof.Kernel.Loops.lean ====
module

public import proofs.«01_k».proof.Proof.Gen.Kernel.Loops
public import proofs.«01_k».proof.Proof.Gen.Kernel.Frame

/-!
# The printed kernel's loops

One invariant per counted loop that has no generated one: what a trip reads is held at its contents,
what it writes at some contents.  One trip is run at a symbolic trip number.
-/

@[expose] public section

set_option warn.classDefReducibility false
set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- No loop variants. -/
abbrev 𝒱₀ : Variants := Variants.none

/-- Memref `M`'s whole buffer on core `c`, at contents `f`. -/
abbrev pt (c : Dev nD) {sp : Space} {S : Shape} {e : EltTy} (M : Memref sig .tc sp S e)
    (f : BufTy.Contents (Elt F) M.view.ty) : sProp 𝕄 :=
  M.view.loc (c : Thread nD τ) ↦[M.view.set]{fullShare} f

/-- Memref `M`'s whole buffer on core `c`, at some contents. -/
abbrev any (c : Dev nD) {sp : Space} {S : Shape} {e : EltTy} (M : Memref sig .tc sp S e) : sProp 𝕄 :=
  iprop(∃ f, pt (F := F) c M f)

variable (c : Dev nD) (i : grid0.Coords)
  (arg2 : Memref sig .tc .vmem S5120x128 .bf16) (harg2 : arg2.IsWhole)
  (arg3 : Memref sig .tc .vmem S1024x128 .bf16) (harg3 : arg3.IsWhole)
  (arg4 : Memref sig .tc .vmem S1024x128 .bf16) (harg4 : arg4.IsWhole)
  (arg5 : Memref sig .tc .vmem S1x3x128 .i32) (harg5 : arg5.IsWhole)
  (arg6 : Memref sig .tc .vmem S64x128 .f32) (harg6 : arg6.IsWhole)
  (arg7 : Memref sig .tc .vmem S1x128x5120 .bf16) (harg7 : arg7.IsWhole)
  (arg8 : Memref sig .tc .vmem S5120x128 .fp8e4m3) (harg8 : arg8.IsWhole)
  (arg9 : Memref sig .tc .vmem S1x40x128 .f32) (harg9 : arg9.IsWhole)
  (arg10 : Memref sig .tc .vmem S1024x128 .fp8e4m3) (harg10 : arg10.IsWhole)
  (arg11 : Memref sig .tc .vmem S1x8x128 .f32) (harg11 : arg11.IsWhole)
  (arg12 : Memref sig .tc .vmem S1x128x5120 .fp8e4m3) (harg12 : arg12.IsWhole)
  (arg13 : Memref sig .tc .vmem S1x1x128 .f32) (harg13 : arg13.IsWhole)
  (arg14 : Memref sig .tc .vmem S8x640x128 .fp8e4m3) (harg14 : arg14.IsWhole)
  (arg15 : Memref sig .tc .vmem S8x640x128 .f32) (harg15 : arg15.IsWhole)
  (arg16 : Memref sig .tc .vmem S8x128x640 .bf16) (harg16 : arg16.IsWhole)
  (arg17 : Memref sig .tc .vmem S5248x128 .f32) (harg17 : arg17.IsWhole)
  (arg18 : Memref sig .tc .vmem S1152x128 .f32) (harg18 : arg18.IsWhole)
  (arg19 : Memref sig .tc .vmem S8x128 .f32) (harg19 : arg19.IsWhole)
  (arg20 : Memref sig .tc .vmem S128x5120 .f32) (harg20 : arg20.IsWhole)

/-- Branch 1: the loop over the pairs of key heads. -/
@[sl_loop] def loopInv_k0_t1 (f3 : BufTy.Contents (Elt F) arg3.view.ty) (f4 : BufTy.Contents (Elt F) arg4.view.ty)
    (k0_h1 : k0_cond1 i = 1#1) (v15 : Vec F S1x3x128 .i32) (v34 : Vec F S64x128 .f32) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v15 v34 where
  inv := fun _ _ => iprop(pt c arg3 f3 ∗ pt c arg4 f4 ∗ any (F := F) c arg11 ∗ any (F := F) c arg14 ∗ any (F := F) c arg15 ∗ any (F := F) c arg16 ∗ any (F := F) c arg18)
  step := fun k _ => by
    iintro ⟨H3, H4, ⟨%f11, H11⟩, ⟨%f14, H14⟩, ⟨%f15, H15⟩, ⟨%f16, H16⟩, ⟨%f18, H18⟩⟩
    unfold k0_t1_body
    sl_exec_parts
    sl_step
    sl_close

/-- Branch 1: the loop over the pairs of query heads. -/
@[sl_loop] def loopInv_k0_t3 (f2 : BufTy.Contents (Elt F) arg2.view.ty) (f14 : BufTy.Contents (Elt F) arg14.view.ty)
    (f15 : BufTy.Contents (Elt F) arg15.view.ty) (f16 : BufTy.Contents (Elt F) arg16.view.ty)
    (k0_h1 : k0_cond1 i = 1#1) (v15 : Vec F S1x3x128 .i32) (v34 : Vec F S64x128 .f32)
    (init : FVec F S128x128 .f32) :
    LoopInvTy_k0_t3 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v15 v34 init where
  inv := fun _ _ => iprop(pt c arg2 f2 ∗ pt c arg14 f14 ∗ pt c arg15 f15 ∗ pt c arg16 f16 ∗ any (F := F) c arg7 ∗ any (F := F) c arg9 ∗ any (F := F) c arg17 ∗ any (F := F) c arg20)
  step := fun k _ => by
    iintro ⟨H2, H14, H15, H16, ⟨%f7, H7⟩, ⟨%f9, H9⟩, ⟨%f17, H17⟩, ⟨%f20, H20⟩⟩
    unfold k0_t3_body
    sl_exec_parts
    sl_step
    sl_close

/-- Branch 2: the loop over the pairs of key heads. -/
@[sl_loop] def loopInv_k0_t6 (f3 : BufTy.Contents (Elt F) arg3.view.ty) (f4 : BufTy.Contents (Elt F) arg4.view.ty)
    (k0_h2 : k0_cond2 i = 1#1) (v15 : Vec F S1x3x128 .i32) (v34 : Vec F S64x128 .f32) :
    LoopInvTy_k0_t6 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h2 v15 v34 where
  inv := fun _ _ => iprop(pt c arg3 f3 ∗ pt c arg4 f4 ∗ any (F := F) c arg11 ∗ any (F := F) c arg14 ∗ any (F := F) c arg15 ∗ any (F := F) c arg16 ∗ any (F := F) c arg18)
  step := fun k _ => by
    iintro ⟨H3, H4, ⟨%f11, H11⟩, ⟨%f14, H14⟩, ⟨%f15, H15⟩, ⟨%f16, H16⟩, ⟨%f18, H18⟩⟩
    unfold k0_t6_body
    sl_exec_parts
    sl_step
    sl_close

/-- Branch 2: the loop over the pairs of query heads. -/
@[sl_loop] def loopInv_k0_t8 (f2 : BufTy.Contents (Elt F) arg2.view.ty) (f14 : BufTy.Contents (Elt F) arg14.view.ty)
    (f15 : BufTy.Contents (Elt F) arg15.view.ty) (f16 : BufTy.Contents (Elt F) arg16.view.ty)
    (k0_h2 : k0_cond2 i = 1#1) (v15 : Vec F S1x3x128 .i32) (v34 : Vec F S64x128 .f32)
    (init : FVec F S128x128 .f32) :
    LoopInvTy_k0_t8 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h2 v15 v34 init where
  inv := fun _ _ => iprop(pt c arg2 f2 ∗ pt c arg14 f14 ∗ pt c arg15 f15 ∗ pt c arg16 f16 ∗ any (F := F) c arg7 ∗ any (F := F) c arg9 ∗ any (F := F) c arg17 ∗ any (F := F) c arg20)
  step := fun k _ => by
    iintro ⟨H2, H14, H15, H16, ⟨%f7, H7⟩, ⟨%f9, H9⟩, ⟨%f17, H17⟩, ⟨%f20, H20⟩⟩
    unfold k0_t8_body
    sl_exec_parts
    sl_step
    sl_close

/-- Branch 3: the loop over the pairs of key heads. -/
@[sl_loop] def loopInv_k0_t11 (f3 : BufTy.Contents (Elt F) arg3.view.ty) (f4 : BufTy.Contents (Elt F) arg4.view.ty)
    (k0_h3 : k0_cond3 i = 1#1) (v15 : Vec F S1x3x128 .i32) (v34 : Vec F S64x128 .f32) :
    LoopInvTy_k0_t11 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h3 v15 v34 where
  inv := fun _ _ => iprop(pt c arg3 f3 ∗ pt c arg4 f4 ∗ any (F := F) c arg11 ∗ any (F := F) c arg14 ∗ any (F := F) c arg15 ∗ any (F := F) c arg16 ∗ any (F := F) c arg18)
  step := fun k _ => by
    iintro ⟨H3, H4, ⟨%f11, H11⟩, ⟨%f14, H14⟩, ⟨%f15, H15⟩, ⟨%f16, H16⟩, ⟨%f18, H18⟩⟩
    unfold k0_t11_body
    sl_exec_parts
    sl_step
    sl_close

/-- Branch 3: the loop over the pairs of query heads. -/
@[sl_loop] def loopInv_k0_t13 (f2 : BufTy.Contents (Elt F) arg2.view.ty) (f14 : BufTy.Contents (Elt F) arg14.view.ty)
    (f15 : BufTy.Contents (Elt F) arg15.view.ty) (f16 : BufTy.Contents (Elt F) arg16.view.ty)
    (k0_h3 : k0_cond3 i = 1#1) (v15 : Vec F S1x3x128 .i32) (v34 : Vec F S64x128 .f32)
    (init : FVec F S128x128 .f32) :
    LoopInvTy_k0_t13 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h3 v15 v34 init where
  inv := fun _ _ => iprop(pt c arg2 f2 ∗ pt c arg14 f14 ∗ pt c arg15 f15 ∗ pt c arg16 f16 ∗ any (F := F) c arg7 ∗ any (F := F) c arg9 ∗ any (F := F) c arg17 ∗ any (F := F) c arg20)
  step := fun k _ => by
    iintro ⟨H2, H14, H15, H16, ⟨%f7, H7⟩, ⟨%f9, H9⟩, ⟨%f17, H17⟩, ⟨%f20, H20⟩⟩
    unfold k0_t13_body
    sl_exec_parts
    sl_step
    sl_close

/-- Branch 4: the loop over the pairs of key heads. -/
@[sl_loop] def loopInv_k0_t16 (f3 : BufTy.Contents (Elt F) arg3.view.ty) (f4 : BufTy.Contents (Elt F) arg4.view.ty)
    (k0_h4 : k0_cond4 i = 1#1) (v15 : Vec F S1x3x128 .i32) (v34 : Vec F S64x128 .f32) :
    LoopInvTy_k0_t16 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h4 v15 v34 where
  inv := fun _ _ => iprop(pt c arg3 f3 ∗ pt c arg4 f4 ∗ any (F := F) c arg11 ∗ any (F := F) c arg14 ∗ any (F := F) c arg15 ∗ any (F := F) c arg16 ∗ any (F := F) c arg18)
  step := fun k _ => by
    iintro ⟨H3, H4, ⟨%f11, H11⟩, ⟨%f14, H14⟩, ⟨%f15, H15⟩, ⟨%f16, H16⟩, ⟨%f18, H18⟩⟩
    unfold k0_t16_body
    sl_exec_parts
    sl_step
    sl_close

/-- Branch 4: the loop over the pairs of query heads. -/
@[sl_loop] def loopInv_k0_t18 (f2 : BufTy.Contents (Elt F) arg2.view.ty) (f14 : BufTy.Contents (Elt F) arg14.view.ty)
    (f15 : BufTy.Contents (Elt F) arg15.view.ty) (f16 : BufTy.Contents (Elt F) arg16.view.ty)
    (k0_h4 : k0_cond4 i = 1#1) (v15 : Vec F S1x3x128 .i32) (v34 : Vec F S64x128 .f32)
    (init : FVec F S128x128 .f32) :
    LoopInvTy_k0_t18 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h4 v15 v34 init where
  inv := fun _ _ => iprop(pt c arg2 f2 ∗ pt c arg14 f14 ∗ pt c arg15 f15 ∗ pt c arg16 f16 ∗ any (F := F) c arg7 ∗ any (F := F) c arg9 ∗ any (F := F) c arg17 ∗ any (F := F) c arg20)
  step := fun k _ => by
    iintro ⟨H2, H14, H15, H16, ⟨%f7, H7⟩, ⟨%f9, H9⟩, ⟨%f17, H17⟩, ⟨%f20, H20⟩⟩
    unfold k0_t18_body
    sl_exec_parts
    sl_step
    sl_close

/-- Branch 5: the loop over the pairs of key heads. -/
@[sl_loop] def loopInv_k0_t21 (f3 : BufTy.Contents (Elt F) arg3.view.ty) (f4 : BufTy.Contents (Elt F) arg4.view.ty)
    (k0_h5 : k0_cond5 i = 1#1) (v15 : Vec F S1x3x128 .i32) (v34 : Vec F S64x128 .f32) :
    LoopInvTy_k0_t21 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h5 v15 v34 where
  inv := fun _ _ => iprop(pt c arg3 f3 ∗ pt c arg4 f4 ∗ any (F := F) c arg11 ∗ any (F := F) c arg14 ∗ any (F := F) c arg15 ∗ any (F := F) c arg16 ∗ any (F := F) c arg18)
  step := fun k _ => by
    iintro ⟨H3, H4, ⟨%f11, H11⟩, ⟨%f14, H14⟩, ⟨%f15, H15⟩, ⟨%f16, H16⟩, ⟨%f18, H18⟩⟩
    unfold k0_t21_body
    sl_exec_parts
    sl_step
    sl_close

/-- Branch 5: the loop over the pairs of query heads. -/
@[sl_loop] def loopInv_k0_t23 (f2 : BufTy.Contents (Elt F) arg2.view.ty) (f14 : BufTy.Contents (Elt F) arg14.view.ty)
    (f15 : BufTy.Contents (Elt F) arg15.view.ty) (f16 : BufTy.Contents (Elt F) arg16.view.ty)
    (k0_h5 : k0_cond5 i = 1#1) (v15 : Vec F S1x3x128 .i32) (v34 : Vec F S64x128 .f32)
    (init : FVec F S128x128 .f32) :
    LoopInvTy_k0_t23 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h5 v15 v34 init where
  inv := fun _ _ => iprop(pt c arg2 f2 ∗ pt c arg14 f14 ∗ pt c arg15 f15 ∗ pt c arg16 f16 ∗ any (F := F) c arg7 ∗ any (F := F) c arg9 ∗ any (F := F) c arg17 ∗ any (F := F) c arg20)
  step := fun k _ => by
    iintro ⟨H2, H14, H15, H16, ⟨%f7, H7⟩, ⟨%f9, H9⟩, ⟨%f17, H17⟩, ⟨%f20, H20⟩⟩
    unfold k0_t23_body
    sl_exec_parts
    sl_step
    sl_close

end Cert.Proof.Kernel

end
-- ==== Proof.Kernel.Body.lean ====
module

public import proofs.«01_k».proof.Proof.Kernel.Loops

/-!
# The printed kernel's frame

The body's triple at each of the five query blocks, and the launch.  The outputs are forgotten: the claim
says nothing of them.
-/

@[expose] public section

set_option warn.classDefReducibility false
set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (c : Dev nD) (i : grid0.Coords)
  (arg2 : Memref sig .tc .vmem S5120x128 .bf16) (harg2 : arg2.IsWhole)
  (arg3 : Memref sig .tc .vmem S1024x128 .bf16) (harg3 : arg3.IsWhole)
  (arg4 : Memref sig .tc .vmem S1024x128 .bf16) (harg4 : arg4.IsWhole)
  (arg5 : Memref sig .tc .vmem S1x3x128 .i32) (harg5 : arg5.IsWhole)
  (arg6 : Memref sig .tc .vmem S64x128 .f32) (harg6 : arg6.IsWhole)
  (arg7 : Memref sig .tc .vmem S1x128x5120 .bf16) (harg7 : arg7.IsWhole)
  (arg8 : Memref sig .tc .vmem S5120x128 .fp8e4m3) (harg8 : arg8.IsWhole)
  (arg9 : Memref sig .tc .vmem S1x40x128 .f32) (harg9 : arg9.IsWhole)
  (arg10 : Memref sig .tc .vmem S1024x128 .fp8e4m3) (harg10 : arg10.IsWhole)
  (arg11 : Memref sig .tc .vmem S1x8x128 .f32) (harg11 : arg11.IsWhole)
  (arg12 : Memref sig .tc .vmem S1x128x5120 .fp8e4m3) (harg12 : arg12.IsWhole)
  (arg13 : Memref sig .tc .vmem S1x1x128 .f32) (harg13 : arg13.IsWhole)
  (arg14 : Memref sig .tc .vmem S8x640x128 .fp8e4m3) (harg14 : arg14.IsWhole)
  (arg15 : Memref sig .tc .vmem S8x640x128 .f32) (harg15 : arg15.IsWhole)
  (arg16 : Memref sig .tc .vmem S8x128x640 .bf16) (harg16 : arg16.IsWhole)
  (arg17 : Memref sig .tc .vmem S5248x128 .f32) (harg17 : arg17.IsWhole)
  (arg18 : Memref sig .tc .vmem S1152x128 .f32) (harg18 : arg18.IsWhole)
  (arg19 : Memref sig .tc .vmem S8x128 .f32) (harg19 : arg19.IsWhole)
  (arg20 : Memref sig .tc .vmem S128x5120 .f32) (harg20 : arg20.IsWhole)

/-- The body's branch `n` is taken exactly at query block `n - 1`. -/
theorem cond1 : k0_cond1 i = 1#1 ↔ (i 1).val = 0 :=
  (by decide : ∀ v : Fin 5, Scalar.cmpi .ne (Scalar.extui (Scalar.cmpi .eq (BitVec.ofNat 32 v.val) 0#32) : BitVec 32) 0#32 = 1#1 ↔ v.val = 0) (i 1)
theorem cond2 : k0_cond2 i = 1#1 ↔ (i 1).val = 1 :=
  (by decide : ∀ v : Fin 5, Scalar.cmpi .ne (Scalar.extui (Scalar.cmpi .eq (BitVec.ofNat 32 v.val) 1#32) : BitVec 32) 0#32 = 1#1 ↔ v.val = 1) (i 1)
theorem cond3 : k0_cond3 i = 1#1 ↔ (i 1).val = 2 :=
  (by decide : ∀ v : Fin 5, Scalar.cmpi .ne (Scalar.extui (Scalar.cmpi .eq (BitVec.ofNat 32 v.val) 2#32) : BitVec 32) 0#32 = 1#1 ↔ v.val = 2) (i 1)
theorem cond4 : k0_cond4 i = 1#1 ↔ (i 1).val = 3 :=
  (by decide : ∀ v : Fin 5, Scalar.cmpi .ne (Scalar.extui (Scalar.cmpi .eq (BitVec.ofNat 32 v.val) 3#32) : BitVec 32) 0#32 = 1#1 ↔ v.val = 3) (i 1)
theorem cond5 : k0_cond5 i = 1#1 ↔ (i 1).val = 4 :=
  (by decide : ∀ v : Fin 5, Scalar.cmpi .ne (Scalar.extui (Scalar.cmpi .eq (BitVec.ofNat 32 v.val) 4#32) : BitVec 32) 0#32 = 1#1 ↔ v.val = 4) (i 1)

/-- The body from its inputs' buffers at their contents and every other buffer at any: it ends with the same. -/
theorem sound_body (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) :
    iprop(pt c arg2 f2 ∗ pt c arg3 f3 ∗ pt c arg4 f4 ∗ pt c arg5 f5 ∗ pt c arg6 f6 ∗ any (F := F) c arg7 ∗ any (F := F) c arg8 ∗ any (F := F) c arg9 ∗ any (F := F) c arg10 ∗ any (F := F) c arg11 ∗ any (F := F) c arg12 ∗ any (F := F) c arg13 ∗ any (F := F) c arg14 ∗ any (F := F) c arg15 ∗ any (F := F) c arg16 ∗ any (F := F) c arg17 ∗ any (F := F) c arg18 ∗ any (F := F) c arg19 ∗ any (F := F) c arg20)
    ⊢ wp Idealize.ShloMosaic.frame (wpE (defs₀ (F := F)) 𝒱₀ (c : Thread nD τ) none) Set.univ
      (cc0_mrope_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
      (fun _ => iprop(pt c arg2 f2 ∗ pt c arg3 f3 ∗ pt c arg4 f4 ∗ pt c arg5 f5 ∗ pt c arg6 f6 ∗ any (F := F) c arg7 ∗ any (F := F) c arg8 ∗ any (F := F) c arg9 ∗ any (F := F) c arg10 ∗ any (F := F) c arg11 ∗ any (F := F) c arg12 ∗ any (F := F) c arg13 ∗ any (F := F) c arg14 ∗ any (F := F) c arg15 ∗ any (F := F) c arg16 ∗ any (F := F) c arg17 ∗ any (F := F) c arg18 ∗ any (F := F) c arg19 ∗ any (F := F) c arg20)) := by
  have hi : (i 1).val < 5 := (i 1).isLt
  have h1 := cond1 i
  have h2 := cond2 i
  have h3 := cond3 i
  have h4 := cond4 i
  have h5 := cond5 i
  iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩⟩
  simp only [cc0_mrope_attention_eq_skeleton]
  unfold cc0_mrope_attention_skel
  rcases (by omega : (i 1).val = 0 ∨ (i 1).val = 1 ∨ (i 1).val = 2 ∨ (i 1).val = 3 ∨ (i 1).val = 4) with h | h | h | h | h <;>
    (simp only [h, Nat.reduceEqDiff, iff_true, iff_false, eq_self, OfNat.ofNat_ne_zero, OfNat.zero_ne_ofNat, zero_ne_one, one_ne_zero, OfNat.ofNat_ne_one, OfNat.one_ne_ofNat] at h1 h2 h3 h4 h5; sl_exec_parts; sl_step; sl_close)

end Cert.Proof.Kernel

end
-- ==== Proof.Kernel.Frame.lean ====
module

public import proofs.«01_k».proof.Proof.Kernel.Body

/-!
# The printed kernel's frame

The launch of the body's triple.  The outputs are forgotten: the claim
says nothing of them.
-/

@[expose] public section

set_option warn.classDefReducibility false
set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The proof data: the arrays as the region finds them, every input window's buffer left at its block. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ _ := Pipeline.ΦA spec0 c
  q _ := fullShare
  owed _ := 0

/-- The windows whose contents the claim forgets: the outputs. -/
def fgt : Fin 12 → Bool := ![false, false, false, false, false, true, true, true, true, true, true, true]

/-- A whole buffer's view is of every element. -/
theorem set_whole (b : Ref sig .tc) : (Memref.whole b : Memref sig .tc _ _ _).view.set = Finset.univ := View.set_whole b

/-- The scratch buffers, each at some contents. -/
theorem scratch_eq (c : Dev nD) : (Pipeline.scopedRest spec0 c : sProp 𝕄)
    = iprop(any (F := F) c (Memref.whole cc0_scratch0) ∗ any (F := F) c (Memref.whole cc0_scratch1) ∗ any (F := F) c (Memref.whole cc0_scratch2) ∗ any (F := F) c (Memref.whole cc0_scratch3) ∗ any (F := F) c (Memref.whole cc0_scratch4) ∗ any (F := F) c (Memref.whole cc0_scratch5) ∗ any (F := F) c (Memref.whole cc0_scratch6)) := by
  have e : ∀ b : Ref sig .tc, (any (F := F) c (Memref.whole b) : sProp 𝕄)
      = iprop(∃ f : Buf (Elt F) ((c : Thread nD τ).loc b), ((c : Thread nD τ).loc b) ↦{fullShare} f) := by
    intro b; unfold any pt; rw [set_whole]
  rw [scopedRest0_eq]
  simp only [e]

/-- A buffer whose contents read `X` through the memref. -/
theorem owns_in {c : Dev nD} {sp : Space} {S : Shape} {e : EltTy} {M : Memref sig .tc sp S e}
    {f : BufTy.Contents (Elt F) M.view.ty} {X : S.Idx → Elt F e} (h : M.view.read (Elt F) f = X) :
    (pt c M f : sProp 𝕄) ⊢ owns (c : Thread nD τ) M fullShare X := by
  unfold owns
  iintro H; iexists f; isplitr
  · ipureintro; exact h
  · iexact H

theorem after0 (c : Dev nD) (t : Fin cfg0.N) : (dats m 0 c).after 0 t = iblk m c 0 t := rfl
theorem after1 (c : Dev nD) (t : Fin cfg0.N) : (dats m 0 c).after 1 t = iblk m c 1 t := rfl
theorem after2 (c : Dev nD) (t : Fin cfg0.N) : (dats m 0 c).after 2 t = iblk m c 2 t := rfl
theorem after3 (c : Dev nD) (t : Fin cfg0.N) : (dats m 0 c).after 3 t = iblk m c 3 t := rfl
theorem after4 (c : Dev nD) (t : Fin cfg0.N) : (dats m 0 c).after 4 t = iblk m c 4 t := rfl

set_option maxHeartbeats 4000000 in
/-- One grid point, window by window. -/
theorem point (c : Dev nD) (t : Fin cfg0.N) (O : sProp 𝕄) :
    iprop(Pipeline.ΦA spec0 c ∗ O ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X) ∗ (∃ X, owns (c : Thread nD τ) (st0_11 t) fullShare X))
    ⊢ wp Idealize.ShloMosaic.frame (wpE (defs₀ (F := F)) 𝒱₀ (c : Thread nD τ) none) Set.univ (bodyAt0 t)
      (fun _ => iprop(Pipeline.ΦA spec0 c ∗ O ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X) ∗ (∃ X, owns (c : Thread nD τ) (st0_11 t) fullShare X))) := by
  simp only [Pipeline.ΦA, scratch_eq]
  unfold owns
  iintro ⟨⟨⟨⟨%g0, S0⟩, ⟨%g1, S1⟩, ⟨%g2, S2⟩, ⟨%g3, S3⟩, ⟨%g4, S4⟩, ⟨%g5, S5⟩, ⟨%g6, S6⟩⟩, HP⟩, HO, ⟨%d0, %x0, %e0, W0⟩, ⟨%d1, %x1, %e1, W1⟩, ⟨%d2, %x2, %e2, W2⟩, ⟨%d3, %x3, %e3, W3⟩, ⟨%d4, %x4, %e4, W4⟩, ⟨%d5, %x5, %e5, W5⟩, ⟨%d6, %x6, %e6, W6⟩, ⟨%d7, %x7, %e7, W7⟩, ⟨%d8, %x8, %e8, W8⟩, ⟨%d9, %x9, %e9, W9⟩, ⟨%d10, %x10, %e10, W10⟩, ⟨%d11, %x11, %e11, W11⟩⟩
  iapply (wp_wand_r Idealize.ShloMosaic.frame (wpE (defs₀ (F := F)) 𝒱₀ (c : Thread nD τ) none) Set.univ)
  isplitl [S0 S1 S2 S3 S4 S5 S6 W0 W1 W2 W3 W4 W5 W6 W7 W8 W9 W10 W11]
  · iapply (sound_body (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) x0 x1 x2 x3 x4)
    sl_close
  · iintro %_ ⟨W0, W1, W2, W3, W4, ⟨%y5, W5⟩, ⟨%y6, W6⟩, ⟨%y7, W7⟩, ⟨%y8, W8⟩, ⟨%y9, W9⟩, ⟨%y10, W10⟩, ⟨%y11, W11⟩, S⟩
    isplitl [S HP]
    · isplitl [S]; · iexact S
      iexact HP
    isplitl [HO]; · iexact HO
    isplitl [W0]; · iexists _; isplitr; swap; (· iexact W0); ipureintro; exact e0.trans ((before0_0_of m (dats m 0 c) rfl (fun _ => rfl) t d0).trans (after0 m c t).symm)
    isplitl [W1]; · iexists _; isplitr; swap; (· iexact W1); ipureintro; exact e1.trans ((before0_1_of m (dats m 0 c) rfl (fun _ => rfl) t d1).trans (after1 m c t).symm)
    isplitl [W2]; · iexists _; isplitr; swap; (· iexact W2); ipureintro; exact e2.trans ((before0_2_of m (dats m 0 c) rfl (fun _ => rfl) t d2).trans (after2 m c t).symm)
    isplitl [W3]; · iexists _; isplitr; swap; (· iexact W3); ipureintro; exact e3.trans ((before0_3_of m (dats m 0 c) rfl (fun _ => rfl) t d3).trans (after3 m c t).symm)
    isplitl [W4]; · iexists _; isplitr; swap; (· iexact W4); ipureintro; exact e4.trans ((before0_4_of m (dats m 0 c) rfl (fun _ => rfl) t d4).trans (after4 m c t).symm)
    isplitl [W5]; · iexists _; iexists _; isplitr; swap; (· iexact W5); ipureintro; rfl
    isplitl [W6]; · iexists _; iexists _; isplitr; swap; (· iexact W6); ipureintro; rfl
    isplitl [W7]; · iexists _; iexists _; isplitr; swap; (· iexact W7); ipureintro; rfl
    isplitl [W8]; · iexists _; iexists _; isplitr; swap; (· iexact W8); ipureintro; rfl
    isplitl [W9]; · iexists _; iexists _; isplitr; swap; (· iexact W9); ipureintro; rfl
    isplitl [W10]; · iexists _; iexists _; isplitr; swap; (· iexact W10); ipureintro; rfl
    · iexists _; iexists _; isplitr; swap; (· iexact W11); ipureintro; rfl

/-- The pipeline's call of the body at a point is the body there. -/
theorem defs₀_row (t : Fin cfg0.N) : defs₀ (F := F) .tc cfg0.body (cfg0.bodyArgs t (cfg0.slots t)) = bodyAt0 t := by
  unfold defs₀; rw [Defs.onTc_tc]

theorem obligation (c : Dev nD) : Pipeline.BodyObligationLoose (dats m 0 c) (defs₀ (F := F)) 𝒱₀ () Set.univ fgt := fun t => by
  rw [bigSep_W0, bigSep_W0, defs₀_row]
  exact triple_restated (point m c t _) rfl .rfl fun _ => .rfl

/-- The whole run: the argument arrays unchanged, every semaphore counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Pipeline.θ_run_frame_forget cfgs (dats m) 0 launch0 defs₀ 𝒱₀ fgt m ρ main (hbody := obligation m)
    (hshare := fun _ w => by fin_cases w <;> rfl) (howed := fun _ _ => rfl) (V := V m) (hmain := hmain m 𝒱₀) (hA := fun _ _ => rfl)
    (hΦ := fun _ _ => rfl) (Q' := _)
    (hQ' := fun r h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c),
       ((h.1 c).2 main_arg3 (Pipeline.mem_restRefs_of main_arg3 (by decide) (by decide))).trans (V_main_arg3 m c)⟩, h.2⟩)

end Cert.Proof.Kernel

end
-- ==== Proof.Ideal.Loops.lean ====
module

public import proofs.«01_k».proof.Proof.Gen.KernelIdeal.Loops
public import proofs.«01_k».proof.Proof.Gen.KernelIdeal.Frame

/-!
# The printed kernel's loops

One invariant per counted loop that has no generated one: what a trip reads is held at its contents,
what it writes at some contents.  One trip is run at a symbolic trip number.
-/

@[expose] public section

set_option warn.classDefReducibility false
set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- No loop variants. -/
abbrev 𝒱₀ : Variants := Variants.none

/-- Memref `M`'s whole buffer on core `c`, at contents `f`. -/
abbrev pt (c : Dev nD) {sp : Space} {S : Shape} {e : EltTy} (M : Memref sig .tc sp S e)
    (f : BufTy.Contents (Elt F) M.view.ty) : sProp 𝕄 :=
  M.view.loc (c : Thread nD τ) ↦[M.view.set]{fullShare} f

/-- Memref `M`'s whole buffer on core `c`, at some contents. -/
abbrev any (c : Dev nD) {sp : Space} {S : Shape} {e : EltTy} (M : Memref sig .tc sp S e) : sProp 𝕄 :=
  iprop(∃ f, pt (F := F) c M f)

variable (c : Dev nD) (i : grid0.Coords)
  (arg2 : Memref sig .tc .vmem S5120x128 .bf16) (harg2 : arg2.IsWhole)
  (arg3 : Memref sig .tc .vmem S1024x128 .bf16) (harg3 : arg3.IsWhole)
  (arg4 : Memref sig .tc .vmem S1024x128 .bf16) (harg4 : arg4.IsWhole)
  (arg5 : Memref sig .tc .vmem S1x3x128 .i32) (harg5 : arg5.IsWhole)
  (arg6 : Memref sig .tc .vmem S64x128 .f32) (harg6 : arg6.IsWhole)
  (arg7 : Memref sig .tc .vmem S1x128x5120 .bf16) (harg7 : arg7.IsWhole)
  (arg8 : Memref sig .tc .vmem S5120x128 .fp8e4m3) (harg8 : arg8.IsWhole)
  (arg9 : Memref sig .tc .vmem S1x40x128 .f32) (harg9 : arg9.IsWhole)
  (arg10 : Memref sig .tc .vmem S1024x128 .fp8e4m3) (harg10 : arg10.IsWhole)
  (arg11 : Memref sig .tc .vmem S1x8x128 .f32) (harg11 : arg11.IsWhole)
  (arg12 : Memref sig .tc .vmem S1x128x5120 .fp8e4m3) (harg12 : arg12.IsWhole)
  (arg13 : Memref sig .tc .vmem S1x1x128 .f32) (harg13 : arg13.IsWhole)
  (arg14 : Memref sig .tc .vmem S8x640x128 .fp8e4m3) (harg14 : arg14.IsWhole)
  (arg15 : Memref sig .tc .vmem S8x640x128 .f32) (harg15 : arg15.IsWhole)
  (arg16 : Memref sig .tc .vmem S8x128x640 .bf16) (harg16 : arg16.IsWhole)
  (arg17 : Memref sig .tc .vmem S5248x128 .f32) (harg17 : arg17.IsWhole)
  (arg18 : Memref sig .tc .vmem S1152x128 .f32) (harg18 : arg18.IsWhole)
  (arg19 : Memref sig .tc .vmem S8x128 .f32) (harg19 : arg19.IsWhole)
  (arg20 : Memref sig .tc .vmem S128x5120 .f32) (harg20 : arg20.IsWhole)

/-- Branch 1: the loop over the pairs of key heads. -/
@[sl_loop] def loopInv_k0_t1 (f3 : BufTy.Contents (Elt F) arg3.view.ty) (f4 : BufTy.Contents (Elt F) arg4.view.ty)
    (k0_h1 : k0_cond1 i = 1#1) (v15 : Vec F S1x3x128 .i32) (v34 : Vec F S64x128 .f32) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v15 v34 where
  inv := fun _ _ => iprop(pt c arg3 f3 ∗ pt c arg4 f4 ∗ any (F := F) c arg11 ∗ any (F := F) c arg14 ∗ any (F := F) c arg15 ∗ any (F := F) c arg16 ∗ any (F := F) c arg18)
  step := fun k _ => by
    iintro ⟨H3, H4, ⟨%f11, H11⟩, ⟨%f14, H14⟩, ⟨%f15, H15⟩, ⟨%f16, H16⟩, ⟨%f18, H18⟩⟩
    unfold k0_t1_body
    sl_exec_parts
    sl_step
    sl_close

/-- Branch 1: the loop over the pairs of query heads. -/
@[sl_loop] def loopInv_k0_t3 (f2 : BufTy.Contents (Elt F) arg2.view.ty) (f14 : BufTy.Contents (Elt F) arg14.view.ty)
    (f15 : BufTy.Contents (Elt F) arg15.view.ty) (f16 : BufTy.Contents (Elt F) arg16.view.ty)
    (k0_h1 : k0_cond1 i = 1#1) (v15 : Vec F S1x3x128 .i32) (v34 : Vec F S64x128 .f32)
    (init : FVec F S128x128 .f32) :
    LoopInvTy_k0_t3 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v15 v34 init where
  inv := fun _ _ => iprop(pt c arg2 f2 ∗ pt c arg14 f14 ∗ pt c arg15 f15 ∗ pt c arg16 f16 ∗ any (F := F) c arg7 ∗ any (F := F) c arg9 ∗ any (F := F) c arg17 ∗ any (F := F) c arg20)
  step := fun k _ => by
    iintro ⟨H2, H14, H15, H16, ⟨%f7, H7⟩, ⟨%f9, H9⟩, ⟨%f17, H17⟩, ⟨%f20, H20⟩⟩
    unfold k0_t3_body
    sl_exec_parts
    sl_step
    sl_close

/-- Branch 2: the loop over the pairs of key heads. -/
@[sl_loop] def loopInv_k0_t6 (f3 : BufTy.Contents (Elt F) arg3.view.ty) (f4 : BufTy.Contents (Elt F) arg4.view.ty)
    (k0_h2 : k0_cond2 i = 1#1) (v15 : Vec F S1x3x128 .i32) (v34 : Vec F S64x128 .f32) :
    LoopInvTy_k0_t6 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h2 v15 v34 where
  inv := fun _ _ => iprop(pt c arg3 f3 ∗ pt c arg4 f4 ∗ any (F := F) c arg11 ∗ any (F := F) c arg14 ∗ any (F := F) c arg15 ∗ any (F := F) c arg16 ∗ any (F := F) c arg18)
  step := fun k _ => by
    iintro ⟨H3, H4, ⟨%f11, H11⟩, ⟨%f14, H14⟩, ⟨%f15, H15⟩, ⟨%f16, H16⟩, ⟨%f18, H18⟩⟩
    unfold k0_t6_body
    sl_exec_parts
    sl_step
    sl_close

/-- Branch 2: the loop over the pairs of query heads. -/
@[sl_loop] def loopInv_k0_t8 (f2 : BufTy.Contents (Elt F) arg2.view.ty) (f14 : BufTy.Contents (Elt F) arg14.view.ty)
    (f15 : BufTy.Contents (Elt F) arg15.view.ty) (f16 : BufTy.Contents (Elt F) arg16.view.ty)
    (k0_h2 : k0_cond2 i = 1#1) (v15 : Vec F S1x3x128 .i32) (v34 : Vec F S64x128 .f32)
    (init : FVec F S128x128 .f32) :
    LoopInvTy_k0_t8 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h2 v15 v34 init where
  inv := fun _ _ => iprop(pt c arg2 f2 ∗ pt c arg14 f14 ∗ pt c arg15 f15 ∗ pt c arg16 f16 ∗ any (F := F) c arg7 ∗ any (F := F) c arg9 ∗ any (F := F) c arg17 ∗ any (F := F) c arg20)
  step := fun k _ => by
    iintro ⟨H2, H14, H15, H16, ⟨%f7, H7⟩, ⟨%f9, H9⟩, ⟨%f17, H17⟩, ⟨%f20, H20⟩⟩
    unfold k0_t8_body
    sl_exec_parts
    sl_step
    sl_close

/-- Branch 3: the loop over the pairs of key heads. -/
@[sl_loop] def loopInv_k0_t11 (f3 : BufTy.Contents (Elt F) arg3.view.ty) (f4 : BufTy.Contents (Elt F) arg4.view.ty)
    (k0_h3 : k0_cond3 i = 1#1) (v15 : Vec F S1x3x128 .i32) (v34 : Vec F S64x128 .f32) :
    LoopInvTy_k0_t11 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h3 v15 v34 where
  inv := fun _ _ => iprop(pt c arg3 f3 ∗ pt c arg4 f4 ∗ any (F := F) c arg11 ∗ any (F := F) c arg14 ∗ any (F := F) c arg15 ∗ any (F := F) c arg16 ∗ any (F := F) c arg18)
  step := fun k _ => by
    iintro ⟨H3, H4, ⟨%f11, H11⟩, ⟨%f14, H14⟩, ⟨%f15, H15⟩, ⟨%f16, H16⟩, ⟨%f18, H18⟩⟩
    unfold k0_t11_body
    sl_exec_parts
    sl_step
    sl_close

/-- Branch 3: the loop over the pairs of query heads. -/
@[sl_loop] def loopInv_k0_t13 (f2 : BufTy.Contents (Elt F) arg2.view.ty) (f14 : BufTy.Contents (Elt F) arg14.view.ty)
    (f15 : BufTy.Contents (Elt F) arg15.view.ty) (f16 : BufTy.Contents (Elt F) arg16.view.ty)
    (k0_h3 : k0_cond3 i = 1#1) (v15 : Vec F S1x3x128 .i32) (v34 : Vec F S64x128 .f32)
    (init : FVec F S128x128 .f32) :
    LoopInvTy_k0_t13 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h3 v15 v34 init where
  inv := fun _ _ => iprop(pt c arg2 f2 ∗ pt c arg14 f14 ∗ pt c arg15 f15 ∗ pt c arg16 f16 ∗ any (F := F) c arg7 ∗ any (F := F) c arg9 ∗ any (F := F) c arg17 ∗ any (F := F) c arg20)
  step := fun k _ => by
    iintro ⟨H2, H14, H15, H16, ⟨%f7, H7⟩, ⟨%f9, H9⟩, ⟨%f17, H17⟩, ⟨%f20, H20⟩⟩
    unfold k0_t13_body
    sl_exec_parts
    sl_step
    sl_close

/-- Branch 4: the loop over the pairs of key heads. -/
@[sl_loop] def loopInv_k0_t16 (f3 : BufTy.Contents (Elt F) arg3.view.ty) (f4 : BufTy.Contents (Elt F) arg4.view.ty)
    (k0_h4 : k0_cond4 i = 1#1) (v15 : Vec F S1x3x128 .i32) (v34 : Vec F S64x128 .f32) :
    LoopInvTy_k0_t16 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h4 v15 v34 where
  inv := fun _ _ => iprop(pt c arg3 f3 ∗ pt c arg4 f4 ∗ any (F := F) c arg11 ∗ any (F := F) c arg14 ∗ any (F := F) c arg15 ∗ any (F := F) c arg16 ∗ any (F := F) c arg18)
  step := fun k _ => by
    iintro ⟨H3, H4, ⟨%f11, H11⟩, ⟨%f14, H14⟩, ⟨%f15, H15⟩, ⟨%f16, H16⟩, ⟨%f18, H18⟩⟩
    unfold k0_t16_body
    sl_exec_parts
    sl_step
    sl_close

/-- Branch 4: the loop over the pairs of query heads. -/
@[sl_loop] def loopInv_k0_t18 (f2 : BufTy.Contents (Elt F) arg2.view.ty) (f14 : BufTy.Contents (Elt F) arg14.view.ty)
    (f15 : BufTy.Contents (Elt F) arg15.view.ty) (f16 : BufTy.Contents (Elt F) arg16.view.ty)
    (k0_h4 : k0_cond4 i = 1#1) (v15 : Vec F S1x3x128 .i32) (v34 : Vec F S64x128 .f32)
    (init : FVec F S128x128 .f32) :
    LoopInvTy_k0_t18 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h4 v15 v34 init where
  inv := fun _ _ => iprop(pt c arg2 f2 ∗ pt c arg14 f14 ∗ pt c arg15 f15 ∗ pt c arg16 f16 ∗ any (F := F) c arg7 ∗ any (F := F) c arg9 ∗ any (F := F) c arg17 ∗ any (F := F) c arg20)
  step := fun k _ => by
    iintro ⟨H2, H14, H15, H16, ⟨%f7, H7⟩, ⟨%f9, H9⟩, ⟨%f17, H17⟩, ⟨%f20, H20⟩⟩
    unfold k0_t18_body
    sl_exec_parts
    sl_step
    sl_close

/-- Branch 5: the loop over the pairs of key heads. -/
@[sl_loop] def loopInv_k0_t21 (f3 : BufTy.Contents (Elt F) arg3.view.ty) (f4 : BufTy.Contents (Elt F) arg4.view.ty)
    (k0_h5 : k0_cond5 i = 1#1) (v15 : Vec F S1x3x128 .i32) (v34 : Vec F S64x128 .f32) :
    LoopInvTy_k0_t21 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h5 v15 v34 where
  inv := fun _ _ => iprop(pt c arg3 f3 ∗ pt c arg4 f4 ∗ any (F := F) c arg11 ∗ any (F := F) c arg14 ∗ any (F := F) c arg15 ∗ any (F := F) c arg16 ∗ any (F := F) c arg18)
  step := fun k _ => by
    iintro ⟨H3, H4, ⟨%f11, H11⟩, ⟨%f14, H14⟩, ⟨%f15, H15⟩, ⟨%f16, H16⟩, ⟨%f18, H18⟩⟩
    unfold k0_t21_body
    sl_exec_parts
    sl_step
    sl_close

/-- Branch 5: the loop over the pairs of query heads. -/
@[sl_loop] def loopInv_k0_t23 (f2 : BufTy.Contents (Elt F) arg2.view.ty) (f14 : BufTy.Contents (Elt F) arg14.view.ty)
    (f15 : BufTy.Contents (Elt F) arg15.view.ty) (f16 : BufTy.Contents (Elt F) arg16.view.ty)
    (k0_h5 : k0_cond5 i = 1#1) (v15 : Vec F S1x3x128 .i32) (v34 : Vec F S64x128 .f32)
    (init : FVec F S128x128 .f32) :
    LoopInvTy_k0_t23 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h5 v15 v34 init where
  inv := fun _ _ => iprop(pt c arg2 f2 ∗ pt c arg14 f14 ∗ pt c arg15 f15 ∗ pt c arg16 f16 ∗ any (F := F) c arg7 ∗ any (F := F) c arg9 ∗ any (F := F) c arg17 ∗ any (F := F) c arg20)
  step := fun k _ => by
    iintro ⟨H2, H14, H15, H16, ⟨%f7, H7⟩, ⟨%f9, H9⟩, ⟨%f17, H17⟩, ⟨%f20, H20⟩⟩
    unfold k0_t23_body
    sl_exec_parts
    sl_step
    sl_close

end Cert.Proof.KernelIdeal

end
-- ==== Proof.Ideal.Body.lean ====
module

public import proofs.«01_k».proof.Proof.Ideal.Loops

/-!
# The printed kernel's frame

The body's triple at each of the five query blocks, and the launch.  The outputs are forgotten: the claim
says nothing of them.
-/

@[expose] public section

set_option warn.classDefReducibility false
set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S5120x128 .bf16) (harg2 : arg2.IsWhole)
  (arg3 : Memref sig .tc .vmem S1024x128 .bf16) (harg3 : arg3.IsWhole)
  (arg4 : Memref sig .tc .vmem S1024x128 .bf16) (harg4 : arg4.IsWhole)
  (arg5 : Memref sig .tc .vmem S1x3x128 .i32) (harg5 : arg5.IsWhole)
  (arg6 : Memref sig .tc .vmem S64x128 .f32) (harg6 : arg6.IsWhole)
  (arg7 : Memref sig .tc .vmem S1x128x5120 .bf16) (harg7 : arg7.IsWhole)
  (arg8 : Memref sig .tc .vmem S5120x128 .fp8e4m3) (harg8 : arg8.IsWhole)
  (arg9 : Memref sig .tc .vmem S1x40x128 .f32) (harg9 : arg9.IsWhole)
  (arg10 : Memref sig .tc .vmem S1024x128 .fp8e4m3) (harg10 : arg10.IsWhole)
  (arg11 : Memref sig .tc .vmem S1x8x128 .f32) (harg11 : arg11.IsWhole)
  (arg12 : Memref sig .tc .vmem S1x128x5120 .fp8e4m3) (harg12 : arg12.IsWhole)
  (arg13 : Memref sig .tc .vmem S1x1x128 .f32) (harg13 : arg13.IsWhole)
  (arg14 : Memref sig .tc .vmem S8x640x128 .fp8e4m3) (harg14 : arg14.IsWhole)
  (arg15 : Memref sig .tc .vmem S8x640x128 .f32) (harg15 : arg15.IsWhole)
  (arg16 : Memref sig .tc .vmem S8x128x640 .bf16) (harg16 : arg16.IsWhole)
  (arg17 : Memref sig .tc .vmem S5248x128 .f32) (harg17 : arg17.IsWhole)
  (arg18 : Memref sig .tc .vmem S1152x128 .f32) (harg18 : arg18.IsWhole)
  (arg19 : Memref sig .tc .vmem S8x128 .f32) (harg19 : arg19.IsWhole)
  (arg20 : Memref sig .tc .vmem S128x5120 .f32) (harg20 : arg20.IsWhole)

/-- The body's branch `n` is taken exactly at query block `n - 1`. -/
theorem cond1 : k0_cond1 i = 1#1 ↔ (i 1).val = 0 :=
  (by decide : ∀ v : Fin 5, Scalar.cmpi .ne (Scalar.extui (Scalar.cmpi .eq (BitVec.ofNat 32 v.val) 0#32) : BitVec 32) 0#32 = 1#1 ↔ v.val = 0) (i 1)
theorem cond2 : k0_cond2 i = 1#1 ↔ (i 1).val = 1 :=
  (by decide : ∀ v : Fin 5, Scalar.cmpi .ne (Scalar.extui (Scalar.cmpi .eq (BitVec.ofNat 32 v.val) 1#32) : BitVec 32) 0#32 = 1#1 ↔ v.val = 1) (i 1)
theorem cond3 : k0_cond3 i = 1#1 ↔ (i 1).val = 2 :=
  (by decide : ∀ v : Fin 5, Scalar.cmpi .ne (Scalar.extui (Scalar.cmpi .eq (BitVec.ofNat 32 v.val) 2#32) : BitVec 32) 0#32 = 1#1 ↔ v.val = 2) (i 1)
theorem cond4 : k0_cond4 i = 1#1 ↔ (i 1).val = 3 :=
  (by decide : ∀ v : Fin 5, Scalar.cmpi .ne (Scalar.extui (Scalar.cmpi .eq (BitVec.ofNat 32 v.val) 3#32) : BitVec 32) 0#32 = 1#1 ↔ v.val = 3) (i 1)
theorem cond5 : k0_cond5 i = 1#1 ↔ (i 1).val = 4 :=
  (by decide : ∀ v : Fin 5, Scalar.cmpi .ne (Scalar.extui (Scalar.cmpi .eq (BitVec.ofNat 32 v.val) 4#32) : BitVec 32) 0#32 = 1#1 ↔ v.val = 4) (i 1)

/-- The body from its inputs' buffers at their contents and every other buffer at any: it ends with the same. -/
theorem sound_body (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) :
    iprop(pt c arg2 f2 ∗ pt c arg3 f3 ∗ pt c arg4 f4 ∗ pt c arg5 f5 ∗ pt c arg6 f6 ∗ any (F := F) c arg7 ∗ any (F := F) c arg8 ∗ any (F := F) c arg9 ∗ any (F := F) c arg10 ∗ any (F := F) c arg11 ∗ any (F := F) c arg12 ∗ any (F := F) c arg13 ∗ any (F := F) c arg14 ∗ any (F := F) c arg15 ∗ any (F := F) c arg16 ∗ any (F := F) c arg17 ∗ any (F := F) c arg18 ∗ any (F := F) c arg19 ∗ any (F := F) c arg20)
    ⊢ wp Idealize.ShloMosaic.frame (wpE (defs₀ (F := F)) 𝒱₀ (c : Thread nD τ) none) Set.univ
      (cc0_mrope_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
      (fun _ => iprop(pt c arg2 f2 ∗ pt c arg3 f3 ∗ pt c arg4 f4 ∗ pt c arg5 f5 ∗ pt c arg6 f6 ∗ any (F := F) c arg7 ∗ any (F := F) c arg8 ∗ any (F := F) c arg9 ∗ any (F := F) c arg10 ∗ any (F := F) c arg11 ∗ any (F := F) c arg12 ∗ any (F := F) c arg13 ∗ any (F := F) c arg14 ∗ any (F := F) c arg15 ∗ any (F := F) c arg16 ∗ any (F := F) c arg17 ∗ any (F := F) c arg18 ∗ any (F := F) c arg19 ∗ any (F := F) c arg20)) := by
  have hi : (i 1).val < 5 := (i 1).isLt
  have h1 := cond1 i
  have h2 := cond2 i
  have h3 := cond3 i
  have h4 := cond4 i
  have h5 := cond5 i
  iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩⟩
  simp only [cc0_mrope_attention_eq_skeleton]
  unfold cc0_mrope_attention_skel
  rcases (by omega : (i 1).val = 0 ∨ (i 1).val = 1 ∨ (i 1).val = 2 ∨ (i 1).val = 3 ∨ (i 1).val = 4) with h | h | h | h | h <;>
    (simp only [h, Nat.reduceEqDiff, iff_true, iff_false, eq_self, OfNat.ofNat_ne_zero, OfNat.zero_ne_ofNat, zero_ne_one, one_ne_zero, OfNat.ofNat_ne_one, OfNat.one_ne_ofNat] at h1 h2 h3 h4 h5; sl_exec_parts; sl_step; sl_close)

end Cert.Proof.KernelIdeal

end
-- ==== Proof.Ideal.Frame.lean ====
module

public import proofs.«01_k».proof.Proof.Ideal.Body

/-!
# The printed kernel's frame

The launch of the body's triple.  The outputs are forgotten: the claim
says nothing of them.
-/

@[expose] public section

set_option warn.classDefReducibility false
set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data: the arrays as the region finds them, every input window's buffer left at its block. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ _ := Pipeline.ΦA spec0 c
  q _ := fullShare
  owed _ := 0

/-- The windows whose contents the claim forgets: the outputs. -/
def fgt : Fin 12 → Bool := ![false, false, false, false, false, true, true, true, true, true, true, true]

/-- A whole buffer's view is of every element. -/
theorem set_whole (b : Ref sig .tc) : (Memref.whole b : Memref sig .tc _ _ _).view.set = Finset.univ := View.set_whole b

/-- The scratch buffers, each at some contents. -/
theorem scratch_eq (c : Dev nD) : (Pipeline.scopedRest spec0 c : sProp 𝕄)
    = iprop(any (F := F) c (Memref.whole cc0_scratch0) ∗ any (F := F) c (Memref.whole cc0_scratch1) ∗ any (F := F) c (Memref.whole cc0_scratch2) ∗ any (F := F) c (Memref.whole cc0_scratch3) ∗ any (F := F) c (Memref.whole cc0_scratch4) ∗ any (F := F) c (Memref.whole cc0_scratch5) ∗ any (F := F) c (Memref.whole cc0_scratch6)) := by
  have e : ∀ b : Ref sig .tc, (any (F := F) c (Memref.whole b) : sProp 𝕄)
      = iprop(∃ f : Buf (Elt F) ((c : Thread nD τ).loc b), ((c : Thread nD τ).loc b) ↦{fullShare} f) := by
    intro b; unfold any pt; rw [set_whole]
  rw [scopedRest0_eq]
  simp only [e]

/-- A buffer whose contents read `X` through the memref. -/
theorem owns_in {c : Dev nD} {sp : Space} {S : Shape} {e : EltTy} {M : Memref sig .tc sp S e}
    {f : BufTy.Contents (Elt F) M.view.ty} {X : S.Idx → Elt F e} (h : M.view.read (Elt F) f = X) :
    (pt c M f : sProp 𝕄) ⊢ owns (c : Thread nD τ) M fullShare X := by
  unfold owns
  iintro H; iexists f; isplitr
  · ipureintro; exact h
  · iexact H

theorem after0 (c : Dev nD) (t : Fin cfg0.N) : (dats m 0 c).after 0 t = iblk m c 0 t := rfl
theorem after1 (c : Dev nD) (t : Fin cfg0.N) : (dats m 0 c).after 1 t = iblk m c 1 t := rfl
theorem after2 (c : Dev nD) (t : Fin cfg0.N) : (dats m 0 c).after 2 t = iblk m c 2 t := rfl
theorem after3 (c : Dev nD) (t : Fin cfg0.N) : (dats m 0 c).after 3 t = iblk m c 3 t := rfl
theorem after4 (c : Dev nD) (t : Fin cfg0.N) : (dats m 0 c).after 4 t = iblk m c 4 t := rfl

set_option maxHeartbeats 4000000 in
/-- One grid point, window by window. -/
theorem point (c : Dev nD) (t : Fin cfg0.N) (O : sProp 𝕄) :
    iprop(Pipeline.ΦA spec0 c ∗ O ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X) ∗ (∃ X, owns (c : Thread nD τ) (st0_11 t) fullShare X))
    ⊢ wp Idealize.ShloMosaic.frame (wpE (defs₀ (F := F)) 𝒱₀ (c : Thread nD τ) none) Set.univ (bodyAt0 t)
      (fun _ => iprop(Pipeline.ΦA spec0 c ∗ O ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X) ∗ (∃ X, owns (c : Thread nD τ) (st0_11 t) fullShare X))) := by
  simp only [Pipeline.ΦA, scratch_eq]
  unfold owns
  iintro ⟨⟨⟨⟨%g0, S0⟩, ⟨%g1, S1⟩, ⟨%g2, S2⟩, ⟨%g3, S3⟩, ⟨%g4, S4⟩, ⟨%g5, S5⟩, ⟨%g6, S6⟩⟩, HP⟩, HO, ⟨%d0, %x0, %e0, W0⟩, ⟨%d1, %x1, %e1, W1⟩, ⟨%d2, %x2, %e2, W2⟩, ⟨%d3, %x3, %e3, W3⟩, ⟨%d4, %x4, %e4, W4⟩, ⟨%d5, %x5, %e5, W5⟩, ⟨%d6, %x6, %e6, W6⟩, ⟨%d7, %x7, %e7, W7⟩, ⟨%d8, %x8, %e8, W8⟩, ⟨%d9, %x9, %e9, W9⟩, ⟨%d10, %x10, %e10, W10⟩, ⟨%d11, %x11, %e11, W11⟩⟩
  iapply (wp_wand_r Idealize.ShloMosaic.frame (wpE (defs₀ (F := F)) 𝒱₀ (c : Thread nD τ) none) Set.univ)
  isplitl [S0 S1 S2 S3 S4 S5 S6 W0 W1 W2 W3 W4 W5 W6 W7 W8 W9 W10 W11]
  · iapply (sound_body (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) x0 x1 x2 x3 x4)
    sl_close
  · iintro %_ ⟨W0, W1, W2, W3, W4, ⟨%y5, W5⟩, ⟨%y6, W6⟩, ⟨%y7, W7⟩, ⟨%y8, W8⟩, ⟨%y9, W9⟩, ⟨%y10, W10⟩, ⟨%y11, W11⟩, S⟩
    isplitl [S HP]
    · isplitl [S]; · iexact S
      iexact HP
    isplitl [HO]; · iexact HO
    isplitl [W0]; · iexists _; isplitr; swap; (· iexact W0); ipureintro; exact e0.trans ((before0_0_of m (dats m 0 c) rfl (fun _ => rfl) t d0).trans (after0 m c t).symm)
    isplitl [W1]; · iexists _; isplitr; swap; (· iexact W1); ipureintro; exact e1.trans ((before0_1_of m (dats m 0 c) rfl (fun _ => rfl) t d1).trans (after1 m c t).symm)
    isplitl [W2]; · iexists _; isplitr; swap; (· iexact W2); ipureintro; exact e2.trans ((before0_2_of m (dats m 0 c) rfl (fun _ => rfl) t d2).trans (after2 m c t).symm)
    isplitl [W3]; · iexists _; isplitr; swap; (· iexact W3); ipureintro; exact e3.trans ((before0_3_of m (dats m 0 c) rfl (fun _ => rfl) t d3).trans (after3 m c t).symm)
    isplitl [W4]; · iexists _; isplitr; swap; (· iexact W4); ipureintro; exact e4.trans ((before0_4_of m (dats m 0 c) rfl (fun _ => rfl) t d4).trans (after4 m c t).symm)
    isplitl [W5]; · iexists _; iexists _; isplitr; swap; (· iexact W5); ipureintro; rfl
    isplitl [W6]; · iexists _; iexists _; isplitr; swap; (· iexact W6); ipureintro; rfl
    isplitl [W7]; · iexists _; iexists _; isplitr; swap; (· iexact W7); ipureintro; rfl
    isplitl [W8]; · iexists _; iexists _; isplitr; swap; (· iexact W8); ipureintro; rfl
    isplitl [W9]; · iexists _; iexists _; isplitr; swap; (· iexact W9); ipureintro; rfl
    isplitl [W10]; · iexists _; iexists _; isplitr; swap; (· iexact W10); ipureintro; rfl
    · iexists _; iexists _; isplitr; swap; (· iexact W11); ipureintro; rfl

/-- The pipeline's call of the body at a point is the body there. -/
theorem defs₀_row (t : Fin cfg0.N) : defs₀ (F := F) .tc cfg0.body (cfg0.bodyArgs t (cfg0.slots t)) = bodyAt0 t := by
  unfold defs₀; rw [Defs.onTc_tc]

theorem obligation (c : Dev nD) : Pipeline.BodyObligationLoose (dats m 0 c) (defs₀ (F := F)) 𝒱₀ () Set.univ fgt := fun t => by
  rw [bigSep_W0, bigSep_W0, defs₀_row]
  exact triple_restated (point m c t _) rfl .rfl fun _ => .rfl

/-- The whole run: the argument arrays unchanged, every semaphore counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Pipeline.θ_run_frame_forget cfgs (dats m) 0 launch0 defs₀ 𝒱₀ fgt m ρ main (hbody := obligation m)
    (hshare := fun _ w => by fin_cases w <;> rfl) (howed := fun _ _ => rfl) (V := V m) (hmain := hmain m 𝒱₀) (hA := fun _ _ => rfl)
    (hΦ := fun _ _ => rfl) (Q' := _)
    (hQ' := fun r h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c),
       ((h.1 c).2 main_arg3 (Pipeline.mem_restRefs_of main_arg3 (by decide) (by decide))).trans (V_main_arg3 m c)⟩, h.2⟩)

end Cert.Proof.KernelIdeal

end
-- ==== Proof.Value.Spec.lean ====
module

public import proofs.«01_k».proof.Proof.Gen.KernelIdeal.Skeleton
public import Idealize.ShloMosaic.Lib.Pointwise

/-!
# The kernel's vector steps, entry by entry

The quantiser and the rotation as functions of extended reals, the kernel's vector steps spelled once, and
what each of them holds at an index.
-/

@[expose] public section

set_option maxRecDepth 16384

noncomputable section

namespace Cert.Proof.Val

open Cert.KernelIdeal Cert.KernelIdeal.Gen
open Idealize.ShloMosaic Idealize.ShloMosaic.TcCoe Idealize.ShloMosaic.Tactic

/-- An extended real, read off the bits of an f32 constant. -/
abbrev bits (b : BitVec 32) : EReal := Ideal.ofBits .f32 b
/-- 1 / 448, as the two programs hold it. -/
abbrev c448 : EReal := bits 0x3B124925#32
/-- 1 / log 2. -/
abbrev l2e : EReal := Named.named (F := Ideal) (φ := .f32) κ "log2e" 0x3FB8AA3B#32
/-- The scale of the scores over log 2. -/
abbrev scoreC : EReal := Named.named (F := Ideal) (φ := .f32) κ "score_c" 0x3E0293EE#32

/-- The largest magnitude of `y`. -/
def kmax {n : Nat} (y : Fin n → EReal) : EReal := Finset.univ.fold max ⊥ fun k => max (y k) (-(y k))
/-- The exponent of the scale that quantises a vector of largest magnitude `a`. -/
def kexp (a : EReal) : EReal :=
  if a * c448 = 0 then 0 else Ideal.liftRound Int.floor (Ideal.log (a * c448) * l2e) + 1
/-- `x` over the scale of exponent `e`, kept to the range of the codes. -/
def kclip (x e : EReal) : EReal := min (bits 0x43E00000#32) (max (bits 0xC3E00000#32) (x * Ideal.exp2 (0 - e)))
/-- The rotation of `x` by the angles of cosines `c` and sines `s`. -/
def krope (c s : Fin 64 → EReal) (x : Fin 128 → EReal) (d : Fin 128) : EReal :=
  if h : d.val < 64 then x d * c ⟨d.val, h⟩ - x ⟨64 + d.val, by omega⟩ * s ⟨d.val, h⟩
  else x ⟨64 + (d.val - 64), by omega⟩ * c ⟨d.val - 64, by omega⟩ + x ⟨d.val - 64, by omega⟩ * s ⟨d.val - 64, by omega⟩

/-- The exponent of a head's scale: the head `x`, its angles' cosines `c` and sines `s`. -/
def hexp (c s : Fin 64 → EReal) (x : Fin 128 → EReal) : EReal := kexp (kmax (krope c s x))
/-- A head's scale. -/
def hscale (c s : Fin 64 → EReal) (x : Fin 128 → EReal) : EReal := Ideal.exp2 (hexp c s x)
/-- A head's codes. -/
def hcode (c s : Fin 64 → EReal) (x : Fin 128 → EReal) (d : Fin 128) : EReal := kclip (krope c s x d) (hexp c s x)

section Vec
variable {F : FTy → Type} [FloatOps F] [Named F]

/-- The kernel's rotation of a transposed head. -/
def vRot (C S : FVec F S64x128 .f32) (X : FVec F S128x128 .f32) : FVec F S128x128 .f32 := k0_pay36 C S X
/-- The kernel's largest magnitudes, times 1 / 448. -/
def vAmx (Y : FVec F S128x128 .f32) : FVec F S1x128 .f32 :=
  mulf (shapeCast S1x128 (multiReduction .maximumf [0] S128 (absf Y) 0xFF800000#32 reduces_S128x128_S128 (.inl rfl) rfl) shapeCasts_S128_S1x128)
    (broadcast S1x128 (Scalar.ofBits .f32 0x3B124925#32))
/-- The kernel's exponents. -/
def vExp (y : FVec F S1x128 .f32) : FVec F S1x128 .f32 :=
  k0_pay27 y (cmpf .oeq y (broadcast S1x128 (Scalar.ofBits .f32 0x00000000#32)))
/-- The kernel's codes, still transposed. -/
def vCode (Y : FVec F S128x128 .f32) (e : FVec F S1x128 .f32) : FVec F S128x128 .f32 :=
  minimumf (broadcast S128x128 (Scalar.ofBits .f32 0x43E00000#32)) (maximumf (broadcast S128x128 (Scalar.ofBits .f32 0xC3E00000#32))
    (mulf Y (broadcastTo S128x128 (exp2 (subf (broadcast S1x128 (Scalar.ofBits .f32 0x00000000#32)) e)) broadcasts_S1x128_S128x128)))
end Vec

theorem bits_neg_inf : bits 0xFF800000#32 = ⊥ := by simp [bits, Ideal.ofBits, Ideal.ieee]

theorem vRot_apply (C S : FVec Ideal S64x128 .f32) (X : FVec Ideal S128x128 .f32) (d r : Fin 128) :
    vRot C S X (ix2 d r) = krope (fun j => C (ix2 j r)) (fun j => S (ix2 j r)) (fun j => X (ix2 j r)) d := by
  pointwise [vRot, k0_pay36]
  rfl

theorem vAmx_apply (Y : FVec Ideal S128x128 .f32) (r : Fin 128) :
    vAmx Y (ix2 0 r) = kmax (fun d => Y (ix2 d r)) * c448 := by
  pointwise [vAmx]
  rw [show Ideal.ofBits FTy.f32 4286578688#32 = ⊥ from bits_neg_inf]
  rfl

theorem vExp_apply (y : FVec Ideal S1x128 .f32) (r : Fin 128) (a : EReal) (h : y (ix2 0 r) = a * c448) :
    vExp y (ix2 0 r) = kexp a := by
  pointwise [vExp, k0_pay27]
  rw [h]; rfl

theorem vCode_apply (Y : FVec Ideal S128x128 .f32) (e : FVec Ideal S1x128 .f32) (d r : Fin 128) :
    vCode Y e (ix2 d r) = kclip (Y (ix2 d r)) (e (ix2 0 r)) := by
  pointwise [vCode]
  rfl

section Head
variable (C S : FVec Ideal S64x128 .f32) (X : FVec Ideal S128x128 .f32) (r : Fin 128) (x : Fin 128 → EReal)
  (hx : ∀ d, X (ix2 d r) = x d)
include hx

/-- The exponent row of a head. -/
theorem head_exp : vExp (vAmx (vRot C S X)) (ix2 0 r) = hexp (fun j => C (ix2 j r)) (fun j => S (ix2 j r)) x := by
  rw [vExp_apply _ _ _ (vAmx_apply _ _)]
  simp only [vRot_apply, hx]; rfl

/-- The codes of a head. -/
theorem head_code (d : Fin 128) : vCode (vRot C S X) (vExp (vAmx (vRot C S X))) (ix2 d r)
    = hcode (fun j => C (ix2 j r)) (fun j => S (ix2 j r)) x d := by
  rw [vCode_apply, head_exp C S X r x hx, vRot_apply]
  simp only [hx]; rfl

end Head

/-- The three rows of positions at token `r`, as reals, picked for frequency `j`. -/
def kpos (v15 : IVec S1x3x128 32) (j : Fin 64) (r : Fin 128) : EReal :=
  FloatOps.sitofp (F := Ideal) .f32 (v15 (ix3 0 (if j.val < 16 then 0 else if j.val < 40 then 1 else 2) r))

theorem slt_row (j : Fin 64) : IntOp.cmpi .slt (BitVec.ofNat 32 j.val) 16#32 = (if j.val < 16 then 1#1 else 0#1)
    ∧ IntOp.cmpi .slt (BitVec.ofNat 32 j.val) 40#32 = (if j.val < 40 then 1#1 else 0#1) := by
  revert j; decide

/-- The angle of frequency `j` at token `r`. -/
def kang (v15 : IVec S1x3x128 32) (v34 : FVec Ideal S64x128 .f32) (j : Fin 64) (r : Fin 128) : EReal :=
  kpos v15 j r * v34 (ix2 j r)

theorem pay68_apply (v15 : IVec S1x3x128 32) (v34 : FVec Ideal S64x128 .f32) (j : Fin 64) (r : Fin 128) :
    k0_pay68 (F := Ideal) v15 v34 (ix2 j r) = kang v15 v34 j r := by
  pointwise [k0_pay68]
  rw [(slt_row j).1, (slt_row j).2, kang, kpos]
  split_ifs <;> rfl

theorem pay69_apply (v15 : IVec S1x3x128 32) (v34 : FVec Ideal S64x128 .f32) (j : Fin 64) (r : Fin 128) :
    k0_pay69 (F := Ideal) v15 v34 (ix2 j r) = Ideal.cos (kang v15 v34 j r) := by
  rw [← pay68_apply]; rfl

theorem pay70_apply (v15 : IVec S1x3x128 32) (v34 : FVec Ideal S64x128 .f32) (j : Fin 64) (r : Fin 128) :
    k0_pay70 (F := Ideal) v15 v34 (ix2 j r) = Ideal.sin (kang v15 v34 j r) := by
  rw [← pay68_apply]; rfl

end Cert.Proof.Val

end
-- ==== Proof.Value.Base.lean ====
module

public import proofs.«01_k».proof.Proof.Gen.KernelIdeal.Frame
public import proofs.«01_k».proof.Proof.Value.Spec

/-!
# Reads after writes, and loops

What a buffer reads as after a list of block writes, one block at a time; and the rule for a counted loop.
-/

@[expose] public section

set_option warn.classDefReducibility false
set_option maxRecDepth 16384
noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- No loop variants. -/
abbrev 𝒱₀ : Variants := Variants.none

/-- Memref `M`'s whole buffer on core `c`, at contents `f`. -/
abbrev pt (c : Dev nD) {sp : Space} {S : Shape} {e : EltTy} (M : Memref sig .tc sp S e)
    (f : BufTy.Contents (Elt Ideal) M.view.ty) : sProp 𝕄 :=
  M.view.loc (c : Thread nD τ) ↦[M.view.set]{fullShare} f

/-- What memref `M` reads as at contents `f`. -/
abbrev rd {sp : Space} {S : Shape} {e : EltTy} (M : Memref sig .tc sp S e)
    (f : BufTy.Contents (Elt Ideal) M.view.ty) : S.Idx → Elt Ideal e := M.view.read (Elt Ideal) f

/-- The class of a counted loop's invariants in this proof. -/
abbrev LI (c : Dev nD) {σ : Type} (L : Scf.Loop 32) (ok : Scf.OK L.lb L.ub L.st) (init : σ)
    (body : Fin L.trips → σ → Prog (TpuEff nD τ sig (Elt Ideal) Λ₀ .tc) σ) :=
  LoopInv (M := 𝕄) frame (wpE (defs₀ (F := Ideal)) 𝒱₀ (c : Thread nD τ) none) Set.univ L.lb L.ub L.st ok init body

/-- A loop by its invariant. -/
theorem loop_app (c : Dev nD) {σ β : Type} (L : Scf.Loop 32) (ok : Scf.OK L.lb L.ub L.st) (init : σ)
    (body : Fin L.trips → σ → Prog (TpuEff nD τ sig (Elt Ideal) Λ₀ .tc) σ) (I : LI c L ok init body)
    (kk : σ → Prog (TpuEff nD τ sig (Elt Ideal) Λ₀ .tc) β) (Q : β → sProp 𝕄) :
    iprop(I.inv 0 init ∗ (∀ acc, I.inv L.trips acc -∗ wp frame (wpE (defs₀ (F := Ideal)) 𝒱₀ (c : Thread nD τ) none) Set.univ (kk acc) Q))
      ⊢ wp frame (wpE (defs₀ (F := Ideal)) 𝒱₀ (c : Thread nD τ) none) Set.univ (Scf.Loop.for L ok init body >>= kk) Q := by
  iintro ⟨H, K⟩
  iapply (exec_loop frame (wpE (defs₀ (F := Ideal)) 𝒱₀ (c : Thread nD τ) none) Set.univ L.lb L.ub L.st ok init body I) $$ [H]
  · iexact H
  iexact K

/-- The same, the invariant and the count of trips spelled out. -/
theorem loop_app' (c : Dev nD) {σ β : Type} (L : Scf.Loop 32) (ok : Scf.OK L.lb L.ub L.st) (init : σ)
    (body : Fin L.trips → σ → Prog (TpuEff nD τ sig (Elt Ideal) Λ₀ .tc) σ) (kk : σ → Prog (TpuEff nD τ sig (Elt Ideal) Λ₀ .tc) β) (Q : β → sProp 𝕄)
    (I : LI c L ok init body) {A : sProp 𝕄} {D : σ → sProp 𝕄} (hA : I.inv 0 init = A) (hD : I.inv L.trips = D) :
    iprop(A ∗ (∀ acc, D acc -∗ wp frame (wpE (defs₀ (F := Ideal)) 𝒱₀ (c : Thread nD τ) none) Set.univ (kk acc) Q))
      ⊢ wp frame (wpE (defs₀ (F := Ideal)) 𝒱₀ (c : Thread nD τ) none) Set.univ (Scf.Loop.for L ok init body >>= kk) Q := by
  subst hA hD
  exact loop_app c L ok init body I kk Q

/-- A read after a list of writes, by cases on whether the last one holds the index. -/
theorem read_one {sp : Space} {S : Shape} {e : EltTy} (M : Memref sig .tc sp S e) (f : BufTy.Contents (Elt Ideal) M.view.ty)
    (R : Rect S) (w : R.shape.Idx → Elt Ideal e) (L : List (View.Piece (Elt Ideal) S e)) (y : S.Idx) (g : Elt Ideal e)
    (h1 : ∀ x, R.emb x = y → w x = g) (h0 : (∀ x, R.emb x ≠ y) → rd M (M.view.writes (Elt Ideal) f L) y = g) :
    rd M (M.view.writes (Elt Ideal) f (⟨R, w⟩ :: L)) y = g := by
  by_cases h : ∃ x, R.emb x = y
  · obtain ⟨x, hx⟩ := h
    rw [← h1 x hx, ← hx]
    exact View.read_writes_cons_emb M.view f R w L x
  · have hn : ∀ x, R.emb x ≠ y := fun x hx => h ⟨x, hx⟩
    rw [← h0 hn]
    exact View.read_slice_write_of_not_mem R _ w Finset.univ (by simpa using hn)

/-- The same at rank 3, for a block at offsets `o0, o1, o2`. -/
theorem put3 {e : EltTy} {N0 N1 N2 : Nat} (M : Memref sig .tc .vmem ⟨3, ![N0, N1, N2]⟩ e) (f : BufTy.Contents (Elt Ideal) M.view.ty)
    {m0 m1 m2 : Nat} {o0 o1 o2 : Nat} {off : Fin 3 → Nat} (ho : off = ![o0, o1, o2]) (inb)
    (w : (⟨3, ![m0, m1, m2]⟩ : Shape).Idx → Elt Ideal e) (L : List (View.Piece (Elt Ideal) ⟨3, ![N0, N1, N2]⟩ e))
    (a : Fin N0) (b : Fin N1) (c : Fin N2) (g : Elt Ideal e)
    (h1 : ∀ (x : Fin m0) (y : Fin m1) (z : Fin m2), a.val = o0 + x.val → b.val = o1 + y.val → c.val = o2 + z.val → w (ix3 x y z) = g)
    (h0 : (¬ ((o0 ≤ a.val ∧ a.val < o0 + m0) ∧ (o1 ≤ b.val ∧ b.val < o1 + m1) ∧ (o2 ≤ c.val ∧ c.val < o2 + m2))) →
      rd M (M.view.writes (Elt Ideal) f L) (ix3 a b c) = g) :
    rd M (M.view.writes (Elt Ideal) f (⟨Rect.unit (s := ⟨3, ![N0, N1, N2]⟩) off (⟨3, ![m0, m1, m2]⟩ : Shape).size inb, w⟩ :: L)) (ix3 a b c) = g := by
  subst ho
  refine read_one M f _ _ _ _ _ (fun x hx => ?_) fun hn => h0 fun hm => ?_
  · rw [eq_ix3 (n0 := m0) (n1 := m1) (n2 := m2) x]
    have e0 := congrArg (fun j : (⟨3, ![N0, N1, N2]⟩ : Shape).Idx => (j 0).val) hx
    have e1 := congrArg (fun j : (⟨3, ![N0, N1, N2]⟩ : Shape).Idx => (j 1).val) hx
    have e2 := congrArg (fun j : (⟨3, ![N0, N1, N2]⟩ : Shape).Idx => (j 2).val) hx
    refine h1 _ _ _ (e0.symm.trans ?_) (e1.symm.trans ?_) (e2.symm.trans ?_)
    · exact congrArg (o0 + ·) (Nat.one_mul _)
    · exact congrArg (o1 + ·) (Nat.one_mul _)
    · exact congrArg (o2 + ·) (Nat.one_mul _)
  · obtain ⟨⟨p0, q0⟩, ⟨p1, q1⟩, p2, q2⟩ := hm
    refine hn (ix3 (n0 := m0) (n1 := m1) (n2 := m2) ⟨a.val - o0, by omega⟩ ⟨b.val - o1, by omega⟩ ⟨c.val - o2, by omega⟩) (funext fun t => Fin.ext ?_)
    fin_cases t
    · exact (congrArg (o0 + ·) (Nat.one_mul _)).trans (Nat.add_sub_cancel' p0)
    · exact (congrArg (o1 + ·) (Nat.one_mul _)).trans (Nat.add_sub_cancel' p1)
    · exact (congrArg (o2 + ·) (Nat.one_mul _)).trans (Nat.add_sub_cancel' p2)

/-- The same at rank 2, for rows a stride apart. -/
theorem put2 {e : EltTy} {N0 N1 : Nat} (M : Memref sig .tc .vmem ⟨2, ![N0, N1]⟩ e) (f : BufTy.Contents (Elt Ideal) M.view.ty)
    {m0 m1 : Nat} {o0 o1 s0 : Nat} {off : Fin 2 → Nat} (ho : off = ![o0, o1]) (inb) (sp)
    (w : (⟨2, ![m0, m1]⟩ : Shape).Idx → Elt Ideal e) (L : List (View.Piece (Elt Ideal) ⟨2, ![N0, N1]⟩ e))
    (a : Fin N0) (b : Fin N1) (g : Elt Ideal e)
    (h1 : ∀ (x : Fin m0) (y : Fin m1), a.val = o0 + s0 * x.val → b.val = o1 + y.val → w (ix2 x y) = g)
    (h0 : (∀ (x : Fin m0) (y : Fin m1), ¬ (a.val = o0 + s0 * x.val ∧ b.val = o1 + y.val)) →
      rd M (M.view.writes (Elt Ideal) f L) (ix2 a b) = g) :
    rd M (M.view.writes (Elt Ideal) f (⟨(⟨⟨off, (⟨2, ![m0, m1]⟩ : Shape).size, ![s0, 1], inb⟩, sp⟩ : Rect ⟨2, ![N0, N1]⟩), w⟩ :: L)) (ix2 a b) = g := by
  subst ho
  refine read_one M f _ _ _ _ _ (fun x hx => ?_) fun hn => h0 fun x y hm => ?_
  · rw [eq_ix2 (n0 := m0) (n1 := m1) x]
    have e0 := congrArg (fun j : (⟨2, ![N0, N1]⟩ : Shape).Idx => (j 0).val) hx
    have e1 := congrArg (fun j : (⟨2, ![N0, N1]⟩ : Shape).Idx => (j 1).val) hx
    refine h1 _ _ (e0.symm.trans rfl) (e1.symm.trans ?_)
    exact congrArg (o1 + ·) (Nat.one_mul _)
  · refine hn (ix2 x y) (funext fun t => Fin.ext ?_)
    fin_cases t
    · exact hm.1.symm
    · exact (congrArg (o1 + ·) (Nat.one_mul _)).trans hm.2.symm

/-- Rank 2, unit strides. -/
theorem put2u {e : EltTy} {N0 N1 : Nat} (M : Memref sig .tc .vmem ⟨2, ![N0, N1]⟩ e) (f : BufTy.Contents (Elt Ideal) M.view.ty)
    {m0 m1 : Nat} {o0 o1 : Nat} {off : Fin 2 → Nat} (ho : off = ![o0, o1]) (inb)
    (w : (⟨2, ![m0, m1]⟩ : Shape).Idx → Elt Ideal e) (L : List (View.Piece (Elt Ideal) ⟨2, ![N0, N1]⟩ e))
    (a : Fin N0) (b : Fin N1) (g : Elt Ideal e)
    (h1 : ∀ (x : Fin m0) (y : Fin m1), a.val = o0 + x.val → b.val = o1 + y.val → w (ix2 x y) = g)
    (h0 : (¬ ((o0 ≤ a.val ∧ a.val < o0 + m0) ∧ (o1 ≤ b.val ∧ b.val < o1 + m1))) →
      rd M (M.view.writes (Elt Ideal) f L) (ix2 a b) = g) :
    rd M (M.view.writes (Elt Ideal) f (⟨Rect.unit (s := ⟨2, ![N0, N1]⟩) off (⟨2, ![m0, m1]⟩ : Shape).size inb, w⟩ :: L)) (ix2 a b) = g := by
  subst ho
  refine read_one M f _ _ _ _ _ (fun x hx => ?_) fun hn => h0 fun hm => ?_
  · rw [eq_ix2 (n0 := m0) (n1 := m1) x]
    have e0 := congrArg (fun j : (⟨2, ![N0, N1]⟩ : Shape).Idx => (j 0).val) hx
    have e1 := congrArg (fun j : (⟨2, ![N0, N1]⟩ : Shape).Idx => (j 1).val) hx
    refine h1 _ _ (e0.symm.trans ?_) (e1.symm.trans ?_)
    · exact congrArg (o0 + ·) (Nat.one_mul _)
    · exact congrArg (o1 + ·) (Nat.one_mul _)
  · obtain ⟨⟨p0, q0⟩, p1, q1⟩ := hm
    refine hn (ix2 (n0 := m0) (n1 := m1) ⟨a.val - o0, by omega⟩ ⟨b.val - o1, by omega⟩) (funext fun t => Fin.ext ?_)
    fin_cases t
    · exact (congrArg (o0 + ·) (Nat.one_mul _)).trans (Nat.add_sub_cancel' p0)
    · exact (congrArg (o1 + ·) (Nat.one_mul _)).trans (Nat.add_sub_cancel' p1)

end Cert.Proof.Val

end
-- ==== Proof.Value.Key.lean ====
module

public import proofs.«01_k».proof.Proof.Value.Base

/-!
# One trip over a pair of key heads
-/

@[expose] public section

set_option warn.classDefReducibility false
set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- Head `h` of token `r` among a block's rows. -/
def row8 (X : S1024x128.Idx → EReal) (h : Fin 8) (r d : Fin 128) : EReal := X (ix2 ⟨8 * r.val + h.val, by omega⟩ d)

section
variable (C S : FVec Ideal S64x128 .f32)

/-- The codes of the heads `x`, head by head and token by token. -/
def codes {n : Nat} (x : Fin n → Fin 128 → Fin 128 → EReal) (h : Fin n) (r d : Fin 128) : EReal :=
  hcode (fun j => C (ix2 j r)) (fun j => S (ix2 j r)) (x h r) d
/-- The scales of the heads `x`. -/
def scales {n : Nat} (x : Fin n → Fin 128 → Fin 128 → EReal) (h : Fin n) (r : Fin 128) : EReal :=
  hscale (fun j => C (ix2 j r)) (fun j => S (ix2 j r)) (x h r)
end

/-- One of the two heads a block of words holds, transposed. -/
def vHalf (p : Fin 2) (raw : FVec Ideal S128x2x128 .bf16) : FVec Ideal S128x128 .f32 :=
  transpose S128x128 [1, 0] (extf .f32 (shapeCast S128x128 (rowsOfParity p S128x1x128 raw bitcasts_S128x2x128_w16_S128x1x128_w32) shapeCasts_S128x1x128_S128x128)) transposes_S128x128_p1_0_S128x128
/-- A head's scales as a stored row. -/
def wScale (C S : FVec Ideal S64x128 .f32) (X : FVec Ideal S128x128 .f32) : FVec Ideal S1x1x128 .f32 :=
  shapeCast S1x1x128 (exp2 (vExp (vAmx (vRot C S X)))) shapeCasts_S1x128_S1x1x128
/-- A head's codes, a row per token. -/
def wCodeT (C S : FVec Ideal S64x128 .f32) (X : FVec Ideal S128x128 .f32) : FVec Ideal S128x128 .f32 :=
  transpose S128x128 [1, 0] (vCode (vRot C S X) (vExp (vAmx (vRot C S X)))) transposes_S128x128_p1_0_S128x128
/-- The same, as staged. -/
def wStage (C S : FVec Ideal S64x128 .f32) (X : FVec Ideal S128x128 .f32) : FVec Ideal S128x128 .f32 :=
  shapeCast S128x128 (wCodeT C S X) shapeCasts_S128x128_S128x128
/-- The same, as stored among the keys. -/
def wCode (C S : FVec Ideal S64x128 .f32) (X : FVec Ideal S128x128 .f32) : FVec Ideal S1x128x128 .fp8e4m3 :=
  shapeCast S1x128x128 (truncf (F := Ideal) .fp8e4m3 (wCodeT C S X) bitsLt_fp8e4m3_f32) shapeCasts_S128x128_S1x128x128
/-- A key head's scales times the scale of the scores, a row per token. -/
def wKS (C S : FVec Ideal S64x128 .f32) (X : FVec Ideal S128x128 .f32) : FVec Ideal S1x128x128 .f32 :=
  k0_pay73 (F := Ideal) (exp2 (vExp (vAmx (vRot C S X))))
/-- A head's values as stored. -/
def wV (X : FVec Ideal S128x128 .f32) : FVec Ideal S1x128x128 .bf16 :=
  k0_pay74 (F := Ideal) X

theorem vHalf_apply (raw : FVec Ideal S128x2x128 .bf16) (d r : Fin 128) :
    vHalf 0 raw (ix2 d r) = raw (ix3 r 0 d) ∧ vHalf 1 raw (ix2 d r) = raw (ix3 r 1 d) := by
  constructor <;> pointwise [vHalf]

section
variable (C S : FVec Ideal S64x128 .f32) (X : FVec Ideal S128x128 .f32) (r : Fin 128) (x : Fin 128 → EReal)
  (hx : ∀ d, X (ix2 d r) = x d)
include hx

theorem wScale_apply : wScale C S X (ix3 0 0 r) = hscale (fun j => C (ix2 j r)) (fun j => S (ix2 j r)) x := by
  have h := head_exp C S X r x hx
  pointwise [wScale]
  rw [h]; rfl

theorem wCodeT_apply (d : Fin 128) : wCodeT C S X (ix2 r d) = hcode (fun j => C (ix2 j r)) (fun j => S (ix2 j r)) x d := by
  have h := head_code C S X r x hx d
  pointwise [wCodeT]
  rw [h]

theorem wStage_apply (d : Fin 128) : wStage C S X (ix2 r d) = hcode (fun j => C (ix2 j r)) (fun j => S (ix2 j r)) x d := by
  have h := wCodeT_apply C S X r x hx d
  pointwise [wStage]
  rw [h]

theorem wCode_apply (d : Fin 128) : wCode C S X (ix3 0 r d) = hcode (fun j => C (ix2 j r)) (fun j => S (ix2 j r)) x d := by
  have h := wCodeT_apply C S X r x hx d
  pointwise [wCode]
  rw [h]

theorem wKS_apply (d : Fin 128) : wKS C S X (ix3 0 r d) = hscale (fun j => C (ix2 j r)) (fun j => S (ix2 j r)) x * scoreC := by
  have h := head_exp C S X r x hx
  pointwise [wKS, k0_pay73]
  rw [h]; rfl

end

theorem wV_apply (X : FVec Ideal S128x128 .f32) (d r : Fin 128) : wV X (ix3 0 d r) = X (ix2 d r) := by
  pointwise [wV, k0_pay74]

/-- A load of every fourth pair of rows: two rows of each token. -/
theorem raw4 (M : Memref sig .tc .vmem S1024x128 .bf16) (hM : M.IsWhole) (f : BufTy.Contents (Elt Ideal) M.view.ty)
    (k : Nat) (hk : k < 4) {off : Fin 3 → Nat} (ho : off = ![k, 0, 0]) (inb) (r : Fin 128) (p : Fin 2) (d : Fin 128) :
    (M.reshape S512x2x128 reshapes_S1024x128_S512x2x128.1 reshapes_S1024x128_S512x2x128.2 hM.contiguous).view.readAt (Elt Ideal)
      (⟨off, S128x2x128.size, ![4, 1, 1], inb⟩ : LoadRect S512x2x128) f (ix3 r p d)
      = rd M f (ix2 ⟨8 * r.val + (2 * k + p.val), by omega⟩ d) := by
  subst ho
  have e : (M.reshape S512x2x128 reshapes_S1024x128_S512x2x128.1 reshapes_S1024x128_S512x2x128.2 hM.contiguous).view.readAt (Elt Ideal)
      (⟨![k, 0, 0], S128x2x128.size, ![4, 1, 1], inb⟩ : LoadRect S512x2x128) f (ix3 r p d)
      = shapeCast S512x2x128 (rd M f) (by decide) (ix3 ⟨k + 4 * r.val, by omega⟩ p d) := by
    show shapeCast S512x2x128 (rd M f) _ _ = _
    congr 1
    funext t; apply Fin.ext
    fin_cases t
    · rfl
    · exact (Nat.zero_add _).trans (Nat.one_mul _)
    · exact (Nat.zero_add _).trans (Nat.one_mul _)
  rw [e]
  pointwise []
  refine congrArg (rd M f) (congrArg (fun t => ix2 t d) (Fin.ext ?_))
  show (k + 4 * r.val) * 2 + p.val = 8 * r.val + (2 * k + p.val)
  omega

/-! ## What the buffers hold while the loop over pairs of heads runs -/

/-- The scratch `g` holds `G`'s rows of the keys before block `b`, and of block `b` those of heads below `m`. -/
def FKey {α : Type} (b m : Nat) (G : Fin 8 → Fin 640 → Fin 128 → α) (g : S8x640x128.Idx → α) : Prop :=
  ∀ h key d, (key.val < b ∨ key.val < b + 128 ∧ h.val < m) → g (ix3 h key d) = G h key d
/-- The same for the scratch of values, a lane per key. -/
def FVal (b m : Nat) (G : Fin 8 → Fin 128 → Fin 640 → EReal) (g : S8x128x640.Idx → EReal) : Prop :=
  ∀ h d key, (key.val < b ∨ key.val < b + 128 ∧ h.val < m) → g (ix3 h d key) = G h d key
/-- `g` holds `G`'s rows of scales of the heads below `m`. -/
def FRow {n : Nat} (m : Nat) (G : Fin n → Fin 128 → EReal) (g : (⟨3, ![1, n, 128]⟩ : Shape).Idx → EReal) : Prop :=
  ∀ h r, h.val < m → g (ix3 0 h r) = G h r
/-- The staging buffer `g` holds `G`'s codes of the heads below `m`, a row of pitch `q` per token. -/
def FStage {n N : Nat} (q m : Nat) (hN : ∀ (r : Fin 128) (h : Fin n), q * r.val + h.val < N)
    (G : Fin n → Fin 128 → Fin 128 → EReal) (g : (⟨2, ![N, 128]⟩ : Shape).Idx → EReal) : Prop :=
  ∀ h r d, h.val < m → g (ix2 ⟨q * r.val + h.val, hN r h⟩ d) = G h r d

section Trip
variable {k b : Nat} (hk : k < 4) (hb : b + 128 ≤ 640)

/-- Two heads' blocks written into the codes of the keys. -/
theorem key_trip {e : EltTy} (M : Memref sig .tc .vmem S8x640x128 e) (f : BufTy.Contents (Elt Ideal) M.view.ty)
    {o1 o2 : Fin 3 → Nat} (ho1 : o1 = ![2 * k, b, 0]) (ho2 : o2 = ![2 * k + 1, b, 0]) (i1 i2)
    (w1 w2 : S1x128x128.Idx → Elt Ideal e) (G : Fin 8 → Fin 640 → Fin 128 → Elt Ideal e)
    (hw1 : ∀ r d : Fin 128, w1 (ix3 0 r d) = G ⟨2 * k, by omega⟩ ⟨b + r.val, by omega⟩ d)
    (hw2 : ∀ r d : Fin 128, w2 (ix3 0 r d) = G ⟨2 * k + 1, by omega⟩ ⟨b + r.val, by omega⟩ d)
    (h0 : FKey b (2 * k) G (rd M f)) :
    FKey b (2 * (k + 1)) G (rd M (M.view.writes (Elt Ideal) f
      [⟨Rect.unit (s := S8x640x128) o2 S1x128x128.size i2, w2⟩, ⟨Rect.unit (s := S8x640x128) o1 S1x128x128.size i1, w1⟩])) := by
  intro h key d hc
  refine put3 M f ho2 _ _ _ _ _ _ _ (fun x y z e0 e1 e2 => ?_) fun n2 => put3 M f ho1 _ _ _ _ _ _ _ (fun x y z e0 e1 e2 => ?_) fun n1 => h0 h key d ?_
  · obtain rfl : x = 0 := Fin.fin_one_eq_zero x
    rw [hw2]; congr 1 <;> apply Fin.ext <;> simp_all
  · obtain rfl : x = 0 := Fin.fin_one_eq_zero x
    rw [hw1]; congr 1 <;> apply Fin.ext <;> simp_all
  · omega

/-- Two heads' blocks written into the values. -/
theorem val_trip (M : Memref sig .tc .vmem S8x128x640 .bf16) (f : BufTy.Contents (Elt Ideal) M.view.ty)
    {o1 o2 : Fin 3 → Nat} (ho1 : o1 = ![2 * k, 0, b]) (ho2 : o2 = ![2 * k + 1, 0, b]) (i1 i2)
    (w1 w2 : S1x128x128.Idx → EReal) (G : Fin 8 → Fin 128 → Fin 640 → EReal)
    (hw1 : ∀ d r : Fin 128, w1 (ix3 0 d r) = G ⟨2 * k, by omega⟩ d ⟨b + r.val, by omega⟩)
    (hw2 : ∀ d r : Fin 128, w2 (ix3 0 d r) = G ⟨2 * k + 1, by omega⟩ d ⟨b + r.val, by omega⟩)
    (h0 : FVal b (2 * k) G (rd M f)) :
    FVal b (2 * (k + 1)) G (rd M (M.view.writes (Elt Ideal) f
      [⟨Rect.unit (s := S8x128x640) o2 S1x128x128.size i2, w2⟩, ⟨Rect.unit (s := S8x128x640) o1 S1x128x128.size i1, w1⟩])) := by
  intro h d key hc
  refine put3 M f ho2 _ _ _ _ _ _ _ (fun x y z e0 e1 e2 => ?_) fun n2 => put3 M f ho1 _ _ _ _ _ _ _ (fun x y z e0 e1 e2 => ?_) fun n1 => h0 h d key ?_
  · obtain rfl : x = 0 := Fin.fin_one_eq_zero x
    rw [hw2]; congr 1 <;> apply Fin.ext <;> simp_all
  · obtain rfl : x = 0 := Fin.fin_one_eq_zero x
    rw [hw1]; congr 1 <;> apply Fin.ext <;> simp_all
  · omega

/-- Two heads' scales written. -/
theorem row_trip {n : Nat} (hn : 2 * k + 1 < n) (M : Memref sig .tc .vmem ⟨3, ![1, n, 128]⟩ .f32) (f : BufTy.Contents (Elt Ideal) M.view.ty)
    {o1 o2 : Fin 3 → Nat} (ho1 : o1 = ![0, 2 * k, 0]) (ho2 : o2 = ![0, 2 * k + 1, 0]) (i1 i2)
    (w1 w2 : S1x1x128.Idx → EReal) (G : Fin n → Fin 128 → EReal)
    (hw1 : ∀ r : Fin 128, w1 (ix3 0 0 r) = G ⟨2 * k, by omega⟩ r)
    (hw2 : ∀ r : Fin 128, w2 (ix3 0 0 r) = G ⟨2 * k + 1, by omega⟩ r)
    (h0 : FRow (2 * k) G (rd M f)) :
    FRow (2 * (k + 1)) G (rd M (M.view.writes (Elt Ideal) f
      [⟨Rect.unit (s := ⟨3, ![1, n, 128]⟩) o2 S1x1x128.size i2, w2⟩, ⟨Rect.unit (s := ⟨3, ![1, n, 128]⟩) o1 S1x1x128.size i1, w1⟩])) := by
  intro h r hc
  refine put3 M f ho2 _ _ _ _ _ _ _ (fun x y z e0 e1 e2 => ?_) fun n2 => put3 M f ho1 _ _ _ _ _ _ _ (fun x y z e0 e1 e2 => ?_) fun n1 => h0 h r ?_
  · obtain rfl : x = 0 := Fin.fin_one_eq_zero x
    obtain rfl : y = 0 := Fin.fin_one_eq_zero y
    rw [hw2]; congr 1 <;> apply Fin.ext <;> simp_all
  · obtain rfl : x = 0 := Fin.fin_one_eq_zero x
    obtain rfl : y = 0 := Fin.fin_one_eq_zero y
    rw [hw1]; congr 1 <;> apply Fin.ext <;> simp_all
  · have := r.isLt
    simp only [Fin.isValue, Fin.val_zero] at n1 n2
    omega

/-- Two heads' codes staged, a row of pitch `q` per token. -/
theorem stage_trip {n N q : Nat} (hn : 2 * k + 1 < n) (hq : n ≤ q) (hN : ∀ (r : Fin 128) (h : Fin n), q * r.val + h.val < N)
    (M : Memref sig .tc .vmem ⟨2, ![N, 128]⟩ .f32) (f : BufTy.Contents (Elt Ideal) M.view.ty)
    {o1 o2 : Fin 2 → Nat} (ho1 : o1 = ![2 * k, 0]) (ho2 : o2 = ![2 * k + 1, 0]) (i1 i2 s1 s2)
    (w1 w2 : S128x128.Idx → EReal) (G : Fin n → Fin 128 → Fin 128 → EReal)
    (hw1 : ∀ r d : Fin 128, w1 (ix2 r d) = G ⟨2 * k, by omega⟩ r d)
    (hw2 : ∀ r d : Fin 128, w2 (ix2 r d) = G ⟨2 * k + 1, by omega⟩ r d)
    (h0 : FStage q (2 * k) hN G (rd M f)) :
    FStage q (2 * (k + 1)) hN G (rd M (M.view.writes (Elt Ideal) f
      [⟨(⟨⟨o2, S128x128.size, ![q, 1], i2⟩, s2⟩ : Rect ⟨2, ![N, 128]⟩), w2⟩, ⟨(⟨⟨o1, S128x128.size, ![q, 1], i1⟩, s1⟩ : Rect ⟨2, ![N, 128]⟩), w1⟩])) := by
  have key : ∀ (a b' c d' : Nat), c < q → d' < q → q * a + c = d' + q * b' → a = b' ∧ c = d' := fun a b' c d' hc hd h => by
    have h1 := congrArg (· / q) h
    have h2 := congrArg (· % q) h
    simp only [Nat.mul_add_div (by omega : 0 < q), Nat.add_mul_div_left _ _ (by omega : 0 < q), Nat.div_eq_of_lt hc, Nat.div_eq_of_lt hd,
      Nat.mul_add_mod, Nat.add_mul_mod_self_left, Nat.mod_eq_of_lt hc, Nat.mod_eq_of_lt hd] at h1 h2
    omega
  intro h r d hc
  have hh := h.isLt
  refine put2 M f ho2 _ _ _ _ _ _ _ (fun x y e0 e1 => ?_) fun n2 => put2 M f ho1 _ _ _ _ _ _ _ (fun x y e0 e1 => ?_) fun n1 => h0 h r d ?_
  · obtain ⟨e, e'⟩ := key _ _ _ _ (by omega) (by omega) e0
    rw [hw2]; congr 1 <;> apply Fin.ext <;> simp_all
  · obtain ⟨e, e'⟩ := key _ _ _ _ (by omega) (by omega) e0
    rw [hw1]; congr 1 <;> apply Fin.ext <;> simp_all
  · have p1 : h.val ≠ 2 * k := fun e => n1 r d ⟨by show q * r.val + h.val = _; omega, by omega⟩
    have p2 : h.val ≠ 2 * k + 1 := fun e => n2 r d ⟨by show q * r.val + h.val = _; omega, by omega⟩
    omega
end Trip

/-- The keys of `KC`, `KS` and `VT` at block `b` are the codes, scales and values of the block's rows. -/
structure KeyBlock (b : Nat) (hb : b + 128 ≤ 640) (C S : FVec Ideal S64x128 .f32) (X3 X4 : S1024x128.Idx → EReal)
    (KC : Fin 8 → Fin 640 → Fin 128 → EReal) (KS : Fin 8 → Fin 640 → EReal) (VT : Fin 8 → Fin 128 → Fin 640 → EReal) : Prop where
  code : ∀ h (r d : Fin 128), KC h ⟨b + r.val, by omega⟩ d = codes C S (row8 X3) h r d
  scale : ∀ h (r : Fin 128), KS h ⟨b + r.val, by omega⟩ = scales C S (row8 X3) h r * scoreC
  val : ∀ h (d r : Fin 128), VT h d ⟨b + r.val, by omega⟩ = row8 X4 h r d

section
variable (C S : FVec Ideal S64x128 .f32) (X : FVec Ideal S128x128 .f32) {n : Nat} (x : Fin n → Fin 128 → Fin 128 → EReal) (h : Fin n)
  (hx : ∀ d r, X (ix2 d r) = x h r d)
include hx

theorem head_scale (r : Fin 128) : wScale C S X (ix3 0 0 r) = scales C S x h r :=
  wScale_apply C S X r _ fun d => hx d r
theorem head_stage (r d : Fin 128) : wStage C S X (ix2 r d) = codes C S x h r d :=
  wStage_apply C S X r _ (fun d => hx d r) d
end

section
variable {b : Nat} {hb : b + 128 ≤ 640} {C S : FVec Ideal S64x128 .f32} {X3 X4 : S1024x128.Idx → EReal}
    {KC : Fin 8 → Fin 640 → Fin 128 → EReal} {KS : Fin 8 → Fin 640 → EReal} {VT : Fin 8 → Fin 128 → Fin 640 → EReal}
    (B : KeyBlock b hb C S X3 X4 KC KS VT) (X : FVec Ideal S128x128 .f32) (h : Fin 8)
include B

theorem KeyBlock.wcode (hx : ∀ d r, X (ix2 d r) = row8 X3 h r d) (r d : Fin 128) :
    wCode C S X (ix3 0 r d) = KC h ⟨b + r.val, by omega⟩ d :=
  (wCode_apply C S X r _ (fun d => hx d r) d).trans (B.code h r d).symm
theorem KeyBlock.wscale (hx : ∀ d r, X (ix2 d r) = row8 X3 h r d) (r d : Fin 128) :
    wKS C S X (ix3 0 r d) = KS h ⟨b + r.val, by omega⟩ :=
  (wKS_apply C S X r _ (fun d => hx d r) d).trans (B.scale h r).symm
theorem KeyBlock.wval (hx : ∀ d r, X (ix2 d r) = row8 X4 h r d) (d r : Fin 128) :
    wV X (ix3 0 d r) = VT h d ⟨b + r.val, by omega⟩ :=
  (wV_apply X d r).trans ((hx d r).trans (B.val h d r).symm)
end

theorem raw_half0 (x : Fin 128 → Fin 128 → EReal) (raw : FVec Ideal S128x2x128 .bf16) (h : ∀ r d, raw (ix3 r 0 d) = x r d) (d r : Fin 128) :
    vHalf 0 raw (ix2 d r) = x r d := (vHalf_apply raw d r).1.trans (h r d)
theorem raw_half1 (x : Fin 128 → Fin 128 → EReal) (raw : FVec Ideal S128x2x128 .bf16) (h : ∀ r d, raw (ix3 r 1 d) = x r d) (d r : Fin 128) :
    vHalf 1 raw (ix2 d r) = x r d := (vHalf_apply raw d r).2.trans (h r d)

/-- What the loop over pairs of key heads keeps after `k` trips. -/
abbrev IKey (b : Nat) (c : Dev nD) (arg3 arg4 : Memref sig .tc .vmem S1024x128 .bf16) (arg11 : Memref sig .tc .vmem S1x8x128 .f32)
    (arg14 : Memref sig .tc .vmem S8x640x128 .fp8e4m3) (arg15 : Memref sig .tc .vmem S8x640x128 .f32)
    (arg16 : Memref sig .tc .vmem S8x128x640 .bf16) (arg18 : Memref sig .tc .vmem S1152x128 .f32)
    (f3 : BufTy.Contents (Elt Ideal) arg3.view.ty) (f4 : BufTy.Contents (Elt Ideal) arg4.view.ty) (C S : FVec Ideal S64x128 .f32)
    (KC : Fin 8 → Fin 640 → Fin 128 → EReal) (KS : Fin 8 → Fin 640 → EReal) (VT : Fin 8 → Fin 128 → Fin 640 → EReal) (k : Nat) : sProp 𝕄 :=
  iprop(pt c arg3 f3 ∗ pt c arg4 f4
    ∗ (∃ f, pt c arg11 f ∗ ⌜FRow (2 * k) (scales C S (row8 (rd arg3 f3))) (rd arg11 f)⌝)
    ∗ (∃ f, pt c arg14 f ∗ ⌜FKey b (2 * k) KC (rd arg14 f)⌝)
    ∗ (∃ f, pt c arg15 f ∗ ⌜FKey b (2 * k) (fun h r _ => KS h r) (rd arg15 f)⌝)
    ∗ (∃ f, pt c arg16 f ∗ ⌜FVal b (2 * k) VT (rd arg16 f)⌝)
    ∗ (∃ f, pt c arg18 f ∗ ⌜FStage 9 (2 * k) (by omega) (codes C S (row8 (rd arg3 f3))) (rd arg18 f)⌝))

/-- A load of every twentieth pair of rows: two rows of each token. -/
theorem raw20 (M : Memref sig .tc .vmem S5120x128 .bf16) (hM : M.IsWhole) (f : BufTy.Contents (Elt Ideal) M.view.ty)
    (k : Nat) (hk : k < 20) {off : Fin 3 → Nat} (ho : off = ![k, 0, 0]) (inb) (r : Fin 128) (p : Fin 2) (d : Fin 128) :
    (M.reshape S2560x2x128 reshapes_S5120x128_S2560x2x128.1 reshapes_S5120x128_S2560x2x128.2 hM.contiguous).view.readAt (Elt Ideal)
      (⟨off, S128x2x128.size, ![20, 1, 1], inb⟩ : LoadRect S2560x2x128) f (ix3 r p d)
      = rd M f (ix2 ⟨40 * r.val + (2 * k + p.val), by omega⟩ d) := by
  subst ho
  have e : (M.reshape S2560x2x128 reshapes_S5120x128_S2560x2x128.1 reshapes_S5120x128_S2560x2x128.2 hM.contiguous).view.readAt (Elt Ideal)
      (⟨![k, 0, 0], S128x2x128.size, ![20, 1, 1], inb⟩ : LoadRect S2560x2x128) f (ix3 r p d)
      = shapeCast S2560x2x128 (rd M f) (by decide) (ix3 ⟨k + 20 * r.val, by omega⟩ p d) := by
    show shapeCast S2560x2x128 (rd M f) _ _ = _
    congr 1
    funext t; apply Fin.ext
    fin_cases t
    · rfl
    · exact (Nat.zero_add _).trans (Nat.one_mul _)
    · exact (Nat.zero_add _).trans (Nat.one_mul _)
  rw [e]
  pointwise []
  refine congrArg (rd M f) (congrArg (fun t => ix2 t d) (Fin.ext ?_))
  show (k + 20 * r.val) * 2 + p.val = 40 * r.val + (2 * k + p.val)
  omega

/-- Query rows by head and token. -/
abbrev row40 (X : S5120x128.Idx → EReal) : Fin 40 → Fin 128 → Fin 128 → EReal := fun h r d => X (ix2 ⟨40 * r.val + h.val, by omega⟩ d)

end Cert.Proof.Val

end
-- ==== Proof.Value.Cat.lean ====
module

public import proofs.«01_k».proof.Proof.Value.Base

/-!
# Moving codes from the staging buffers to the outputs
-/

@[expose] public section

set_option warn.classDefReducibility false
set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A load of a block at offsets `o0, o1`. -/
theorem ld2 {e : EltTy} {N0 N1 : Nat} (M : Memref sig .tc .vmem ⟨2, ![N0, N1]⟩ e) (f : BufTy.Contents (Elt Ideal) M.view.ty)
    {m0 m1 o0 o1 : Nat} {off : Fin 2 → Nat} (ho : off = ![o0, o1]) (inb) (x : Fin m0) (y : Fin m1) (h0 : o0 + x.val < N0) (h1 : o1 + y.val < N1) :
    M.view.readAt (Elt Ideal) (Rect.unit (s := ⟨2, ![N0, N1]⟩) off (⟨2, ![m0, m1]⟩ : Shape).size inb).toLoadRect f (ix2 x y)
      = rd M f (ix2 ⟨o0 + x.val, h0⟩ ⟨o1 + y.val, h1⟩) := by
  subst ho
  refine congrArg (rd M f) (funext fun t => Fin.ext ?_)
  fin_cases t
  · exact congrArg (o0 + ·) (Nat.one_mul _)
  · exact congrArg (o1 + ·) (Nat.one_mul _)

/-- A load of a rank 3 block. -/
theorem ld3 {e : EltTy} {N0 N1 N2 : Nat} (M : Memref sig .tc .vmem ⟨3, ![N0, N1, N2]⟩ e) (f : BufTy.Contents (Elt Ideal) M.view.ty)
    {m0 m1 m2 o0 o1 o2 : Nat} {off : Fin 3 → Nat} (ho : off = ![o0, o1, o2]) (inb) (x : Fin m0) (y : Fin m1) (z : Fin m2)
    (h0 : o0 + x.val < N0) (h1 : o1 + y.val < N1) (h2 : o2 + z.val < N2) :
    M.view.readAt (Elt Ideal) (Rect.unit (s := ⟨3, ![N0, N1, N2]⟩) off (⟨3, ![m0, m1, m2]⟩ : Shape).size inb).toLoadRect f (ix3 x y z)
      = rd M f (ix3 ⟨o0 + x.val, h0⟩ ⟨o1 + y.val, h1⟩ ⟨o2 + z.val, h2⟩) := by
  subst ho
  refine congrArg (rd M f) (funext fun t => Fin.ext ?_)
  fin_cases t
  · exact congrArg (o0 + ·) (Nat.one_mul _)
  · exact congrArg (o1 + ·) (Nat.one_mul _)
  · exact congrArg (o2 + ·) (Nat.one_mul _)

/-- The output of codes holds `G`'s codes of the tokens below `m`, a row per token and head. -/
def FOut {n N : Nat} (m : Nat) (hN : ∀ (r : Fin 128) (h : Fin n), n * r.val + h.val < N)
    (G : Fin n → Fin 128 → Fin 128 → EReal) (g : (⟨2, ![N, 128]⟩ : Shape).Idx → EReal) : Prop :=
  ∀ h r d, r.val < m → g (ix2 ⟨n * r.val + h.val, hN r h⟩ d) = G h r d

theorem pay75_apply (v : Fin 4 → FVec Ideal S8x128 .f32) (j : Fin 4) (h : Fin 8) (d : Fin 128) :
    k0_pay75 (F := Ideal) (v 0) (v 1) (v 2) (v 3) (ix2 ⟨8 * j.val + h.val, by omega⟩ d) = v j (ix2 h d) := by
  have hh := h.isLt
  pointwise [k0_pay75]
  fin_cases j <;> simp only [] <;> (repeat' split) <;> first | (exfalso; omega) | rfl | (congr 2; apply Fin.ext; show _ = h.val; omega) | (congr 2; apply Fin.ext; simp; omega) | (congr 2; apply Fin.ext; simp)

theorem pay1_apply (v : Fin 4 → FVec Ideal S40x128 .f32) (j : Fin 4) (h : Fin 40) (d : Fin 128) :
    k0_pay1 (F := Ideal) (v 0) (v 1) (v 2) (v 3) (ix2 ⟨40 * j.val + h.val, by omega⟩ d) = v j (ix2 h d) := by
  have hh := h.isLt
  pointwise [k0_pay1]
  fin_cases j <;> simp only [] <;> (repeat' split) <;> first | (exfalso; omega) | rfl | (congr 2; apply Fin.ext; show _ = h.val; omega) | (congr 2; apply Fin.ext; simp; omega) | (congr 2; apply Fin.ext; simp)

/-- Four tokens' codes moved from the staging buffer to the output. -/
theorem out_trip {n N : Nat} (k : Nat) (hk : k < 32)
    (hN : ∀ (r : Fin 128) (h : Fin n), n * r.val + h.val < N)
    (M : Memref sig .tc .vmem ⟨2, ![N, 128]⟩ .fp8e4m3) (f : BufTy.Contents (Elt Ideal) M.view.ty)
    {o : Fin 2 → Nat} (ho : o = ![n * (4 * k), 0]) (inb) (w : (⟨2, ![4 * n, 128]⟩ : Shape).Idx → EReal)
    (G : Fin n → Fin 128 → Fin 128 → EReal)
    (hw : ∀ (j : Fin 4) (h : Fin n) (d : Fin 128), w (ix2 ⟨n * j.val + h.val, by have := j.isLt; have := h.isLt; nlinarith⟩ d) = G h ⟨4 * k + j.val, by omega⟩ d)
    (h0 : FOut (4 * k) hN G (rd M f)) :
    FOut (4 * (k + 1)) hN G (rd M (M.view.writes (Elt Ideal) f
      [⟨Rect.unit (s := ⟨2, ![N, 128]⟩) o (⟨2, ![4 * n, 128]⟩ : Shape).size inb, w⟩])) := by
  intro h r d hr
  have hh := h.isLt
  refine put2u M f ho _ _ _ _ _ _ (fun x y e0 e1 => ?_) fun n1 => h0 h r d ?_
  · simp only at e0 e1
    have hx := x.isLt
    have p : 4 * k ≤ r.val := by
      by_contra c
      have : n * r.val + n ≤ n * (4 * k) := by nlinarith
      omega
    have ex : x = ⟨n * (⟨r.val - 4 * k, by omega⟩ : Fin 4).val + h.val, by simp only; have : n * (r.val - 4 * k) + n ≤ n * 4 := by nlinarith [show r.val - 4 * k + 1 ≤ 4 by omega]
                                                                           omega⟩ := by
      apply Fin.ext; simp only
      have : n * r.val = n * (4 * k) + n * (r.val - 4 * k) := by rw [← Nat.mul_add]; congr 1; omega
      omega
    obtain rfl : y = d := Fin.ext (by omega)
    rw [ex, hw]; congr 1; apply Fin.ext; simp only; omega
  · by_contra c
    refine n1 ⟨⟨?_, ?_⟩, ?_, ?_⟩
    · simp only; have : n * (4 * k) ≤ n * r.val := Nat.mul_le_mul_left _ (by omega)
      omega
    · simp only; have : n * r.val + n ≤ n * (4 * k) + 4 * n := by nlinarith
      omega
    · omega
    · have := d.isLt; omega

/-- What a loop that moves codes keeps: the outputs of the tokens below `m`. -/
abbrev IOut (c : Dev nD) {n N N2 : Nat} (src : Memref sig .tc .vmem ⟨2, ![N2, 128]⟩ .f32) (dst : Memref sig .tc .vmem ⟨2, ![N, 128]⟩ .fp8e4m3)
    (fs : BufTy.Contents (Elt Ideal) src.view.ty) (hN : ∀ (r : Fin 128) (h : Fin n), n * r.val + h.val < N)
    (G : Fin n → Fin 128 → Fin 128 → EReal) (m : Nat) : sProp 𝕄 :=
  iprop(pt c src fs ∗ (∃ f, pt c dst f ∗ ⌜FOut m hN G (rd dst f)⌝))

end Cert.Proof.Val

end
-- ==== Proof.Value.KeyLoop.lean ====
module

public import proofs.«01_k».proof.Proof.Value.Key
public import proofs.«01_k».proof.Proof.Value.Cat

/-!
# The loops over the key heads
-/

@[expose] public section

set_option warn.classDefReducibility false
set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
  (arg2 : Memref sig .tc .vmem S5120x128 .bf16) (harg2 : arg2.IsWhole)
  (arg3 : Memref sig .tc .vmem S1024x128 .bf16) (harg3 : arg3.IsWhole)
  (arg4 : Memref sig .tc .vmem S1024x128 .bf16) (harg4 : arg4.IsWhole)
  (arg5 : Memref sig .tc .vmem S1x3x128 .i32) (harg5 : arg5.IsWhole)
  (arg6 : Memref sig .tc .vmem S64x128 .f32) (harg6 : arg6.IsWhole)
  (arg7 : Memref sig .tc .vmem S1x128x5120 .bf16) (harg7 : arg7.IsWhole)
  (arg8 : Memref sig .tc .vmem S5120x128 .fp8e4m3) (harg8 : arg8.IsWhole)
  (arg9 : Memref sig .tc .vmem S1x40x128 .f32) (harg9 : arg9.IsWhole)
  (arg10 : Memref sig .tc .vmem S1024x128 .fp8e4m3) (harg10 : arg10.IsWhole)
  (arg11 : Memref sig .tc .vmem S1x8x128 .f32) (harg11 : arg11.IsWhole)
  (arg12 : Memref sig .tc .vmem S1x128x5120 .fp8e4m3) (harg12 : arg12.IsWhole)
  (arg13 : Memref sig .tc .vmem S1x1x128 .f32) (harg13 : arg13.IsWhole)
  (arg14 : Memref sig .tc .vmem S8x640x128 .fp8e4m3) (harg14 : arg14.IsWhole)
  (arg15 : Memref sig .tc .vmem S8x640x128 .f32) (harg15 : arg15.IsWhole)
  (arg16 : Memref sig .tc .vmem S8x128x640 .bf16) (harg16 : arg16.IsWhole)
  (arg17 : Memref sig .tc .vmem S5248x128 .f32) (harg17 : arg17.IsWhole)
  (arg18 : Memref sig .tc .vmem S1152x128 .f32) (harg18 : arg18.IsWhole)
  (arg19 : Memref sig .tc .vmem S8x128 .f32) (harg19 : arg19.IsWhole)
  (arg20 : Memref sig .tc .vmem S128x5120 .f32) (harg20 : arg20.IsWhole)

/-- Branch 1: the loop over the pairs of key heads. -/
def keyLoop_1 (f3 : BufTy.Contents (Elt Ideal) arg3.view.ty) (f4 : BufTy.Contents (Elt Ideal) arg4.view.ty)
    (k0_h1 : k0_cond1 i = 1#1) (v15 : Vec Ideal S1x3x128 .i32) (v34 : Vec Ideal S64x128 .f32)
    (KC : Fin 8 → Fin 640 → Fin 128 → EReal) (KS : Fin 8 → Fin 640 → EReal) (VT : Fin 8 → Fin 128 → Fin 640 → EReal)
    (B : KeyBlock 0 (by omega) (k0_pay69 v15 v34) (k0_pay70 v15 v34) (rd arg3 f3) (rd arg4 f4) KC KS VT) :
    LI c k0_t1_loop (k0_t1_ok i k0_h1) () (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v15 v34) where
  inv := fun k _ => IKey 0 c arg3 arg4 arg11 arg14 arg15 arg16 arg18 f3 f4 (k0_pay69 v15 v34) (k0_pay70 v15 v34) KC KS VT k
  step := fun k _ => by
    iintro ⟨H3, H4, ⟨%f11, H11, %h11⟩, ⟨%f14, H14, %h14⟩, ⟨%f15, H15, %h15⟩, ⟨%f16, H16, %h16⟩, ⟨%f18, H18, %h18⟩⟩
    have hk : k.val < 4 := k.isLt
    unfold k0_t1_body
    sl_exec_parts
    sl_step
    have y0 := raw_half0 _ _ fun r d => raw4 arg3 harg3 f3 k.val hk (k0_off1_eq k) (k0_off1_inb i k k0_h1) r 0 d
    have y1 := raw_half1 _ _ fun r d => raw4 arg3 harg3 f3 k.val hk (k0_off1_eq k) (k0_off1_inb i k k0_h1) r 1 d
    have z0 := raw_half0 _ _ fun r d => raw4 arg4 harg4 f4 k.val hk (k0_off1_eq k) (k0_off1_inb i k k0_h1) r 0 d
    have z1 := raw_half1 _ _ fun r d => raw4 arg4 harg4 f4 k.val hk (k0_off1_eq k) (k0_off1_inb i k k0_h1) r 1 d
    have a0 := head_scale (k0_pay69 v15 v34) (k0_pay70 v15 v34) _ (row8 (rd arg3 f3)) ⟨2 * k.val, by omega⟩ y0
    have a1 := head_scale (k0_pay69 v15 v34) (k0_pay70 v15 v34) _ (row8 (rd arg3 f3)) ⟨2 * k.val + 1, by omega⟩ y1
    have b0 := head_stage (k0_pay69 v15 v34) (k0_pay70 v15 v34) _ (row8 (rd arg3 f3)) ⟨2 * k.val, by omega⟩ y0
    have b1 := head_stage (k0_pay69 v15 v34) (k0_pay70 v15 v34) _ (row8 (rd arg3 f3)) ⟨2 * k.val + 1, by omega⟩ y1
    isplitl [H3]; · iexact H3
    isplitl [H4]; · iexact H4
    isplitl [H11]
    · iexists _; isplitl [H11]; · iexact H11
      ipureintro
      exact row_trip (b := 0) (k := k.val) (by omega) arg11 f11 (k0_off2_eq k) (k0_off6_eq k) _ _ _ _ _ a0 a1 h11
    isplitl [H14]
    · iexists _; isplitl [H14]; · iexact H14
      ipureintro
      exact key_trip (k := k.val) hk (by omega) arg14 f14 (k0_off3_eq k) (k0_off7_eq k) _ _ _ _ _ (B.wcode _ ⟨2 * k.val, by omega⟩ y0) (B.wcode _ ⟨2 * k.val + 1, by omega⟩ y1) h14
    isplitl [H15]
    · iexists _; isplitl [H15]; · iexact H15
      ipureintro
      exact key_trip (k := k.val) hk (by omega) arg15 f15 (k0_off3_eq k) (k0_off7_eq k) _ _ _ _ (fun h r _ => KS h r) (B.wscale _ ⟨2 * k.val, by omega⟩ y0) (B.wscale _ ⟨2 * k.val + 1, by omega⟩ y1) h15
    isplitl [H16]
    · iexists _; isplitl [H16]; · iexact H16
      ipureintro
      exact val_trip (k := k.val) hk (by omega) arg16 f16 (k0_off5_eq k) (k0_off9_eq k) _ _ _ _ _ (B.wval _ ⟨2 * k.val, by omega⟩ z0) (B.wval _ ⟨2 * k.val + 1, by omega⟩ z1) h16
    · iexists _; isplitl [H18]; · iexact H18
      ipureintro
      exact stage_trip (b := 0) (n := 8) (N := 1152) (q := 9) (k := k.val) (by omega) (by omega) (by omega) arg18 f18 (k0_off4_eq k) (k0_off8_eq k) (k0_off4_inb i k k0_h1) (k0_off8_inb i k k0_h1) spos_9_1 spos_9_1 _ _ (codes (k0_pay69 v15 v34) (k0_pay70 v15 v34) (row8 (rd arg3 f3))) b0 b1 h18

/-- Branch 2: the loop over the pairs of key heads. -/
def keyLoop_2 (f3 : BufTy.Contents (Elt Ideal) arg3.view.ty) (f4 : BufTy.Contents (Elt Ideal) arg4.view.ty)
    (k0_h2 : k0_cond2 i = 1#1) (v15 : Vec Ideal S1x3x128 .i32) (v34 : Vec Ideal S64x128 .f32)
    (KC : Fin 8 → Fin 640 → Fin 128 → EReal) (KS : Fin 8 → Fin 640 → EReal) (VT : Fin 8 → Fin 128 → Fin 640 → EReal)
    (B : KeyBlock 128 (by omega) (k0_pay69 v15 v34) (k0_pay70 v15 v34) (rd arg3 f3) (rd arg4 f4) KC KS VT) :
    LI c k0_t6_loop (k0_t6_ok i k0_h2) () (k0_t6_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h2 v15 v34) where
  inv := fun k _ => IKey 128 c arg3 arg4 arg11 arg14 arg15 arg16 arg18 f3 f4 (k0_pay69 v15 v34) (k0_pay70 v15 v34) KC KS VT k
  step := fun k _ => by
    iintro ⟨H3, H4, ⟨%f11, H11, %h11⟩, ⟨%f14, H14, %h14⟩, ⟨%f15, H15, %h15⟩, ⟨%f16, H16, %h16⟩, ⟨%f18, H18, %h18⟩⟩
    have hk : k.val < 4 := k.isLt
    unfold k0_t6_body
    sl_exec_parts
    sl_step
    have y0 := raw_half0 _ _ fun r d => raw4 arg3 harg3 f3 k.val hk (k0_off29_eq k) (k0_off29_inb i k k0_h2) r 0 d
    have y1 := raw_half1 _ _ fun r d => raw4 arg3 harg3 f3 k.val hk (k0_off29_eq k) (k0_off29_inb i k k0_h2) r 1 d
    have z0 := raw_half0 _ _ fun r d => raw4 arg4 harg4 f4 k.val hk (k0_off29_eq k) (k0_off29_inb i k k0_h2) r 0 d
    have z1 := raw_half1 _ _ fun r d => raw4 arg4 harg4 f4 k.val hk (k0_off29_eq k) (k0_off29_inb i k k0_h2) r 1 d
    have a0 := head_scale (k0_pay69 v15 v34) (k0_pay70 v15 v34) _ (row8 (rd arg3 f3)) ⟨2 * k.val, by omega⟩ y0
    have a1 := head_scale (k0_pay69 v15 v34) (k0_pay70 v15 v34) _ (row8 (rd arg3 f3)) ⟨2 * k.val + 1, by omega⟩ y1
    have b0 := head_stage (k0_pay69 v15 v34) (k0_pay70 v15 v34) _ (row8 (rd arg3 f3)) ⟨2 * k.val, by omega⟩ y0
    have b1 := head_stage (k0_pay69 v15 v34) (k0_pay70 v15 v34) _ (row8 (rd arg3 f3)) ⟨2 * k.val + 1, by omega⟩ y1
    isplitl [H3]; · iexact H3
    isplitl [H4]; · iexact H4
    isplitl [H11]
    · iexists _; isplitl [H11]; · iexact H11
      ipureintro
      exact row_trip (b := 0) (k := k.val) (by omega) arg11 f11 (k0_off30_eq k) (k0_off34_eq k) _ _ _ _ _ a0 a1 h11
    isplitl [H14]
    · iexists _; isplitl [H14]; · iexact H14
      ipureintro
      exact key_trip (k := k.val) hk (by omega) arg14 f14 (k0_off31_eq k) (k0_off35_eq k) _ _ _ _ _ (B.wcode _ ⟨2 * k.val, by omega⟩ y0) (B.wcode _ ⟨2 * k.val + 1, by omega⟩ y1) h14
    isplitl [H15]
    · iexists _; isplitl [H15]; · iexact H15
      ipureintro
      exact key_trip (k := k.val) hk (by omega) arg15 f15 (k0_off31_eq k) (k0_off35_eq k) _ _ _ _ (fun h r _ => KS h r) (B.wscale _ ⟨2 * k.val, by omega⟩ y0) (B.wscale _ ⟨2 * k.val + 1, by omega⟩ y1) h15
    isplitl [H16]
    · iexists _; isplitl [H16]; · iexact H16
      ipureintro
      exact val_trip (k := k.val) hk (by omega) arg16 f16 (k0_off33_eq k) (k0_off37_eq k) _ _ _ _ _ (B.wval _ ⟨2 * k.val, by omega⟩ z0) (B.wval _ ⟨2 * k.val + 1, by omega⟩ z1) h16
    · iexists _; isplitl [H18]; · iexact H18
      ipureintro
      exact stage_trip (b := 0) (n := 8) (N := 1152) (q := 9) (k := k.val) (by omega) (by omega) (by omega) arg18 f18 (k0_off32_eq k) (k0_off36_eq k) (k0_off32_inb i k k0_h2) (k0_off36_inb i k k0_h2) spos_9_1 spos_9_1 _ _ (codes (k0_pay69 v15 v34) (k0_pay70 v15 v34) (row8 (rd arg3 f3))) b0 b1 h18

/-- Branch 3: the loop over the pairs of key heads. -/
def keyLoop_3 (f3 : BufTy.Contents (Elt Ideal) arg3.view.ty) (f4 : BufTy.Contents (Elt Ideal) arg4.view.ty)
    (k0_h3 : k0_cond3 i = 1#1) (v15 : Vec Ideal S1x3x128 .i32) (v34 : Vec Ideal S64x128 .f32)
    (KC : Fin 8 → Fin 640 → Fin 128 → EReal) (KS : Fin 8 → Fin 640 → EReal) (VT : Fin 8 → Fin 128 → Fin 640 → EReal)
    (B : KeyBlock 256 (by omega) (k0_pay69 v15 v34) (k0_pay70 v15 v34) (rd arg3 f3) (rd arg4 f4) KC KS VT) :
    LI c k0_t11_loop (k0_t11_ok i k0_h3) () (k0_t11_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h3 v15 v34) where
  inv := fun k _ => IKey 256 c arg3 arg4 arg11 arg14 arg15 arg16 arg18 f3 f4 (k0_pay69 v15 v34) (k0_pay70 v15 v34) KC KS VT k
  step := fun k _ => by
    iintro ⟨H3, H4, ⟨%f11, H11, %h11⟩, ⟨%f14, H14, %h14⟩, ⟨%f15, H15, %h15⟩, ⟨%f16, H16, %h16⟩, ⟨%f18, H18, %h18⟩⟩
    have hk : k.val < 4 := k.isLt
    unfold k0_t11_body
    sl_exec_parts
    sl_step
    have y0 := raw_half0 _ _ fun r d => raw4 arg3 harg3 f3 k.val hk (k0_off57_eq k) (k0_off57_inb i k k0_h3) r 0 d
    have y1 := raw_half1 _ _ fun r d => raw4 arg3 harg3 f3 k.val hk (k0_off57_eq k) (k0_off57_inb i k k0_h3) r 1 d
    have z0 := raw_half0 _ _ fun r d => raw4 arg4 harg4 f4 k.val hk (k0_off57_eq k) (k0_off57_inb i k k0_h3) r 0 d
    have z1 := raw_half1 _ _ fun r d => raw4 arg4 harg4 f4 k.val hk (k0_off57_eq k) (k0_off57_inb i k k0_h3) r 1 d
    have a0 := head_scale (k0_pay69 v15 v34) (k0_pay70 v15 v34) _ (row8 (rd arg3 f3)) ⟨2 * k.val, by omega⟩ y0
    have a1 := head_scale (k0_pay69 v15 v34) (k0_pay70 v15 v34) _ (row8 (rd arg3 f3)) ⟨2 * k.val + 1, by omega⟩ y1
    have b0 := head_stage (k0_pay69 v15 v34) (k0_pay70 v15 v34) _ (row8 (rd arg3 f3)) ⟨2 * k.val, by omega⟩ y0
    have b1 := head_stage (k0_pay69 v15 v34) (k0_pay70 v15 v34) _ (row8 (rd arg3 f3)) ⟨2 * k.val + 1, by omega⟩ y1
    isplitl [H3]; · iexact H3
    isplitl [H4]; · iexact H4
    isplitl [H11]
    · iexists _; isplitl [H11]; · iexact H11
      ipureintro
      exact row_trip (b := 0) (k := k.val) (by omega) arg11 f11 (k0_off58_eq k) (k0_off62_eq k) _ _ _ _ _ a0 a1 h11
    isplitl [H14]
    · iexists _; isplitl [H14]; · iexact H14
      ipureintro
      exact key_trip (k := k.val) hk (by omega) arg14 f14 (k0_off59_eq k) (k0_off63_eq k) _ _ _ _ _ (B.wcode _ ⟨2 * k.val, by omega⟩ y0) (B.wcode _ ⟨2 * k.val + 1, by omega⟩ y1) h14
    isplitl [H15]
    · iexists _; isplitl [H15]; · iexact H15
      ipureintro
      exact key_trip (k := k.val) hk (by omega) arg15 f15 (k0_off59_eq k) (k0_off63_eq k) _ _ _ _ (fun h r _ => KS h r) (B.wscale _ ⟨2 * k.val, by omega⟩ y0) (B.wscale _ ⟨2 * k.val + 1, by omega⟩ y1) h15
    isplitl [H16]
    · iexists _; isplitl [H16]; · iexact H16
      ipureintro
      exact val_trip (k := k.val) hk (by omega) arg16 f16 (k0_off61_eq k) (k0_off65_eq k) _ _ _ _ _ (B.wval _ ⟨2 * k.val, by omega⟩ z0) (B.wval _ ⟨2 * k.val + 1, by omega⟩ z1) h16
    · iexists _; isplitl [H18]; · iexact H18
      ipureintro
      exact stage_trip (b := 0) (n := 8) (N := 1152) (q := 9) (k := k.val) (by omega) (by omega) (by omega) arg18 f18 (k0_off60_eq k) (k0_off64_eq k) (k0_off60_inb i k k0_h3) (k0_off64_inb i k k0_h3) spos_9_1 spos_9_1 _ _ (codes (k0_pay69 v15 v34) (k0_pay70 v15 v34) (row8 (rd arg3 f3))) b0 b1 h18

/-- Branch 4: the loop over the pairs of key heads. -/
def keyLoop_4 (f3 : BufTy.Contents (Elt Ideal) arg3.view.ty) (f4 : BufTy.Contents (Elt Ideal) arg4.view.ty)
    (k0_h4 : k0_cond4 i = 1#1) (v15 : Vec Ideal S1x3x128 .i32) (v34 : Vec Ideal S64x128 .f32)
    (KC : Fin 8 → Fin 640 → Fin 128 → EReal) (KS : Fin 8 → Fin 640 → EReal) (VT : Fin 8 → Fin 128 → Fin 640 → EReal)
    (B : KeyBlock 384 (by omega) (k0_pay69 v15 v34) (k0_pay70 v15 v34) (rd arg3 f3) (rd arg4 f4) KC KS VT) :
    LI c k0_t16_loop (k0_t16_ok i k0_h4) () (k0_t16_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h4 v15 v34) where
  inv := fun k _ => IKey 384 c arg3 arg4 arg11 arg14 arg15 arg16 arg18 f3 f4 (k0_pay69 v15 v34) (k0_pay70 v15 v34) KC KS VT k
  step := fun k _ => by
    iintro ⟨H3, H4, ⟨%f11, H11, %h11⟩, ⟨%f14, H14, %h14⟩, ⟨%f15, H15, %h15⟩, ⟨%f16, H16, %h16⟩, ⟨%f18, H18, %h18⟩⟩
    have hk : k.val < 4 := k.isLt
    unfold k0_t16_body
    sl_exec_parts
    sl_step
    have y0 := raw_half0 _ _ fun r d => raw4 arg3 harg3 f3 k.val hk (k0_off85_eq k) (k0_off85_inb i k k0_h4) r 0 d
    have y1 := raw_half1 _ _ fun r d => raw4 arg3 harg3 f3 k.val hk (k0_off85_eq k) (k0_off85_inb i k k0_h4) r 1 d
    have z0 := raw_half0 _ _ fun r d => raw4 arg4 harg4 f4 k.val hk (k0_off85_eq k) (k0_off85_inb i k k0_h4) r 0 d
    have z1 := raw_half1 _ _ fun r d => raw4 arg4 harg4 f4 k.val hk (k0_off85_eq k) (k0_off85_inb i k k0_h4) r 1 d
    have a0 := head_scale (k0_pay69 v15 v34) (k0_pay70 v15 v34) _ (row8 (rd arg3 f3)) ⟨2 * k.val, by omega⟩ y0
    have a1 := head_scale (k0_pay69 v15 v34) (k0_pay70 v15 v34) _ (row8 (rd arg3 f3)) ⟨2 * k.val + 1, by omega⟩ y1
    have b0 := head_stage (k0_pay69 v15 v34) (k0_pay70 v15 v34) _ (row8 (rd arg3 f3)) ⟨2 * k.val, by omega⟩ y0
    have b1 := head_stage (k0_pay69 v15 v34) (k0_pay70 v15 v34) _ (row8 (rd arg3 f3)) ⟨2 * k.val + 1, by omega⟩ y1
    isplitl [H3]; · iexact H3
    isplitl [H4]; · iexact H4
    isplitl [H11]
    · iexists _; isplitl [H11]; · iexact H11
      ipureintro
      exact row_trip (b := 0) (k := k.val) (by omega) arg11 f11 (k0_off86_eq k) (k0_off90_eq k) _ _ _ _ _ a0 a1 h11
    isplitl [H14]
    · iexists _; isplitl [H14]; · iexact H14
      ipureintro
      exact key_trip (k := k.val) hk (by omega) arg14 f14 (k0_off87_eq k) (k0_off91_eq k) _ _ _ _ _ (B.wcode _ ⟨2 * k.val, by omega⟩ y0) (B.wcode _ ⟨2 * k.val + 1, by omega⟩ y1) h14
    isplitl [H15]
    · iexists _; isplitl [H15]; · iexact H15
      ipureintro
      exact key_trip (k := k.val) hk (by omega) arg15 f15 (k0_off87_eq k) (k0_off91_eq k) _ _ _ _ (fun h r _ => KS h r) (B.wscale _ ⟨2 * k.val, by omega⟩ y0) (B.wscale _ ⟨2 * k.val + 1, by omega⟩ y1) h15
    isplitl [H16]
    · iexists _; isplitl [H16]; · iexact H16
      ipureintro
      exact val_trip (k := k.val) hk (by omega) arg16 f16 (k0_off89_eq k) (k0_off93_eq k) _ _ _ _ _ (B.wval _ ⟨2 * k.val, by omega⟩ z0) (B.wval _ ⟨2 * k.val + 1, by omega⟩ z1) h16
    · iexists _; isplitl [H18]; · iexact H18
      ipureintro
      exact stage_trip (b := 0) (n := 8) (N := 1152) (q := 9) (k := k.val) (by omega) (by omega) (by omega) arg18 f18 (k0_off88_eq k) (k0_off92_eq k) (k0_off88_inb i k k0_h4) (k0_off92_inb i k k0_h4) spos_9_1 spos_9_1 _ _ (codes (k0_pay69 v15 v34) (k0_pay70 v15 v34) (row8 (rd arg3 f3))) b0 b1 h18

/-- Branch 5: the loop over the pairs of key heads. -/
def keyLoop_5 (f3 : BufTy.Contents (Elt Ideal) arg3.view.ty) (f4 : BufTy.Contents (Elt Ideal) arg4.view.ty)
    (k0_h5 : k0_cond5 i = 1#1) (v15 : Vec Ideal S1x3x128 .i32) (v34 : Vec Ideal S64x128 .f32)
    (KC : Fin 8 → Fin 640 → Fin 128 → EReal) (KS : Fin 8 → Fin 640 → EReal) (VT : Fin 8 → Fin 128 → Fin 640 → EReal)
    (B : KeyBlock 512 (by omega) (k0_pay69 v15 v34) (k0_pay70 v15 v34) (rd arg3 f3) (rd arg4 f4) KC KS VT) :
    LI c k0_t21_loop (k0_t21_ok i k0_h5) () (k0_t21_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h5 v15 v34) where
  inv := fun k _ => IKey 512 c arg3 arg4 arg11 arg14 arg15 arg16 arg18 f3 f4 (k0_pay69 v15 v34) (k0_pay70 v15 v34) KC KS VT k
  step := fun k _ => by
    iintro ⟨H3, H4, ⟨%f11, H11, %h11⟩, ⟨%f14, H14, %h14⟩, ⟨%f15, H15, %h15⟩, ⟨%f16, H16, %h16⟩, ⟨%f18, H18, %h18⟩⟩
    have hk : k.val < 4 := k.isLt
    unfold k0_t21_body
    sl_exec_parts
    sl_step
    have y0 := raw_half0 _ _ fun r d => raw4 arg3 harg3 f3 k.val hk (k0_off113_eq k) (k0_off113_inb i k k0_h5) r 0 d
    have y1 := raw_half1 _ _ fun r d => raw4 arg3 harg3 f3 k.val hk (k0_off113_eq k) (k0_off113_inb i k k0_h5) r 1 d
    have z0 := raw_half0 _ _ fun r d => raw4 arg4 harg4 f4 k.val hk (k0_off113_eq k) (k0_off113_inb i k k0_h5) r 0 d
    have z1 := raw_half1 _ _ fun r d => raw4 arg4 harg4 f4 k.val hk (k0_off113_eq k) (k0_off113_inb i k k0_h5) r 1 d
    have a0 := head_scale (k0_pay69 v15 v34) (k0_pay70 v15 v34) _ (row8 (rd arg3 f3)) ⟨2 * k.val, by omega⟩ y0
    have a1 := head_scale (k0_pay69 v15 v34) (k0_pay70 v15 v34) _ (row8 (rd arg3 f3)) ⟨2 * k.val + 1, by omega⟩ y1
    have b0 := head_stage (k0_pay69 v15 v34) (k0_pay70 v15 v34) _ (row8 (rd arg3 f3)) ⟨2 * k.val, by omega⟩ y0
    have b1 := head_stage (k0_pay69 v15 v34) (k0_pay70 v15 v34) _ (row8 (rd arg3 f3)) ⟨2 * k.val + 1, by omega⟩ y1
    isplitl [H3]; · iexact H3
    isplitl [H4]; · iexact H4
    isplitl [H11]
    · iexists _; isplitl [H11]; · iexact H11
      ipureintro
      exact row_trip (b := 0) (k := k.val) (by omega) arg11 f11 (k0_off114_eq k) (k0_off118_eq k) _ _ _ _ _ a0 a1 h11
    isplitl [H14]
    · iexists _; isplitl [H14]; · iexact H14
      ipureintro
      exact key_trip (k := k.val) hk (by omega) arg14 f14 (k0_off115_eq k) (k0_off119_eq k) _ _ _ _ _ (B.wcode _ ⟨2 * k.val, by omega⟩ y0) (B.wcode _ ⟨2 * k.val + 1, by omega⟩ y1) h14
    isplitl [H15]
    · iexists _; isplitl [H15]; · iexact H15
      ipureintro
      exact key_trip (k := k.val) hk (by omega) arg15 f15 (k0_off115_eq k) (k0_off119_eq k) _ _ _ _ (fun h r _ => KS h r) (B.wscale _ ⟨2 * k.val, by omega⟩ y0) (B.wscale _ ⟨2 * k.val + 1, by omega⟩ y1) h15
    isplitl [H16]
    · iexists _; isplitl [H16]; · iexact H16
      ipureintro
      exact val_trip (k := k.val) hk (by omega) arg16 f16 (k0_off117_eq k) (k0_off121_eq k) _ _ _ _ _ (B.wval _ ⟨2 * k.val, by omega⟩ z0) (B.wval _ ⟨2 * k.val + 1, by omega⟩ z1) h16
    · iexists _; isplitl [H18]; · iexact H18
      ipureintro
      exact stage_trip (b := 0) (n := 8) (N := 1152) (q := 9) (k := k.val) (by omega) (by omega) (by omega) arg18 f18 (k0_off116_eq k) (k0_off120_eq k) (k0_off116_inb i k k0_h5) (k0_off120_inb i k k0_h5) spos_9_1 spos_9_1 _ _ (codes (k0_pay69 v15 v34) (k0_pay70 v15 v34) (row8 (rd arg3 f3))) b0 b1 h18

end Cert.Proof.Val

end
-- ==== Proof.Value.Att.lean ====
module

public import proofs.«01_k».proof.Proof.Value.Spec

/-!
# Two spellings of one softmax

The kernel's softmax, over the keys up to the end of the diagonal block, in powers of two and normalised after the
product with the values; the reference's, over every key, in exponentials and normalised before it. They agree.
-/

@[expose] public section

set_option maxRecDepth 16384

noncomputable section

namespace Cert.Proof.Val

open Idealize.ShloMosaic

/-- The largest entry of a vector. -/
def vmax {n : Nat} (w : Fin n → EReal) : EReal := Finset.univ.fold max ⊥ w

theorem vmax_eq_sup {n : Nat} (w : Fin n → EReal) : vmax w = Finset.univ.sup w := rfl

/-- The kernel's weights, before they are normalised: scores `w` of one query, its scale `a`. -/
def kwt {n : Nat} (w : Fin n → EReal) (a : EReal) (k : Fin n) : EReal := Ideal.exp2 (w k * a - vmax w * a)
/-- The kernel's attention of one query over `n` keys with values `v`. -/
def katt {n : Nat} (w : Fin n → EReal) (a : EReal) (v : Fin n → EReal) : EReal :=
  (∑ k, v k * kwt w a k) * Ideal.div 1 (∑ k, kwt w a k)

/-- The reference's weights. -/
def rwt (s : Fin 640 → EReal) (k : Fin 640) : EReal := Ideal.exp (s k - vmax s)
/-- The reference's attention of one query over every key. -/
def ratt (s v : Fin 640 → EReal) : EReal := ∑ k, v k * Ideal.div (rwt s k) (∑ k, rwt s k)

theorem l2e_eq : l2e = (((Real.log 2)⁻¹ : ℝ) : EReal) := rfl
theorem scoreC_eq : scoreC = (((11863283 / 134217728) * (Real.log 2)⁻¹ : ℝ) : EReal) := rfl

theorem log2_pos : 0 < Real.log 2 := Real.log_pos one_lt_two

theorem l2e_pos : 0 < l2e := by rw [l2e_eq]; exact_mod_cast inv_pos.mpr log2_pos

/-- A power of two of `x / log 2` is the exponential of `x`. -/
theorem exp2_l2e (x : EReal) : Ideal.exp2 (x * l2e) = Ideal.exp x := by
  have h : 0 < (Real.log 2)⁻¹ := inv_pos.mpr log2_pos
  rw [l2e_eq]
  induction x using EReal.rec with
  | bot => rw [EReal.bot_mul_coe_of_pos h]; rfl
  | top => rw [EReal.top_mul_coe_of_pos h]; rfl
  | coe r =>
    rw [← EReal.coe_mul]
    show ((Real.rpow 2 _ : ℝ) : EReal) = ((Real.exp r : ℝ) : EReal)
    congr 1
    show (2 : ℝ) ^ (r * (Real.log 2)⁻¹ : ℝ) = Real.exp r
    rw [Real.rpow_def_of_pos two_pos]
    congr 1
    field_simp

theorem exp_nonneg (x : EReal) : 0 ≤ Ideal.exp x := by
  induction x using EReal.rec with
  | bot => exact le_rfl
  | top => exact le_top
  | coe r => exact EReal.coe_nonneg.mpr (Real.exp_pos r).le

theorem exp2_pos {x : EReal} (h : x ≠ ⊥) : 0 < Ideal.exp2 x := by
  induction x using EReal.rec with
  | bot => exact absurd rfl h
  | top => exact EReal.zero_lt_top
  | coe r => exact EReal.coe_pos.mpr (Real.rpow_pos_of_pos two_pos r)

/-- A factor distributes over a sum when it is nonnegative and finite. -/
theorem sum_mul_of_nonneg {ι : Type} (t : Finset ι) (f : ι → EReal) {c : EReal} (h0 : 0 ≤ c) (ht : c ≠ ⊤) :
    (∑ k ∈ t, f k) * c = ∑ k ∈ t, f k * c := by
  classical
  induction t using Finset.induction_on with
  | empty => simp
  | insert a t ha ih => rw [Finset.sum_insert ha, Finset.sum_insert ha, EReal.right_distrib_of_nonneg_of_ne_top h0 ht, ih]

/-- Keys that carry nothing add nothing to a sum. -/
theorem sum_keys {n : Nat} (hn : n ≤ 640) (f : Fin 640 → EReal) (h : ∀ k : Fin 640, n ≤ k.val → f k = 0) :
    ∑ k : Fin n, f (Fin.castLE hn k) = ∑ k, f k := by
  refine (Finset.sum_map Finset.univ (Fin.castLEEmb hn) f).symm.trans ?_
  refine Finset.sum_subset (Finset.subset_univ _) fun k _ hk => h k ?_
  by_contra hlt
  exact hk (Finset.mem_map.mpr ⟨⟨k.val, by omega⟩, Finset.mem_univ _, Fin.ext rfl⟩)

/-- Nor do masked keys change the largest score. -/
theorem max_keys {n : Nat} (hn : n ≤ 640) (s : Fin 640 → EReal) (h : ∀ k : Fin 640, n ≤ k.val → s k = ⊥) :
    vmax (fun k : Fin n => s (Fin.castLE hn k)) = vmax s := by
  rw [vmax_eq_sup, vmax_eq_sup]
  refine le_antisymm (Finset.sup_le fun k _ => Finset.le_sup (f := s) (Finset.mem_univ _)) (Finset.sup_le fun k _ => ?_)
  by_cases hk : k.val < n
  · exact Finset.le_sup (f := fun k : Fin n => s (Fin.castLE hn k)) (Finset.mem_univ ⟨k.val, hk⟩)
  · rw [h k (by omega)]; exact bot_le

/-- A positive factor moves into the largest entry. -/
theorem vmax_mul {n : Nat} (w : Fin n → EReal) {a : EReal} (ha : 0 < a) : vmax w * a = vmax fun k => w k * a := by
  rw [vmax_eq_sup, vmax_eq_sup]
  exact Finset.comp_sup_eq_sup_comp_of_is_total (fun x => x * a) (fun _ _ h => mul_le_mul_of_nonneg_right h ha.le) (EReal.bot_mul_of_pos ha)

/-- The two spellings agree, when one score is real and none is infinite. -/
theorem katt_eq {n : Nat} (hn : n ≤ 640) (w v' : Fin n → EReal) {a : EReal} (ha : 0 < a) (s v : Fin 640 → EReal)
    (hv : ∀ k, v' k = v (Fin.castLE hn k)) (hw : ∀ k, w k * a = s (Fin.castLE hn k) * l2e)
    (hs : ∀ k : Fin 640, n ≤ k.val → s k = ⊥) (ht : ∀ k, s k ≠ ⊤) (hb : ∃ k, s k ≠ ⊥) : katt w a v' = ratt s v := by
  have hm : vmax w * a = vmax s * l2e := by
    rw [vmax_mul w ha, vmax_mul s l2e_pos]
    simp only [hw]
    exact max_keys hn (fun k => s k * l2e) fun k hk => by simp only [hs k hk]; exact EReal.bot_mul_of_pos l2e_pos
  have hk : ∀ k, kwt w a k = rwt s (Fin.castLE hn k) := fun k => by
    rw [kwt, rwt, hw, hm, ← exp2_l2e]
    congr 1
    rw [sub_eq_add_neg, sub_eq_add_neg, EReal.right_distrib_of_nonneg_of_ne_top l2e_pos.le (by rw [l2e_eq]; exact EReal.coe_ne_top _),
      EReal.neg_mul]
  obtain ⟨k0, hk0⟩ := hb
  obtain ⟨k1, -, hk1⟩ := Finset.exists_mem_eq_sup (Finset.univ : Finset (Fin 640)) ⟨k0, Finset.mem_univ _⟩ s
  have hM : vmax s = s k1 := hk1
  have hMb : vmax s ≠ ⊥ := fun e => hk0 (le_bot_iff.mp (e ▸ Finset.le_sup (f := s) (Finset.mem_univ k0)))
  have hz : ∀ k : Fin 640, n ≤ k.val → rwt s k = 0 := fun k hk => by
    rw [rwt, hs k hk, EReal.bot_sub]; rfl
  have hL : (∑ k, rwt s k) ≠ 0 := by
    have h1 : rwt s k1 = 1 := by
      rw [rwt, hM, EReal.sub_self (ht k1) (hM ▸ hMb)]
      show ((Real.exp 0 : ℝ) : EReal) = 1
      rw [Real.exp_zero]; rfl
    have h2 : (1 : EReal) ≤ ∑ k, rwt s k := h1 ▸ Finset.single_le_sum (f := rwt s) (fun k _ => exp_nonneg _) (Finset.mem_univ k1)
    exact (lt_of_lt_of_le zero_lt_one h2).ne'
  have hL0 : 0 ≤ ∑ k, rwt s k := Finset.sum_nonneg fun k _ => exp_nonneg _
  have hd : ∀ x, Ideal.div x (∑ k, rwt s k) = x * (∑ k, rwt s k)⁻¹ := fun x => if_neg hL
  have e1 : ∑ k, kwt w a k = ∑ k, rwt s k := by
    simp only [hk]; exact sum_keys hn (rwt s) hz
  have e2 : ∑ k, v' k * kwt w a k = ∑ k, v k * rwt s k := by
    simp only [hk, hv]; exact sum_keys hn (fun k => v k * rwt s k) fun k h => by simp only [hz k h, mul_zero]
  rw [katt, ratt, e1, e2, hd, one_mul, sum_mul_of_nonneg _ _ (EReal.inv_nonneg_of_nonneg hL0) (EReal.inv_lt_top _).ne]
  exact Finset.sum_congr rfl fun k _ => by rw [hd, mul_assoc]

/-! ## The scores are real -/

/-- A real extended real. -/
def IsR (x : EReal) : Prop := ∃ r : ℝ, x = (r : EReal)

theorem IsR.mul {x y : EReal} (hx : IsR x) (hy : IsR y) : IsR (x * y) := by
  obtain ⟨r, rfl⟩ := hx; obtain ⟨t, rfl⟩ := hy; exact ⟨r * t, (EReal.coe_mul r t).symm⟩
theorem IsR.sum {ι : Type} (t : Finset ι) (f : ι → EReal) (h : ∀ k, IsR (f k)) : IsR (∑ k ∈ t, f k) := by
  choose g hg using h
  refine ⟨∑ k ∈ t, g k, ?_⟩
  simp only [hg]
  classical
  induction t using Finset.induction_on with
  | empty => simp
  | insert a t ha ih => rw [Finset.sum_insert ha, Finset.sum_insert ha, EReal.coe_add, ih]
theorem isR_zero : IsR 0 := ⟨0, rfl⟩
theorem isR_of {x : EReal} (h1 : x ≠ ⊥) (h2 : x ≠ ⊤) : IsR x := ⟨x.toReal, (EReal.coe_toReal h2 h1).symm⟩

theorem bits_448 : bits 0x43E00000#32 = ((448 : ℝ) : EReal) := by
  simp [bits, Ideal.ofBits, Ideal.ieee, -EReal.coe_mul]; norm_num
theorem bits_neg_448 : bits 0xC3E00000#32 = ((-448 : ℝ) : EReal) := by
  simp [bits, Ideal.ofBits, Ideal.ieee, -EReal.coe_mul]; norm_num

/-- A code is real. -/
theorem kclip_real (x e : EReal) : IsR (kclip x e) := by
  unfold kclip
  rw [bits_448, bits_neg_448]
  refine isR_of (fun h => ?_) (fun h => ?_)
  · rcases min_eq_bot.mp h with h | h
    · exact EReal.coe_ne_bot _ h
    · exact EReal.coe_ne_bot _ (max_eq_bot.mp h).1
  · exact EReal.coe_ne_top _ (min_eq_top.mp h).1

/-- Under an infinite scale every code is zero. -/
theorem kclip_top (x : EReal) : kclip x ⊤ = 0 := by
  unfold kclip
  rw [bits_448, bits_neg_448, show (0 : EReal) - ⊤ = ⊥ by simp, show Ideal.exp2 ⊥ = 0 from rfl, mul_zero]
  rw [max_eq_right (by exact_mod_cast (by norm_num : (-448 : ℝ) ≤ 0)), min_eq_right (by exact_mod_cast (by norm_num : (0 : ℝ) ≤ 448))]

theorem kmax_nonneg {n : Nat} (y : Fin (n + 1) → EReal) : 0 ≤ kmax y := by
  have h : max (y 0) (-(y 0)) ≤ kmax y := Finset.le_sup (f := fun k => max (y k) (-(y k))) (Finset.mem_univ 0)
  refine le_trans ?_ h
  rcases le_total 0 (y 0) with h | h
  · exact le_max_of_le_left h
  · exact le_max_of_le_right (by simpa using EReal.neg_le_neg_iff.mpr h)

theorem c448_real : ∃ r : ℝ, 0 < r ∧ c448 = (r : EReal) := by
  refine ⟨_, ?_, by simp [c448, bits, Ideal.ofBits, Ideal.ieee, -EReal.coe_mul]; rfl⟩
  norm_num

/-- An exponent is real or, for an infinite magnitude, infinite. -/
theorem kexp_cases {a : EReal} (h : 0 ≤ a) : IsR (kexp a) ∨ kexp a = ⊤ := by
  obtain ⟨c, hc, e⟩ := c448_real
  have hl : 0 < (Real.log 2)⁻¹ := inv_pos.mpr log2_pos
  unfold kexp
  split_ifs with h0
  · exact .inl isR_zero
  rw [e, l2e_eq] at *
  induction a using EReal.rec with
  | bot => exact absurd h (by simp)
  | top => right; rw [EReal.top_mul_coe_of_pos hc]; show Ideal.liftRound _ (⊤ * _) + 1 = ⊤; rw [EReal.top_mul_coe_of_pos hl]; show (⊤ : EReal) + 1 = ⊤; rfl
  | coe r =>
    left
    have hr : ¬ r * c ≤ 0 := fun hle => h0 (by
      have : 0 ≤ r := by exact_mod_cast h
      have : r * c = 0 := le_antisymm hle (mul_nonneg this hc.le)
      rw [← EReal.coe_mul, this]; rfl)
    rw [← EReal.coe_mul]
    show IsR (Ideal.liftRound _ ((if r * c ≤ 0 then ⊥ else ((Real.log (r * c) : ℝ) : EReal)) * _) + 1)
    rw [if_neg hr, ← EReal.coe_mul]
    exact ⟨_, (EReal.coe_add (⌊_⌋ : ℤ) 1).symm⟩

theorem hexp_cases (c s : Fin 64 → EReal) (x : Fin 128 → EReal) : IsR (hexp c s x) ∨ hexp c s x = ⊤ := kexp_cases (kmax_nonneg _)

theorem hscale_pos (c s : Fin 64 → EReal) (x : Fin 128 → EReal) : 0 < hscale c s x := by
  refine exp2_pos fun h => ?_
  rcases hexp_cases c s x with ⟨r, e⟩ | e
  · exact EReal.coe_ne_bot r (e ▸ h)
  · exact absurd (e ▸ h) (by simp)

/-- A scale is real, or every code under it is zero. -/
theorem head_cases (c s : Fin 64 → EReal) (x : Fin 128 → EReal) : IsR (hscale c s x) ∨ ∀ d, hcode c s x d = 0 := by
  rcases hexp_cases c s x with ⟨r, e⟩ | e
  · left; rw [hscale, e]; exact ⟨_, rfl⟩
  · right; intro d; rw [hcode, e, kclip_top]

/-- A score. -/
theorem score_real (c s c' s' : Fin 64 → EReal) (x y : Fin 128 → EReal) (z : EReal) (hz : IsR z) :
    IsR ((∑ d, hcode c s x d * hcode c' s' y d) * hscale c' s' y * hscale c s x * z) := by
  refine IsR.mul ?_ hz
  rcases head_cases c s x with h | h
  · rcases head_cases c' s' y with h' | h'
    · exact ((IsR.sum _ _ fun d => (kclip_real _ _).mul (kclip_real _ _)).mul h').mul h
    · simp only [h', mul_zero, Finset.sum_const_zero, zero_mul]; exact isR_zero
  · simp only [h, zero_mul, Finset.sum_const_zero]; exact isR_zero

end Cert.Proof.Val

end
-- ==== Proof.Value.AttVec.lean ====
module

public import proofs.«01_k».proof.Proof.Value.Key
public import proofs.«01_k».proof.Proof.Value.Cat
public import proofs.«01_k».proof.Proof.Value.Att

/-!
# The attention of one head, entry by entry

What the vector steps of the loops over the query heads hold at an index: the masked scores, their weights and the
weighted sum of the values.
-/

@[expose] public section

set_option maxRecDepth 16384

noncomputable section

namespace Cert.Proof.Val

open Cert.KernelIdeal Cert.KernelIdeal.Gen
open Idealize.ShloMosaic Idealize.ShloMosaic.TcCoe Idealize.ShloMosaic.Tactic

theorem bits_zero : bits 0x00000000#32 = 0 := by simp [bits, Ideal.ofBits, Ideal.ieee]

/-- What is added to the score of key `key` of query `q` of the last block. -/
def kbias (key q : Nat) : EReal := if key ≤ q then 0 else ⊥

theorem sle_row : ∀ r q : Fin 128, IntOp.cmpi .sle (BitVec.ofNat 32 r.val) (BitVec.ofNat 32 q.val) = (if r.val ≤ q.val then 1#1 else 0#1) := by
  decide +kernel

theorem pay76_apply (r q : Fin 128) : k0_pay76 (F := Ideal) (ix2 r q) = kbias r.val q.val := by
  pointwise [k0_pay76]
  rw [sle_row, kbias]
  split_ifs with h
  · rfl
  · exact bits_neg_inf

/-- The block of outputs of a head, a row per query. -/
def wO (T : FVec Ideal S128x128 .f32) : FVec Ideal S128x128 .f32 :=
  shapeCast S128x128 (transpose S128x128 [1, 0] T transposes_S128x128_p1_0_S128x128) shapeCasts_S128x128_S128x128
/-- The same, as stored in the output. -/
def wOut (T : FVec Ideal S128x128 .f32) : FVec Ideal S1x128x128 .bf16 :=
  shapeCast S1x128x128 (truncf (F := Ideal) .bf16 (transpose S128x128 [1, 0] T transposes_S128x128_p1_0_S128x128) bitsLt_bf16_f32) shapeCasts_S128x128_S1x128x128

theorem wO_apply (T : FVec Ideal S128x128 .f32) (q d : Fin 128) : wO T (ix2 q d) = T (ix2 d q) := by
  pointwise [wO]
theorem wOut_apply (T : FVec Ideal S128x128 .f32) (q d : Fin 128) : wOut T (ix3 0 q d) = T (ix2 d q) := by
  pointwise [wOut]

/-- A head's scales. -/
def vScl (C S : FVec Ideal S64x128 .f32) (X : FVec Ideal S128x128 .f32) : FVec Ideal S1x128 .f32 := exp2 (vExp (vAmx (vRot C S X)))
/-- A head's codes. -/
def vCod (C S : FVec Ideal S64x128 .f32) (X : FVec Ideal S128x128 .f32) : FVec Ideal S128x128 .f32 := vCode (vRot C S X) (vExp (vAmx (vRot C S X)))

theorem vScl_apply (C S : FVec Ideal S64x128 .f32) (X : FVec Ideal S128x128 .f32) (r : Fin 128) (x : Fin 128 → EReal)
    (hx : ∀ d, X (ix2 d r) = x d) : vScl C S X (ix2 0 r) = hscale (fun j => C (ix2 j r)) (fun j => S (ix2 j r)) x := by
  have h := head_exp C S X r x hx
  pointwise [vScl]
  rw [h]; rfl

/-- The output of query `q` of head `h` at lane `d`, over the first `n` keys, the last block of them masked. -/
def attn (n : Nat) (hn : n ≤ 640) (C S : FVec Ideal S64x128 .f32) (x : Fin 40 → Fin 128 → Fin 128 → EReal)
    (KC : Fin 8 → Fin 640 → Fin 128 → EReal) (KS : Fin 8 → Fin 640 → EReal) (VT : Fin 8 → Fin 128 → Fin 640 → EReal)
    (h : Fin 40) (q d : Fin 128) : EReal :=
  katt (n := n) (fun key => (∑ e, KC ⟨h.val / 5, by omega⟩ (Fin.castLE hn key) e * codes C S x h q e) * KS ⟨h.val / 5, by omega⟩ (Fin.castLE hn key)
      + kbias (key.val + 128) (n + q.val)) (scales C S x h q) (fun key => VT ⟨h.val / 5, by omega⟩ d (Fin.castLE hn key))

/-! ## 128 keys -/

section
variable (Q : FVec Ideal S128x128 .f32) (a : FVec Ideal S1x128 .f32) (kc : FVec Ideal S1x128x128 .fp8e4m3) (ks : FVec Ideal S1x128x128 .f32)
  (v : FVec Ideal S1x128x128 .bf16)

/-- The scores. -/
def vS1 : FVec Ideal S128x128 .f32 :=
  mulf (matmul dot_S128x128_S128x128_S128x128_1_0_0_1_n_n none (shapeCast S128x128 kc shapeCasts_S1x128x128_S128x128) (truncf (F := Ideal) .fp8e4m3 Q bitsLt_fp8e4m3_f32)
    (constant S128x128 .f32 0x00000000#32)) (shapeCast S128x128 ks shapeCasts_S1x128x128_S128x128)
/-- The masked scores. -/
def vW1 : FVec Ideal S128x128 .f32 :=
  addf (vS1 Q kc ks) (k0_pay76 (F := Ideal))
/-- The weights of the masked scores `W`. -/
def vE1 (W : FVec Ideal S128x128 .f32) : FVec Ideal S128x128 .f32 :=
  exp2 (subf (mulf W (broadcastTo S128x128 a broadcasts_S1x128_S128x128))
    (broadcastTo S128x128 (mulf (shapeCast S1x128 (multiReduction .maximumf [0] S128 W 0xFF800000#32 reduces_S128x128_S128 (.inl rfl) rfl) shapeCasts_S128_S1x128) a)
      broadcasts_S1x128_S128x128))
/-- The output of the weights `E`, a column per query. -/
def vO1 (E : FVec Ideal S128x128 .f32) : FVec Ideal S128x128 .f32 :=
  mulf (matmul dot_S128x128_S128x128_S128x128_1_0_0_1_n_n none (shapeCast S128x128 v shapeCasts_S1x128x128_S128x128) (truncf (F := Ideal) .bf16 E bitsLt_bf16_f32)
    (constant S128x128 .f32 0x00000000#32))
    (broadcastTo S128x128 (divf (broadcast S1x128 (Scalar.ofBits .f32 0x3F800000#32))
      (shapeCast S1x128 (multiReduction .add [0] S128 E 0x00000000#32 reduces_S128x128_S128 (.inl rfl) rfl) shapeCasts_S128_S1x128)) broadcasts_S1x128_S128x128)

theorem vS1_apply (key : Fin 128) (q : Fin 128) : vS1 Q kc ks (ix2 key q) = (∑ d, kc (ix3 0 key d) * Q (ix2 d q)) * ks (ix3 0 key q) := by
  pointwise [vS1]

theorem vW1_apply (key : Fin 128) (q : Fin 128) :
    vW1 Q kc ks (ix2 key q) = (∑ d, kc (ix3 0 key d) * Q (ix2 d q)) * ks (ix3 0 key q) + kbias (key.val + 128) (128 + q.val) := by
  pointwise [vW1]
  rw [vS1_apply, pay76_apply]
  congr 1
  simp only [kbias]
  congr 1
  rw [eq_iff_iff]; omega

theorem vE1_apply (W : FVec Ideal S128x128 .f32) (key : Fin 128) (q : Fin 128) :
    vE1 a W (ix2 key q) = kwt (fun k => W (ix2 k q)) (a (ix2 0 q)) key := by
  pointwise [vE1]
  rw [show Ideal.ofBits FTy.f32 4286578688#32 = ⊥ from bits_neg_inf]
  rfl

theorem vO1_apply (E : FVec Ideal S128x128 .f32) (d q : Fin 128) :
    vO1 v E (ix2 d q) = (∑ k, v (ix3 0 d k) * E (ix2 k q)) * Ideal.div 1 (∑ k, E (ix2 k q)) := by
  pointwise [vO1]
end

/-- The outputs of a head, a column per query. -/
def att1 (C S : FVec Ideal S64x128 .f32) (X : FVec Ideal S128x128 .f32) (kc : FVec Ideal S1x128x128 .fp8e4m3) (ks : FVec Ideal S1x128x128 .f32)
    (v : FVec Ideal S1x128x128 .bf16) : FVec Ideal S128x128 .f32 :=
  vO1 v (vE1 (vScl C S X) (vW1 (vCod C S X) kc ks))

theorem att1_apply (C S : FVec Ideal S64x128 .f32) (X : FVec Ideal S128x128 .f32) (x : Fin 40 → Fin 128 → Fin 128 → EReal) (h : Fin 40) (j : Nat) (hj : h.val = j)
    (hx : ∀ d q, X (ix2 d q) = x h q d)
    (KC : Fin 8 → Fin 640 → Fin 128 → EReal) (KS : Fin 8 → Fin 640 → EReal) (VT : Fin 8 → Fin 128 → Fin 640 → EReal)
    (M14 : Memref sig .tc .vmem S8x640x128 .fp8e4m3) (f14 : BufTy.Contents (Elt Ideal) M14.view.ty) (h14 : FKey 0 8 KC (rd M14 f14))
    (M15 : Memref sig .tc .vmem S8x640x128 .f32) (f15 : BufTy.Contents (Elt Ideal) M15.view.ty) (h15 : FKey 0 8 (fun h r _ => KS h r) (rd M15 f15))
    (M16 : Memref sig .tc .vmem S8x128x640 .bf16) (f16 : BufTy.Contents (Elt Ideal) M16.view.ty) (h16 : FVal 0 8 VT (rd M16 f16))
    {o14 o16 : Fin 3 → Nat} (e14 : o14 = ![j / 5, 0, 0]) (e16 : o16 = ![j / 5, 0, 0]) (i14 i15 i16) (d q : Fin 128) :
    att1 C S X (M14.view.readAt (Elt Ideal) (Rect.unit (s := S8x640x128) o14 S1x128x128.size i14).toLoadRect f14)
      (M15.view.readAt (Elt Ideal) (Rect.unit (s := S8x640x128) o14 S1x128x128.size i15).toLoadRect f15)
      (M16.view.readAt (Elt Ideal) (Rect.unit (s := S8x128x640) o16 S1x128x128.size i16).toLoadRect f16) (ix2 d q)
      = attn 128 (by omega) C S x KC KS VT h q d := by
  subst hj
  have hh : h.val / 5 < 8 := by omega
  have r14 : ∀ (key : Fin 128) (e : Fin 128), M14.view.readAt (Elt Ideal) (Rect.unit (s := S8x640x128) o14 S1x128x128.size i14).toLoadRect f14 (ix3 0 key e)
      = KC ⟨h.val / 5, hh⟩ (Fin.castLE (by omega) key) e := fun key e => by
    refine (ld3 M14 f14 e14 i14 0 key e (by simp; omega) (by omega) (by omega)).trans (Eq.trans ?_ (h14 ⟨h.val / 5, hh⟩ (Fin.castLE (by omega) key) e (by have := key.isLt; simp only [Fin.val_castLE]; omega)))
    congr 1; funext t; apply Fin.ext; fin_cases t <;> simp
  have r15 : ∀ (key : Fin 128) (e : Fin 128), M15.view.readAt (Elt Ideal) (Rect.unit (s := S8x640x128) o14 S1x128x128.size i15).toLoadRect f15 (ix3 0 key e)
      = KS ⟨h.val / 5, hh⟩ (Fin.castLE (by omega) key) := fun key e => by
    refine (ld3 M15 f15 e14 i15 0 key e (by simp; omega) (by omega) (by omega)).trans (Eq.trans ?_ (h15 ⟨h.val / 5, hh⟩ (Fin.castLE (by omega) key) e (by have := key.isLt; simp only [Fin.val_castLE]; omega)))
    congr 1; funext t; apply Fin.ext; fin_cases t <;> simp
  have r16 : ∀ (e : Fin 128) (key : Fin 128), M16.view.readAt (Elt Ideal) (Rect.unit (s := S8x128x640) o16 S1x128x128.size i16).toLoadRect f16 (ix3 0 e key)
      = VT ⟨h.val / 5, hh⟩ e (Fin.castLE (by omega) key) := fun e key => by
    refine (ld3 M16 f16 e16 i16 0 e key (by simp; omega) (by omega) (by omega)).trans (Eq.trans ?_ (h16 ⟨h.val / 5, hh⟩ e (Fin.castLE (by omega) key) (by have := key.isLt; simp only [Fin.val_castLE]; omega)))
    congr 1; funext t; apply Fin.ext; fin_cases t <;> simp
  rw [att1, vO1_apply, attn, katt]
  simp only [vE1_apply, vW1_apply, r14, r15, r16, vScl_apply C S X q (x h q) fun d => hx d q,
    show ∀ e, vCod C S X (ix2 e q) = codes C S x h q e from fun e => head_code C S X q (x h q) (fun d => hx d q) e]
  rfl

/-! ## 256 keys -/

section
variable (Q : FVec Ideal S128x128 .f32) (a : FVec Ideal S1x128 .f32) (kc : FVec Ideal S1x256x128 .fp8e4m3) (ks : FVec Ideal S1x256x128 .f32)
  (v : FVec Ideal S1x128x256 .bf16)

/-- The scores. -/
def vS2 : FVec Ideal S256x128 .f32 :=
  mulf (matmul dot_S256x128_S128x128_S256x128_1_0_0_1_n_n none (shapeCast S256x128 kc shapeCasts_S1x256x128_S256x128) (truncf (F := Ideal) .fp8e4m3 Q bitsLt_fp8e4m3_f32)
    (constant S256x128 .f32 0x00000000#32)) (shapeCast S256x128 ks shapeCasts_S1x256x128_S256x128)
/-- The masked scores. -/
def vW2 : FVec Ideal S256x128 .f32 :=
  concatenate S256x128 0 [⟨S128x128, extractStridedSlice S128x128 ![0, 0] (vS2 Q kc ks) slices_S256x128_o0_0_S128x128⟩,
    ⟨S128x128, addf (extractStridedSlice S128x128 ![128, 0] (vS2 Q kc ks) slices_S256x128_o128_0_S128x128) (k0_pay76 (F := Ideal))⟩]
    concatenates_S128x128_S128x128_S256x128_d0
/-- The weights of the masked scores `W`. -/
def vE2 (W : FVec Ideal S256x128 .f32) : FVec Ideal S256x128 .f32 :=
  exp2 (subf (mulf W (broadcastTo S256x128 a broadcasts_S1x128_S256x128))
    (broadcastTo S256x128 (mulf (shapeCast S1x128 (multiReduction .maximumf [0] S128 W 0xFF800000#32 reduces_S256x128_S128 (.inl rfl) rfl) shapeCasts_S128_S1x128) a)
      broadcasts_S1x128_S256x128))
/-- The output of the weights `E`, a column per query. -/
def vO2 (E : FVec Ideal S256x128 .f32) : FVec Ideal S128x128 .f32 :=
  mulf (matmul dot_S128x256_S256x128_S128x128_1_0_0_1_n_n none (shapeCast S128x256 v shapeCasts_S1x128x256_S128x256) (truncf (F := Ideal) .bf16 E bitsLt_bf16_f32)
    (constant S128x128 .f32 0x00000000#32))
    (broadcastTo S128x128 (divf (broadcast S1x128 (Scalar.ofBits .f32 0x3F800000#32))
      (shapeCast S1x128 (multiReduction .add [0] S128 E 0x00000000#32 reduces_S256x128_S128 (.inl rfl) rfl) shapeCasts_S128_S1x128)) broadcasts_S1x128_S128x128)

theorem vS2_apply (key : Fin 256) (q : Fin 128) : vS2 Q kc ks (ix2 key q) = (∑ d, kc (ix3 0 key d) * Q (ix2 d q)) * ks (ix3 0 key q) := by
  pointwise [vS2]

theorem vW2_apply (key : Fin 256) (q : Fin 128) :
    vW2 Q kc ks (ix2 key q) = (∑ d, kc (ix3 0 key d) * Q (ix2 d q)) * ks (ix3 0 key q) + kbias (key.val + 128) (256 + q.val) := by
  have hs := fun key => vS2_apply Q kc ks key q
  pointwise [vW2]
  have hk := key.isLt
  by_cases h : key.val < 128
  · rw [dif_pos h, ← hs, kbias, if_pos (by omega), add_zero]
  · rw [dif_neg h, ← hs]
    have e : (⟨128 + (key.val - 128), by omega⟩ : Fin 256) = key := Fin.ext (by simp only; omega)
    rw [e, pay76_apply]
    congr 1
    simp only [kbias]
    congr 1
    rw [eq_iff_iff]; omega

theorem vE2_apply (W : FVec Ideal S256x128 .f32) (key : Fin 256) (q : Fin 128) :
    vE2 a W (ix2 key q) = kwt (fun k => W (ix2 k q)) (a (ix2 0 q)) key := by
  pointwise [vE2]
  rw [show Ideal.ofBits FTy.f32 4286578688#32 = ⊥ from bits_neg_inf]
  rfl

theorem vO2_apply (E : FVec Ideal S256x128 .f32) (d q : Fin 128) :
    vO2 v E (ix2 d q) = (∑ k, v (ix3 0 d k) * E (ix2 k q)) * Ideal.div 1 (∑ k, E (ix2 k q)) := by
  pointwise [vO2]
end

/-- The outputs of a head, a column per query. -/
def att2 (C S : FVec Ideal S64x128 .f32) (X : FVec Ideal S128x128 .f32) (kc : FVec Ideal S1x256x128 .fp8e4m3) (ks : FVec Ideal S1x256x128 .f32)
    (v : FVec Ideal S1x128x256 .bf16) : FVec Ideal S128x128 .f32 :=
  vO2 v (vE2 (vScl C S X) (vW2 (vCod C S X) kc ks))

theorem att2_apply (C S : FVec Ideal S64x128 .f32) (X : FVec Ideal S128x128 .f32) (x : Fin 40 → Fin 128 → Fin 128 → EReal) (h : Fin 40) (j : Nat) (hj : h.val = j)
    (hx : ∀ d q, X (ix2 d q) = x h q d)
    (KC : Fin 8 → Fin 640 → Fin 128 → EReal) (KS : Fin 8 → Fin 640 → EReal) (VT : Fin 8 → Fin 128 → Fin 640 → EReal)
    (M14 : Memref sig .tc .vmem S8x640x128 .fp8e4m3) (f14 : BufTy.Contents (Elt Ideal) M14.view.ty) (h14 : FKey 128 8 KC (rd M14 f14))
    (M15 : Memref sig .tc .vmem S8x640x128 .f32) (f15 : BufTy.Contents (Elt Ideal) M15.view.ty) (h15 : FKey 128 8 (fun h r _ => KS h r) (rd M15 f15))
    (M16 : Memref sig .tc .vmem S8x128x640 .bf16) (f16 : BufTy.Contents (Elt Ideal) M16.view.ty) (h16 : FVal 128 8 VT (rd M16 f16))
    {o14 o16 : Fin 3 → Nat} (e14 : o14 = ![j / 5, 0, 0]) (e16 : o16 = ![j / 5, 0, 0]) (i14 i15 i16) (d q : Fin 128) :
    att2 C S X (M14.view.readAt (Elt Ideal) (Rect.unit (s := S8x640x128) o14 S1x256x128.size i14).toLoadRect f14)
      (M15.view.readAt (Elt Ideal) (Rect.unit (s := S8x640x128) o14 S1x256x128.size i15).toLoadRect f15)
      (M16.view.readAt (Elt Ideal) (Rect.unit (s := S8x128x640) o16 S1x128x256.size i16).toLoadRect f16) (ix2 d q)
      = attn 256 (by omega) C S x KC KS VT h q d := by
  subst hj
  have hh : h.val / 5 < 8 := by omega
  have r14 : ∀ (key : Fin 256) (e : Fin 128), M14.view.readAt (Elt Ideal) (Rect.unit (s := S8x640x128) o14 S1x256x128.size i14).toLoadRect f14 (ix3 0 key e)
      = KC ⟨h.val / 5, hh⟩ (Fin.castLE (by omega) key) e := fun key e => by
    refine (ld3 M14 f14 e14 i14 0 key e (by simp; omega) (by omega) (by omega)).trans (Eq.trans ?_ (h14 ⟨h.val / 5, hh⟩ (Fin.castLE (by omega) key) e (by have := key.isLt; simp only [Fin.val_castLE]; omega)))
    congr 1; funext t; apply Fin.ext; fin_cases t <;> simp
  have r15 : ∀ (key : Fin 256) (e : Fin 128), M15.view.readAt (Elt Ideal) (Rect.unit (s := S8x640x128) o14 S1x256x128.size i15).toLoadRect f15 (ix3 0 key e)
      = KS ⟨h.val / 5, hh⟩ (Fin.castLE (by omega) key) := fun key e => by
    refine (ld3 M15 f15 e14 i15 0 key e (by simp; omega) (by omega) (by omega)).trans (Eq.trans ?_ (h15 ⟨h.val / 5, hh⟩ (Fin.castLE (by omega) key) e (by have := key.isLt; simp only [Fin.val_castLE]; omega)))
    congr 1; funext t; apply Fin.ext; fin_cases t <;> simp
  have r16 : ∀ (e : Fin 128) (key : Fin 256), M16.view.readAt (Elt Ideal) (Rect.unit (s := S8x128x640) o16 S1x128x256.size i16).toLoadRect f16 (ix3 0 e key)
      = VT ⟨h.val / 5, hh⟩ e (Fin.castLE (by omega) key) := fun e key => by
    refine (ld3 M16 f16 e16 i16 0 e key (by simp; omega) (by omega) (by omega)).trans (Eq.trans ?_ (h16 ⟨h.val / 5, hh⟩ e (Fin.castLE (by omega) key) (by have := key.isLt; simp only [Fin.val_castLE]; omega)))
    congr 1; funext t; apply Fin.ext; fin_cases t <;> simp
  rw [att2, vO2_apply, attn, katt]
  simp only [vE2_apply, vW2_apply, r14, r15, r16, vScl_apply C S X q (x h q) fun d => hx d q,
    show ∀ e, vCod C S X (ix2 e q) = codes C S x h q e from fun e => head_code C S X q (x h q) (fun d => hx d q) e]
  rfl

/-! ## 384 keys -/

section
variable (Q : FVec Ideal S128x128 .f32) (a : FVec Ideal S1x128 .f32) (kc : FVec Ideal S1x384x128 .fp8e4m3) (ks : FVec Ideal S1x384x128 .f32)
  (v : FVec Ideal S1x128x384 .bf16)

/-- The scores. -/
def vS3 : FVec Ideal S384x128 .f32 :=
  mulf (matmul dot_S384x128_S128x128_S384x128_1_0_0_1_n_n none (shapeCast S384x128 kc shapeCasts_S1x384x128_S384x128) (truncf (F := Ideal) .fp8e4m3 Q bitsLt_fp8e4m3_f32)
    (constant S384x128 .f32 0x00000000#32)) (shapeCast S384x128 ks shapeCasts_S1x384x128_S384x128)
/-- The masked scores. -/
def vW3 : FVec Ideal S384x128 .f32 :=
  concatenate S384x128 0 [⟨S256x128, extractStridedSlice S256x128 ![0, 0] (vS3 Q kc ks) slices_S384x128_o0_0_S256x128⟩,
    ⟨S128x128, addf (extractStridedSlice S128x128 ![256, 0] (vS3 Q kc ks) slices_S384x128_o256_0_S128x128) (k0_pay76 (F := Ideal))⟩]
    concatenates_S256x128_S128x128_S384x128_d0
/-- The weights of the masked scores `W`. -/
def vE3 (W : FVec Ideal S384x128 .f32) : FVec Ideal S384x128 .f32 :=
  exp2 (subf (mulf W (broadcastTo S384x128 a broadcasts_S1x128_S384x128))
    (broadcastTo S384x128 (mulf (shapeCast S1x128 (multiReduction .maximumf [0] S128 W 0xFF800000#32 reduces_S384x128_S128 (.inl rfl) rfl) shapeCasts_S128_S1x128) a)
      broadcasts_S1x128_S384x128))
/-- The output of the weights `E`, a column per query. -/
def vO3 (E : FVec Ideal S384x128 .f32) : FVec Ideal S128x128 .f32 :=
  mulf (matmul dot_S128x384_S384x128_S128x128_1_0_0_1_n_n none (shapeCast S128x384 v shapeCasts_S1x128x384_S128x384) (truncf (F := Ideal) .bf16 E bitsLt_bf16_f32)
    (constant S128x128 .f32 0x00000000#32))
    (broadcastTo S128x128 (divf (broadcast S1x128 (Scalar.ofBits .f32 0x3F800000#32))
      (shapeCast S1x128 (multiReduction .add [0] S128 E 0x00000000#32 reduces_S384x128_S128 (.inl rfl) rfl) shapeCasts_S128_S1x128)) broadcasts_S1x128_S128x128)

theorem vS3_apply (key : Fin 384) (q : Fin 128) : vS3 Q kc ks (ix2 key q) = (∑ d, kc (ix3 0 key d) * Q (ix2 d q)) * ks (ix3 0 key q) := by
  pointwise [vS3]

theorem vW3_apply (key : Fin 384) (q : Fin 128) :
    vW3 Q kc ks (ix2 key q) = (∑ d, kc (ix3 0 key d) * Q (ix2 d q)) * ks (ix3 0 key q) + kbias (key.val + 128) (384 + q.val) := by
  have hs := fun key => vS3_apply Q kc ks key q
  pointwise [vW3]
  have hk := key.isLt
  by_cases h : key.val < 256
  · rw [dif_pos h, ← hs, kbias, if_pos (by omega), add_zero]
  · rw [dif_neg h, ← hs]
    have e : (⟨256 + (key.val - 256), by omega⟩ : Fin 384) = key := Fin.ext (by simp only; omega)
    rw [e, pay76_apply]
    congr 1
    simp only [kbias]
    congr 1
    rw [eq_iff_iff]; omega

theorem vE3_apply (W : FVec Ideal S384x128 .f32) (key : Fin 384) (q : Fin 128) :
    vE3 a W (ix2 key q) = kwt (fun k => W (ix2 k q)) (a (ix2 0 q)) key := by
  pointwise [vE3]
  rw [show Ideal.ofBits FTy.f32 4286578688#32 = ⊥ from bits_neg_inf]
  rfl

theorem vO3_apply (E : FVec Ideal S384x128 .f32) (d q : Fin 128) :
    vO3 v E (ix2 d q) = (∑ k, v (ix3 0 d k) * E (ix2 k q)) * Ideal.div 1 (∑ k, E (ix2 k q)) := by
  pointwise [vO3]
end

/-- The outputs of a head, a column per query. -/
def att3 (C S : FVec Ideal S64x128 .f32) (X : FVec Ideal S128x128 .f32) (kc : FVec Ideal S1x384x128 .fp8e4m3) (ks : FVec Ideal S1x384x128 .f32)
    (v : FVec Ideal S1x128x384 .bf16) : FVec Ideal S128x128 .f32 :=
  vO3 v (vE3 (vScl C S X) (vW3 (vCod C S X) kc ks))

theorem att3_apply (C S : FVec Ideal S64x128 .f32) (X : FVec Ideal S128x128 .f32) (x : Fin 40 → Fin 128 → Fin 128 → EReal) (h : Fin 40) (j : Nat) (hj : h.val = j)
    (hx : ∀ d q, X (ix2 d q) = x h q d)
    (KC : Fin 8 → Fin 640 → Fin 128 → EReal) (KS : Fin 8 → Fin 640 → EReal) (VT : Fin 8 → Fin 128 → Fin 640 → EReal)
    (M14 : Memref sig .tc .vmem S8x640x128 .fp8e4m3) (f14 : BufTy.Contents (Elt Ideal) M14.view.ty) (h14 : FKey 256 8 KC (rd M14 f14))
    (M15 : Memref sig .tc .vmem S8x640x128 .f32) (f15 : BufTy.Contents (Elt Ideal) M15.view.ty) (h15 : FKey 256 8 (fun h r _ => KS h r) (rd M15 f15))
    (M16 : Memref sig .tc .vmem S8x128x640 .bf16) (f16 : BufTy.Contents (Elt Ideal) M16.view.ty) (h16 : FVal 256 8 VT (rd M16 f16))
    {o14 o16 : Fin 3 → Nat} (e14 : o14 = ![j / 5, 0, 0]) (e16 : o16 = ![j / 5, 0, 0]) (i14 i15 i16) (d q : Fin 128) :
    att3 C S X (M14.view.readAt (Elt Ideal) (Rect.unit (s := S8x640x128) o14 S1x384x128.size i14).toLoadRect f14)
      (M15.view.readAt (Elt Ideal) (Rect.unit (s := S8x640x128) o14 S1x384x128.size i15).toLoadRect f15)
      (M16.view.readAt (Elt Ideal) (Rect.unit (s := S8x128x640) o16 S1x128x384.size i16).toLoadRect f16) (ix2 d q)
      = attn 384 (by omega) C S x KC KS VT h q d := by
  subst hj
  have hh : h.val / 5 < 8 := by omega
  have r14 : ∀ (key : Fin 384) (e : Fin 128), M14.view.readAt (Elt Ideal) (Rect.unit (s := S8x640x128) o14 S1x384x128.size i14).toLoadRect f14 (ix3 0 key e)
      = KC ⟨h.val / 5, hh⟩ (Fin.castLE (by omega) key) e := fun key e => by
    refine (ld3 M14 f14 e14 i14 0 key e (by simp; omega) (by omega) (by omega)).trans (Eq.trans ?_ (h14 ⟨h.val / 5, hh⟩ (Fin.castLE (by omega) key) e (by have := key.isLt; simp only [Fin.val_castLE]; omega)))
    congr 1; funext t; apply Fin.ext; fin_cases t <;> simp
  have r15 : ∀ (key : Fin 384) (e : Fin 128), M15.view.readAt (Elt Ideal) (Rect.unit (s := S8x640x128) o14 S1x384x128.size i15).toLoadRect f15 (ix3 0 key e)
      = KS ⟨h.val / 5, hh⟩ (Fin.castLE (by omega) key) := fun key e => by
    refine (ld3 M15 f15 e14 i15 0 key e (by simp; omega) (by omega) (by omega)).trans (Eq.trans ?_ (h15 ⟨h.val / 5, hh⟩ (Fin.castLE (by omega) key) e (by have := key.isLt; simp only [Fin.val_castLE]; omega)))
    congr 1; funext t; apply Fin.ext; fin_cases t <;> simp
  have r16 : ∀ (e : Fin 128) (key : Fin 384), M16.view.readAt (Elt Ideal) (Rect.unit (s := S8x128x640) o16 S1x128x384.size i16).toLoadRect f16 (ix3 0 e key)
      = VT ⟨h.val / 5, hh⟩ e (Fin.castLE (by omega) key) := fun e key => by
    refine (ld3 M16 f16 e16 i16 0 e key (by simp; omega) (by omega) (by omega)).trans (Eq.trans ?_ (h16 ⟨h.val / 5, hh⟩ e (Fin.castLE (by omega) key) (by have := key.isLt; simp only [Fin.val_castLE]; omega)))
    congr 1; funext t; apply Fin.ext; fin_cases t <;> simp
  rw [att3, vO3_apply, attn, katt]
  simp only [vE3_apply, vW3_apply, r14, r15, r16, vScl_apply C S X q (x h q) fun d => hx d q,
    show ∀ e, vCod C S X (ix2 e q) = codes C S x h q e from fun e => head_code C S X q (x h q) (fun d => hx d q) e]
  rfl

/-! ## 512 keys -/

section
variable (Q : FVec Ideal S128x128 .f32) (a : FVec Ideal S1x128 .f32) (kc : FVec Ideal S1x512x128 .fp8e4m3) (ks : FVec Ideal S1x512x128 .f32)
  (v : FVec Ideal S1x128x512 .bf16)

/-- The scores. -/
def vS4 : FVec Ideal S512x128 .f32 :=
  mulf (matmul dot_S512x128_S128x128_S512x128_1_0_0_1_n_n none (shapeCast S512x128 kc shapeCasts_S1x512x128_S512x128) (truncf (F := Ideal) .fp8e4m3 Q bitsLt_fp8e4m3_f32)
    (constant S512x128 .f32 0x00000000#32)) (shapeCast S512x128 ks shapeCasts_S1x512x128_S512x128)
/-- The masked scores. -/
def vW4 : FVec Ideal S512x128 .f32 :=
  concatenate S512x128 0 [⟨S384x128, extractStridedSlice S384x128 ![0, 0] (vS4 Q kc ks) slices_S512x128_o0_0_S384x128⟩,
    ⟨S128x128, addf (extractStridedSlice S128x128 ![384, 0] (vS4 Q kc ks) slices_S512x128_o384_0_S128x128) (k0_pay76 (F := Ideal))⟩]
    concatenates_S384x128_S128x128_S512x128_d0
/-- The weights of the masked scores `W`. -/
def vE4 (W : FVec Ideal S512x128 .f32) : FVec Ideal S512x128 .f32 :=
  exp2 (subf (mulf W (broadcastTo S512x128 a broadcasts_S1x128_S512x128))
    (broadcastTo S512x128 (mulf (shapeCast S1x128 (multiReduction .maximumf [0] S128 W 0xFF800000#32 reduces_S512x128_S128 (.inl rfl) rfl) shapeCasts_S128_S1x128) a)
      broadcasts_S1x128_S512x128))
/-- The output of the weights `E`, a column per query. -/
def vO4 (E : FVec Ideal S512x128 .f32) : FVec Ideal S128x128 .f32 :=
  mulf (matmul dot_S128x512_S512x128_S128x128_1_0_0_1_n_n none (shapeCast S128x512 v shapeCasts_S1x128x512_S128x512) (truncf (F := Ideal) .bf16 E bitsLt_bf16_f32)
    (constant S128x128 .f32 0x00000000#32))
    (broadcastTo S128x128 (divf (broadcast S1x128 (Scalar.ofBits .f32 0x3F800000#32))
      (shapeCast S1x128 (multiReduction .add [0] S128 E 0x00000000#32 reduces_S512x128_S128 (.inl rfl) rfl) shapeCasts_S128_S1x128)) broadcasts_S1x128_S128x128)

theorem vS4_apply (key : Fin 512) (q : Fin 128) : vS4 Q kc ks (ix2 key q) = (∑ d, kc (ix3 0 key d) * Q (ix2 d q)) * ks (ix3 0 key q) := by
  pointwise [vS4]

theorem vW4_apply (key : Fin 512) (q : Fin 128) :
    vW4 Q kc ks (ix2 key q) = (∑ d, kc (ix3 0 key d) * Q (ix2 d q)) * ks (ix3 0 key q) + kbias (key.val + 128) (512 + q.val) := by
  have hs := fun key => vS4_apply Q kc ks key q
  pointwise [vW4]
  have hk := key.isLt
  by_cases h : key.val < 384
  · rw [dif_pos h, ← hs, kbias, if_pos (by omega), add_zero]
  · rw [dif_neg h, ← hs]
    have e : (⟨384 + (key.val - 384), by omega⟩ : Fin 512) = key := Fin.ext (by simp only; omega)
    rw [e, pay76_apply]
    congr 1
    simp only [kbias]
    congr 1
    rw [eq_iff_iff]; omega

theorem vE4_apply (W : FVec Ideal S512x128 .f32) (key : Fin 512) (q : Fin 128) :
    vE4 a W (ix2 key q) = kwt (fun k => W (ix2 k q)) (a (ix2 0 q)) key := by
  pointwise [vE4]
  rw [show Ideal.ofBits FTy.f32 4286578688#32 = ⊥ from bits_neg_inf]
  rfl

theorem vO4_apply (E : FVec Ideal S512x128 .f32) (d q : Fin 128) :
    vO4 v E (ix2 d q) = (∑ k, v (ix3 0 d k) * E (ix2 k q)) * Ideal.div 1 (∑ k, E (ix2 k q)) := by
  pointwise [vO4]
end

/-- The outputs of a head, a column per query. -/
def att4 (C S : FVec Ideal S64x128 .f32) (X : FVec Ideal S128x128 .f32) (kc : FVec Ideal S1x512x128 .fp8e4m3) (ks : FVec Ideal S1x512x128 .f32)
    (v : FVec Ideal S1x128x512 .bf16) : FVec Ideal S128x128 .f32 :=
  vO4 v (vE4 (vScl C S X) (vW4 (vCod C S X) kc ks))

theorem att4_apply (C S : FVec Ideal S64x128 .f32) (X : FVec Ideal S128x128 .f32) (x : Fin 40 → Fin 128 → Fin 128 → EReal) (h : Fin 40) (j : Nat) (hj : h.val = j)
    (hx : ∀ d q, X (ix2 d q) = x h q d)
    (KC : Fin 8 → Fin 640 → Fin 128 → EReal) (KS : Fin 8 → Fin 640 → EReal) (VT : Fin 8 → Fin 128 → Fin 640 → EReal)
    (M14 : Memref sig .tc .vmem S8x640x128 .fp8e4m3) (f14 : BufTy.Contents (Elt Ideal) M14.view.ty) (h14 : FKey 384 8 KC (rd M14 f14))
    (M15 : Memref sig .tc .vmem S8x640x128 .f32) (f15 : BufTy.Contents (Elt Ideal) M15.view.ty) (h15 : FKey 384 8 (fun h r _ => KS h r) (rd M15 f15))
    (M16 : Memref sig .tc .vmem S8x128x640 .bf16) (f16 : BufTy.Contents (Elt Ideal) M16.view.ty) (h16 : FVal 384 8 VT (rd M16 f16))
    {o14 o16 : Fin 3 → Nat} (e14 : o14 = ![j / 5, 0, 0]) (e16 : o16 = ![j / 5, 0, 0]) (i14 i15 i16) (d q : Fin 128) :
    att4 C S X (M14.view.readAt (Elt Ideal) (Rect.unit (s := S8x640x128) o14 S1x512x128.size i14).toLoadRect f14)
      (M15.view.readAt (Elt Ideal) (Rect.unit (s := S8x640x128) o14 S1x512x128.size i15).toLoadRect f15)
      (M16.view.readAt (Elt Ideal) (Rect.unit (s := S8x128x640) o16 S1x128x512.size i16).toLoadRect f16) (ix2 d q)
      = attn 512 (by omega) C S x KC KS VT h q d := by
  subst hj
  have hh : h.val / 5 < 8 := by omega
  have r14 : ∀ (key : Fin 512) (e : Fin 128), M14.view.readAt (Elt Ideal) (Rect.unit (s := S8x640x128) o14 S1x512x128.size i14).toLoadRect f14 (ix3 0 key e)
      = KC ⟨h.val / 5, hh⟩ (Fin.castLE (by omega) key) e := fun key e => by
    refine (ld3 M14 f14 e14 i14 0 key e (by simp; omega) (by omega) (by omega)).trans (Eq.trans ?_ (h14 ⟨h.val / 5, hh⟩ (Fin.castLE (by omega) key) e (by have := key.isLt; simp only [Fin.val_castLE]; omega)))
    congr 1; funext t; apply Fin.ext; fin_cases t <;> simp
  have r15 : ∀ (key : Fin 512) (e : Fin 128), M15.view.readAt (Elt Ideal) (Rect.unit (s := S8x640x128) o14 S1x512x128.size i15).toLoadRect f15 (ix3 0 key e)
      = KS ⟨h.val / 5, hh⟩ (Fin.castLE (by omega) key) := fun key e => by
    refine (ld3 M15 f15 e14 i15 0 key e (by simp; omega) (by omega) (by omega)).trans (Eq.trans ?_ (h15 ⟨h.val / 5, hh⟩ (Fin.castLE (by omega) key) e (by have := key.isLt; simp only [Fin.val_castLE]; omega)))
    congr 1; funext t; apply Fin.ext; fin_cases t <;> simp
  have r16 : ∀ (e : Fin 128) (key : Fin 512), M16.view.readAt (Elt Ideal) (Rect.unit (s := S8x128x640) o16 S1x128x512.size i16).toLoadRect f16 (ix3 0 e key)
      = VT ⟨h.val / 5, hh⟩ e (Fin.castLE (by omega) key) := fun e key => by
    refine (ld3 M16 f16 e16 i16 0 e key (by simp; omega) (by omega) (by omega)).trans (Eq.trans ?_ (h16 ⟨h.val / 5, hh⟩ e (Fin.castLE (by omega) key) (by have := key.isLt; simp only [Fin.val_castLE]; omega)))
    congr 1; funext t; apply Fin.ext; fin_cases t <;> simp
  rw [att4, vO4_apply, attn, katt]
  simp only [vE4_apply, vW4_apply, r14, r15, r16, vScl_apply C S X q (x h q) fun d => hx d q,
    show ∀ e, vCod C S X (ix2 e q) = codes C S x h q e from fun e => head_code C S X q (x h q) (fun d => hx d q) e]
  rfl

/-! ## 640 keys -/

section
variable (Q : FVec Ideal S128x128 .f32) (a : FVec Ideal S1x128 .f32) (kc : FVec Ideal S1x640x128 .fp8e4m3) (ks : FVec Ideal S1x640x128 .f32)
  (v : FVec Ideal S1x128x640 .bf16)

/-- The scores. -/
def vS5 : FVec Ideal S640x128 .f32 :=
  mulf (matmul dot_S640x128_S128x128_S640x128_1_0_0_1_n_n none (shapeCast S640x128 kc shapeCasts_S1x640x128_S640x128) (truncf (F := Ideal) .fp8e4m3 Q bitsLt_fp8e4m3_f32)
    (constant S640x128 .f32 0x00000000#32)) (shapeCast S640x128 ks shapeCasts_S1x640x128_S640x128)
/-- The masked scores. -/
def vW5 : FVec Ideal S640x128 .f32 :=
  concatenate S640x128 0 [⟨S512x128, extractStridedSlice S512x128 ![0, 0] (vS5 Q kc ks) slices_S640x128_o0_0_S512x128⟩,
    ⟨S128x128, addf (extractStridedSlice S128x128 ![512, 0] (vS5 Q kc ks) slices_S640x128_o512_0_S128x128) (k0_pay76 (F := Ideal))⟩]
    concatenates_S512x128_S128x128_S640x128_d0
/-- The weights of the masked scores `W`. -/
def vE5 (W : FVec Ideal S640x128 .f32) : FVec Ideal S640x128 .f32 :=
  exp2 (subf (mulf W (broadcastTo S640x128 a broadcasts_S1x128_S640x128))
    (broadcastTo S640x128 (mulf (shapeCast S1x128 (multiReduction .maximumf [0] S128 W 0xFF800000#32 reduces_S640x128_S128 (.inl rfl) rfl) shapeCasts_S128_S1x128) a)
      broadcasts_S1x128_S640x128))
/-- The output of the weights `E`, a column per query. -/
def vO5 (E : FVec Ideal S640x128 .f32) : FVec Ideal S128x128 .f32 :=
  mulf (matmul dot_S128x640_S640x128_S128x128_1_0_0_1_n_n none (shapeCast S128x640 v shapeCasts_S1x128x640_S128x640) (truncf (F := Ideal) .bf16 E bitsLt_bf16_f32)
    (constant S128x128 .f32 0x00000000#32))
    (broadcastTo S128x128 (divf (broadcast S1x128 (Scalar.ofBits .f32 0x3F800000#32))
      (shapeCast S1x128 (multiReduction .add [0] S128 E 0x00000000#32 reduces_S640x128_S128 (.inl rfl) rfl) shapeCasts_S128_S1x128)) broadcasts_S1x128_S128x128)

theorem vS5_apply (key : Fin 640) (q : Fin 128) : vS5 Q kc ks (ix2 key q) = (∑ d, kc (ix3 0 key d) * Q (ix2 d q)) * ks (ix3 0 key q) := by
  pointwise [vS5]

theorem vW5_apply (key : Fin 640) (q : Fin 128) :
    vW5 Q kc ks (ix2 key q) = (∑ d, kc (ix3 0 key d) * Q (ix2 d q)) * ks (ix3 0 key q) + kbias (key.val + 128) (640 + q.val) := by
  have hs := fun key => vS5_apply Q kc ks key q
  pointwise [vW5]
  have hk := key.isLt
  by_cases h : key.val < 512
  · rw [dif_pos h, ← hs, kbias, if_pos (by omega), add_zero]
  · rw [dif_neg h, ← hs]
    have e : (⟨512 + (key.val - 512), by omega⟩ : Fin 640) = key := Fin.ext (by simp only; omega)
    rw [e, pay76_apply]
    congr 1
    simp only [kbias]
    congr 1
    rw [eq_iff_iff]; omega

theorem vE5_apply (W : FVec Ideal S640x128 .f32) (key : Fin 640) (q : Fin 128) :
    vE5 a W (ix2 key q) = kwt (fun k => W (ix2 k q)) (a (ix2 0 q)) key := by
  pointwise [vE5]
  rw [show Ideal.ofBits FTy.f32 4286578688#32 = ⊥ from bits_neg_inf]
  rfl

theorem vO5_apply (E : FVec Ideal S640x128 .f32) (d q : Fin 128) :
    vO5 v E (ix2 d q) = (∑ k, v (ix3 0 d k) * E (ix2 k q)) * Ideal.div 1 (∑ k, E (ix2 k q)) := by
  pointwise [vO5]
end

/-- The outputs of a head, a column per query. -/
def att5 (C S : FVec Ideal S64x128 .f32) (X : FVec Ideal S128x128 .f32) (kc : FVec Ideal S1x640x128 .fp8e4m3) (ks : FVec Ideal S1x640x128 .f32)
    (v : FVec Ideal S1x128x640 .bf16) : FVec Ideal S128x128 .f32 :=
  vO5 v (vE5 (vScl C S X) (vW5 (vCod C S X) kc ks))

theorem att5_apply (C S : FVec Ideal S64x128 .f32) (X : FVec Ideal S128x128 .f32) (x : Fin 40 → Fin 128 → Fin 128 → EReal) (h : Fin 40) (j : Nat) (hj : h.val = j)
    (hx : ∀ d q, X (ix2 d q) = x h q d)
    (KC : Fin 8 → Fin 640 → Fin 128 → EReal) (KS : Fin 8 → Fin 640 → EReal) (VT : Fin 8 → Fin 128 → Fin 640 → EReal)
    (M14 : Memref sig .tc .vmem S8x640x128 .fp8e4m3) (f14 : BufTy.Contents (Elt Ideal) M14.view.ty) (h14 : FKey 512 8 KC (rd M14 f14))
    (M15 : Memref sig .tc .vmem S8x640x128 .f32) (f15 : BufTy.Contents (Elt Ideal) M15.view.ty) (h15 : FKey 512 8 (fun h r _ => KS h r) (rd M15 f15))
    (M16 : Memref sig .tc .vmem S8x128x640 .bf16) (f16 : BufTy.Contents (Elt Ideal) M16.view.ty) (h16 : FVal 512 8 VT (rd M16 f16))
    {o14 o16 : Fin 3 → Nat} (e14 : o14 = ![j / 5, 0, 0]) (e16 : o16 = ![j / 5, 0, 0]) (i14 i15 i16) (d q : Fin 128) :
    att5 C S X (M14.view.readAt (Elt Ideal) (Rect.unit (s := S8x640x128) o14 S1x640x128.size i14).toLoadRect f14)
      (M15.view.readAt (Elt Ideal) (Rect.unit (s := S8x640x128) o14 S1x640x128.size i15).toLoadRect f15)
      (M16.view.readAt (Elt Ideal) (Rect.unit (s := S8x128x640) o16 S1x128x640.size i16).toLoadRect f16) (ix2 d q)
      = attn 640 (by omega) C S x KC KS VT h q d := by
  subst hj
  have hh : h.val / 5 < 8 := by omega
  have r14 : ∀ (key : Fin 640) (e : Fin 128), M14.view.readAt (Elt Ideal) (Rect.unit (s := S8x640x128) o14 S1x640x128.size i14).toLoadRect f14 (ix3 0 key e)
      = KC ⟨h.val / 5, hh⟩ (Fin.castLE (by omega) key) e := fun key e => by
    refine (ld3 M14 f14 e14 i14 0 key e (by simp; omega) (by omega) (by omega)).trans (Eq.trans ?_ (h14 ⟨h.val / 5, hh⟩ (Fin.castLE (by omega) key) e (by have := key.isLt; simp only [Fin.val_castLE]; omega)))
    congr 1; funext t; apply Fin.ext; fin_cases t <;> simp
  have r15 : ∀ (key : Fin 640) (e : Fin 128), M15.view.readAt (Elt Ideal) (Rect.unit (s := S8x640x128) o14 S1x640x128.size i15).toLoadRect f15 (ix3 0 key e)
      = KS ⟨h.val / 5, hh⟩ (Fin.castLE (by omega) key) := fun key e => by
    refine (ld3 M15 f15 e14 i15 0 key e (by simp; omega) (by omega) (by omega)).trans (Eq.trans ?_ (h15 ⟨h.val / 5, hh⟩ (Fin.castLE (by omega) key) e (by have := key.isLt; simp only [Fin.val_castLE]; omega)))
    congr 1; funext t; apply Fin.ext; fin_cases t <;> simp
  have r16 : ∀ (e : Fin 128) (key : Fin 640), M16.view.readAt (Elt Ideal) (Rect.unit (s := S8x128x640) o16 S1x128x640.size i16).toLoadRect f16 (ix3 0 e key)
      = VT ⟨h.val / 5, hh⟩ e (Fin.castLE (by omega) key) := fun e key => by
    refine (ld3 M16 f16 e16 i16 0 e key (by simp; omega) (by omega) (by omega)).trans (Eq.trans ?_ (h16 ⟨h.val / 5, hh⟩ e (Fin.castLE (by omega) key) (by have := key.isLt; simp only [Fin.val_castLE]; omega)))
    congr 1; funext t; apply Fin.ext; fin_cases t <;> simp
  rw [att5, vO5_apply, attn, katt]
  simp only [vE5_apply, vW5_apply, r14, r15, r16, vScl_apply C S X q (x h q) fun d => hx d q,
    show ∀ e, vCod C S X (ix2 e q) = codes C S x h q e from fun e => head_code C S X q (x h q) (fun d => hx d q) e]
  rfl

end Cert.Proof.Val

end
-- ==== Proof.Value.Out.lean ====
module

public import proofs.«01_k».proof.Proof.Value.AttVec

/-!
# The outputs of the heads, column by column

What the output and the buffer of outputs hold while the loop over pairs of query heads runs, the largest
magnitude carried along, and the codes and scales made of them.
-/

@[expose] public section

set_option warn.classDefReducibility false
set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The column of lane `d` of head `h`. -/
abbrev ocol (h : Fin 40) (d : Fin 128) : Fin 5120 := ⟨128 * h.val + d.val, by omega⟩

/-- `g` holds `O`'s outputs of the heads below `m`, a row per query. -/
def FCol2 (m : Nat) (O : Fin 40 → Fin 128 → Fin 128 → EReal) (g : S128x5120.Idx → EReal) : Prop :=
  ∀ h q d, h.val < m → g (ix2 q (ocol h d)) = O h q d
/-- The same for a buffer with an axis of extent 1 before. -/
def FCol3 (m : Nat) (O : Fin 40 → Fin 128 → Fin 128 → EReal) (g : S1x128x5120.Idx → EReal) : Prop :=
  ∀ h q d, h.val < m → g (ix3 0 q (ocol h d)) = O h q d
/-- `acc` holds the largest magnitudes of `O`'s outputs over the heads below `m`, or zero. -/
def FMax (m : Nat) (O : Fin 40 → Fin 128 → Fin 128 → EReal) (acc : FVec Ideal S128x128 .f32) : Prop :=
  ∀ d q z, acc (ix2 d q) ≤ z ↔ 0 ≤ z ∧ ∀ h : Fin 40, h.val < m → max (O h q d) (-(O h q d)) ≤ z

section Trip
variable {O : Fin 40 → Fin 128 → Fin 128 → EReal}

/-- One head's block written into the buffer of outputs. -/
theorem col2_one (m : Nat) (hm : m < 40) (M : Memref sig .tc .vmem S128x5120 .f32) (f : BufTy.Contents (Elt Ideal) M.view.ty) (L : List (View.Piece (Elt Ideal) S128x5120 .f32))
    {o : Fin 2 → Nat} (ho : o = ![0, 128 * m]) (i1) (w : S128x128.Idx → EReal) (hw : ∀ q d : Fin 128, w (ix2 q d) = O ⟨m, hm⟩ q d)
    (h0 : FCol2 m O (rd M (M.view.writes (Elt Ideal) f L))) :
    FCol2 (m + 1) O (rd M (M.view.writes (Elt Ideal) f (⟨Rect.unit (s := S128x5120) o S128x128.size i1, w⟩ :: L))) := by
  intro h q d hc
  have hd := d.isLt
  refine put2u M f ho _ _ _ _ _ _ (fun x y e0 e1 => ?_) fun n1 => h0 h q d ?_
  · have hy := y.isLt
    simp only at e0 e1
    obtain rfl : h = ⟨m, hm⟩ := Fin.ext (by simp only; omega)
    rw [hw]; congr 1 <;> (apply Fin.ext; simp only at *; omega)
  · by_contra c
    exact n1 ⟨⟨by omega, by have := q.isLt; omega⟩, by simp only; omega, by simp only; omega⟩

/-- One head's block written into the output. -/
theorem col3_one (m : Nat) (hm : m < 40) {e : EltTy} (he : Elt Ideal e = EReal) (M : Memref sig .tc .vmem S1x128x5120 e) (f : BufTy.Contents (Elt Ideal) M.view.ty)
    (L : List (View.Piece (Elt Ideal) S1x128x5120 e)) {o : Fin 3 → Nat} (ho : o = ![0, 0, 128 * m]) (i1) (w : S1x128x128.Idx → Elt Ideal e)
    (G : Fin 40 → Fin 128 → Fin 128 → Elt Ideal e)
    (hw : ∀ q d : Fin 128, w (ix3 0 q d) = G ⟨m, hm⟩ q d)
    (h0 : ∀ h q d, h.val < m → rd M (M.view.writes (Elt Ideal) f L) (ix3 0 q (ocol h d)) = G h q d) :
    ∀ h q d, h.val < m + 1 → rd M (M.view.writes (Elt Ideal) f (⟨Rect.unit (s := S1x128x5120) o S1x128x128.size i1, w⟩ :: L)) (ix3 0 q (ocol h d)) = G h q d := by
  intro h q d hc
  have hd := d.isLt
  refine put3 M f ho _ _ _ _ _ _ _ (fun x y z e0 e1 e2 => ?_) fun n1 => h0 h q d ?_
  · have hz := z.isLt
    obtain rfl : x = 0 := Fin.fin_one_eq_zero x
    simp only at e0 e1 e2
    obtain rfl : h = ⟨m, hm⟩ := Fin.ext (by simp only; omega)
    rw [hw]; congr 1 <;> (apply Fin.ext; simp only at *; omega)
  · by_contra c
    exact n1 ⟨⟨by simp, by simp⟩, ⟨by omega, by have := q.isLt; omega⟩, by simp only; omega, by simp only; omega⟩

/-- Two heads' blocks written into the buffer of outputs. -/
theorem col2_trip (k : Nat) (hk : k < 20) (M : Memref sig .tc .vmem S128x5120 .f32) (f : BufTy.Contents (Elt Ideal) M.view.ty)
    {o1 o2 : Fin 2 → Nat} (ho1 : o1 = ![0, 256 * k]) (ho2 : o2 = ![0, 256 * k + 128]) (i1 i2) (T1 T2 : FVec Ideal S128x128 .f32)
    (hw1 : ∀ d q : Fin 128, T1 (ix2 d q) = O ⟨2 * k, by omega⟩ q d) (hw2 : ∀ d q : Fin 128, T2 (ix2 d q) = O ⟨2 * k + 1, by omega⟩ q d)
    (h0 : FCol2 (2 * k) O (rd M f)) :
    FCol2 (2 * (k + 1)) O (rd M (M.view.writes (Elt Ideal) f
      [⟨Rect.unit (s := S128x5120) o2 S128x128.size i2, wO T2⟩, ⟨Rect.unit (s := S128x5120) o1 S128x128.size i1, wO T1⟩])) :=
  col2_one (2 * k + 1) (by omega) M f _ (by rw [ho2]; congr 2; omega) i2 _ (fun q d => (wO_apply T2 q d).trans (hw2 d q))
    (col2_one (2 * k) (by omega) M f [] (by rw [ho1]; congr 2; omega) i1 _ (fun q d => (wO_apply T1 q d).trans (hw1 d q)) h0)

/-- Two heads' blocks written into the output. -/
theorem col3_trip (k : Nat) (hk : k < 20) (M : Memref sig .tc .vmem S1x128x5120 .bf16) (f : BufTy.Contents (Elt Ideal) M.view.ty)
    {o1 o2 : Fin 3 → Nat} (ho1 : o1 = ![0, 0, 256 * k]) (ho2 : o2 = ![0, 0, 256 * k + 128]) (i1 i2) (T1 T2 : FVec Ideal S128x128 .f32)
    (hw1 : ∀ d q : Fin 128, T1 (ix2 d q) = O ⟨2 * k, by omega⟩ q d) (hw2 : ∀ d q : Fin 128, T2 (ix2 d q) = O ⟨2 * k + 1, by omega⟩ q d)
    (h0 : FCol3 (2 * k) O (rd M f)) :
    FCol3 (2 * (k + 1)) O (rd M (M.view.writes (Elt Ideal) f
      [⟨Rect.unit (s := S1x128x5120) o2 S1x128x128.size i2, wOut T2⟩, ⟨Rect.unit (s := S1x128x5120) o1 S1x128x128.size i1, wOut T1⟩])) :=
  col3_one (2 * k + 1) (by omega) rfl M f _ (by rw [ho2]; congr 3; omega) i2 _ O (fun q d => (wOut_apply T2 q d).trans (hw2 d q))
    (col3_one (2 * k) (by omega) rfl M f [] (by rw [ho1]; congr 3; omega) i1 _ O (fun q d => (wOut_apply T1 q d).trans (hw1 d q)) h0)

/-- The largest magnitudes with one head more. -/
def vMax (a T : FVec Ideal S128x128 .f32) : FVec Ideal S128x128 .f32 := maximumf a (absf T)

theorem vMax_apply (a T : FVec Ideal S128x128 .f32) (d q : Fin 128) : vMax a T (ix2 d q) = max (a (ix2 d q)) (max (T (ix2 d q)) (-(T (ix2 d q)))) := by
  pointwise [vMax]
  rfl

theorem max_one (m : Nat) (hm : m < 40) (a T : FVec Ideal S128x128 .f32) (hT : ∀ d q : Fin 128, T (ix2 d q) = O ⟨m, hm⟩ q d) (h0 : FMax m O a) :
    FMax (m + 1) O (vMax a T) := by
  intro d q z
  rw [vMax_apply, max_le_iff, h0 d q z, hT, and_assoc]
  refine and_congr_right fun _ => ⟨fun ⟨p, e⟩ h hc => ?_, fun p => ⟨fun h hc => p h (by omega), p _ (by simp)⟩⟩
  by_cases hh : h.val < m
  · exact p h hh
  · obtain rfl : h = ⟨m, hm⟩ := Fin.ext (by simp only; omega)
    exact e

theorem max_trip (k : Nat) (hk : k < 20) (a T1 T2 : FVec Ideal S128x128 .f32)
    (hw1 : ∀ d q : Fin 128, T1 (ix2 d q) = O ⟨2 * k, by omega⟩ q d) (hw2 : ∀ d q : Fin 128, T2 (ix2 d q) = O ⟨2 * k + 1, by omega⟩ q d)
    (h0 : FMax (2 * k) O a) : FMax (2 * (k + 1)) O (vMax (vMax a T1) T2) :=
  max_one (2 * k + 1) (by omega) _ _ hw2 (max_one (2 * k) (by omega) _ _ hw1 h0)

theorem max_zero : FMax 0 O (k0_pay77 (F := Ideal)) := by
  intro d q z
  have e : k0_pay77 (F := Ideal) (ix2 d q) = 0 := by pointwise [k0_pay77]
  rw [e]
  exact ⟨fun h => ⟨h, fun _ hc => absurd hc (by omega)⟩, fun h => h.1⟩

end Trip

/-! ## The codes and scales of the outputs -/

/-- The exponent of the scale of query `q`'s outputs. -/
def oexp (O : Fin 40 → Fin 128 → Fin 128 → EReal) (q : Fin 128) : EReal :=
  kexp (kmax fun c : Fin 5120 => O ⟨c.val / 128, by omega⟩ q ⟨c.val % 128, by omega⟩)
/-- The codes of the outputs. -/
def ocode (O : Fin 40 → Fin 128 → Fin 128 → EReal) (h : Fin 40) (q d : Fin 128) : EReal := kclip (O h q d) (oexp O q)

section Code
variable {O : Fin 40 → Fin 128 → Fin 128 → EReal} {mx : FVec Ideal S128x128 .f32} (hm : FMax 40 O mx)
include hm

theorem max_all (q : Fin 128) : (Finset.univ.fold max ⊥ fun d : Fin 128 => mx (ix2 d q))
    = kmax fun c : Fin 5120 => O ⟨c.val / 128, by omega⟩ q ⟨c.val % 128, by omega⟩ := by
  apply le_antisymm
  · refine Finset.fold_max_le _ |>.mpr ⟨bot_le, fun d _ => (hm d q _).mpr ⟨kmax_nonneg _, fun h _ => ?_⟩⟩
    have hd := d.isLt
    have := (Finset.fold_max_le (s := Finset.univ) (b := (⊥ : EReal)) (f := fun c : Fin 5120 => max (O ⟨c.val / 128, by omega⟩ q ⟨c.val % 128, by omega⟩) (-(O ⟨c.val / 128, by omega⟩ q ⟨c.val % 128, by omega⟩))) _).mp le_rfl |>.2 (ocol h d) (Finset.mem_univ _)
    have e1 : (⟨(ocol h d).val / 128, by omega⟩ : Fin 40) = h := Fin.ext (by simp only; omega)
    have e2 : (⟨(ocol h d).val % 128, by omega⟩ : Fin 128) = d := Fin.ext (by simp only; omega)
    rw [e1, e2] at this
    exact this
  · refine Finset.fold_max_le _ |>.mpr ⟨bot_le, fun c _ => ?_⟩
    have := (Finset.fold_max_le (s := Finset.univ) (b := (⊥ : EReal)) (f := fun d : Fin 128 => mx (ix2 d q)) _).mp le_rfl |>.2 ⟨c.val % 128, by omega⟩ (Finset.mem_univ _)
    exact ((hm _ q _).mp this).2 ⟨c.val / 128, by omega⟩ (by simp only; omega)

theorem pay2_apply (q : Fin 128) : k0_pay2 (F := Ideal) mx (ix2 0 q) = oexp O q := by
  have h := max_all hm q
  pointwise [k0_pay2]
  rw [show Ideal.ofBits FTy.f32 4286578688#32 = ⊥ from bits_neg_inf, h]
  rfl

theorem pay3_apply (q : Fin 128) : k0_pay3 (F := Ideal) mx (ix3 0 0 q) = Ideal.exp2 (oexp O q) := by
  have h := pay2_apply hm q
  pointwise [k0_pay3]
  rw [h]; rfl

theorem pay4_apply (v : FVec Ideal S128x128 .f32) (q d : Fin 128) : k0_pay4 (F := Ideal) mx v (ix3 0 q d) = kclip (v (ix2 q d)) (oexp O q) := by
  have h := pay2_apply hm q
  pointwise [k0_pay4]
  rw [h]; rfl

/-- One head's block of codes. -/
theorem code_trip (k : Nat) (hk : k < 40) (M : Memref sig .tc .vmem S1x128x5120 .fp8e4m3) (f : BufTy.Contents (Elt Ideal) M.view.ty)
    (M20 : Memref sig .tc .vmem S128x5120 .f32) (f20 : BufTy.Contents (Elt Ideal) M20.view.ty) (h20 : FCol2 40 O (rd M20 f20))
    {o1 : Fin 2 → Nat} {o2 : Fin 3 → Nat} (ho1 : o1 = ![0, 128 * k]) (ho2 : o2 = ![0, 0, 128 * k]) (i1 i2)
    (h0 : FCol3 k (ocode O) (rd M f)) :
    FCol3 (k + 1) (ocode O) (rd M (M.view.writes (Elt Ideal) f
      [⟨Rect.unit (s := S1x128x5120) o2 S1x128x128.size i2, k0_pay4 (F := Ideal) mx (M20.view.readAt (Elt Ideal) (Rect.unit (s := S128x5120) o1 S128x128.size i1).toLoadRect f20)⟩])) := by
  refine col3_one k hk rfl M f [] ho2 i2 _ (ocode O) (fun q d => ?_) h0
  rw [pay4_apply hm, ld2 M20 f20 ho1 i1 q d (by omega) (by omega), ocode]
  congr 1
  rw [← h20 ⟨k, hk⟩ q d hk]
  congr 1; funext t; apply Fin.ext; fin_cases t <;> simp

end Code

/-- What the loop over pairs of query heads keeps after `k` trips. -/
abbrev IHeads (n : Nat) (hn : n ≤ 640) (c : Dev nD) (arg2 : Memref sig .tc .vmem S5120x128 .bf16) (arg7 : Memref sig .tc .vmem S1x128x5120 .bf16)
    (arg9 : Memref sig .tc .vmem S1x40x128 .f32)
    (arg14 : Memref sig .tc .vmem S8x640x128 .fp8e4m3) (arg15 : Memref sig .tc .vmem S8x640x128 .f32)
    (arg16 : Memref sig .tc .vmem S8x128x640 .bf16) (arg17 : Memref sig .tc .vmem S5248x128 .f32) (arg20 : Memref sig .tc .vmem S128x5120 .f32)
    (f2 : BufTy.Contents (Elt Ideal) arg2.view.ty) (f14 : BufTy.Contents (Elt Ideal) arg14.view.ty)
    (f15 : BufTy.Contents (Elt Ideal) arg15.view.ty) (f16 : BufTy.Contents (Elt Ideal) arg16.view.ty) (C S : FVec Ideal S64x128 .f32)
    (KC : Fin 8 → Fin 640 → Fin 128 → EReal) (KS : Fin 8 → Fin 640 → EReal) (VT : Fin 8 → Fin 128 → Fin 640 → EReal) (k : Nat) (acc : FVec Ideal S128x128 .f32) : sProp 𝕄 :=
  iprop(⌜FMax (2 * k) (attn n hn C S (row40 (rd arg2 f2)) KC KS VT) acc⌝ ∗ pt c arg2 f2
    ∗ (∃ f, pt c arg7 f ∗ ⌜FCol3 (2 * k) (attn n hn C S (row40 (rd arg2 f2)) KC KS VT) (rd arg7 f)⌝)
    ∗ (∃ f, pt c arg9 f ∗ ⌜FRow (2 * k) (scales C S (row40 (rd arg2 f2))) (rd arg9 f)⌝)
    ∗ pt c arg14 f14 ∗ pt c arg15 f15 ∗ pt c arg16 f16
    ∗ (∃ f, pt c arg17 f ∗ ⌜FStage 41 (2 * k) (by omega) (codes C S (row40 (rd arg2 f2))) (rd arg17 f)⌝)
    ∗ (∃ f, pt c arg20 f ∗ ⌜FCol2 (2 * k) (attn n hn C S (row40 (rd arg2 f2)) KC KS VT) (rd arg20 f)⌝))

/-- What the loop that codes the outputs keeps after `k` trips. -/
abbrev ICode (c : Dev nD) (arg20 : Memref sig .tc .vmem S128x5120 .f32) (arg12 : Memref sig .tc .vmem S1x128x5120 .fp8e4m3)
    (f20 : BufTy.Contents (Elt Ideal) arg20.view.ty) (O : Fin 40 → Fin 128 → Fin 128 → EReal) (k : Nat) : sProp 𝕄 :=
  iprop(pt c arg20 f20 ∗ (∃ f, pt c arg12 f ∗ ⌜FCol3 k (ocode O) (rd arg12 f)⌝))

end Cert.Proof.Val

end
-- ==== Proof.Value.QueryLoop.lean ====
module

public import proofs.«01_k».proof.Proof.Value.Out

/-!
# The loops over the query heads
-/

@[expose] public section

set_option warn.classDefReducibility false
set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
  (arg2 : Memref sig .tc .vmem S5120x128 .bf16) (harg2 : arg2.IsWhole)
  (arg3 : Memref sig .tc .vmem S1024x128 .bf16) (harg3 : arg3.IsWhole)
  (arg4 : Memref sig .tc .vmem S1024x128 .bf16) (harg4 : arg4.IsWhole)
  (arg5 : Memref sig .tc .vmem S1x3x128 .i32) (harg5 : arg5.IsWhole)
  (arg6 : Memref sig .tc .vmem S64x128 .f32) (harg6 : arg6.IsWhole)
  (arg7 : Memref sig .tc .vmem S1x128x5120 .bf16) (harg7 : arg7.IsWhole)
  (arg8 : Memref sig .tc .vmem S5120x128 .fp8e4m3) (harg8 : arg8.IsWhole)
  (arg9 : Memref sig .tc .vmem S1x40x128 .f32) (harg9 : arg9.IsWhole)
  (arg10 : Memref sig .tc .vmem S1024x128 .fp8e4m3) (harg10 : arg10.IsWhole)
  (arg11 : Memref sig .tc .vmem S1x8x128 .f32) (harg11 : arg11.IsWhole)
  (arg12 : Memref sig .tc .vmem S1x128x5120 .fp8e4m3) (harg12 : arg12.IsWhole)
  (arg13 : Memref sig .tc .vmem S1x1x128 .f32) (harg13 : arg13.IsWhole)
  (arg14 : Memref sig .tc .vmem S8x640x128 .fp8e4m3) (harg14 : arg14.IsWhole)
  (arg15 : Memref sig .tc .vmem S8x640x128 .f32) (harg15 : arg15.IsWhole)
  (arg16 : Memref sig .tc .vmem S8x128x640 .bf16) (harg16 : arg16.IsWhole)
  (arg17 : Memref sig .tc .vmem S5248x128 .f32) (harg17 : arg17.IsWhole)
  (arg18 : Memref sig .tc .vmem S1152x128 .f32) (harg18 : arg18.IsWhole)
  (arg19 : Memref sig .tc .vmem S8x128 .f32) (harg19 : arg19.IsWhole)
  (arg20 : Memref sig .tc .vmem S128x5120 .f32) (harg20 : arg20.IsWhole)

/-- Branch 1: the loop over the pairs of query heads, its outputs, codes and scales. -/
def queryLoop_1 (f2 : BufTy.Contents (Elt Ideal) arg2.view.ty) (f14 : BufTy.Contents (Elt Ideal) arg14.view.ty)
    (f15 : BufTy.Contents (Elt Ideal) arg15.view.ty) (f16 : BufTy.Contents (Elt Ideal) arg16.view.ty)
    (KC : Fin 8 → Fin 640 → Fin 128 → EReal) (KS : Fin 8 → Fin 640 → EReal) (VT : Fin 8 → Fin 128 → Fin 640 → EReal)
    (g14 : FKey 0 8 KC (rd arg14 f14)) (g15 : FKey 0 8 (fun h r _ => KS h r) (rd arg15 f15)) (g16 : FVal 0 8 VT (rd arg16 f16))
    (k0_h1 : k0_cond1 i = 1#1) (v15 : Vec Ideal S1x3x128 .i32) (v34 : Vec Ideal S64x128 .f32) (init : FVec Ideal S128x128 .f32) :
    LI c k0_t3_loop (k0_t3_ok i k0_h1) init (k0_t3_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v15 v34) where
  inv := fun k acc => IHeads 128 (by omega) c arg2 arg7 arg9 arg14 arg15 arg16 arg17 arg20 f2 f14 f15 f16 (k0_pay69 v15 v34) (k0_pay70 v15 v34) KC KS VT k acc
  step := fun k acc => by
    iintro ⟨%hm, H2, ⟨%f7, H7, %h7⟩, ⟨%f9, H9, %h9⟩, H14, H15, H16, ⟨%f17, H17, %h17⟩, ⟨%f20, H20, %h20⟩⟩
    have hk : k.val < 20 := k.isLt
    unfold k0_t3_body
    sl_exec_parts
    sl_step
    have y0 := raw_half0 _ _ fun r d => raw20 arg2 harg2 f2 k.val hk (k0_off12_eq k) (k0_off12_inb i k k0_h1) r 0 d
    have y1 := raw_half1 _ _ fun r d => raw20 arg2 harg2 f2 k.val hk (k0_off12_eq k) (k0_off12_inb i k k0_h1) r 1 d
    have a0 := head_scale (k0_pay69 v15 v34) (k0_pay70 v15 v34) _ (row40 (rd arg2 f2)) ⟨2 * k.val, by omega⟩ y0
    have a1 := head_scale (k0_pay69 v15 v34) (k0_pay70 v15 v34) _ (row40 (rd arg2 f2)) ⟨2 * k.val + 1, by omega⟩ y1
    have b0 := head_stage (k0_pay69 v15 v34) (k0_pay70 v15 v34) _ (row40 (rd arg2 f2)) ⟨2 * k.val, by omega⟩ y0
    have b1 := head_stage (k0_pay69 v15 v34) (k0_pay70 v15 v34) _ (row40 (rd arg2 f2)) ⟨2 * k.val + 1, by omega⟩ y1
    have t0 := fun d q => att1_apply (k0_pay69 v15 v34) (k0_pay70 v15 v34) _ (row40 (rd arg2 f2)) ⟨2 * k.val, by omega⟩ (2 * k.val) rfl y0 KC KS VT arg14 f14 g14 arg15 f15 g15 arg16 f16 g16 (k0_off15_eq k) (k0_off16_eq k)
      (k0_off15_inb i k k0_h1) (k0_off15_inb i k k0_h1) (k0_off16_inb i k k0_h1) d q
    have t1 := fun d q => att1_apply (k0_pay69 v15 v34) (k0_pay70 v15 v34) _ (row40 (rd arg2 f2)) ⟨2 * k.val + 1, by omega⟩ (2 * k.val + 1) rfl y1 KC KS VT arg14 f14 g14 arg15 f15 g15 arg16 f16 g16 (k0_off21_eq k) (k0_off22_eq k)
      (k0_off21_inb i k k0_h1) (k0_off21_inb i k k0_h1) (k0_off22_inb i k k0_h1) d q
    isplitr
    · ipureintro
      exact max_trip k.val hk acc _ _ t0 t1 hm
    isplitl [H2]; · iexact H2
    isplitl [H7]
    · iexists _; isplitl [H7]; · iexact H7
      ipureintro
      exact col3_trip k.val hk arg7 f7 (k0_off18_eq k) (k0_off24_eq k) (k0_off18_inb i k k0_h1) (k0_off24_inb i k k0_h1) _ _ t0 t1 h7
    isplitl [H9]
    · iexists _; isplitl [H9]; · iexact H9
      ipureintro
      exact row_trip (b := 0) (k := k.val) (by omega) arg9 f9 (k0_off13_eq k) (k0_off19_eq k) _ _ _ _ _ a0 a1 h9
    isplitl [H14]; · iexact H14
    isplitl [H15]; · iexact H15
    isplitl [H16]; · iexact H16
    isplitl [H17]
    · iexists _; isplitl [H17]; · iexact H17
      ipureintro
      exact stage_trip (b := 0) (n := 40) (N := 5248) (q := 41) (k := k.val) (by omega) (by omega) (by omega) arg17 f17 (k0_off14_eq k) (k0_off20_eq k) (k0_off14_inb i k k0_h1) (k0_off20_inb i k k0_h1) spos_41_1 spos_41_1 _ _ (codes (k0_pay69 v15 v34) (k0_pay70 v15 v34) (row40 (rd arg2 f2))) b0 b1 h17
    · iexists _; isplitl [H20]; · iexact H20
      ipureintro
      exact col2_trip k.val hk arg20 f20 (k0_off17_eq k) (k0_off23_eq k) (k0_off17_inb i k k0_h1) (k0_off23_inb i k k0_h1) _ _ t0 t1 h20

/-- Branch 2: the loop over the pairs of query heads, its outputs, codes and scales. -/
def queryLoop_2 (f2 : BufTy.Contents (Elt Ideal) arg2.view.ty) (f14 : BufTy.Contents (Elt Ideal) arg14.view.ty)
    (f15 : BufTy.Contents (Elt Ideal) arg15.view.ty) (f16 : BufTy.Contents (Elt Ideal) arg16.view.ty)
    (KC : Fin 8 → Fin 640 → Fin 128 → EReal) (KS : Fin 8 → Fin 640 → EReal) (VT : Fin 8 → Fin 128 → Fin 640 → EReal)
    (g14 : FKey 128 8 KC (rd arg14 f14)) (g15 : FKey 128 8 (fun h r _ => KS h r) (rd arg15 f15)) (g16 : FVal 128 8 VT (rd arg16 f16))
    (k0_h2 : k0_cond2 i = 1#1) (v15 : Vec Ideal S1x3x128 .i32) (v34 : Vec Ideal S64x128 .f32) (init : FVec Ideal S128x128 .f32) :
    LI c k0_t8_loop (k0_t8_ok i k0_h2) init (k0_t8_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h2 v15 v34) where
  inv := fun k acc => IHeads 256 (by omega) c arg2 arg7 arg9 arg14 arg15 arg16 arg17 arg20 f2 f14 f15 f16 (k0_pay69 v15 v34) (k0_pay70 v15 v34) KC KS VT k acc
  step := fun k acc => by
    iintro ⟨%hm, H2, ⟨%f7, H7, %h7⟩, ⟨%f9, H9, %h9⟩, H14, H15, H16, ⟨%f17, H17, %h17⟩, ⟨%f20, H20, %h20⟩⟩
    have hk : k.val < 20 := k.isLt
    unfold k0_t8_body
    sl_exec_parts
    sl_step
    have y0 := raw_half0 _ _ fun r d => raw20 arg2 harg2 f2 k.val hk (k0_off40_eq k) (k0_off40_inb i k k0_h2) r 0 d
    have y1 := raw_half1 _ _ fun r d => raw20 arg2 harg2 f2 k.val hk (k0_off40_eq k) (k0_off40_inb i k k0_h2) r 1 d
    have a0 := head_scale (k0_pay69 v15 v34) (k0_pay70 v15 v34) _ (row40 (rd arg2 f2)) ⟨2 * k.val, by omega⟩ y0
    have a1 := head_scale (k0_pay69 v15 v34) (k0_pay70 v15 v34) _ (row40 (rd arg2 f2)) ⟨2 * k.val + 1, by omega⟩ y1
    have b0 := head_stage (k0_pay69 v15 v34) (k0_pay70 v15 v34) _ (row40 (rd arg2 f2)) ⟨2 * k.val, by omega⟩ y0
    have b1 := head_stage (k0_pay69 v15 v34) (k0_pay70 v15 v34) _ (row40 (rd arg2 f2)) ⟨2 * k.val + 1, by omega⟩ y1
    have t0 := fun d q => att2_apply (k0_pay69 v15 v34) (k0_pay70 v15 v34) _ (row40 (rd arg2 f2)) ⟨2 * k.val, by omega⟩ (2 * k.val) rfl y0 KC KS VT arg14 f14 g14 arg15 f15 g15 arg16 f16 g16 (k0_off43_eq k) (k0_off44_eq k)
      (k0_off43_inb i k k0_h2) (k0_off43_inb i k k0_h2) (k0_off44_inb i k k0_h2) d q
    have t1 := fun d q => att2_apply (k0_pay69 v15 v34) (k0_pay70 v15 v34) _ (row40 (rd arg2 f2)) ⟨2 * k.val + 1, by omega⟩ (2 * k.val + 1) rfl y1 KC KS VT arg14 f14 g14 arg15 f15 g15 arg16 f16 g16 (k0_off49_eq k) (k0_off50_eq k)
      (k0_off49_inb i k k0_h2) (k0_off49_inb i k k0_h2) (k0_off50_inb i k k0_h2) d q
    isplitr
    · ipureintro
      exact max_trip k.val hk acc _ _ t0 t1 hm
    isplitl [H2]; · iexact H2
    isplitl [H7]
    · iexists _; isplitl [H7]; · iexact H7
      ipureintro
      exact col3_trip k.val hk arg7 f7 (k0_off46_eq k) (k0_off52_eq k) (k0_off46_inb i k k0_h2) (k0_off52_inb i k k0_h2) _ _ t0 t1 h7
    isplitl [H9]
    · iexists _; isplitl [H9]; · iexact H9
      ipureintro
      exact row_trip (b := 0) (k := k.val) (by omega) arg9 f9 (k0_off41_eq k) (k0_off47_eq k) _ _ _ _ _ a0 a1 h9
    isplitl [H14]; · iexact H14
    isplitl [H15]; · iexact H15
    isplitl [H16]; · iexact H16
    isplitl [H17]
    · iexists _; isplitl [H17]; · iexact H17
      ipureintro
      exact stage_trip (b := 0) (n := 40) (N := 5248) (q := 41) (k := k.val) (by omega) (by omega) (by omega) arg17 f17 (k0_off42_eq k) (k0_off48_eq k) (k0_off42_inb i k k0_h2) (k0_off48_inb i k k0_h2) spos_41_1 spos_41_1 _ _ (codes (k0_pay69 v15 v34) (k0_pay70 v15 v34) (row40 (rd arg2 f2))) b0 b1 h17
    · iexists _; isplitl [H20]; · iexact H20
      ipureintro
      exact col2_trip k.val hk arg20 f20 (k0_off45_eq k) (k0_off51_eq k) (k0_off45_inb i k k0_h2) (k0_off51_inb i k k0_h2) _ _ t0 t1 h20

/-- Branch 3: the loop over the pairs of query heads, its outputs, codes and scales. -/
def queryLoop_3 (f2 : BufTy.Contents (Elt Ideal) arg2.view.ty) (f14 : BufTy.Contents (Elt Ideal) arg14.view.ty)
    (f15 : BufTy.Contents (Elt Ideal) arg15.view.ty) (f16 : BufTy.Contents (Elt Ideal) arg16.view.ty)
    (KC : Fin 8 → Fin 640 → Fin 128 → EReal) (KS : Fin 8 → Fin 640 → EReal) (VT : Fin 8 → Fin 128 → Fin 640 → EReal)
    (g14 : FKey 256 8 KC (rd arg14 f14)) (g15 : FKey 256 8 (fun h r _ => KS h r) (rd arg15 f15)) (g16 : FVal 256 8 VT (rd arg16 f16))
    (k0_h3 : k0_cond3 i = 1#1) (v15 : Vec Ideal S1x3x128 .i32) (v34 : Vec Ideal S64x128 .f32) (init : FVec Ideal S128x128 .f32) :
    LI c k0_t13_loop (k0_t13_ok i k0_h3) init (k0_t13_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h3 v15 v34) where
  inv := fun k acc => IHeads 384 (by omega) c arg2 arg7 arg9 arg14 arg15 arg16 arg17 arg20 f2 f14 f15 f16 (k0_pay69 v15 v34) (k0_pay70 v15 v34) KC KS VT k acc
  step := fun k acc => by
    iintro ⟨%hm, H2, ⟨%f7, H7, %h7⟩, ⟨%f9, H9, %h9⟩, H14, H15, H16, ⟨%f17, H17, %h17⟩, ⟨%f20, H20, %h20⟩⟩
    have hk : k.val < 20 := k.isLt
    unfold k0_t13_body
    sl_exec_parts
    sl_step
    have y0 := raw_half0 _ _ fun r d => raw20 arg2 harg2 f2 k.val hk (k0_off68_eq k) (k0_off68_inb i k k0_h3) r 0 d
    have y1 := raw_half1 _ _ fun r d => raw20 arg2 harg2 f2 k.val hk (k0_off68_eq k) (k0_off68_inb i k k0_h3) r 1 d
    have a0 := head_scale (k0_pay69 v15 v34) (k0_pay70 v15 v34) _ (row40 (rd arg2 f2)) ⟨2 * k.val, by omega⟩ y0
    have a1 := head_scale (k0_pay69 v15 v34) (k0_pay70 v15 v34) _ (row40 (rd arg2 f2)) ⟨2 * k.val + 1, by omega⟩ y1
    have b0 := head_stage (k0_pay69 v15 v34) (k0_pay70 v15 v34) _ (row40 (rd arg2 f2)) ⟨2 * k.val, by omega⟩ y0
    have b1 := head_stage (k0_pay69 v15 v34) (k0_pay70 v15 v34) _ (row40 (rd arg2 f2)) ⟨2 * k.val + 1, by omega⟩ y1
    have t0 := fun d q => att3_apply (k0_pay69 v15 v34) (k0_pay70 v15 v34) _ (row40 (rd arg2 f2)) ⟨2 * k.val, by omega⟩ (2 * k.val) rfl y0 KC KS VT arg14 f14 g14 arg15 f15 g15 arg16 f16 g16 (k0_off71_eq k) (k0_off72_eq k)
      (k0_off71_inb i k k0_h3) (k0_off71_inb i k k0_h3) (k0_off72_inb i k k0_h3) d q
    have t1 := fun d q => att3_apply (k0_pay69 v15 v34) (k0_pay70 v15 v34) _ (row40 (rd arg2 f2)) ⟨2 * k.val + 1, by omega⟩ (2 * k.val + 1) rfl y1 KC KS VT arg14 f14 g14 arg15 f15 g15 arg16 f16 g16 (k0_off77_eq k) (k0_off78_eq k)
      (k0_off77_inb i k k0_h3) (k0_off77_inb i k k0_h3) (k0_off78_inb i k k0_h3) d q
    isplitr
    · ipureintro
      exact max_trip k.val hk acc _ _ t0 t1 hm
    isplitl [H2]; · iexact H2
    isplitl [H7]
    · iexists _; isplitl [H7]; · iexact H7
      ipureintro
      exact col3_trip k.val hk arg7 f7 (k0_off74_eq k) (k0_off80_eq k) (k0_off74_inb i k k0_h3) (k0_off80_inb i k k0_h3) _ _ t0 t1 h7
    isplitl [H9]
    · iexists _; isplitl [H9]; · iexact H9
      ipureintro
      exact row_trip (b := 0) (k := k.val) (by omega) arg9 f9 (k0_off69_eq k) (k0_off75_eq k) _ _ _ _ _ a0 a1 h9
    isplitl [H14]; · iexact H14
    isplitl [H15]; · iexact H15
    isplitl [H16]; · iexact H16
    isplitl [H17]
    · iexists _; isplitl [H17]; · iexact H17
      ipureintro
      exact stage_trip (b := 0) (n := 40) (N := 5248) (q := 41) (k := k.val) (by omega) (by omega) (by omega) arg17 f17 (k0_off70_eq k) (k0_off76_eq k) (k0_off70_inb i k k0_h3) (k0_off76_inb i k k0_h3) spos_41_1 spos_41_1 _ _ (codes (k0_pay69 v15 v34) (k0_pay70 v15 v34) (row40 (rd arg2 f2))) b0 b1 h17
    · iexists _; isplitl [H20]; · iexact H20
      ipureintro
      exact col2_trip k.val hk arg20 f20 (k0_off73_eq k) (k0_off79_eq k) (k0_off73_inb i k k0_h3) (k0_off79_inb i k k0_h3) _ _ t0 t1 h20

/-- Branch 4: the loop over the pairs of query heads, its outputs, codes and scales. -/
def queryLoop_4 (f2 : BufTy.Contents (Elt Ideal) arg2.view.ty) (f14 : BufTy.Contents (Elt Ideal) arg14.view.ty)
    (f15 : BufTy.Contents (Elt Ideal) arg15.view.ty) (f16 : BufTy.Contents (Elt Ideal) arg16.view.ty)
    (KC : Fin 8 → Fin 640 → Fin 128 → EReal) (KS : Fin 8 → Fin 640 → EReal) (VT : Fin 8 → Fin 128 → Fin 640 → EReal)
    (g14 : FKey 384 8 KC (rd arg14 f14)) (g15 : FKey 384 8 (fun h r _ => KS h r) (rd arg15 f15)) (g16 : FVal 384 8 VT (rd arg16 f16))
    (k0_h4 : k0_cond4 i = 1#1) (v15 : Vec Ideal S1x3x128 .i32) (v34 : Vec Ideal S64x128 .f32) (init : FVec Ideal S128x128 .f32) :
    LI c k0_t18_loop (k0_t18_ok i k0_h4) init (k0_t18_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h4 v15 v34) where
  inv := fun k acc => IHeads 512 (by omega) c arg2 arg7 arg9 arg14 arg15 arg16 arg17 arg20 f2 f14 f15 f16 (k0_pay69 v15 v34) (k0_pay70 v15 v34) KC KS VT k acc
  step := fun k acc => by
    iintro ⟨%hm, H2, ⟨%f7, H7, %h7⟩, ⟨%f9, H9, %h9⟩, H14, H15, H16, ⟨%f17, H17, %h17⟩, ⟨%f20, H20, %h20⟩⟩
    have hk : k.val < 20 := k.isLt
    unfold k0_t18_body
    sl_exec_parts
    sl_step
    have y0 := raw_half0 _ _ fun r d => raw20 arg2 harg2 f2 k.val hk (k0_off96_eq k) (k0_off96_inb i k k0_h4) r 0 d
    have y1 := raw_half1 _ _ fun r d => raw20 arg2 harg2 f2 k.val hk (k0_off96_eq k) (k0_off96_inb i k k0_h4) r 1 d
    have a0 := head_scale (k0_pay69 v15 v34) (k0_pay70 v15 v34) _ (row40 (rd arg2 f2)) ⟨2 * k.val, by omega⟩ y0
    have a1 := head_scale (k0_pay69 v15 v34) (k0_pay70 v15 v34) _ (row40 (rd arg2 f2)) ⟨2 * k.val + 1, by omega⟩ y1
    have b0 := head_stage (k0_pay69 v15 v34) (k0_pay70 v15 v34) _ (row40 (rd arg2 f2)) ⟨2 * k.val, by omega⟩ y0
    have b1 := head_stage (k0_pay69 v15 v34) (k0_pay70 v15 v34) _ (row40 (rd arg2 f2)) ⟨2 * k.val + 1, by omega⟩ y1
    have t0 := fun d q => att4_apply (k0_pay69 v15 v34) (k0_pay70 v15 v34) _ (row40 (rd arg2 f2)) ⟨2 * k.val, by omega⟩ (2 * k.val) rfl y0 KC KS VT arg14 f14 g14 arg15 f15 g15 arg16 f16 g16 (k0_off99_eq k) (k0_off100_eq k)
      (k0_off99_inb i k k0_h4) (k0_off99_inb i k k0_h4) (k0_off100_inb i k k0_h4) d q
    have t1 := fun d q => att4_apply (k0_pay69 v15 v34) (k0_pay70 v15 v34) _ (row40 (rd arg2 f2)) ⟨2 * k.val + 1, by omega⟩ (2 * k.val + 1) rfl y1 KC KS VT arg14 f14 g14 arg15 f15 g15 arg16 f16 g16 (k0_off105_eq k) (k0_off106_eq k)
      (k0_off105_inb i k k0_h4) (k0_off105_inb i k k0_h4) (k0_off106_inb i k k0_h4) d q
    isplitr
    · ipureintro
      exact max_trip k.val hk acc _ _ t0 t1 hm
    isplitl [H2]; · iexact H2
    isplitl [H7]
    · iexists _; isplitl [H7]; · iexact H7
      ipureintro
      exact col3_trip k.val hk arg7 f7 (k0_off102_eq k) (k0_off108_eq k) (k0_off102_inb i k k0_h4) (k0_off108_inb i k k0_h4) _ _ t0 t1 h7
    isplitl [H9]
    · iexists _; isplitl [H9]; · iexact H9
      ipureintro
      exact row_trip (b := 0) (k := k.val) (by omega) arg9 f9 (k0_off97_eq k) (k0_off103_eq k) _ _ _ _ _ a0 a1 h9
    isplitl [H14]; · iexact H14
    isplitl [H15]; · iexact H15
    isplitl [H16]; · iexact H16
    isplitl [H17]
    · iexists _; isplitl [H17]; · iexact H17
      ipureintro
      exact stage_trip (b := 0) (n := 40) (N := 5248) (q := 41) (k := k.val) (by omega) (by omega) (by omega) arg17 f17 (k0_off98_eq k) (k0_off104_eq k) (k0_off98_inb i k k0_h4) (k0_off104_inb i k k0_h4) spos_41_1 spos_41_1 _ _ (codes (k0_pay69 v15 v34) (k0_pay70 v15 v34) (row40 (rd arg2 f2))) b0 b1 h17
    · iexists _; isplitl [H20]; · iexact H20
      ipureintro
      exact col2_trip k.val hk arg20 f20 (k0_off101_eq k) (k0_off107_eq k) (k0_off101_inb i k k0_h4) (k0_off107_inb i k k0_h4) _ _ t0 t1 h20

/-- Branch 5: the loop over the pairs of query heads, its outputs, codes and scales. -/
def queryLoop_5 (f2 : BufTy.Contents (Elt Ideal) arg2.view.ty) (f14 : BufTy.Contents (Elt Ideal) arg14.view.ty)
    (f15 : BufTy.Contents (Elt Ideal) arg15.view.ty) (f16 : BufTy.Contents (Elt Ideal) arg16.view.ty)
    (KC : Fin 8 → Fin 640 → Fin 128 → EReal) (KS : Fin 8 → Fin 640 → EReal) (VT : Fin 8 → Fin 128 → Fin 640 → EReal)
    (g14 : FKey 512 8 KC (rd arg14 f14)) (g15 : FKey 512 8 (fun h r _ => KS h r) (rd arg15 f15)) (g16 : FVal 512 8 VT (rd arg16 f16))
    (k0_h5 : k0_cond5 i = 1#1) (v15 : Vec Ideal S1x3x128 .i32) (v34 : Vec Ideal S64x128 .f32) (init : FVec Ideal S128x128 .f32) :
    LI c k0_t23_loop (k0_t23_ok i k0_h5) init (k0_t23_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h5 v15 v34) where
  inv := fun k acc => IHeads 640 (by omega) c arg2 arg7 arg9 arg14 arg15 arg16 arg17 arg20 f2 f14 f15 f16 (k0_pay69 v15 v34) (k0_pay70 v15 v34) KC KS VT k acc
  step := fun k acc => by
    iintro ⟨%hm, H2, ⟨%f7, H7, %h7⟩, ⟨%f9, H9, %h9⟩, H14, H15, H16, ⟨%f17, H17, %h17⟩, ⟨%f20, H20, %h20⟩⟩
    have hk : k.val < 20 := k.isLt
    unfold k0_t23_body
    sl_exec_parts
    sl_step
    have y0 := raw_half0 _ _ fun r d => raw20 arg2 harg2 f2 k.val hk (k0_off124_eq k) (k0_off124_inb i k k0_h5) r 0 d
    have y1 := raw_half1 _ _ fun r d => raw20 arg2 harg2 f2 k.val hk (k0_off124_eq k) (k0_off124_inb i k k0_h5) r 1 d
    have a0 := head_scale (k0_pay69 v15 v34) (k0_pay70 v15 v34) _ (row40 (rd arg2 f2)) ⟨2 * k.val, by omega⟩ y0
    have a1 := head_scale (k0_pay69 v15 v34) (k0_pay70 v15 v34) _ (row40 (rd arg2 f2)) ⟨2 * k.val + 1, by omega⟩ y1
    have b0 := head_stage (k0_pay69 v15 v34) (k0_pay70 v15 v34) _ (row40 (rd arg2 f2)) ⟨2 * k.val, by omega⟩ y0
    have b1 := head_stage (k0_pay69 v15 v34) (k0_pay70 v15 v34) _ (row40 (rd arg2 f2)) ⟨2 * k.val + 1, by omega⟩ y1
    have t0 := fun d q => att5_apply (k0_pay69 v15 v34) (k0_pay70 v15 v34) _ (row40 (rd arg2 f2)) ⟨2 * k.val, by omega⟩ (2 * k.val) rfl y0 KC KS VT arg14 f14 g14 arg15 f15 g15 arg16 f16 g16 (k0_off127_eq k) (k0_off128_eq k)
      (k0_off127_inb i k k0_h5) (k0_off127_inb i k k0_h5) (k0_off128_inb i k k0_h5) d q
    have t1 := fun d q => att5_apply (k0_pay69 v15 v34) (k0_pay70 v15 v34) _ (row40 (rd arg2 f2)) ⟨2 * k.val + 1, by omega⟩ (2 * k.val + 1) rfl y1 KC KS VT arg14 f14 g14 arg15 f15 g15 arg16 f16 g16 (k0_off133_eq k) (k0_off134_eq k)
      (k0_off133_inb i k k0_h5) (k0_off133_inb i k k0_h5) (k0_off134_inb i k k0_h5) d q
    isplitr
    · ipureintro
      exact max_trip k.val hk acc _ _ t0 t1 hm
    isplitl [H2]; · iexact H2
    isplitl [H7]
    · iexists _; isplitl [H7]; · iexact H7
      ipureintro
      exact col3_trip k.val hk arg7 f7 (k0_off130_eq k) (k0_off136_eq k) (k0_off130_inb i k k0_h5) (k0_off136_inb i k k0_h5) _ _ t0 t1 h7
    isplitl [H9]
    · iexists _; isplitl [H9]; · iexact H9
      ipureintro
      exact row_trip (b := 0) (k := k.val) (by omega) arg9 f9 (k0_off125_eq k) (k0_off131_eq k) _ _ _ _ _ a0 a1 h9
    isplitl [H14]; · iexact H14
    isplitl [H15]; · iexact H15
    isplitl [H16]; · iexact H16
    isplitl [H17]
    · iexists _; isplitl [H17]; · iexact H17
      ipureintro
      exact stage_trip (b := 0) (n := 40) (N := 5248) (q := 41) (k := k.val) (by omega) (by omega) (by omega) arg17 f17 (k0_off126_eq k) (k0_off132_eq k) (k0_off126_inb i k k0_h5) (k0_off132_inb i k k0_h5) spos_41_1 spos_41_1 _ _ (codes (k0_pay69 v15 v34) (k0_pay70 v15 v34) (row40 (rd arg2 f2))) b0 b1 h17
    · iexists _; isplitl [H20]; · iexact H20
      ipureintro
      exact col2_trip k.val hk arg20 f20 (k0_off129_eq k) (k0_off135_eq k) (k0_off129_inb i k k0_h5) (k0_off135_inb i k k0_h5) _ _ t0 t1 h20

end Cert.Proof.Val

end
-- ==== Proof.Value.OutLoop.lean ====
module

public import proofs.«01_k».proof.Proof.Value.Out

/-!
# The loops that move the codes to the outputs
-/

@[expose] public section

set_option warn.classDefReducibility false
set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
  (arg2 : Memref sig .tc .vmem S5120x128 .bf16) (harg2 : arg2.IsWhole)
  (arg3 : Memref sig .tc .vmem S1024x128 .bf16) (harg3 : arg3.IsWhole)
  (arg4 : Memref sig .tc .vmem S1024x128 .bf16) (harg4 : arg4.IsWhole)
  (arg5 : Memref sig .tc .vmem S1x3x128 .i32) (harg5 : arg5.IsWhole)
  (arg6 : Memref sig .tc .vmem S64x128 .f32) (harg6 : arg6.IsWhole)
  (arg7 : Memref sig .tc .vmem S1x128x5120 .bf16) (harg7 : arg7.IsWhole)
  (arg8 : Memref sig .tc .vmem S5120x128 .fp8e4m3) (harg8 : arg8.IsWhole)
  (arg9 : Memref sig .tc .vmem S1x40x128 .f32) (harg9 : arg9.IsWhole)
  (arg10 : Memref sig .tc .vmem S1024x128 .fp8e4m3) (harg10 : arg10.IsWhole)
  (arg11 : Memref sig .tc .vmem S1x8x128 .f32) (harg11 : arg11.IsWhole)
  (arg12 : Memref sig .tc .vmem S1x128x5120 .fp8e4m3) (harg12 : arg12.IsWhole)
  (arg13 : Memref sig .tc .vmem S1x1x128 .f32) (harg13 : arg13.IsWhole)
  (arg14 : Memref sig .tc .vmem S8x640x128 .fp8e4m3) (harg14 : arg14.IsWhole)
  (arg15 : Memref sig .tc .vmem S8x640x128 .f32) (harg15 : arg15.IsWhole)
  (arg16 : Memref sig .tc .vmem S8x128x640 .bf16) (harg16 : arg16.IsWhole)
  (arg17 : Memref sig .tc .vmem S5248x128 .f32) (harg17 : arg17.IsWhole)
  (arg18 : Memref sig .tc .vmem S1152x128 .f32) (harg18 : arg18.IsWhole)
  (arg19 : Memref sig .tc .vmem S8x128 .f32) (harg19 : arg19.IsWhole)
  (arg20 : Memref sig .tc .vmem S128x5120 .f32) (harg20 : arg20.IsWhole)

/-- Branch 1: the loop that moves the key codes to their output. -/
def keyOut_1 (fs : BufTy.Contents (Elt Ideal) arg18.view.ty) (k0_h1 : k0_cond1 i = 1#1)
    (G : Fin 8 → Fin 128 → Fin 128 → EReal) (hG : FStage 9 8 (N := 1152) (by omega) G (rd arg18 fs)) :
    LI c k0_t2_loop (k0_t2_ok i k0_h1) () (k0_t2_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1) where
  inv := fun k _ => IOut c arg18 arg10 fs (n := 8) (by omega) G (4 * k)
  step := fun k _ => by
    iintro ⟨H18, ⟨%fo, H10, %h0⟩⟩
    have hk : k.val < 32 := k.isLt
    unfold k0_t2_body
    sl_exec_parts
    sl_step
    isplitl [H18]; · iexact H18
    · iexists _; isplitl [H10]; · iexact H10
      ipureintro
      exact out_trip (n := 8) (N := 1024) k.val hk (by omega) arg10 fo ((k0_off11_eq k).trans (by congr 1; omega)) (k0_off11_inb i k k0_h1) _ G
        (fun j h d => (pay75_apply (fun j => arg18.view.readAt (Elt Ideal) (Rect.unit (s := ⟨2, ![1152, 128]⟩) (k0_off10 k (BitVec.ofNat 32 j.val)) S8x128.size (k0_off10_inb i k k0_h1 j)).toLoadRect fs) j h d).trans
          ((ld2 arg18 fs (k0_off10_eq k j) (k0_off10_inb i k k0_h1 j) h d (by omega) (by omega)).trans
            ((congrArg (rd arg18 fs) (congrArg₂ ix2 (Fin.ext (by simp only; omega)) (Fin.ext (by simp only; omega)))).trans (hG h ⟨4 * k.val + j.val, by omega⟩ d (by omega))))) h0

/-- Branch 1: the loop that moves the query codes to their output. -/
def queryOut_1 (fs : BufTy.Contents (Elt Ideal) arg17.view.ty) (k0_h1 : k0_cond1 i = 1#1)
    (G : Fin 40 → Fin 128 → Fin 128 → EReal) (hG : FStage 41 40 (N := 5248) (by omega) G (rd arg17 fs)) :
    LI c k0_t4_loop (k0_t4_ok i k0_h1) () (k0_t4_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1) where
  inv := fun k _ => IOut c arg17 arg8 fs (n := 40) (by omega) G (4 * k)
  step := fun k _ => by
    iintro ⟨H17, ⟨%fo, H8, %h0⟩⟩
    have hk : k.val < 32 := k.isLt
    unfold k0_t4_body
    sl_exec_parts
    sl_step
    isplitl [H17]; · iexact H17
    · iexists _; isplitl [H8]; · iexact H8
      ipureintro
      exact out_trip (n := 40) (N := 5120) k.val hk (by omega) arg8 fo ((k0_off26_eq k).trans (by congr 1; omega)) (k0_off26_inb i k k0_h1) _ G
        (fun j h d => (pay1_apply (fun j => arg17.view.readAt (Elt Ideal) (Rect.unit (s := ⟨2, ![5248, 128]⟩) (k0_off25 k (BitVec.ofNat 32 j.val)) S40x128.size (k0_off25_inb i k k0_h1 j)).toLoadRect fs) j h d).trans
          ((ld2 arg17 fs (k0_off25_eq k j) (k0_off25_inb i k k0_h1 j) h d (by omega) (by omega)).trans
            ((congrArg (rd arg17 fs) (congrArg₂ ix2 (Fin.ext (by simp only; omega)) (Fin.ext (by simp only; omega)))).trans (hG h ⟨4 * k.val + j.val, by omega⟩ d (by omega))))) h0

/-- Branch 2: the loop that moves the key codes to their output. -/
def keyOut_2 (fs : BufTy.Contents (Elt Ideal) arg18.view.ty) (k0_h2 : k0_cond2 i = 1#1)
    (G : Fin 8 → Fin 128 → Fin 128 → EReal) (hG : FStage 9 8 (N := 1152) (by omega) G (rd arg18 fs)) :
    LI c k0_t7_loop (k0_t7_ok i k0_h2) () (k0_t7_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h2) where
  inv := fun k _ => IOut c arg18 arg10 fs (n := 8) (by omega) G (4 * k)
  step := fun k _ => by
    iintro ⟨H18, ⟨%fo, H10, %h0⟩⟩
    have hk : k.val < 32 := k.isLt
    unfold k0_t7_body
    sl_exec_parts
    sl_step
    isplitl [H18]; · iexact H18
    · iexists _; isplitl [H10]; · iexact H10
      ipureintro
      exact out_trip (n := 8) (N := 1024) k.val hk (by omega) arg10 fo ((k0_off39_eq k).trans (by congr 1; omega)) (k0_off39_inb i k k0_h2) _ G
        (fun j h d => (pay75_apply (fun j => arg18.view.readAt (Elt Ideal) (Rect.unit (s := ⟨2, ![1152, 128]⟩) (k0_off38 k (BitVec.ofNat 32 j.val)) S8x128.size (k0_off38_inb i k k0_h2 j)).toLoadRect fs) j h d).trans
          ((ld2 arg18 fs (k0_off38_eq k j) (k0_off38_inb i k k0_h2 j) h d (by omega) (by omega)).trans
            ((congrArg (rd arg18 fs) (congrArg₂ ix2 (Fin.ext (by simp only; omega)) (Fin.ext (by simp only; omega)))).trans (hG h ⟨4 * k.val + j.val, by omega⟩ d (by omega))))) h0

/-- Branch 2: the loop that moves the query codes to their output. -/
def queryOut_2 (fs : BufTy.Contents (Elt Ideal) arg17.view.ty) (k0_h2 : k0_cond2 i = 1#1)
    (G : Fin 40 → Fin 128 → Fin 128 → EReal) (hG : FStage 41 40 (N := 5248) (by omega) G (rd arg17 fs)) :
    LI c k0_t9_loop (k0_t9_ok i k0_h2) () (k0_t9_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h2) where
  inv := fun k _ => IOut c arg17 arg8 fs (n := 40) (by omega) G (4 * k)
  step := fun k _ => by
    iintro ⟨H17, ⟨%fo, H8, %h0⟩⟩
    have hk : k.val < 32 := k.isLt
    unfold k0_t9_body
    sl_exec_parts
    sl_step
    isplitl [H17]; · iexact H17
    · iexists _; isplitl [H8]; · iexact H8
      ipureintro
      exact out_trip (n := 40) (N := 5120) k.val hk (by omega) arg8 fo ((k0_off54_eq k).trans (by congr 1; omega)) (k0_off54_inb i k k0_h2) _ G
        (fun j h d => (pay1_apply (fun j => arg17.view.readAt (Elt Ideal) (Rect.unit (s := ⟨2, ![5248, 128]⟩) (k0_off53 k (BitVec.ofNat 32 j.val)) S40x128.size (k0_off53_inb i k k0_h2 j)).toLoadRect fs) j h d).trans
          ((ld2 arg17 fs (k0_off53_eq k j) (k0_off53_inb i k k0_h2 j) h d (by omega) (by omega)).trans
            ((congrArg (rd arg17 fs) (congrArg₂ ix2 (Fin.ext (by simp only; omega)) (Fin.ext (by simp only; omega)))).trans (hG h ⟨4 * k.val + j.val, by omega⟩ d (by omega))))) h0

/-- Branch 3: the loop that moves the key codes to their output. -/
def keyOut_3 (fs : BufTy.Contents (Elt Ideal) arg18.view.ty) (k0_h3 : k0_cond3 i = 1#1)
    (G : Fin 8 → Fin 128 → Fin 128 → EReal) (hG : FStage 9 8 (N := 1152) (by omega) G (rd arg18 fs)) :
    LI c k0_t12_loop (k0_t12_ok i k0_h3) () (k0_t12_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h3) where
  inv := fun k _ => IOut c arg18 arg10 fs (n := 8) (by omega) G (4 * k)
  step := fun k _ => by
    iintro ⟨H18, ⟨%fo, H10, %h0⟩⟩
    have hk : k.val < 32 := k.isLt
    unfold k0_t12_body
    sl_exec_parts
    sl_step
    isplitl [H18]; · iexact H18
    · iexists _; isplitl [H10]; · iexact H10
      ipureintro
      exact out_trip (n := 8) (N := 1024) k.val hk (by omega) arg10 fo ((k0_off67_eq k).trans (by congr 1; omega)) (k0_off67_inb i k k0_h3) _ G
        (fun j h d => (pay75_apply (fun j => arg18.view.readAt (Elt Ideal) (Rect.unit (s := ⟨2, ![1152, 128]⟩) (k0_off66 k (BitVec.ofNat 32 j.val)) S8x128.size (k0_off66_inb i k k0_h3 j)).toLoadRect fs) j h d).trans
          ((ld2 arg18 fs (k0_off66_eq k j) (k0_off66_inb i k k0_h3 j) h d (by omega) (by omega)).trans
            ((congrArg (rd arg18 fs) (congrArg₂ ix2 (Fin.ext (by simp only; omega)) (Fin.ext (by simp only; omega)))).trans (hG h ⟨4 * k.val + j.val, by omega⟩ d (by omega))))) h0

/-- Branch 3: the loop that moves the query codes to their output. -/
def queryOut_3 (fs : BufTy.Contents (Elt Ideal) arg17.view.ty) (k0_h3 : k0_cond3 i = 1#1)
    (G : Fin 40 → Fin 128 → Fin 128 → EReal) (hG : FStage 41 40 (N := 5248) (by omega) G (rd arg17 fs)) :
    LI c k0_t14_loop (k0_t14_ok i k0_h3) () (k0_t14_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h3) where
  inv := fun k _ => IOut c arg17 arg8 fs (n := 40) (by omega) G (4 * k)
  step := fun k _ => by
    iintro ⟨H17, ⟨%fo, H8, %h0⟩⟩
    have hk : k.val < 32 := k.isLt
    unfold k0_t14_body
    sl_exec_parts
    sl_step
    isplitl [H17]; · iexact H17
    · iexists _; isplitl [H8]; · iexact H8
      ipureintro
      exact out_trip (n := 40) (N := 5120) k.val hk (by omega) arg8 fo ((k0_off82_eq k).trans (by congr 1; omega)) (k0_off82_inb i k k0_h3) _ G
        (fun j h d => (pay1_apply (fun j => arg17.view.readAt (Elt Ideal) (Rect.unit (s := ⟨2, ![5248, 128]⟩) (k0_off81 k (BitVec.ofNat 32 j.val)) S40x128.size (k0_off81_inb i k k0_h3 j)).toLoadRect fs) j h d).trans
          ((ld2 arg17 fs (k0_off81_eq k j) (k0_off81_inb i k k0_h3 j) h d (by omega) (by omega)).trans
            ((congrArg (rd arg17 fs) (congrArg₂ ix2 (Fin.ext (by simp only; omega)) (Fin.ext (by simp only; omega)))).trans (hG h ⟨4 * k.val + j.val, by omega⟩ d (by omega))))) h0

/-- Branch 4: the loop that moves the key codes to their output. -/
def keyOut_4 (fs : BufTy.Contents (Elt Ideal) arg18.view.ty) (k0_h4 : k0_cond4 i = 1#1)
    (G : Fin 8 → Fin 128 → Fin 128 → EReal) (hG : FStage 9 8 (N := 1152) (by omega) G (rd arg18 fs)) :
    LI c k0_t17_loop (k0_t17_ok i k0_h4) () (k0_t17_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h4) where
  inv := fun k _ => IOut c arg18 arg10 fs (n := 8) (by omega) G (4 * k)
  step := fun k _ => by
    iintro ⟨H18, ⟨%fo, H10, %h0⟩⟩
    have hk : k.val < 32 := k.isLt
    unfold k0_t17_body
    sl_exec_parts
    sl_step
    isplitl [H18]; · iexact H18
    · iexists _; isplitl [H10]; · iexact H10
      ipureintro
      exact out_trip (n := 8) (N := 1024) k.val hk (by omega) arg10 fo ((k0_off95_eq k).trans (by congr 1; omega)) (k0_off95_inb i k k0_h4) _ G
        (fun j h d => (pay75_apply (fun j => arg18.view.readAt (Elt Ideal) (Rect.unit (s := ⟨2, ![1152, 128]⟩) (k0_off94 k (BitVec.ofNat 32 j.val)) S8x128.size (k0_off94_inb i k k0_h4 j)).toLoadRect fs) j h d).trans
          ((ld2 arg18 fs (k0_off94_eq k j) (k0_off94_inb i k k0_h4 j) h d (by omega) (by omega)).trans
            ((congrArg (rd arg18 fs) (congrArg₂ ix2 (Fin.ext (by simp only; omega)) (Fin.ext (by simp only; omega)))).trans (hG h ⟨4 * k.val + j.val, by omega⟩ d (by omega))))) h0

/-- Branch 4: the loop that moves the query codes to their output. -/
def queryOut_4 (fs : BufTy.Contents (Elt Ideal) arg17.view.ty) (k0_h4 : k0_cond4 i = 1#1)
    (G : Fin 40 → Fin 128 → Fin 128 → EReal) (hG : FStage 41 40 (N := 5248) (by omega) G (rd arg17 fs)) :
    LI c k0_t19_loop (k0_t19_ok i k0_h4) () (k0_t19_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h4) where
  inv := fun k _ => IOut c arg17 arg8 fs (n := 40) (by omega) G (4 * k)
  step := fun k _ => by
    iintro ⟨H17, ⟨%fo, H8, %h0⟩⟩
    have hk : k.val < 32 := k.isLt
    unfold k0_t19_body
    sl_exec_parts
    sl_step
    isplitl [H17]; · iexact H17
    · iexists _; isplitl [H8]; · iexact H8
      ipureintro
      exact out_trip (n := 40) (N := 5120) k.val hk (by omega) arg8 fo ((k0_off110_eq k).trans (by congr 1; omega)) (k0_off110_inb i k k0_h4) _ G
        (fun j h d => (pay1_apply (fun j => arg17.view.readAt (Elt Ideal) (Rect.unit (s := ⟨2, ![5248, 128]⟩) (k0_off109 k (BitVec.ofNat 32 j.val)) S40x128.size (k0_off109_inb i k k0_h4 j)).toLoadRect fs) j h d).trans
          ((ld2 arg17 fs (k0_off109_eq k j) (k0_off109_inb i k k0_h4 j) h d (by omega) (by omega)).trans
            ((congrArg (rd arg17 fs) (congrArg₂ ix2 (Fin.ext (by simp only; omega)) (Fin.ext (by simp only; omega)))).trans (hG h ⟨4 * k.val + j.val, by omega⟩ d (by omega))))) h0

/-- Branch 5: the loop that moves the key codes to their output. -/
def keyOut_5 (fs : BufTy.Contents (Elt Ideal) arg18.view.ty) (k0_h5 : k0_cond5 i = 1#1)
    (G : Fin 8 → Fin 128 → Fin 128 → EReal) (hG : FStage 9 8 (N := 1152) (by omega) G (rd arg18 fs)) :
    LI c k0_t22_loop (k0_t22_ok i k0_h5) () (k0_t22_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h5) where
  inv := fun k _ => IOut c arg18 arg10 fs (n := 8) (by omega) G (4 * k)
  step := fun k _ => by
    iintro ⟨H18, ⟨%fo, H10, %h0⟩⟩
    have hk : k.val < 32 := k.isLt
    unfold k0_t22_body
    sl_exec_parts
    sl_step
    isplitl [H18]; · iexact H18
    · iexists _; isplitl [H10]; · iexact H10
      ipureintro
      exact out_trip (n := 8) (N := 1024) k.val hk (by omega) arg10 fo ((k0_off123_eq k).trans (by congr 1; omega)) (k0_off123_inb i k k0_h5) _ G
        (fun j h d => (pay75_apply (fun j => arg18.view.readAt (Elt Ideal) (Rect.unit (s := ⟨2, ![1152, 128]⟩) (k0_off122 k (BitVec.ofNat 32 j.val)) S8x128.size (k0_off122_inb i k k0_h5 j)).toLoadRect fs) j h d).trans
          ((ld2 arg18 fs (k0_off122_eq k j) (k0_off122_inb i k k0_h5 j) h d (by omega) (by omega)).trans
            ((congrArg (rd arg18 fs) (congrArg₂ ix2 (Fin.ext (by simp only; omega)) (Fin.ext (by simp only; omega)))).trans (hG h ⟨4 * k.val + j.val, by omega⟩ d (by omega))))) h0

/-- Branch 5: the loop that moves the query codes to their output. -/
def queryOut_5 (fs : BufTy.Contents (Elt Ideal) arg17.view.ty) (k0_h5 : k0_cond5 i = 1#1)
    (G : Fin 40 → Fin 128 → Fin 128 → EReal) (hG : FStage 41 40 (N := 5248) (by omega) G (rd arg17 fs)) :
    LI c k0_t24_loop (k0_t24_ok i k0_h5) () (k0_t24_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h5) where
  inv := fun k _ => IOut c arg17 arg8 fs (n := 40) (by omega) G (4 * k)
  step := fun k _ => by
    iintro ⟨H17, ⟨%fo, H8, %h0⟩⟩
    have hk : k.val < 32 := k.isLt
    unfold k0_t24_body
    sl_exec_parts
    sl_step
    isplitl [H17]; · iexact H17
    · iexists _; isplitl [H8]; · iexact H8
      ipureintro
      exact out_trip (n := 40) (N := 5120) k.val hk (by omega) arg8 fo ((k0_off138_eq k).trans (by congr 1; omega)) (k0_off138_inb i k k0_h5) _ G
        (fun j h d => (pay1_apply (fun j => arg17.view.readAt (Elt Ideal) (Rect.unit (s := ⟨2, ![5248, 128]⟩) (k0_off137 k (BitVec.ofNat 32 j.val)) S40x128.size (k0_off137_inb i k k0_h5 j)).toLoadRect fs) j h d).trans
          ((ld2 arg17 fs (k0_off137_eq k j) (k0_off137_inb i k k0_h5 j) h d (by omega) (by omega)).trans
            ((congrArg (rd arg17 fs) (congrArg₂ ix2 (Fin.ext (by simp only; omega)) (Fin.ext (by simp only; omega)))).trans (hG h ⟨4 * k.val + j.val, by omega⟩ d (by omega))))) h0

/-- Branch 1: the loop that writes the codes of the output. -/
def codeLoop_1 (k0_h1 : k0_cond1 i = 1#1) (v49 : FVec Ideal S128x128 .f32) (O : Fin 40 → Fin 128 → Fin 128 → EReal) (hm : FMax 40 O v49)
    (f20 : BufTy.Contents (Elt Ideal) arg20.view.ty) (h20 : FCol2 40 O (rd arg20 f20)) :
    LI c k0_t5_loop (k0_t5_ok i k0_h1) () (k0_t5_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v49) where
  inv := fun k _ => ICode c arg20 arg12 f20 O k
  step := fun k _ => by
    iintro ⟨H20, ⟨%f12, H12, %h12⟩⟩
    have hk : k.val < 40 := k.isLt
    unfold k0_t5_body
    sl_exec_parts
    sl_step
    isplitl [H20]; · iexact H20
    · iexists _; isplitl [H12]; · iexact H12
      ipureintro
      exact code_trip hm k.val hk arg12 f12 arg20 f20 h20 (k0_off27_eq k) (k0_off28_eq k) (k0_off27_inb i k k0_h1) (k0_off28_inb i k k0_h1) h12

/-- Branch 2: the loop that writes the codes of the output. -/
def codeLoop_2 (k0_h2 : k0_cond2 i = 1#1) (v49 : FVec Ideal S128x128 .f32) (O : Fin 40 → Fin 128 → Fin 128 → EReal) (hm : FMax 40 O v49)
    (f20 : BufTy.Contents (Elt Ideal) arg20.view.ty) (h20 : FCol2 40 O (rd arg20 f20)) :
    LI c k0_t10_loop (k0_t10_ok i k0_h2) () (k0_t10_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h2 v49) where
  inv := fun k _ => ICode c arg20 arg12 f20 O k
  step := fun k _ => by
    iintro ⟨H20, ⟨%f12, H12, %h12⟩⟩
    have hk : k.val < 40 := k.isLt
    unfold k0_t10_body
    sl_exec_parts
    sl_step
    isplitl [H20]; · iexact H20
    · iexists _; isplitl [H12]; · iexact H12
      ipureintro
      exact code_trip hm k.val hk arg12 f12 arg20 f20 h20 (k0_off55_eq k) (k0_off56_eq k) (k0_off55_inb i k k0_h2) (k0_off56_inb i k k0_h2) h12

/-- Branch 3: the loop that writes the codes of the output. -/
def codeLoop_3 (k0_h3 : k0_cond3 i = 1#1) (v49 : FVec Ideal S128x128 .f32) (O : Fin 40 → Fin 128 → Fin 128 → EReal) (hm : FMax 40 O v49)
    (f20 : BufTy.Contents (Elt Ideal) arg20.view.ty) (h20 : FCol2 40 O (rd arg20 f20)) :
    LI c k0_t15_loop (k0_t15_ok i k0_h3) () (k0_t15_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h3 v49) where
  inv := fun k _ => ICode c arg20 arg12 f20 O k
  step := fun k _ => by
    iintro ⟨H20, ⟨%f12, H12, %h12⟩⟩
    have hk : k.val < 40 := k.isLt
    unfold k0_t15_body
    sl_exec_parts
    sl_step
    isplitl [H20]; · iexact H20
    · iexists _; isplitl [H12]; · iexact H12
      ipureintro
      exact code_trip hm k.val hk arg12 f12 arg20 f20 h20 (k0_off83_eq k) (k0_off84_eq k) (k0_off83_inb i k k0_h3) (k0_off84_inb i k k0_h3) h12

/-- Branch 4: the loop that writes the codes of the output. -/
def codeLoop_4 (k0_h4 : k0_cond4 i = 1#1) (v49 : FVec Ideal S128x128 .f32) (O : Fin 40 → Fin 128 → Fin 128 → EReal) (hm : FMax 40 O v49)
    (f20 : BufTy.Contents (Elt Ideal) arg20.view.ty) (h20 : FCol2 40 O (rd arg20 f20)) :
    LI c k0_t20_loop (k0_t20_ok i k0_h4) () (k0_t20_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h4 v49) where
  inv := fun k _ => ICode c arg20 arg12 f20 O k
  step := fun k _ => by
    iintro ⟨H20, ⟨%f12, H12, %h12⟩⟩
    have hk : k.val < 40 := k.isLt
    unfold k0_t20_body
    sl_exec_parts
    sl_step
    isplitl [H20]; · iexact H20
    · iexists _; isplitl [H12]; · iexact H12
      ipureintro
      exact code_trip hm k.val hk arg12 f12 arg20 f20 h20 (k0_off111_eq k) (k0_off112_eq k) (k0_off111_inb i k k0_h4) (k0_off112_inb i k k0_h4) h12

/-- Branch 5: the loop that writes the codes of the output. -/
def codeLoop_5 (k0_h5 : k0_cond5 i = 1#1) (v49 : FVec Ideal S128x128 .f32) (O : Fin 40 → Fin 128 → Fin 128 → EReal) (hm : FMax 40 O v49)
    (f20 : BufTy.Contents (Elt Ideal) arg20.view.ty) (h20 : FCol2 40 O (rd arg20 f20)) :
    LI c k0_t25_loop (k0_t25_ok i k0_h5) () (k0_t25_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h5 v49) where
  inv := fun k _ => ICode c arg20 arg12 f20 O k
  step := fun k _ => by
    iintro ⟨H20, ⟨%f12, H12, %h12⟩⟩
    have hk : k.val < 40 := k.isLt
    unfold k0_t25_body
    sl_exec_parts
    sl_step
    isplitl [H20]; · iexact H20
    · iexists _; isplitl [H12]; · iexact H12
      ipureintro
      exact code_trip hm k.val hk arg12 f12 arg20 f20 h20 (k0_off139_eq k) (k0_off140_eq k) (k0_off139_inb i k k0_h5) (k0_off140_inb i k k0_h5) h12

end Cert.Proof.Val

end
-- ==== Proof.Value.BodyBase.lean ====
module

public import proofs.«01_k».proof.Proof.Value.KeyLoop
public import proofs.«01_k».proof.Proof.Value.QueryLoop
public import proofs.«01_k».proof.Proof.Value.OutLoop

/-!
# What the body leaves
-/

@[expose] public section

set_option warn.classDefReducibility false
set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A load of a whole rank 2 buffer. -/
theorem ld_all2 {e : EltTy} {N0 N1 : Nat} (M : Memref sig .tc .vmem ⟨2, ![N0, N1]⟩ e) (f : BufTy.Contents (Elt Ideal) M.view.ty) (inb) :
    M.view.readAt (Elt Ideal) (Rect.unit (s := ⟨2, ![N0, N1]⟩) ![0, 0] (⟨2, ![N0, N1]⟩ : Shape).size inb).toLoadRect f = rd M f := by
  funext j
  refine congrArg (rd M f) (funext fun t => Fin.ext ?_)
  fin_cases t <;> exact (Nat.zero_add _).trans (Nat.one_mul _)

/-- A load of a whole rank 3 buffer. -/
theorem ld_all3 {e : EltTy} {N0 N1 N2 : Nat} (M : Memref sig .tc .vmem ⟨3, ![N0, N1, N2]⟩ e) (f : BufTy.Contents (Elt Ideal) M.view.ty) (inb) :
    M.view.readAt (Elt Ideal) (Rect.unit (s := ⟨3, ![N0, N1, N2]⟩) ![0, 0, 0] (⟨3, ![N0, N1, N2]⟩ : Shape).size inb).toLoadRect f = rd M f := by
  funext j
  refine congrArg (rd M f) (funext fun t => Fin.ext ?_)
  fin_cases t <;> exact (Nat.zero_add _).trans (Nat.one_mul _)

/-- The scales of the outputs, stored whole. -/
theorem scale_row (M : Memref sig .tc .vmem S1x1x128 .f32) (f : BufTy.Contents (Elt Ideal) M.view.ty) (inb)
    (mx : FVec Ideal S128x128 .f32) {O : Fin 40 → Fin 128 → Fin 128 → EReal} (hm : FMax 40 O mx) (q : Fin 128) :
    rd M (M.view.writes (Elt Ideal) f [⟨Rect.unit (s := S1x1x128) ![0, 0, 0] S1x1x128.size inb, k0_pay3 (F := Ideal) mx⟩]) (ix3 0 0 q)
      = Ideal.exp2 (oexp O q) := by
  refine put3 M f rfl _ _ _ _ _ _ _ (fun x y z e0 e1 e2 => ?_) fun n1 => ?_
  · obtain rfl : x = 0 := Fin.fin_one_eq_zero x
    obtain rfl : y = 0 := Fin.fin_one_eq_zero y
    obtain rfl : q = z := Fin.ext (by omega)
    exact pay3_apply hm q
  · exact absurd ⟨⟨by simp, by simp⟩, ⟨by simp, by simp⟩, by omega, by have := q.isLt; omega⟩ n1

/-- What the body leaves. -/
abbrev Post (b : Nat) (hn : b + 128 ≤ 640) (c : Dev nD)
  (arg2 : Memref sig .tc .vmem S5120x128 .bf16)
  (arg3 : Memref sig .tc .vmem S1024x128 .bf16)
  (arg4 : Memref sig .tc .vmem S1024x128 .bf16)
  (arg5 : Memref sig .tc .vmem S1x3x128 .i32)
  (arg6 : Memref sig .tc .vmem S64x128 .f32)
  (arg7 : Memref sig .tc .vmem S1x128x5120 .bf16)
  (arg8 : Memref sig .tc .vmem S5120x128 .fp8e4m3)
  (arg9 : Memref sig .tc .vmem S1x40x128 .f32)
  (arg10 : Memref sig .tc .vmem S1024x128 .fp8e4m3)
  (arg11 : Memref sig .tc .vmem S1x8x128 .f32)
  (arg12 : Memref sig .tc .vmem S1x128x5120 .fp8e4m3)
  (arg13 : Memref sig .tc .vmem S1x1x128 .f32)
  (arg14 : Memref sig .tc .vmem S8x640x128 .fp8e4m3)
  (arg15 : Memref sig .tc .vmem S8x640x128 .f32)
  (arg16 : Memref sig .tc .vmem S8x128x640 .bf16)
  (arg17 : Memref sig .tc .vmem S5248x128 .f32)
  (arg18 : Memref sig .tc .vmem S1152x128 .f32)
  (arg19 : Memref sig .tc .vmem S8x128 .f32)
  (arg20 : Memref sig .tc .vmem S128x5120 .f32)
  (f2 : BufTy.Contents (Elt Ideal) arg2.view.ty) (f3 : BufTy.Contents (Elt Ideal) arg3.view.ty) (f4 : BufTy.Contents (Elt Ideal) arg4.view.ty)
  (f5 : BufTy.Contents (Elt Ideal) arg5.view.ty) (f6 : BufTy.Contents (Elt Ideal) arg6.view.ty)
  (KC : Fin 8 → Fin 640 → Fin 128 → EReal) (KS : Fin 8 → Fin 640 → EReal) (VT : Fin 8 → Fin 128 → Fin 640 → EReal) : sProp 𝕄 :=
  iprop(pt c arg2 f2 ∗ pt c arg3 f3 ∗ pt c arg4 f4 ∗ pt c arg5 f5 ∗ pt c arg6 f6
    ∗ (∃ f, pt c arg7 f ∗ ⌜FCol3 40 (attn (b + 128) hn (k0_pay69 (rd arg5 f5) (rd arg6 f6)) (k0_pay70 (rd arg5 f5) (rd arg6 f6)) (row40 (rd arg2 f2)) KC KS VT) (rd arg7 f)⌝)
    ∗ (∃ f, pt c arg8 f ∗ ⌜FOut (n := 40) (N := 5120) 128 (by omega) (codes (k0_pay69 (rd arg5 f5) (rd arg6 f6)) (k0_pay70 (rd arg5 f5) (rd arg6 f6)) (row40 (rd arg2 f2))) (rd arg8 f)⌝)
    ∗ (∃ f, pt c arg9 f ∗ ⌜FRow 40 (scales (k0_pay69 (rd arg5 f5) (rd arg6 f6)) (k0_pay70 (rd arg5 f5) (rd arg6 f6)) (row40 (rd arg2 f2))) (rd arg9 f)⌝)
    ∗ (∃ f, pt c arg10 f ∗ ⌜FOut (n := 8) (N := 1024) 128 (by omega) (codes (k0_pay69 (rd arg5 f5) (rd arg6 f6)) (k0_pay70 (rd arg5 f5) (rd arg6 f6)) (row8 (rd arg3 f3))) (rd arg10 f)⌝)
    ∗ (∃ f, pt c arg11 f ∗ ⌜FRow 8 (scales (k0_pay69 (rd arg5 f5) (rd arg6 f6)) (k0_pay70 (rd arg5 f5) (rd arg6 f6)) (row8 (rd arg3 f3))) (rd arg11 f)⌝)
    ∗ (∃ f, pt c arg12 f ∗ ⌜FCol3 40 (ocode (attn (b + 128) hn (k0_pay69 (rd arg5 f5) (rd arg6 f6)) (k0_pay70 (rd arg5 f5) (rd arg6 f6)) (row40 (rd arg2 f2)) KC KS VT)) (rd arg12 f)⌝)
    ∗ (∃ f, pt c arg13 f ∗ ⌜∀ q : Fin 128, rd arg13 f (ix3 0 0 q) = Ideal.exp2 (oexp (attn (b + 128) hn (k0_pay69 (rd arg5 f5) (rd arg6 f6)) (k0_pay70 (rd arg5 f5) (rd arg6 f6)) (row40 (rd arg2 f2)) KC KS VT) q)⌝)
    ∗ (∃ f, pt c arg14 f ∗ ⌜FKey b 8 KC (rd arg14 f)⌝) ∗ (∃ f, pt c arg15 f ∗ ⌜FKey b 8 (fun h r _ => KS h r) (rd arg15 f)⌝)
    ∗ (∃ f, pt c arg16 f ∗ ⌜FVal b 8 VT (rd arg16 f)⌝)
    ∗ (∃ f, pt c arg17 f) ∗ (∃ f, pt c arg18 f) ∗ (∃ f, pt c arg19 f) ∗ (∃ f, pt c arg20 f))

end Cert.Proof.Val

end
-- ==== Proof.Value.Body.lean ====
module

public import proofs.«01_k».proof.Proof.Value.BodyBase

/-!
# The body of the kernel at each query block
-/

@[expose] public section

set_option warn.classDefReducibility false
set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
  (arg2 : Memref sig .tc .vmem S5120x128 .bf16) (harg2 : arg2.IsWhole)
  (arg3 : Memref sig .tc .vmem S1024x128 .bf16) (harg3 : arg3.IsWhole)
  (arg4 : Memref sig .tc .vmem S1024x128 .bf16) (harg4 : arg4.IsWhole)
  (arg5 : Memref sig .tc .vmem S1x3x128 .i32) (harg5 : arg5.IsWhole)
  (arg6 : Memref sig .tc .vmem S64x128 .f32) (harg6 : arg6.IsWhole)
  (arg7 : Memref sig .tc .vmem S1x128x5120 .bf16) (harg7 : arg7.IsWhole)
  (arg8 : Memref sig .tc .vmem S5120x128 .fp8e4m3) (harg8 : arg8.IsWhole)
  (arg9 : Memref sig .tc .vmem S1x40x128 .f32) (harg9 : arg9.IsWhole)
  (arg10 : Memref sig .tc .vmem S1024x128 .fp8e4m3) (harg10 : arg10.IsWhole)
  (arg11 : Memref sig .tc .vmem S1x8x128 .f32) (harg11 : arg11.IsWhole)
  (arg12 : Memref sig .tc .vmem S1x128x5120 .fp8e4m3) (harg12 : arg12.IsWhole)
  (arg13 : Memref sig .tc .vmem S1x1x128 .f32) (harg13 : arg13.IsWhole)
  (arg14 : Memref sig .tc .vmem S8x640x128 .fp8e4m3) (harg14 : arg14.IsWhole)
  (arg15 : Memref sig .tc .vmem S8x640x128 .f32) (harg15 : arg15.IsWhole)
  (arg16 : Memref sig .tc .vmem S8x128x640 .bf16) (harg16 : arg16.IsWhole)
  (arg17 : Memref sig .tc .vmem S5248x128 .f32) (harg17 : arg17.IsWhole)
  (arg18 : Memref sig .tc .vmem S1152x128 .f32) (harg18 : arg18.IsWhole)
  (arg19 : Memref sig .tc .vmem S8x128 .f32) (harg19 : arg19.IsWhole)
  (arg20 : Memref sig .tc .vmem S128x5120 .f32) (harg20 : arg20.IsWhole)

set_option maxHeartbeats 1000000 in
/-- The body at query block 0. -/
theorem body_1 (h1 : k0_cond1 i = 1#1) (h2 : ¬ k0_cond2 i = 1#1) (h3 : ¬ k0_cond3 i = 1#1) (h4 : ¬ k0_cond4 i = 1#1) (h5 : ¬ k0_cond5 i = 1#1)
  (f2 : BufTy.Contents (Elt Ideal) arg2.view.ty) (f3 : BufTy.Contents (Elt Ideal) arg3.view.ty) (f4 : BufTy.Contents (Elt Ideal) arg4.view.ty)
  (f5 : BufTy.Contents (Elt Ideal) arg5.view.ty) (f6 : BufTy.Contents (Elt Ideal) arg6.view.ty)
  (KC : Fin 8 → Fin 640 → Fin 128 → EReal) (KS : Fin 8 → Fin 640 → EReal) (VT : Fin 8 → Fin 128 → Fin 640 → EReal)
  (B : KeyBlock 0 (by omega) (k0_pay69 (rd arg5 f5) (rd arg6 f6)) (k0_pay70 (rd arg5 f5) (rd arg6 f6)) (rd arg3 f3) (rd arg4 f4) KC KS VT)
  (f14 : BufTy.Contents (Elt Ideal) arg14.view.ty) (f15 : BufTy.Contents (Elt Ideal) arg15.view.ty) (f16 : BufTy.Contents (Elt Ideal) arg16.view.ty)
  (g14 : FKey 0 0 KC (rd arg14 f14)) (g15 : FKey 0 0 (fun h r _ => KS h r) (rd arg15 f15)) (g16 : FVal 0 0 VT (rd arg16 f16)) :
    iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ pt c arg14 f14 ∗ pt c arg15 f15 ∗ pt c arg16 f16 ∗ (∃ f, pt c arg17 f) ∗ (∃ f, pt c arg18 f) ∗ (∃ f, pt c arg19 f) ∗ (∃ f, pt c arg20 f))
    ⊢ wp Idealize.ShloMosaic.frame (wpE (defs₀ (F := Ideal)) 𝒱₀ (c : Thread nD τ) none) Set.univ
      (cc0_mrope_attention (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (fun _ => Post 0 (by omega) c arg2 arg3 arg4 arg5 arg6 arg7 arg8 arg9 arg10 arg11 arg12 arg13 arg14 arg15 arg16 arg17 arg18 arg19 arg20 f2 f3 f4 f5 f6 KC KS VT) := by
  iintro ⟨H2, H3, H4, H5, H6, ⟨%f7, H7⟩, ⟨%f8, H8⟩, ⟨%f9, H9⟩, ⟨%f10, H10⟩, ⟨%f11, H11⟩, ⟨%f12, H12⟩, ⟨%f13, H13⟩, H14, H15, H16, ⟨%f17, H17⟩, ⟨%f18, H18⟩, ⟨%f19, H19⟩, ⟨%f20, H20⟩⟩
  simp only [cc0_mrope_attention_eq_skeleton]
  unfold cc0_mrope_attention_skel
  sl_exec_parts
  rw [ld_all3 arg5 f5, ld_all2 arg6 f6]
  iapply (loop_app' c _ _ _ _ _ _ (keyLoop_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f3 f4 h1 (rd arg5 f5) (rd arg6 f6) KC KS VT B)
    (A := IKey 0 c arg3 arg4 arg11 arg14 arg15 arg16 arg18 f3 f4 (k0_pay69 (rd arg5 f5) (rd arg6 f6)) (k0_pay70 (rd arg5 f5) (rd arg6 f6)) KC KS VT 0) (D := fun _ => IKey 0 c arg3 arg4 arg11 arg14 arg15 arg16 arg18 f3 f4 (k0_pay69 (rd arg5 f5) (rd arg6 f6)) (k0_pay70 (rd arg5 f5) (rd arg6 f6)) KC KS VT 4) rfl rfl)
  isplitl [H3 H4 H11 H14 H15 H16 H18]
  · isplitl [H3]; · iexact H3
    isplitl [H4]; · iexact H4
    isplitl [H11]; · iexists _; isplitl [H11]; (· iexact H11); ipureintro; exact fun h r hh => absurd hh (by omega)
    isplitl [H14]; · iexists _; isplitl [H14]; (· iexact H14); ipureintro; exact g14
    isplitl [H15]; · iexists _; isplitl [H15]; (· iexact H15); ipureintro; exact g15
    isplitl [H16]; · iexists _; isplitl [H16]; (· iexact H16); ipureintro; exact g16
    · iexists _; isplitl [H18]; (· iexact H18); ipureintro; exact fun h r d hh => absurd hh (by omega)
  iintro %_ ⟨H3, H4, ⟨%p11, H11, %e11⟩, ⟨%p14, H14, %e14⟩, ⟨%p15, H15, %e15⟩, ⟨%p16, H16, %e16⟩, ⟨%p18, H18, %e18⟩⟩
  iapply (loop_app' c _ _ _ _ _ _ (keyOut_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 p18 h1 _ e18)
    (A := IOut c arg18 arg10 p18 (n := 8) (by omega) (codes (k0_pay69 (rd arg5 f5) (rd arg6 f6)) (k0_pay70 (rd arg5 f5) (rd arg6 f6)) (row8 (rd arg3 f3))) 0) (D := fun _ => IOut c arg18 arg10 p18 (n := 8) (by omega) (codes (k0_pay69 (rd arg5 f5) (rd arg6 f6)) (k0_pay70 (rd arg5 f5) (rd arg6 f6)) (row8 (rd arg3 f3))) 128) rfl rfl)
  isplitl [H18 H10]
  · isplitl [H18]; · iexact H18
    · iexists _; isplitl [H10]; (· iexact H10); ipureintro; exact fun h r d hh => absurd hh (by omega)
  iintro %_ ⟨H18, ⟨%p10, H10, %e10⟩⟩
  iapply (loop_app' c _ _ _ _ _ _ (queryLoop_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 p14 p15 p16 KC KS VT e14 e15 e16 h1 (rd arg5 f5) (rd arg6 f6) _)
    (A := IHeads 128 (by omega) c arg2 arg7 arg9 arg14 arg15 arg16 arg17 arg20 f2 p14 p15 p16 (k0_pay69 (rd arg5 f5) (rd arg6 f6)) (k0_pay70 (rd arg5 f5) (rd arg6 f6)) KC KS VT 0 (k0_pay77 (F := Ideal))) (D := fun acc => IHeads 128 (by omega) c arg2 arg7 arg9 arg14 arg15 arg16 arg17 arg20 f2 p14 p15 p16 (k0_pay69 (rd arg5 f5) (rd arg6 f6)) (k0_pay70 (rd arg5 f5) (rd arg6 f6)) KC KS VT 20 acc) rfl rfl)
  isplitl [H2 H7 H9 H14 H15 H16 H17 H20]
  · isplitr; · ipureintro; exact max_zero
    isplitl [H2]; · iexact H2
    isplitl [H7]; · iexists _; isplitl [H7]; (· iexact H7); ipureintro; exact fun h q d hh => absurd hh (by omega)
    isplitl [H9]; · iexists _; isplitl [H9]; (· iexact H9); ipureintro; exact fun h r hh => absurd hh (by omega)
    isplitl [H14]; · iexact H14
    isplitl [H15]; · iexact H15
    isplitl [H16]; · iexact H16
    isplitl [H17]; · iexists _; isplitl [H17]; (· iexact H17); ipureintro; exact fun h r d hh => absurd hh (by omega)
    · iexists _; isplitl [H20]; (· iexact H20); ipureintro; exact fun h q d hh => absurd hh (by omega)
  iintro %mx ⟨%emx, H2, ⟨%p7, H7, %e7⟩, ⟨%p9, H9, %e9⟩, H14, H15, H16, ⟨%p17, H17, %e17⟩, ⟨%p20, H20, %e20⟩⟩
  sl_exec_parts
  iapply (loop_app' c _ _ _ _ _ _ (queryOut_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 p17 h1 _ e17)
    (A := IOut c arg17 arg8 p17 (n := 40) (by omega) (codes (k0_pay69 (rd arg5 f5) (rd arg6 f6)) (k0_pay70 (rd arg5 f5) (rd arg6 f6)) (row40 (rd arg2 f2))) 0) (D := fun _ => IOut c arg17 arg8 p17 (n := 40) (by omega) (codes (k0_pay69 (rd arg5 f5) (rd arg6 f6)) (k0_pay70 (rd arg5 f5) (rd arg6 f6)) (row40 (rd arg2 f2))) 128) rfl rfl)
  isplitl [H17 H8]
  · isplitl [H17]; · iexact H17
    · iexists _; isplitl [H8]; (· iexact H8); ipureintro; exact fun h r d hh => absurd hh (by omega)
  iintro %_ ⟨H17, ⟨%p8, H8, %e8⟩⟩
  sl_exec_parts
  iapply (loop_app' c _ _ _ _ _ _ (codeLoop_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 mx _ emx p20 e20)
    (A := ICode c arg20 arg12 p20 (attn 128 (by omega) (k0_pay69 (rd arg5 f5) (rd arg6 f6)) (k0_pay70 (rd arg5 f5) (rd arg6 f6)) (row40 (rd arg2 f2)) KC KS VT) 0) (D := fun _ => ICode c arg20 arg12 p20 (attn 128 (by omega) (k0_pay69 (rd arg5 f5) (rd arg6 f6)) (k0_pay70 (rd arg5 f5) (rd arg6 f6)) (row40 (rd arg2 f2)) KC KS VT) 40) rfl rfl)
  isplitl [H20 H12]
  · isplitl [H20]; · iexact H20
    · iexists _; isplitl [H12]; (· iexact H12); ipureintro; exact fun h q d hh => absurd hh (by omega)
  iintro %_ ⟨H20, ⟨%q12, H12, %e12⟩⟩
  sl_exec_parts
  sl_step
  isplitl [H2]; · iexact H2
  isplitl [H3]; · iexact H3
  isplitl [H4]; · iexact H4
  isplitl [H5]; · iexact H5
  isplitl [H6]; · iexact H6
  isplitl [H7]; · iexists _; isplitl [H7]; (· iexact H7); ipureintro; exact e7
  isplitl [H8]; · iexists _; isplitl [H8]; (· iexact H8); ipureintro; exact e8
  isplitl [H9]; · iexists _; isplitl [H9]; (· iexact H9); ipureintro; exact e9
  isplitl [H10]; · iexists _; isplitl [H10]; (· iexact H10); ipureintro; exact e10
  isplitl [H11]; · iexists _; isplitl [H11]; (· iexact H11); ipureintro; exact e11
  isplitl [H12]; · iexists _; isplitl [H12]; (· iexact H12); ipureintro; exact e12
  isplitl [H13]; · iexists _; isplitl [H13]; (· iexact H13); ipureintro; exact scale_row arg13 _ _ _ emx
  isplitl [H14]; · iexists _; isplitl [H14]; (· iexact H14); ipureintro; exact e14
  isplitl [H15]; · iexists _; isplitl [H15]; (· iexact H15); ipureintro; exact e15
  isplitl [H16]; · iexists _; isplitl [H16]; (· iexact H16); ipureintro; exact e16
  isplitl [H17]; · iexists _; iexact H17
  isplitl [H18]; · iexists _; iexact H18
  isplitl [H19]; · iexists _; iexact H19
  · iexists _; iexact H20

set_option maxHeartbeats 1000000 in
/-- The body at query block 1. -/
theorem body_2 (h1 : ¬ k0_cond1 i = 1#1) (h2 : k0_cond2 i = 1#1) (h3 : ¬ k0_cond3 i = 1#1) (h4 : ¬ k0_cond4 i = 1#1) (h5 : ¬ k0_cond5 i = 1#1)
  (f2 : BufTy.Contents (Elt Ideal) arg2.view.ty) (f3 : BufTy.Contents (Elt Ideal) arg3.view.ty) (f4 : BufTy.Contents (Elt Ideal) arg4.view.ty)
  (f5 : BufTy.Contents (Elt Ideal) arg5.view.ty) (f6 : BufTy.Contents (Elt Ideal) arg6.view.ty)
  (KC : Fin 8 → Fin 640 → Fin 128 → EReal) (KS : Fin 8 → Fin 640 → EReal) (VT : Fin 8 → Fin 128 → Fin 640 → EReal)
  (B : KeyBlock 128 (by omega) (k0_pay69 (rd arg5 f5) (rd arg6 f6)) (k0_pay70 (rd arg5 f5) (rd arg6 f6)) (rd arg3 f3) (rd arg4 f4) KC KS VT)
  (f14 : BufTy.Contents (Elt Ideal) arg14.view.ty) (f15 : BufTy.Contents (Elt Ideal) arg15.view.ty) (f16 : BufTy.Contents (Elt Ideal) arg16.view.ty)
  (g14 : FKey 128 0 KC (rd arg14 f14)) (g15 : FKey 128 0 (fun h r _ => KS h r) (rd arg15 f15)) (g16 : FVal 128 0 VT (rd arg16 f16)) :
    iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ pt c arg14 f14 ∗ pt c arg15 f15 ∗ pt c arg16 f16 ∗ (∃ f, pt c arg17 f) ∗ (∃ f, pt c arg18 f) ∗ (∃ f, pt c arg19 f) ∗ (∃ f, pt c arg20 f))
    ⊢ wp Idealize.ShloMosaic.frame (wpE (defs₀ (F := Ideal)) 𝒱₀ (c : Thread nD τ) none) Set.univ
      (cc0_mrope_attention (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (fun _ => Post 128 (by omega) c arg2 arg3 arg4 arg5 arg6 arg7 arg8 arg9 arg10 arg11 arg12 arg13 arg14 arg15 arg16 arg17 arg18 arg19 arg20 f2 f3 f4 f5 f6 KC KS VT) := by
  iintro ⟨H2, H3, H4, H5, H6, ⟨%f7, H7⟩, ⟨%f8, H8⟩, ⟨%f9, H9⟩, ⟨%f10, H10⟩, ⟨%f11, H11⟩, ⟨%f12, H12⟩, ⟨%f13, H13⟩, H14, H15, H16, ⟨%f17, H17⟩, ⟨%f18, H18⟩, ⟨%f19, H19⟩, ⟨%f20, H20⟩⟩
  simp only [cc0_mrope_attention_eq_skeleton]
  unfold cc0_mrope_attention_skel
  sl_exec_parts
  rw [ld_all3 arg5 f5, ld_all2 arg6 f6]
  iapply (loop_app' c _ _ _ _ _ _ (keyLoop_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f3 f4 h2 (rd arg5 f5) (rd arg6 f6) KC KS VT B)
    (A := IKey 128 c arg3 arg4 arg11 arg14 arg15 arg16 arg18 f3 f4 (k0_pay69 (rd arg5 f5) (rd arg6 f6)) (k0_pay70 (rd arg5 f5) (rd arg6 f6)) KC KS VT 0) (D := fun _ => IKey 128 c arg3 arg4 arg11 arg14 arg15 arg16 arg18 f3 f4 (k0_pay69 (rd arg5 f5) (rd arg6 f6)) (k0_pay70 (rd arg5 f5) (rd arg6 f6)) KC KS VT 4) rfl rfl)
  isplitl [H3 H4 H11 H14 H15 H16 H18]
  · isplitl [H3]; · iexact H3
    isplitl [H4]; · iexact H4
    isplitl [H11]; · iexists _; isplitl [H11]; (· iexact H11); ipureintro; exact fun h r hh => absurd hh (by omega)
    isplitl [H14]; · iexists _; isplitl [H14]; (· iexact H14); ipureintro; exact g14
    isplitl [H15]; · iexists _; isplitl [H15]; (· iexact H15); ipureintro; exact g15
    isplitl [H16]; · iexists _; isplitl [H16]; (· iexact H16); ipureintro; exact g16
    · iexists _; isplitl [H18]; (· iexact H18); ipureintro; exact fun h r d hh => absurd hh (by omega)
  iintro %_ ⟨H3, H4, ⟨%p11, H11, %e11⟩, ⟨%p14, H14, %e14⟩, ⟨%p15, H15, %e15⟩, ⟨%p16, H16, %e16⟩, ⟨%p18, H18, %e18⟩⟩
  iapply (loop_app' c _ _ _ _ _ _ (keyOut_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 p18 h2 _ e18)
    (A := IOut c arg18 arg10 p18 (n := 8) (by omega) (codes (k0_pay69 (rd arg5 f5) (rd arg6 f6)) (k0_pay70 (rd arg5 f5) (rd arg6 f6)) (row8 (rd arg3 f3))) 0) (D := fun _ => IOut c arg18 arg10 p18 (n := 8) (by omega) (codes (k0_pay69 (rd arg5 f5) (rd arg6 f6)) (k0_pay70 (rd arg5 f5) (rd arg6 f6)) (row8 (rd arg3 f3))) 128) rfl rfl)
  isplitl [H18 H10]
  · isplitl [H18]; · iexact H18
    · iexists _; isplitl [H10]; (· iexact H10); ipureintro; exact fun h r d hh => absurd hh (by omega)
  iintro %_ ⟨H18, ⟨%p10, H10, %e10⟩⟩
  iapply (loop_app' c _ _ _ _ _ _ (queryLoop_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 p14 p15 p16 KC KS VT e14 e15 e16 h2 (rd arg5 f5) (rd arg6 f6) _)
    (A := IHeads 256 (by omega) c arg2 arg7 arg9 arg14 arg15 arg16 arg17 arg20 f2 p14 p15 p16 (k0_pay69 (rd arg5 f5) (rd arg6 f6)) (k0_pay70 (rd arg5 f5) (rd arg6 f6)) KC KS VT 0 (k0_pay77 (F := Ideal))) (D := fun acc => IHeads 256 (by omega) c arg2 arg7 arg9 arg14 arg15 arg16 arg17 arg20 f2 p14 p15 p16 (k0_pay69 (rd arg5 f5) (rd arg6 f6)) (k0_pay70 (rd arg5 f5) (rd arg6 f6)) KC KS VT 20 acc) rfl rfl)
  isplitl [H2 H7 H9 H14 H15 H16 H17 H20]
  · isplitr; · ipureintro; exact max_zero
    isplitl [H2]; · iexact H2
    isplitl [H7]; · iexists _; isplitl [H7]; (· iexact H7); ipureintro; exact fun h q d hh => absurd hh (by omega)
    isplitl [H9]; · iexists _; isplitl [H9]; (· iexact H9); ipureintro; exact fun h r hh => absurd hh (by omega)
    isplitl [H14]; · iexact H14
    isplitl [H15]; · iexact H15
    isplitl [H16]; · iexact H16
    isplitl [H17]; · iexists _; isplitl [H17]; (· iexact H17); ipureintro; exact fun h r d hh => absurd hh (by omega)
    · iexists _; isplitl [H20]; (· iexact H20); ipureintro; exact fun h q d hh => absurd hh (by omega)
  iintro %mx ⟨%emx, H2, ⟨%p7, H7, %e7⟩, ⟨%p9, H9, %e9⟩, H14, H15, H16, ⟨%p17, H17, %e17⟩, ⟨%p20, H20, %e20⟩⟩
  sl_exec_parts
  iapply (loop_app' c _ _ _ _ _ _ (queryOut_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 p17 h2 _ e17)
    (A := IOut c arg17 arg8 p17 (n := 40) (by omega) (codes (k0_pay69 (rd arg5 f5) (rd arg6 f6)) (k0_pay70 (rd arg5 f5) (rd arg6 f6)) (row40 (rd arg2 f2))) 0) (D := fun _ => IOut c arg17 arg8 p17 (n := 40) (by omega) (codes (k0_pay69 (rd arg5 f5) (rd arg6 f6)) (k0_pay70 (rd arg5 f5) (rd arg6 f6)) (row40 (rd arg2 f2))) 128) rfl rfl)
  isplitl [H17 H8]
  · isplitl [H17]; · iexact H17
    · iexists _; isplitl [H8]; (· iexact H8); ipureintro; exact fun h r d hh => absurd hh (by omega)
  iintro %_ ⟨H17, ⟨%p8, H8, %e8⟩⟩
  sl_exec_parts
  iapply (loop_app' c _ _ _ _ _ _ (codeLoop_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h2 mx _ emx p20 e20)
    (A := ICode c arg20 arg12 p20 (attn 256 (by omega) (k0_pay69 (rd arg5 f5) (rd arg6 f6)) (k0_pay70 (rd arg5 f5) (rd arg6 f6)) (row40 (rd arg2 f2)) KC KS VT) 0) (D := fun _ => ICode c arg20 arg12 p20 (attn 256 (by omega) (k0_pay69 (rd arg5 f5) (rd arg6 f6)) (k0_pay70 (rd arg5 f5) (rd arg6 f6)) (row40 (rd arg2 f2)) KC KS VT) 40) rfl rfl)
  isplitl [H20 H12]
  · isplitl [H20]; · iexact H20
    · iexists _; isplitl [H12]; (· iexact H12); ipureintro; exact fun h q d hh => absurd hh (by omega)
  iintro %_ ⟨H20, ⟨%q12, H12, %e12⟩⟩
  sl_exec_parts
  sl_step
  isplitl [H2]; · iexact H2
  isplitl [H3]; · iexact H3
  isplitl [H4]; · iexact H4
  isplitl [H5]; · iexact H5
  isplitl [H6]; · iexact H6
  isplitl [H7]; · iexists _; isplitl [H7]; (· iexact H7); ipureintro; exact e7
  isplitl [H8]; · iexists _; isplitl [H8]; (· iexact H8); ipureintro; exact e8
  isplitl [H9]; · iexists _; isplitl [H9]; (· iexact H9); ipureintro; exact e9
  isplitl [H10]; · iexists _; isplitl [H10]; (· iexact H10); ipureintro; exact e10
  isplitl [H11]; · iexists _; isplitl [H11]; (· iexact H11); ipureintro; exact e11
  isplitl [H12]; · iexists _; isplitl [H12]; (· iexact H12); ipureintro; exact e12
  isplitl [H13]; · iexists _; isplitl [H13]; (· iexact H13); ipureintro; exact scale_row arg13 _ _ _ emx
  isplitl [H14]; · iexists _; isplitl [H14]; (· iexact H14); ipureintro; exact e14
  isplitl [H15]; · iexists _; isplitl [H15]; (· iexact H15); ipureintro; exact e15
  isplitl [H16]; · iexists _; isplitl [H16]; (· iexact H16); ipureintro; exact e16
  isplitl [H17]; · iexists _; iexact H17
  isplitl [H18]; · iexists _; iexact H18
  isplitl [H19]; · iexists _; iexact H19
  · iexists _; iexact H20

set_option maxHeartbeats 1000000 in
/-- The body at query block 2. -/
theorem body_3 (h1 : ¬ k0_cond1 i = 1#1) (h2 : ¬ k0_cond2 i = 1#1) (h3 : k0_cond3 i = 1#1) (h4 : ¬ k0_cond4 i = 1#1) (h5 : ¬ k0_cond5 i = 1#1)
  (f2 : BufTy.Contents (Elt Ideal) arg2.view.ty) (f3 : BufTy.Contents (Elt Ideal) arg3.view.ty) (f4 : BufTy.Contents (Elt Ideal) arg4.view.ty)
  (f5 : BufTy.Contents (Elt Ideal) arg5.view.ty) (f6 : BufTy.Contents (Elt Ideal) arg6.view.ty)
  (KC : Fin 8 → Fin 640 → Fin 128 → EReal) (KS : Fin 8 → Fin 640 → EReal) (VT : Fin 8 → Fin 128 → Fin 640 → EReal)
  (B : KeyBlock 256 (by omega) (k0_pay69 (rd arg5 f5) (rd arg6 f6)) (k0_pay70 (rd arg5 f5) (rd arg6 f6)) (rd arg3 f3) (rd arg4 f4) KC KS VT)
  (f14 : BufTy.Contents (Elt Ideal) arg14.view.ty) (f15 : BufTy.Contents (Elt Ideal) arg15.view.ty) (f16 : BufTy.Contents (Elt Ideal) arg16.view.ty)
  (g14 : FKey 256 0 KC (rd arg14 f14)) (g15 : FKey 256 0 (fun h r _ => KS h r) (rd arg15 f15)) (g16 : FVal 256 0 VT (rd arg16 f16)) :
    iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ pt c arg14 f14 ∗ pt c arg15 f15 ∗ pt c arg16 f16 ∗ (∃ f, pt c arg17 f) ∗ (∃ f, pt c arg18 f) ∗ (∃ f, pt c arg19 f) ∗ (∃ f, pt c arg20 f))
    ⊢ wp Idealize.ShloMosaic.frame (wpE (defs₀ (F := Ideal)) 𝒱₀ (c : Thread nD τ) none) Set.univ
      (cc0_mrope_attention (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (fun _ => Post 256 (by omega) c arg2 arg3 arg4 arg5 arg6 arg7 arg8 arg9 arg10 arg11 arg12 arg13 arg14 arg15 arg16 arg17 arg18 arg19 arg20 f2 f3 f4 f5 f6 KC KS VT) := by
  iintro ⟨H2, H3, H4, H5, H6, ⟨%f7, H7⟩, ⟨%f8, H8⟩, ⟨%f9, H9⟩, ⟨%f10, H10⟩, ⟨%f11, H11⟩, ⟨%f12, H12⟩, ⟨%f13, H13⟩, H14, H15, H16, ⟨%f17, H17⟩, ⟨%f18, H18⟩, ⟨%f19, H19⟩, ⟨%f20, H20⟩⟩
  simp only [cc0_mrope_attention_eq_skeleton]
  unfold cc0_mrope_attention_skel
  sl_exec_parts
  rw [ld_all3 arg5 f5, ld_all2 arg6 f6]
  iapply (loop_app' c _ _ _ _ _ _ (keyLoop_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f3 f4 h3 (rd arg5 f5) (rd arg6 f6) KC KS VT B)
    (A := IKey 256 c arg3 arg4 arg11 arg14 arg15 arg16 arg18 f3 f4 (k0_pay69 (rd arg5 f5) (rd arg6 f6)) (k0_pay70 (rd arg5 f5) (rd arg6 f6)) KC KS VT 0) (D := fun _ => IKey 256 c arg3 arg4 arg11 arg14 arg15 arg16 arg18 f3 f4 (k0_pay69 (rd arg5 f5) (rd arg6 f6)) (k0_pay70 (rd arg5 f5) (rd arg6 f6)) KC KS VT 4) rfl rfl)
  isplitl [H3 H4 H11 H14 H15 H16 H18]
  · isplitl [H3]; · iexact H3
    isplitl [H4]; · iexact H4
    isplitl [H11]; · iexists _; isplitl [H11]; (· iexact H11); ipureintro; exact fun h r hh => absurd hh (by omega)
    isplitl [H14]; · iexists _; isplitl [H14]; (· iexact H14); ipureintro; exact g14
    isplitl [H15]; · iexists _; isplitl [H15]; (· iexact H15); ipureintro; exact g15
    isplitl [H16]; · iexists _; isplitl [H16]; (· iexact H16); ipureintro; exact g16
    · iexists _; isplitl [H18]; (· iexact H18); ipureintro; exact fun h r d hh => absurd hh (by omega)
  iintro %_ ⟨H3, H4, ⟨%p11, H11, %e11⟩, ⟨%p14, H14, %e14⟩, ⟨%p15, H15, %e15⟩, ⟨%p16, H16, %e16⟩, ⟨%p18, H18, %e18⟩⟩
  iapply (loop_app' c _ _ _ _ _ _ (keyOut_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 p18 h3 _ e18)
    (A := IOut c arg18 arg10 p18 (n := 8) (by omega) (codes (k0_pay69 (rd arg5 f5) (rd arg6 f6)) (k0_pay70 (rd arg5 f5) (rd arg6 f6)) (row8 (rd arg3 f3))) 0) (D := fun _ => IOut c arg18 arg10 p18 (n := 8) (by omega) (codes (k0_pay69 (rd arg5 f5) (rd arg6 f6)) (k0_pay70 (rd arg5 f5) (rd arg6 f6)) (row8 (rd arg3 f3))) 128) rfl rfl)
  isplitl [H18 H10]
  · isplitl [H18]; · iexact H18
    · iexists _; isplitl [H10]; (· iexact H10); ipureintro; exact fun h r d hh => absurd hh (by omega)
  iintro %_ ⟨H18, ⟨%p10, H10, %e10⟩⟩
  iapply (loop_app' c _ _ _ _ _ _ (queryLoop_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 p14 p15 p16 KC KS VT e14 e15 e16 h3 (rd arg5 f5) (rd arg6 f6) _)
    (A := IHeads 384 (by omega) c arg2 arg7 arg9 arg14 arg15 arg16 arg17 arg20 f2 p14 p15 p16 (k0_pay69 (rd arg5 f5) (rd arg6 f6)) (k0_pay70 (rd arg5 f5) (rd arg6 f6)) KC KS VT 0 (k0_pay77 (F := Ideal))) (D := fun acc => IHeads 384 (by omega) c arg2 arg7 arg9 arg14 arg15 arg16 arg17 arg20 f2 p14 p15 p16 (k0_pay69 (rd arg5 f5) (rd arg6 f6)) (k0_pay70 (rd arg5 f5) (rd arg6 f6)) KC KS VT 20 acc) rfl rfl)
  isplitl [H2 H7 H9 H14 H15 H16 H17 H20]
  · isplitr; · ipureintro; exact max_zero
    isplitl [H2]; · iexact H2
    isplitl [H7]; · iexists _; isplitl [H7]; (· iexact H7); ipureintro; exact fun h q d hh => absurd hh (by omega)
    isplitl [H9]; · iexists _; isplitl [H9]; (· iexact H9); ipureintro; exact fun h r hh => absurd hh (by omega)
    isplitl [H14]; · iexact H14
    isplitl [H15]; · iexact H15
    isplitl [H16]; · iexact H16
    isplitl [H17]; · iexists _; isplitl [H17]; (· iexact H17); ipureintro; exact fun h r d hh => absurd hh (by omega)
    · iexists _; isplitl [H20]; (· iexact H20); ipureintro; exact fun h q d hh => absurd hh (by omega)
  iintro %mx ⟨%emx, H2, ⟨%p7, H7, %e7⟩, ⟨%p9, H9, %e9⟩, H14, H15, H16, ⟨%p17, H17, %e17⟩, ⟨%p20, H20, %e20⟩⟩
  sl_exec_parts
  iapply (loop_app' c _ _ _ _ _ _ (queryOut_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 p17 h3 _ e17)
    (A := IOut c arg17 arg8 p17 (n := 40) (by omega) (codes (k0_pay69 (rd arg5 f5) (rd arg6 f6)) (k0_pay70 (rd arg5 f5) (rd arg6 f6)) (row40 (rd arg2 f2))) 0) (D := fun _ => IOut c arg17 arg8 p17 (n := 40) (by omega) (codes (k0_pay69 (rd arg5 f5) (rd arg6 f6)) (k0_pay70 (rd arg5 f5) (rd arg6 f6)) (row40 (rd arg2 f2))) 128) rfl rfl)
  isplitl [H17 H8]
  · isplitl [H17]; · iexact H17
    · iexists _; isplitl [H8]; (· iexact H8); ipureintro; exact fun h r d hh => absurd hh (by omega)
  iintro %_ ⟨H17, ⟨%p8, H8, %e8⟩⟩
  sl_exec_parts
  iapply (loop_app' c _ _ _ _ _ _ (codeLoop_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h3 mx _ emx p20 e20)
    (A := ICode c arg20 arg12 p20 (attn 384 (by omega) (k0_pay69 (rd arg5 f5) (rd arg6 f6)) (k0_pay70 (rd arg5 f5) (rd arg6 f6)) (row40 (rd arg2 f2)) KC KS VT) 0) (D := fun _ => ICode c arg20 arg12 p20 (attn 384 (by omega) (k0_pay69 (rd arg5 f5) (rd arg6 f6)) (k0_pay70 (rd arg5 f5) (rd arg6 f6)) (row40 (rd arg2 f2)) KC KS VT) 40) rfl rfl)
  isplitl [H20 H12]
  · isplitl [H20]; · iexact H20
    · iexists _; isplitl [H12]; (· iexact H12); ipureintro; exact fun h q d hh => absurd hh (by omega)
  iintro %_ ⟨H20, ⟨%q12, H12, %e12⟩⟩
  sl_exec_parts
  sl_step
  isplitl [H2]; · iexact H2
  isplitl [H3]; · iexact H3
  isplitl [H4]; · iexact H4
  isplitl [H5]; · iexact H5
  isplitl [H6]; · iexact H6
  isplitl [H7]; · iexists _; isplitl [H7]; (· iexact H7); ipureintro; exact e7
  isplitl [H8]; · iexists _; isplitl [H8]; (· iexact H8); ipureintro; exact e8
  isplitl [H9]; · iexists _; isplitl [H9]; (· iexact H9); ipureintro; exact e9
  isplitl [H10]; · iexists _; isplitl [H10]; (· iexact H10); ipureintro; exact e10
  isplitl [H11]; · iexists _; isplitl [H11]; (· iexact H11); ipureintro; exact e11
  isplitl [H12]; · iexists _; isplitl [H12]; (· iexact H12); ipureintro; exact e12
  isplitl [H13]; · iexists _; isplitl [H13]; (· iexact H13); ipureintro; exact scale_row arg13 _ _ _ emx
  isplitl [H14]; · iexists _; isplitl [H14]; (· iexact H14); ipureintro; exact e14
  isplitl [H15]; · iexists _; isplitl [H15]; (· iexact H15); ipureintro; exact e15
  isplitl [H16]; · iexists _; isplitl [H16]; (· iexact H16); ipureintro; exact e16
  isplitl [H17]; · iexists _; iexact H17
  isplitl [H18]; · iexists _; iexact H18
  isplitl [H19]; · iexists _; iexact H19
  · iexists _; iexact H20

set_option maxHeartbeats 1000000 in
/-- The body at query block 3. -/
theorem body_4 (h1 : ¬ k0_cond1 i = 1#1) (h2 : ¬ k0_cond2 i = 1#1) (h3 : ¬ k0_cond3 i = 1#1) (h4 : k0_cond4 i = 1#1) (h5 : ¬ k0_cond5 i = 1#1)
  (f2 : BufTy.Contents (Elt Ideal) arg2.view.ty) (f3 : BufTy.Contents (Elt Ideal) arg3.view.ty) (f4 : BufTy.Contents (Elt Ideal) arg4.view.ty)
  (f5 : BufTy.Contents (Elt Ideal) arg5.view.ty) (f6 : BufTy.Contents (Elt Ideal) arg6.view.ty)
  (KC : Fin 8 → Fin 640 → Fin 128 → EReal) (KS : Fin 8 → Fin 640 → EReal) (VT : Fin 8 → Fin 128 → Fin 640 → EReal)
  (B : KeyBlock 384 (by omega) (k0_pay69 (rd arg5 f5) (rd arg6 f6)) (k0_pay70 (rd arg5 f5) (rd arg6 f6)) (rd arg3 f3) (rd arg4 f4) KC KS VT)
  (f14 : BufTy.Contents (Elt Ideal) arg14.view.ty) (f15 : BufTy.Contents (Elt Ideal) arg15.view.ty) (f16 : BufTy.Contents (Elt Ideal) arg16.view.ty)
  (g14 : FKey 384 0 KC (rd arg14 f14)) (g15 : FKey 384 0 (fun h r _ => KS h r) (rd arg15 f15)) (g16 : FVal 384 0 VT (rd arg16 f16)) :
    iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ pt c arg14 f14 ∗ pt c arg15 f15 ∗ pt c arg16 f16 ∗ (∃ f, pt c arg17 f) ∗ (∃ f, pt c arg18 f) ∗ (∃ f, pt c arg19 f) ∗ (∃ f, pt c arg20 f))
    ⊢ wp Idealize.ShloMosaic.frame (wpE (defs₀ (F := Ideal)) 𝒱₀ (c : Thread nD τ) none) Set.univ
      (cc0_mrope_attention (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (fun _ => Post 384 (by omega) c arg2 arg3 arg4 arg5 arg6 arg7 arg8 arg9 arg10 arg11 arg12 arg13 arg14 arg15 arg16 arg17 arg18 arg19 arg20 f2 f3 f4 f5 f6 KC KS VT) := by
  iintro ⟨H2, H3, H4, H5, H6, ⟨%f7, H7⟩, ⟨%f8, H8⟩, ⟨%f9, H9⟩, ⟨%f10, H10⟩, ⟨%f11, H11⟩, ⟨%f12, H12⟩, ⟨%f13, H13⟩, H14, H15, H16, ⟨%f17, H17⟩, ⟨%f18, H18⟩, ⟨%f19, H19⟩, ⟨%f20, H20⟩⟩
  simp only [cc0_mrope_attention_eq_skeleton]
  unfold cc0_mrope_attention_skel
  sl_exec_parts
  rw [ld_all3 arg5 f5, ld_all2 arg6 f6]
  iapply (loop_app' c _ _ _ _ _ _ (keyLoop_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f3 f4 h4 (rd arg5 f5) (rd arg6 f6) KC KS VT B)
    (A := IKey 384 c arg3 arg4 arg11 arg14 arg15 arg16 arg18 f3 f4 (k0_pay69 (rd arg5 f5) (rd arg6 f6)) (k0_pay70 (rd arg5 f5) (rd arg6 f6)) KC KS VT 0) (D := fun _ => IKey 384 c arg3 arg4 arg11 arg14 arg15 arg16 arg18 f3 f4 (k0_pay69 (rd arg5 f5) (rd arg6 f6)) (k0_pay70 (rd arg5 f5) (rd arg6 f6)) KC KS VT 4) rfl rfl)
  isplitl [H3 H4 H11 H14 H15 H16 H18]
  · isplitl [H3]; · iexact H3
    isplitl [H4]; · iexact H4
    isplitl [H11]; · iexists _; isplitl [H11]; (· iexact H11); ipureintro; exact fun h r hh => absurd hh (by omega)
    isplitl [H14]; · iexists _; isplitl [H14]; (· iexact H14); ipureintro; exact g14
    isplitl [H15]; · iexists _; isplitl [H15]; (· iexact H15); ipureintro; exact g15
    isplitl [H16]; · iexists _; isplitl [H16]; (· iexact H16); ipureintro; exact g16
    · iexists _; isplitl [H18]; (· iexact H18); ipureintro; exact fun h r d hh => absurd hh (by omega)
  iintro %_ ⟨H3, H4, ⟨%p11, H11, %e11⟩, ⟨%p14, H14, %e14⟩, ⟨%p15, H15, %e15⟩, ⟨%p16, H16, %e16⟩, ⟨%p18, H18, %e18⟩⟩
  iapply (loop_app' c _ _ _ _ _ _ (keyOut_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 p18 h4 _ e18)
    (A := IOut c arg18 arg10 p18 (n := 8) (by omega) (codes (k0_pay69 (rd arg5 f5) (rd arg6 f6)) (k0_pay70 (rd arg5 f5) (rd arg6 f6)) (row8 (rd arg3 f3))) 0) (D := fun _ => IOut c arg18 arg10 p18 (n := 8) (by omega) (codes (k0_pay69 (rd arg5 f5) (rd arg6 f6)) (k0_pay70 (rd arg5 f5) (rd arg6 f6)) (row8 (rd arg3 f3))) 128) rfl rfl)
  isplitl [H18 H10]
  · isplitl [H18]; · iexact H18
    · iexists _; isplitl [H10]; (· iexact H10); ipureintro; exact fun h r d hh => absurd hh (by omega)
  iintro %_ ⟨H18, ⟨%p10, H10, %e10⟩⟩
  iapply (loop_app' c _ _ _ _ _ _ (queryLoop_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 p14 p15 p16 KC KS VT e14 e15 e16 h4 (rd arg5 f5) (rd arg6 f6) _)
    (A := IHeads 512 (by omega) c arg2 arg7 arg9 arg14 arg15 arg16 arg17 arg20 f2 p14 p15 p16 (k0_pay69 (rd arg5 f5) (rd arg6 f6)) (k0_pay70 (rd arg5 f5) (rd arg6 f6)) KC KS VT 0 (k0_pay77 (F := Ideal))) (D := fun acc => IHeads 512 (by omega) c arg2 arg7 arg9 arg14 arg15 arg16 arg17 arg20 f2 p14 p15 p16 (k0_pay69 (rd arg5 f5) (rd arg6 f6)) (k0_pay70 (rd arg5 f5) (rd arg6 f6)) KC KS VT 20 acc) rfl rfl)
  isplitl [H2 H7 H9 H14 H15 H16 H17 H20]
  · isplitr; · ipureintro; exact max_zero
    isplitl [H2]; · iexact H2
    isplitl [H7]; · iexists _; isplitl [H7]; (· iexact H7); ipureintro; exact fun h q d hh => absurd hh (by omega)
    isplitl [H9]; · iexists _; isplitl [H9]; (· iexact H9); ipureintro; exact fun h r hh => absurd hh (by omega)
    isplitl [H14]; · iexact H14
    isplitl [H15]; · iexact H15
    isplitl [H16]; · iexact H16
    isplitl [H17]; · iexists _; isplitl [H17]; (· iexact H17); ipureintro; exact fun h r d hh => absurd hh (by omega)
    · iexists _; isplitl [H20]; (· iexact H20); ipureintro; exact fun h q d hh => absurd hh (by omega)
  iintro %mx ⟨%emx, H2, ⟨%p7, H7, %e7⟩, ⟨%p9, H9, %e9⟩, H14, H15, H16, ⟨%p17, H17, %e17⟩, ⟨%p20, H20, %e20⟩⟩
  sl_exec_parts
  iapply (loop_app' c _ _ _ _ _ _ (queryOut_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 p17 h4 _ e17)
    (A := IOut c arg17 arg8 p17 (n := 40) (by omega) (codes (k0_pay69 (rd arg5 f5) (rd arg6 f6)) (k0_pay70 (rd arg5 f5) (rd arg6 f6)) (row40 (rd arg2 f2))) 0) (D := fun _ => IOut c arg17 arg8 p17 (n := 40) (by omega) (codes (k0_pay69 (rd arg5 f5) (rd arg6 f6)) (k0_pay70 (rd arg5 f5) (rd arg6 f6)) (row40 (rd arg2 f2))) 128) rfl rfl)
  isplitl [H17 H8]
  · isplitl [H17]; · iexact H17
    · iexists _; isplitl [H8]; (· iexact H8); ipureintro; exact fun h r d hh => absurd hh (by omega)
  iintro %_ ⟨H17, ⟨%p8, H8, %e8⟩⟩
  sl_exec_parts
  iapply (loop_app' c _ _ _ _ _ _ (codeLoop_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h4 mx _ emx p20 e20)
    (A := ICode c arg20 arg12 p20 (attn 512 (by omega) (k0_pay69 (rd arg5 f5) (rd arg6 f6)) (k0_pay70 (rd arg5 f5) (rd arg6 f6)) (row40 (rd arg2 f2)) KC KS VT) 0) (D := fun _ => ICode c arg20 arg12 p20 (attn 512 (by omega) (k0_pay69 (rd arg5 f5) (rd arg6 f6)) (k0_pay70 (rd arg5 f5) (rd arg6 f6)) (row40 (rd arg2 f2)) KC KS VT) 40) rfl rfl)
  isplitl [H20 H12]
  · isplitl [H20]; · iexact H20
    · iexists _; isplitl [H12]; (· iexact H12); ipureintro; exact fun h q d hh => absurd hh (by omega)
  iintro %_ ⟨H20, ⟨%q12, H12, %e12⟩⟩
  sl_exec_parts
  sl_step
  isplitl [H2]; · iexact H2
  isplitl [H3]; · iexact H3
  isplitl [H4]; · iexact H4
  isplitl [H5]; · iexact H5
  isplitl [H6]; · iexact H6
  isplitl [H7]; · iexists _; isplitl [H7]; (· iexact H7); ipureintro; exact e7
  isplitl [H8]; · iexists _; isplitl [H8]; (· iexact H8); ipureintro; exact e8
  isplitl [H9]; · iexists _; isplitl [H9]; (· iexact H9); ipureintro; exact e9
  isplitl [H10]; · iexists _; isplitl [H10]; (· iexact H10); ipureintro; exact e10
  isplitl [H11]; · iexists _; isplitl [H11]; (· iexact H11); ipureintro; exact e11
  isplitl [H12]; · iexists _; isplitl [H12]; (· iexact H12); ipureintro; exact e12
  isplitl [H13]; · iexists _; isplitl [H13]; (· iexact H13); ipureintro; exact scale_row arg13 _ _ _ emx
  isplitl [H14]; · iexists _; isplitl [H14]; (· iexact H14); ipureintro; exact e14
  isplitl [H15]; · iexists _; isplitl [H15]; (· iexact H15); ipureintro; exact e15
  isplitl [H16]; · iexists _; isplitl [H16]; (· iexact H16); ipureintro; exact e16
  isplitl [H17]; · iexists _; iexact H17
  isplitl [H18]; · iexists _; iexact H18
  isplitl [H19]; · iexists _; iexact H19
  · iexists _; iexact H20

set_option maxHeartbeats 1000000 in
/-- The body at query block 4. -/
theorem body_5 (h1 : ¬ k0_cond1 i = 1#1) (h2 : ¬ k0_cond2 i = 1#1) (h3 : ¬ k0_cond3 i = 1#1) (h4 : ¬ k0_cond4 i = 1#1) (h5 : k0_cond5 i = 1#1)
  (f2 : BufTy.Contents (Elt Ideal) arg2.view.ty) (f3 : BufTy.Contents (Elt Ideal) arg3.view.ty) (f4 : BufTy.Contents (Elt Ideal) arg4.view.ty)
  (f5 : BufTy.Contents (Elt Ideal) arg5.view.ty) (f6 : BufTy.Contents (Elt Ideal) arg6.view.ty)
  (KC : Fin 8 → Fin 640 → Fin 128 → EReal) (KS : Fin 8 → Fin 640 → EReal) (VT : Fin 8 → Fin 128 → Fin 640 → EReal)
  (B : KeyBlock 512 (by omega) (k0_pay69 (rd arg5 f5) (rd arg6 f6)) (k0_pay70 (rd arg5 f5) (rd arg6 f6)) (rd arg3 f3) (rd arg4 f4) KC KS VT)
  (f14 : BufTy.Contents (Elt Ideal) arg14.view.ty) (f15 : BufTy.Contents (Elt Ideal) arg15.view.ty) (f16 : BufTy.Contents (Elt Ideal) arg16.view.ty)
  (g14 : FKey 512 0 KC (rd arg14 f14)) (g15 : FKey 512 0 (fun h r _ => KS h r) (rd arg15 f15)) (g16 : FVal 512 0 VT (rd arg16 f16)) :
    iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ pt c arg14 f14 ∗ pt c arg15 f15 ∗ pt c arg16 f16 ∗ (∃ f, pt c arg17 f) ∗ (∃ f, pt c arg18 f) ∗ (∃ f, pt c arg19 f) ∗ (∃ f, pt c arg20 f))
    ⊢ wp Idealize.ShloMosaic.frame (wpE (defs₀ (F := Ideal)) 𝒱₀ (c : Thread nD τ) none) Set.univ
      (cc0_mrope_attention (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (fun _ => Post 512 (by omega) c arg2 arg3 arg4 arg5 arg6 arg7 arg8 arg9 arg10 arg11 arg12 arg13 arg14 arg15 arg16 arg17 arg18 arg19 arg20 f2 f3 f4 f5 f6 KC KS VT) := by
  iintro ⟨H2, H3, H4, H5, H6, ⟨%f7, H7⟩, ⟨%f8, H8⟩, ⟨%f9, H9⟩, ⟨%f10, H10⟩, ⟨%f11, H11⟩, ⟨%f12, H12⟩, ⟨%f13, H13⟩, H14, H15, H16, ⟨%f17, H17⟩, ⟨%f18, H18⟩, ⟨%f19, H19⟩, ⟨%f20, H20⟩⟩
  simp only [cc0_mrope_attention_eq_skeleton]
  unfold cc0_mrope_attention_skel
  sl_exec_parts
  rw [ld_all3 arg5 f5, ld_all2 arg6 f6]
  iapply (loop_app' c _ _ _ _ _ _ (keyLoop_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f3 f4 h5 (rd arg5 f5) (rd arg6 f6) KC KS VT B)
    (A := IKey 512 c arg3 arg4 arg11 arg14 arg15 arg16 arg18 f3 f4 (k0_pay69 (rd arg5 f5) (rd arg6 f6)) (k0_pay70 (rd arg5 f5) (rd arg6 f6)) KC KS VT 0) (D := fun _ => IKey 512 c arg3 arg4 arg11 arg14 arg15 arg16 arg18 f3 f4 (k0_pay69 (rd arg5 f5) (rd arg6 f6)) (k0_pay70 (rd arg5 f5) (rd arg6 f6)) KC KS VT 4) rfl rfl)
  isplitl [H3 H4 H11 H14 H15 H16 H18]
  · isplitl [H3]; · iexact H3
    isplitl [H4]; · iexact H4
    isplitl [H11]; · iexists _; isplitl [H11]; (· iexact H11); ipureintro; exact fun h r hh => absurd hh (by omega)
    isplitl [H14]; · iexists _; isplitl [H14]; (· iexact H14); ipureintro; exact g14
    isplitl [H15]; · iexists _; isplitl [H15]; (· iexact H15); ipureintro; exact g15
    isplitl [H16]; · iexists _; isplitl [H16]; (· iexact H16); ipureintro; exact g16
    · iexists _; isplitl [H18]; (· iexact H18); ipureintro; exact fun h r d hh => absurd hh (by omega)
  iintro %_ ⟨H3, H4, ⟨%p11, H11, %e11⟩, ⟨%p14, H14, %e14⟩, ⟨%p15, H15, %e15⟩, ⟨%p16, H16, %e16⟩, ⟨%p18, H18, %e18⟩⟩
  iapply (loop_app' c _ _ _ _ _ _ (keyOut_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 p18 h5 _ e18)
    (A := IOut c arg18 arg10 p18 (n := 8) (by omega) (codes (k0_pay69 (rd arg5 f5) (rd arg6 f6)) (k0_pay70 (rd arg5 f5) (rd arg6 f6)) (row8 (rd arg3 f3))) 0) (D := fun _ => IOut c arg18 arg10 p18 (n := 8) (by omega) (codes (k0_pay69 (rd arg5 f5) (rd arg6 f6)) (k0_pay70 (rd arg5 f5) (rd arg6 f6)) (row8 (rd arg3 f3))) 128) rfl rfl)
  isplitl [H18 H10]
  · isplitl [H18]; · iexact H18
    · iexists _; isplitl [H10]; (· iexact H10); ipureintro; exact fun h r d hh => absurd hh (by omega)
  iintro %_ ⟨H18, ⟨%p10, H10, %e10⟩⟩
  iapply (loop_app' c _ _ _ _ _ _ (queryLoop_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 p14 p15 p16 KC KS VT e14 e15 e16 h5 (rd arg5 f5) (rd arg6 f6) _)
    (A := IHeads 640 (by omega) c arg2 arg7 arg9 arg14 arg15 arg16 arg17 arg20 f2 p14 p15 p16 (k0_pay69 (rd arg5 f5) (rd arg6 f6)) (k0_pay70 (rd arg5 f5) (rd arg6 f6)) KC KS VT 0 (k0_pay77 (F := Ideal))) (D := fun acc => IHeads 640 (by omega) c arg2 arg7 arg9 arg14 arg15 arg16 arg17 arg20 f2 p14 p15 p16 (k0_pay69 (rd arg5 f5) (rd arg6 f6)) (k0_pay70 (rd arg5 f5) (rd arg6 f6)) KC KS VT 20 acc) rfl rfl)
  isplitl [H2 H7 H9 H14 H15 H16 H17 H20]
  · isplitr; · ipureintro; exact max_zero
    isplitl [H2]; · iexact H2
    isplitl [H7]; · iexists _; isplitl [H7]; (· iexact H7); ipureintro; exact fun h q d hh => absurd hh (by omega)
    isplitl [H9]; · iexists _; isplitl [H9]; (· iexact H9); ipureintro; exact fun h r hh => absurd hh (by omega)
    isplitl [H14]; · iexact H14
    isplitl [H15]; · iexact H15
    isplitl [H16]; · iexact H16
    isplitl [H17]; · iexists _; isplitl [H17]; (· iexact H17); ipureintro; exact fun h r d hh => absurd hh (by omega)
    · iexists _; isplitl [H20]; (· iexact H20); ipureintro; exact fun h q d hh => absurd hh (by omega)
  iintro %mx ⟨%emx, H2, ⟨%p7, H7, %e7⟩, ⟨%p9, H9, %e9⟩, H14, H15, H16, ⟨%p17, H17, %e17⟩, ⟨%p20, H20, %e20⟩⟩
  sl_exec_parts
  iapply (loop_app' c _ _ _ _ _ _ (queryOut_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 p17 h5 _ e17)
    (A := IOut c arg17 arg8 p17 (n := 40) (by omega) (codes (k0_pay69 (rd arg5 f5) (rd arg6 f6)) (k0_pay70 (rd arg5 f5) (rd arg6 f6)) (row40 (rd arg2 f2))) 0) (D := fun _ => IOut c arg17 arg8 p17 (n := 40) (by omega) (codes (k0_pay69 (rd arg5 f5) (rd arg6 f6)) (k0_pay70 (rd arg5 f5) (rd arg6 f6)) (row40 (rd arg2 f2))) 128) rfl rfl)
  isplitl [H17 H8]
  · isplitl [H17]; · iexact H17
    · iexists _; isplitl [H8]; (· iexact H8); ipureintro; exact fun h r d hh => absurd hh (by omega)
  iintro %_ ⟨H17, ⟨%p8, H8, %e8⟩⟩
  sl_exec_parts
  iapply (loop_app' c _ _ _ _ _ _ (codeLoop_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h5 mx _ emx p20 e20)
    (A := ICode c arg20 arg12 p20 (attn 640 (by omega) (k0_pay69 (rd arg5 f5) (rd arg6 f6)) (k0_pay70 (rd arg5 f5) (rd arg6 f6)) (row40 (rd arg2 f2)) KC KS VT) 0) (D := fun _ => ICode c arg20 arg12 p20 (attn 640 (by omega) (k0_pay69 (rd arg5 f5) (rd arg6 f6)) (k0_pay70 (rd arg5 f5) (rd arg6 f6)) (row40 (rd arg2 f2)) KC KS VT) 40) rfl rfl)
  isplitl [H20 H12]
  · isplitl [H20]; · iexact H20
    · iexists _; isplitl [H12]; (· iexact H12); ipureintro; exact fun h q d hh => absurd hh (by omega)
  iintro %_ ⟨H20, ⟨%q12, H12, %e12⟩⟩
  sl_exec_parts
  sl_step
  isplitl [H2]; · iexact H2
  isplitl [H3]; · iexact H3
  isplitl [H4]; · iexact H4
  isplitl [H5]; · iexact H5
  isplitl [H6]; · iexact H6
  isplitl [H7]; · iexists _; isplitl [H7]; (· iexact H7); ipureintro; exact e7
  isplitl [H8]; · iexists _; isplitl [H8]; (· iexact H8); ipureintro; exact e8
  isplitl [H9]; · iexists _; isplitl [H9]; (· iexact H9); ipureintro; exact e9
  isplitl [H10]; · iexists _; isplitl [H10]; (· iexact H10); ipureintro; exact e10
  isplitl [H11]; · iexists _; isplitl [H11]; (· iexact H11); ipureintro; exact e11
  isplitl [H12]; · iexists _; isplitl [H12]; (· iexact H12); ipureintro; exact e12
  isplitl [H13]; · iexists _; isplitl [H13]; (· iexact H13); ipureintro; exact scale_row arg13 _ _ _ emx
  isplitl [H14]; · iexists _; isplitl [H14]; (· iexact H14); ipureintro; exact e14
  isplitl [H15]; · iexists _; isplitl [H15]; (· iexact H15); ipureintro; exact e15
  isplitl [H16]; · iexists _; isplitl [H16]; (· iexact H16); ipureintro; exact e16
  isplitl [H17]; · iexists _; iexact H17
  isplitl [H18]; · iexists _; iexact H18
  isplitl [H19]; · iexists _; iexact H19
  · iexists _; iexact H20

end Cert.Proof.Val

end
-- ==== Proof.Value.Launch.lean ====
module

public import proofs.«01_k».proof.Proof.Value.Body
public import proofs.«01_k».proof.Proof.Ideal.Frame

/-!
# The launch of the kernel, with the results it leaves
-/

@[expose] public section

set_option warn.classDefReducibility false
set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.KernelIdeal (cond1 cond2 cond3 cond4 cond5 any set_whole)

local notation "𝕄" => MT nD τ sig Unit (Elt Ideal) ℕ (UR sig nD τ) ℕ

section Body
variable (c : Dev nD) (i : grid0.Coords)
  (arg2 : Memref sig .tc .vmem S5120x128 .bf16) (harg2 : arg2.IsWhole)
  (arg3 : Memref sig .tc .vmem S1024x128 .bf16) (harg3 : arg3.IsWhole)
  (arg4 : Memref sig .tc .vmem S1024x128 .bf16) (harg4 : arg4.IsWhole)
  (arg5 : Memref sig .tc .vmem S1x3x128 .i32) (harg5 : arg5.IsWhole)
  (arg6 : Memref sig .tc .vmem S64x128 .f32) (harg6 : arg6.IsWhole)
  (arg7 : Memref sig .tc .vmem S1x128x5120 .bf16) (harg7 : arg7.IsWhole)
  (arg8 : Memref sig .tc .vmem S5120x128 .fp8e4m3) (harg8 : arg8.IsWhole)
  (arg9 : Memref sig .tc .vmem S1x40x128 .f32) (harg9 : arg9.IsWhole)
  (arg10 : Memref sig .tc .vmem S1024x128 .fp8e4m3) (harg10 : arg10.IsWhole)
  (arg11 : Memref sig .tc .vmem S1x8x128 .f32) (harg11 : arg11.IsWhole)
  (arg12 : Memref sig .tc .vmem S1x128x5120 .fp8e4m3) (harg12 : arg12.IsWhole)
  (arg13 : Memref sig .tc .vmem S1x1x128 .f32) (harg13 : arg13.IsWhole)
  (arg14 : Memref sig .tc .vmem S8x640x128 .fp8e4m3) (harg14 : arg14.IsWhole)
  (arg15 : Memref sig .tc .vmem S8x640x128 .f32) (harg15 : arg15.IsWhole)
  (arg16 : Memref sig .tc .vmem S8x128x640 .bf16) (harg16 : arg16.IsWhole)
  (arg17 : Memref sig .tc .vmem S5248x128 .f32) (harg17 : arg17.IsWhole)
  (arg18 : Memref sig .tc .vmem S1152x128 .f32) (harg18 : arg18.IsWhole)
  (arg19 : Memref sig .tc .vmem S8x128 .f32) (harg19 : arg19.IsWhole)
  (arg20 : Memref sig .tc .vmem S128x5120 .f32) (harg20 : arg20.IsWhole)

/-- The body at any query block. -/
theorem sound (b : Nat) (hb : b + 128 ≤ 640) (hi : b = 128 * (i 1).val)
  (f2 : BufTy.Contents (Elt Ideal) arg2.view.ty) (f3 : BufTy.Contents (Elt Ideal) arg3.view.ty) (f4 : BufTy.Contents (Elt Ideal) arg4.view.ty)
  (f5 : BufTy.Contents (Elt Ideal) arg5.view.ty) (f6 : BufTy.Contents (Elt Ideal) arg6.view.ty)
  (KC : Fin 8 → Fin 640 → Fin 128 → EReal) (KS : Fin 8 → Fin 640 → EReal) (VT : Fin 8 → Fin 128 → Fin 640 → EReal)
  (B : KeyBlock b hb (k0_pay69 (rd arg5 f5) (rd arg6 f6)) (k0_pay70 (rd arg5 f5) (rd arg6 f6)) (rd arg3 f3) (rd arg4 f4) KC KS VT)
  (f14 : BufTy.Contents (Elt Ideal) arg14.view.ty) (f15 : BufTy.Contents (Elt Ideal) arg15.view.ty) (f16 : BufTy.Contents (Elt Ideal) arg16.view.ty)
  (g14 : FKey b 0 KC (rd arg14 f14)) (g15 : FKey b 0 (fun h r _ => KS h r) (rd arg15 f15)) (g16 : FVal b 0 VT (rd arg16 f16)) :
    iprop(pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ pt c arg14 f14 ∗ pt c arg15 f15 ∗ pt c arg16 f16 ∗ (∃ f, pt c arg17 f) ∗ (∃ f, pt c arg18 f) ∗ (∃ f, pt c arg19 f) ∗ (∃ f, pt c arg20 f))
    ⊢ wp Idealize.ShloMosaic.frame (wpE (defs₀ (F := Ideal)) 𝒱₀ (c : Thread nD τ) none) Set.univ
      (cc0_mrope_attention (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (fun _ => Post b hb c arg2 arg3 arg4 arg5 arg6 arg7 arg8 arg9 arg10 arg11 arg12 arg13 arg14 arg15 arg16 arg17 arg18 arg19 arg20 f2 f3 f4 f5 f6 KC KS VT) := by
  have hv : (i 1).val < 5 := (i 1).isLt
  rcases (by omega : (i 1).val = 0 ∨ (i 1).val = 1 ∨ (i 1).val = 2 ∨ (i 1).val = 3 ∨ (i 1).val = 4) with h | h | h | h | h
  · obtain rfl : b = 0 := by omega
    exact body_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ((cond1 i).mpr h) (fun e => absurd ((cond2 i).mp e) (by omega)) (fun e => absurd ((cond3 i).mp e) (by omega)) (fun e => absurd ((cond4 i).mp e) (by omega)) (fun e => absurd ((cond5 i).mp e) (by omega)) f2 f3 f4 f5 f6 KC KS VT B f14 f15 f16 g14 g15 g16
  · obtain rfl : b = 128 := by omega
    exact body_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (fun e => absurd ((cond1 i).mp e) (by omega)) ((cond2 i).mpr h) (fun e => absurd ((cond3 i).mp e) (by omega)) (fun e => absurd ((cond4 i).mp e) (by omega)) (fun e => absurd ((cond5 i).mp e) (by omega)) f2 f3 f4 f5 f6 KC KS VT B f14 f15 f16 g14 g15 g16
  · obtain rfl : b = 256 := by omega
    exact body_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (fun e => absurd ((cond1 i).mp e) (by omega)) (fun e => absurd ((cond2 i).mp e) (by omega)) ((cond3 i).mpr h) (fun e => absurd ((cond4 i).mp e) (by omega)) (fun e => absurd ((cond5 i).mp e) (by omega)) f2 f3 f4 f5 f6 KC KS VT B f14 f15 f16 g14 g15 g16
  · obtain rfl : b = 384 := by omega
    exact body_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (fun e => absurd ((cond1 i).mp e) (by omega)) (fun e => absurd ((cond2 i).mp e) (by omega)) (fun e => absurd ((cond3 i).mp e) (by omega)) ((cond4 i).mpr h) (fun e => absurd ((cond5 i).mp e) (by omega)) f2 f3 f4 f5 f6 KC KS VT B f14 f15 f16 g14 g15 g16
  · obtain rfl : b = 512 := by omega
    exact body_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (fun e => absurd ((cond1 i).mp e) (by omega)) (fun e => absurd ((cond2 i).mp e) (by omega)) (fun e => absurd ((cond3 i).mp e) (by omega)) (fun e => absurd ((cond4 i).mp e) (by omega)) ((cond5 i).mpr h) f2 f3 f4 f5 f6 KC KS VT B f14 f15 f16 g14 g15 g16
end Body

variable (m : (ℓ : Loc nD τ sig) → Buf (Elt Ideal) ℓ) (ρ : Dev nD → PrngReg)

/-- The blocks of the inputs at a grid point. -/
abbrev bq (c : Dev nD) (t : Fin cfg0.N) : S5120x128.Idx → EReal := iblk m c 0 t
abbrev bk (c : Dev nD) (t : Fin cfg0.N) : S1024x128.Idx → EReal := iblk m c 1 t
abbrev bv (c : Dev nD) (t : Fin cfg0.N) : S1024x128.Idx → EReal := iblk m c 2 t
abbrev bC (c : Dev nD) (t : Fin cfg0.N) : FVec Ideal S64x128 .f32 := k0_pay69 (F := Ideal) (iblk m c 3 t) (iblk m c 4 t)
abbrev bS (c : Dev nD) (t : Fin cfg0.N) : FVec Ideal S64x128 .f32 := k0_pay70 (F := Ideal) (iblk m c 3 t) (iblk m c 4 t)

/-- The grid point of key block `j` in the batch of point `t`. -/
def kp (t j : Nat) : Fin cfg0.N := ⟨(5 * (t / 5) + j) % 15, Nat.mod_lt _ (by decide)⟩

/-- The codes, the scales and the values of the keys in the batch of point `t`. -/
def KC (c : Dev nD) (t : Nat) (h : Fin 8) (key : Fin 640) (d : Fin 128) : EReal :=
  codes (bC m c (kp t (key.val / 128))) (bS m c (kp t (key.val / 128))) (row8 (bk m c (kp t (key.val / 128)))) h ⟨key.val % 128, Nat.mod_lt _ (by decide)⟩ d
def KS (c : Dev nD) (t : Nat) (h : Fin 8) (key : Fin 640) : EReal :=
  scales (bC m c (kp t (key.val / 128))) (bS m c (kp t (key.val / 128))) (row8 (bk m c (kp t (key.val / 128)))) h ⟨key.val % 128, Nat.mod_lt _ (by decide)⟩ * scoreC
def VT (c : Dev nD) (t : Nat) (h : Fin 8) (d : Fin 128) (key : Fin 640) : EReal :=
  row8 (bv m c (kp t (key.val / 128))) h ⟨key.val % 128, Nat.mod_lt _ (by decide)⟩ d

/-- The outputs of the heads at point `t`. -/
def att (c : Dev nD) (t : Fin cfg0.N) : Fin 40 → Fin 128 → Fin 128 → EReal :=
  attn (128 * (t.val % 5) + 128) (by omega) (bC m c t) (bS m c t) (row40 (bq m c t)) (KC m c t.val) (KS m c t.val) (VT m c t.val)

/-- The keys of point `t`'s own block. -/
theorem own (c : Dev nD) (t : Fin cfg0.N) (hb : 128 * (t.val % 5) + 128 ≤ 640) :
    KeyBlock (128 * (t.val % 5)) hb (bC m c t) (bS m c t) (bk m c t) (bv m c t) (KC m c t.val) (KS m c t.val) (VT m c t.val) := by
  have ht : t.val < 15 := t.isLt
  have e1 : ∀ r : Fin 128, (128 * (t.val % 5) + r.val) / 128 = t.val % 5 := fun r => by omega
  have e2 : ∀ r : Fin 128, (⟨(128 * (t.val % 5) + r.val) % 128, Nat.mod_lt _ (by decide)⟩ : Fin 128) = r := fun r => Fin.ext (by show (128 * (t.val % 5) + r.val) % 128 = r.val; omega)
  have e3 : kp t.val (t.val % 5) = t := Fin.ext (by show (5 * (t.val / 5) + t.val % 5) % 15 = t.val; omega)
  constructor <;> intros <;> simp only [KC, KS, VT, e1, e2, e3]

/-- What the key scratch holds before point `t`. -/
def Scr (c : Dev nD) (t : Nat) : sProp 𝕄 :=
  iprop((∃ f, pt c (Memref.whole cc0_scratch0) f ∗ ⌜FKey (128 * (t % 5)) 0 (KC m c t) (rd (Memref.whole cc0_scratch0) f)⌝)
    ∗ (∃ f, pt c (Memref.whole cc0_scratch1) f ∗ ⌜FKey (128 * (t % 5)) 0 (fun h r _ => KS m c t h r) (rd (Memref.whole cc0_scratch1) f)⌝)
    ∗ (∃ f, pt c (Memref.whole cc0_scratch2) f ∗ ⌜FVal (128 * (t % 5)) 0 (VT m c t) (rd (Memref.whole cc0_scratch2) f)⌝)
    ∗ (∃ f, pt c (Memref.whole cc0_scratch3) f) ∗ (∃ f, pt c (Memref.whole cc0_scratch4) f) ∗ (∃ f, pt c (Memref.whole cc0_scratch5) f) ∗ (∃ f, pt c (Memref.whole cc0_scratch6) f))

section Next
variable {m}
theorem same_batch {t : Nat} (h : t % 5 ≠ 4) : kp (t + 1) = kp t :=
  funext fun j => Fin.ext (by show (5 * ((t + 1) / 5) + j) % 15 = (5 * (t / 5) + j) % 15; omega)
theorem next_key {α : Type} {G G' : Fin 8 → Fin 640 → Fin 128 → α} {g : S8x640x128.Idx → α} {t : Nat} (e : t % 5 ≠ 4 → G' = G)
    (h : FKey (128 * (t % 5)) 8 G g) : FKey (128 * ((t + 1) % 5)) 0 G' g := fun h' key d hh => by
  by_cases h4 : t % 5 = 4
  · omega
  · rw [e h4]; exact h h' key d (by omega)
theorem next_val {G G' : Fin 8 → Fin 128 → Fin 640 → EReal} {g : S8x128x640.Idx → EReal} {t : Nat} (e : t % 5 ≠ 4 → G' = G)
    (h : FVal (128 * (t % 5)) 8 G g) : FVal (128 * ((t + 1) % 5)) 0 G' g := fun h' key d hh => by
  by_cases h4 : t % 5 = 4
  · omega
  · rw [e h4]; exact h h' key d (by omega)
end Next

/-- What the body leaves in a window of codes of `n` heads. -/
def outCodes (n : Nat) [NeZero n] {N : Nat} (hN : N = n * 128) (C S : FVec Ideal S64x128 .f32) (x : Fin n → Fin 128 → Fin 128 → EReal)
    (y : (⟨2, ![N, 128]⟩ : Shape).Idx) : EReal :=
  codes C S x ⟨(y 0).val % n, Nat.mod_lt _ (Nat.pos_of_ne_zero (NeZero.ne n))⟩
    ⟨(y 0).val / n, Nat.div_lt_of_lt_mul (by have h : (y 0).val < N := (y 0).isLt; omega)⟩ (y 1)
/-- What the body leaves in a window of scales of `n` heads. -/
def outScales (n : Nat) (C S : FVec Ideal S64x128 .f32) (x : Fin n → Fin 128 → Fin 128 → EReal)
    (y : (⟨3, ![1, n, 128]⟩ : Shape).Idx) : EReal := scales C S x (y 1) (y 2)

theorem out_codes {n : Nat} [NeZero n] {N : Nat} (hN : N = n * 128) (h' : ∀ (r : Fin 128) (h : Fin n), n * r.val + h.val < N)
    {C S : FVec Ideal S64x128 .f32} {x : Fin n → Fin 128 → Fin 128 → EReal} {g : (⟨2, ![N, 128]⟩ : Shape).Idx → EReal}
    (h : FOut 128 h' (codes C S x) g) : g = outCodes n hN C S x := by
  funext y
  have e := h ⟨(y 0).val % n, Nat.mod_lt _ (Nat.pos_of_ne_zero (NeZero.ne n))⟩
    ⟨(y 0).val / n, Nat.div_lt_of_lt_mul (by have h : (y 0).val < N := (y 0).isLt; omega)⟩ (y 1) (Fin.isLt _)
  refine Eq.trans (congrArg g ?_) e
  funext a
  match a with
  | ⟨0, _⟩ => exact Fin.ext (Nat.div_add_mod _ n).symm
  | ⟨1, _⟩ => rfl

theorem out_scales {n : Nat} {C S : FVec Ideal S64x128 .f32} {x : Fin n → Fin 128 → Fin 128 → EReal} {g : (⟨3, ![1, n, 128]⟩ : Shape).Idx → EReal}
    (h : FRow n (scales C S x) g) : g = outScales n C S x := by
  funext y
  refine Eq.trans (congrArg g ?_) (h (y 1) (y 2) (y 1).isLt)
  funext a
  match a with
  | ⟨0, _⟩ => exact Fin.ext (by have h : (y 0).val < 1 := (y 0).isLt; show (y 0).val = 0; omega)
  | ⟨1, _⟩ => rfl
  | ⟨2, _⟩ => rfl

/-- What the body leaves in a window of outputs. -/
def outHeads (O : Fin 40 → Fin 128 → Fin 128 → EReal) (y : S1x128x5120.Idx) : EReal :=
  O ⟨(y 2).val / 128, Nat.div_lt_of_lt_mul (y 2).isLt⟩ (y 1) ⟨(y 2).val % 128, Nat.mod_lt _ (by decide)⟩
/-- What the body leaves in the window of their scales. -/
def outRow (O : Fin 40 → Fin 128 → Fin 128 → EReal) (y : S1x1x128.Idx) : EReal := Ideal.exp2 (oexp O (y 2))

theorem out_heads {O : Fin 40 → Fin 128 → Fin 128 → EReal} {g : S1x128x5120.Idx → EReal} (h : FCol3 40 O g) : g = outHeads O := by
  funext y
  refine Eq.trans (congrArg g ?_) (h ⟨(y 2).val / 128, Nat.div_lt_of_lt_mul (y 2).isLt⟩ (y 1) ⟨(y 2).val % 128, Nat.mod_lt _ (by decide)⟩ (Fin.isLt _))
  funext a
  match a with
  | ⟨0, _⟩ => exact Fin.ext (by have h : (y 0).val < 1 := (y 0).isLt; show (y 0).val = 0; omega)
  | ⟨1, _⟩ => rfl
  | ⟨2, _⟩ => exact Fin.ext (Nat.div_add_mod _ 128).symm

theorem out_row {O : Fin 40 → Fin 128 → Fin 128 → EReal} {g : S1x1x128.Idx → EReal}
    (h : ∀ q : Fin 128, g (ix3 0 0 q) = Ideal.exp2 (oexp O q)) : g = outRow O := by
  funext y
  refine Eq.trans (congrArg g ?_) (h (y 2))
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl

/-- The proof data: the arrays as the region finds them, the inputs left in place, the results computed. -/
def dats (_ : Fin 1) (c : Dev nD) : Pipeline.Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outHeads (att m c t)
    | ⟨6, _⟩ => outCodes 40 (N := 5120) rfl (bC m c t) (bS m c t) (row40 (bq m c t))
    | ⟨7, _⟩ => outScales 40 (bC m c t) (bS m c t) (row40 (bq m c t))
    | ⟨8, _⟩ => outCodes 8 (N := 1024) rfl (bC m c t) (bS m c t) (row8 (bk m c t))
    | ⟨9, _⟩ => outScales 8 (bC m c t) (bS m c t) (row8 (bk m c t))
    | ⟨10, _⟩ => outHeads (ocode (att m c t))
    | ⟨11, _⟩ => outRow (att m c t)
  Φ t := iprop(Scr m c t.val ∗ ∃ r, prngReg c r)
  q _ := fullShare
  owed _ := 0

/-- No window's contents are forgotten. -/
def fgt : Fin 12 → Bool := fun _ => false

/-- At every point one of the branches stores into each of these windows. -/
theorem idle5 : ∀ t : Fin grid0.N, idle0 5 (grid0.coords t) = false := by decide +kernel
theorem idle6 : ∀ t : Fin grid0.N, idle0 6 (grid0.coords t) = false := by decide +kernel
theorem idle7 : ∀ t : Fin grid0.N, idle0 7 (grid0.coords t) = false := by decide +kernel
theorem idle8 : ∀ t : Fin grid0.N, idle0 8 (grid0.coords t) = false := by decide +kernel
theorem idle9 : ∀ t : Fin grid0.N, idle0 9 (grid0.coords t) = false := by decide +kernel
theorem idle10 : ∀ t : Fin grid0.N, idle0 10 (grid0.coords t) = false := by decide +kernel
theorem idle11 : ∀ t : Fin grid0.N, idle0 11 (grid0.coords t) = false := by decide +kernel

theorem coord (t : Fin cfg0.N) : (grid0.coords t 1).val = t.val % 5 := (by decide +kernel : ∀ t : Fin grid0.N, (grid0.coords t 1).val = t.val % 5) t

theorem after0 (c : Dev nD) (t : Fin cfg0.N) : (dats m 0 c).after 0 t = iblk m c 0 t := rfl
theorem after1 (c : Dev nD) (t : Fin cfg0.N) : (dats m 0 c).after 1 t = iblk m c 1 t := rfl
theorem after2 (c : Dev nD) (t : Fin cfg0.N) : (dats m 0 c).after 2 t = iblk m c 2 t := rfl
theorem after3 (c : Dev nD) (t : Fin cfg0.N) : (dats m 0 c).after 3 t = iblk m c 3 t := rfl
theorem after4 (c : Dev nD) (t : Fin cfg0.N) : (dats m 0 c).after 4 t = iblk m c 4 t := rfl

set_option maxHeartbeats 4000000 in
/-- One grid point, window by window. -/
theorem point (c : Dev nD) (t : Fin cfg0.N) (O : sProp 𝕄) :
    iprop((Scr m c t.val ∗ ∃ r, prngReg c r) ∗ O ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))
    ⊢ wp Idealize.ShloMosaic.frame (wpE (defs₀ (F := Ideal)) 𝒱₀ (c : Thread nD τ) none) Set.univ (bodyAt0 t)
      (fun _ => iprop((Scr m c (t.val + 1) ∗ ∃ r, prngReg c r) ∗ O ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t))) := by
  unfold owns Scr
  iintro ⟨⟨⟨⟨%g0, S0, %q0⟩, ⟨%g1, S1, %q1⟩, ⟨%g2, S2, %q2⟩, ⟨%g3, S3⟩, ⟨%g4, S4⟩, ⟨%g5, S5⟩, ⟨%g6, S6⟩⟩, HP⟩, HO, ⟨%d0, %x0, %e0, W0⟩, ⟨%d1, %x1, %e1, W1⟩, ⟨%d2, %x2, %e2, W2⟩, ⟨%d3, %x3, %e3, W3⟩, ⟨%d4, %x4, %e4, W4⟩, ⟨%d5, %x5, %e5, W5⟩, ⟨%d6, %x6, %e6, W6⟩, ⟨%d7, %x7, %e7, W7⟩, ⟨%d8, %x8, %e8, W8⟩, ⟨%d9, %x9, %e9, W9⟩, ⟨%d10, %x10, %e10, W10⟩, ⟨%d11, %x11, %e11, W11⟩⟩
  have r0 : rd (st0_0 t) x0 = iblk m c 0 t := e0.trans (before0_0_of m (dats m 0 c) rfl (fun _ => rfl) t d0)
  have r1 : rd (st0_1 t) x1 = iblk m c 1 t := e1.trans (before0_1_of m (dats m 0 c) rfl (fun _ => rfl) t d1)
  have r2 : rd (st0_2 t) x2 = iblk m c 2 t := e2.trans (before0_2_of m (dats m 0 c) rfl (fun _ => rfl) t d2)
  have r3 : rd (st0_3 t) x3 = iblk m c 3 t := e3.trans (before0_3_of m (dats m 0 c) rfl (fun _ => rfl) t d3)
  have r4 : rd (st0_4 t) x4 = iblk m c 4 t := e4.trans (before0_4_of m (dats m 0 c) rfl (fun _ => rfl) t d4)
  have hb : 128 * (t.val % 5) + 128 ≤ 640 := by omega
  have B := own m c t hb
  unfold bC bS bk bv at B
  rw [← r1, ← r2, ← r3, ← r4] at B
  iapply (wp_wand_r Idealize.ShloMosaic.frame (wpE (defs₀ (F := Ideal)) 𝒱₀ (c : Thread nD τ) none) Set.univ)
  isplitl [S0 S1 S2 S3 S4 S5 S6 W0 W1 W2 W3 W4 W5 W6 W7 W8 W9 W10 W11]
  · iapply (sound c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (128 * (t.val % 5)) hb (by rw [coord]) x0 x1 x2 x3 x4 (KC m c t.val) (KS m c t.val) (VT m c t.val) B g0 g1 g2 q0 q1 q2)
    sl_close
  · iintro %_ ⟨W0, W1, W2, W3, W4, ⟨%y5, W5, %p5⟩, ⟨%y6, W6, %p6⟩, ⟨%y7, W7, %p7⟩, ⟨%y8, W8, %p8⟩, ⟨%y9, W9, %p9⟩, ⟨%y10, W10, %p10⟩, ⟨%y11, W11, %p11⟩, ⟨%z0, S0, %s0⟩, ⟨%z1, S1, %s1⟩, ⟨%z2, S2, %s2⟩, S3, S4, S5, S6⟩
    rw [r0, r3, r4] at p5 p6 p7 p10 p11
    rw [r1, r3, r4] at p8 p9
    isplitl [S0 S1 S2 S3 S4 S5 S6 HP]
    · isplitr [HP]
      · isplitl [S0]; · iexists z0; isplitl [S0]; (· iexact S0); ipureintro; exact next_key (fun h => by unfold KC; rw [same_batch h]) s0
        isplitl [S1]; · iexists z1; isplitl [S1]; (· iexact S1); ipureintro; exact next_key (fun h => by unfold KS; rw [same_batch h]) s1
        isplitl [S2]; · iexists z2; isplitl [S2]; (· iexact S2); ipureintro; exact next_val (fun h => by unfold VT; rw [same_batch h]) s2
        isplitl [S3]; · iexact S3
        isplitl [S4]; · iexact S4
        isplitl [S5]; · iexact S5
        · iexact S6
      iexact HP
    isplitl [HO]; · iexact HO
    isplitl [W0]; · iexists _; isplitr; swap; (· iexact W0); ipureintro; exact r0.trans (after0 m c t).symm
    isplitl [W1]; · iexists _; isplitr; swap; (· iexact W1); ipureintro; exact r1.trans (after1 m c t).symm
    isplitl [W2]; · iexists _; isplitr; swap; (· iexact W2); ipureintro; exact r2.trans (after2 m c t).symm
    isplitl [W3]; · iexists _; isplitr; swap; (· iexact W3); ipureintro; exact r3.trans (after3 m c t).symm
    isplitl [W4]; · iexists _; isplitr; swap; (· iexact W4); ipureintro; exact r4.trans (after4 m c t).symm
    isplitl [W5]; · iexists y5; isplitr; swap; (· iexact W5); ipureintro; exact (out_heads p5)
    isplitl [W6]; · iexists y6; isplitr; swap; (· iexact W6); ipureintro; exact (out_codes rfl _ p6)
    isplitl [W7]; · iexists y7; isplitr; swap; (· iexact W7); ipureintro; exact (out_scales p7)
    isplitl [W8]; · iexists y8; isplitr; swap; (· iexact W8); ipureintro; exact (out_codes rfl _ p8)
    isplitl [W9]; · iexists y9; isplitr; swap; (· iexact W9); ipureintro; exact (out_scales p9)
    isplitl [W10]; · iexists y10; isplitr; swap; (· iexact W10); ipureintro; exact (out_heads p10)
    · iexists y11; isplitr; swap; (· iexact W11); ipureintro; exact (out_row p11)

end Cert.Proof.Val

end
-- ==== Proof.Value.Run.lean ====
module

public import proofs.«01_k».proof.Proof.Value.Launch

/-!
# The run of the kernel, with the results it leaves
-/

@[expose] public section

set_option warn.classDefReducibility false
set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.KernelIdeal (cond1 cond2 cond3 cond4 cond5 any set_whole)

local notation "𝕄" => MT nD τ sig Unit (Elt Ideal) ℕ (UR sig nD τ) ℕ

variable (m : (ℓ : Loc nD τ sig) → Buf (Elt Ideal) ℓ) (ρ : Dev nD → PrngReg)

theorem obligation (c : Dev nD) : Pipeline.BodyObligationLoose (dats m 0 c) (defs₀ (F := Ideal)) 𝒱₀ () Set.univ fgt := fun t => by
  rw [bigSep_W0, bigSep_W0, Cert.Proof.KernelIdeal.defs₀_row]
  have f0 : fgt 0 = false := rfl
  have f1 : fgt 1 = false := rfl
  have f2 : fgt 2 = false := rfl
  have f3 : fgt 3 = false := rfl
  have f4 : fgt 4 = false := rfl
  have f5 : fgt 5 = false := rfl
  have f6 : fgt 6 = false := rfl
  have f7 : fgt 7 = false := rfl
  have f8 : fgt 8 = false := rfl
  have f9 : fgt 9 = false := rfl
  have f10 : fgt 10 = false := rfl
  have f11 : fgt 11 = false := rfl
  simp only [f0, f1, f2, f3, f4, f5, f6, f7, f8, f9, f10, f11]
  have h1 : (dats m 0 c).Φ t.castSucc = iprop(Scr m c t.val ∗ ∃ r, prngReg c r) := rfl
  have h2 : (dats m 0 c).Φ t.succ = iprop(Scr m c (t.val + 1) ∗ ∃ r, prngReg c r) := rfl
  have h3 : (dats m 0 c).owesAt () t.succ = (dats m 0 c).owesAt () t.castSucc := rfl
  rw [h1, h2, h3]
  refine triple_restated (point m c t ((dats m 0 c).owesAt () t.castSucc)) rfl ?_ fun _ => ?_
  · iterate 13 refine sep_mono .rfl ?_
    exact .rfl
  · simp only [idle5 t, idle6 t, idle7 t, idle8 t, idle9 t, idle10 t, idle11 t]
    iterate 13 refine sep_mono .rfl ?_
    exact .rfl

/-- Before the first point nothing is known of the scratch. -/
theorem scr_first (c : Dev nD) : Pipeline.ΦA spec0 c ⊢ (dats m 0 c).Φ 0 := by
  show Pipeline.ΦA spec0 c ⊢ iprop(Scr m c 0 ∗ ∃ r, prngReg c r)
  simp only [Scr, Pipeline.ΦA, Cert.Proof.KernelIdeal.scratch_eq]
  iintro ⟨⟨⟨%g0, S0⟩, ⟨%g1, S1⟩, ⟨%g2, S2⟩, S3, S4, S5, S6⟩, HP⟩
  isplitr [HP]
  · isplitl [S0]; · iexists g0; isplitl [S0]; (· iexact S0); ipureintro; exact fun h key d hh => absurd hh (by omega)
    isplitl [S1]; · iexists g1; isplitl [S1]; (· iexact S1); ipureintro; exact fun h key d hh => absurd hh (by omega)
    isplitl [S2]; · iexists g2; isplitl [S2]; (· iexact S2); ipureintro; exact fun h key d hh => absurd hh (by omega)
    isplitl [S3]; · iexact S3
    isplitl [S4]; · iexact S4
    isplitl [S5]; · iexact S5
    · iexact S6
  iexact HP

/-- After the last point nothing more is needed of it. -/
theorem scr_last (c : Dev nD) : (dats m 0 c).Φ (Fin.last cfg0.N) ⊢ Pipeline.ΦA spec0 c := by
  show iprop(Scr m c cfg0.N ∗ ∃ r, prngReg c r) ⊢ Pipeline.ΦA spec0 c
  simp only [Scr, Pipeline.ΦA, Cert.Proof.KernelIdeal.scratch_eq]
  iintro ⟨⟨⟨%g0, S0, -⟩, ⟨%g1, S1, -⟩, ⟨%g2, S2, -⟩, S3, S4, S5, S6⟩, HP⟩
  isplitr [HP]
  · isplitl [S0]; · iexists g0; iexact S0
    isplitl [S1]; · iexists g1; iexact S1
    isplitl [S2]; · iexists g2; iexact S2
    isplitl [S3]; · iexact S3
    isplitl [S4]; · iexact S4
    isplitl [S5]; · iexact S5
    · iexact S6
  iexact HP

/-- The whole run: what the windows of results end holding, the argument arrays unchanged. -/
theorem run_blocks : θ_run defs (onTc (τ := τ) (main (F := Ideal))) ⟨m, fun _ => 0, ρ⟩ (fun r => ∀ c : Dev nD,
      r.2.mem ((c.tc : Thread nD τ).loc main_v17_0) = (dats m 0 c).arrAt 5 cfg0.N
      ∧ r.2.mem ((c.tc : Thread nD τ).loc main_v17_1) = (dats m 0 c).arrAt 6 cfg0.N
      ∧ r.2.mem ((c.tc : Thread nD τ).loc main_v17_2) = (dats m 0 c).arrAt 7 cfg0.N
      ∧ r.2.mem ((c.tc : Thread nD τ).loc main_v17_3) = (dats m 0 c).arrAt 8 cfg0.N
      ∧ r.2.mem ((c.tc : Thread nD τ).loc main_v17_4) = (dats m 0 c).arrAt 9 cfg0.N
      ∧ r.2.mem ((c.tc : Thread nD τ).loc main_v17_5) = (dats m 0 c).arrAt 10 cfg0.N
      ∧ r.2.mem ((c.tc : Thread nD τ).loc main_v17_6) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_frame_track_forget cfgs (dats m) 0 launch0 defs₀ 𝒱₀ fgt m ρ main (hbody := obligation m)
    (hshare := fun _ w => by fin_cases w <;> rfl) (howed := fun _ _ => rfl) (V := V m) (hmain := hmain m 𝒱₀) (hA := fun _ _ => rfl)
    (hin := scr_first m) (hout := scr_last m) (Q' := _)
    (hQ' := fun r h c =>
      ⟨((dats m 0 c).toRForget_arrAt_iff (fgt := fgt) (w := 5) rfl cfg0.N _).mp ((h.1 c).1 5),
       ((dats m 0 c).toRForget_arrAt_iff (fgt := fgt) (w := 6) rfl cfg0.N _).mp ((h.1 c).1 6),
       ((dats m 0 c).toRForget_arrAt_iff (fgt := fgt) (w := 7) rfl cfg0.N _).mp ((h.1 c).1 7),
       ((dats m 0 c).toRForget_arrAt_iff (fgt := fgt) (w := 8) rfl cfg0.N _).mp ((h.1 c).1 8),
       ((dats m 0 c).toRForget_arrAt_iff (fgt := fgt) (w := 9) rfl cfg0.N _).mp ((h.1 c).1 9),
       ((dats m 0 c).toRForget_arrAt_iff (fgt := fgt) (w := 10) rfl cfg0.N _).mp ((h.1 c).1 10),
       ((dats m 0 c).toRForget_arrAt_iff (fgt := fgt) (w := 11) rfl cfg0.N _).mp ((h.1 c).1 11),
       ((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c),
       ((h.1 c).2 main_arg3 (Pipeline.mem_restRefs_of main_arg3 (by decide) (by decide))).trans (V_main_arg3 m c)⟩)

end Cert.Proof.Val

end
-- ==== Proof.Value.Arrays.lean ====
module

public import proofs.«01_k».proof.Proof.Value.Run
public import Idealize.ShloMosaic.Lib.Pipeline.ValueKit.Geometry

/-!
# The result arrays of codes and scales as functions of the arguments
-/

@[expose] public section

set_option warn.classDefReducibility false
set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The frequencies of the rotation. -/
def freq (j : Fin 64) : EReal :=
  Host.divf (F := Ideal) (broadcastInDim S64 ![] bcast_S_S64 (constant (F := Ideal) S_ .f32 0x3F800000#32))
    (Host.powf (F := Ideal) (broadcastInDim S64 ![] bcast_S_S64 (constant (F := Ideal) S_ .f32 0x49742400#32))
      (Host.divf (F := Ideal) (addf (F := Ideal) (broadcastInDim S64 ![] bcast_S_S64 (constant (F := Ideal) S_ .f32 0x00000000#32))
        (mulf (F := Ideal) (broadcastInDim S64 ![] bcast_S_S64 (constant (F := Ideal) S_ .f32 0x40000000#32)) (sitofp (F := Ideal) .f32 (iotaInDim S64 32 0))))
        (broadcastInDim S64 ![] bcast_S_S64 (constant (F := Ideal) S_ .f32 0x43000000#32)))) (ix1 j)

/-- The angle of frequency `j` at token `s` of batch `b`, from the three arrays of positions. -/
def ang (A3 : S3x3x640.Idx → BitVec 32) (b : Fin 3) (s : Fin 640) (j : Fin 64) : EReal :=
  FloatOps.sitofp (F := Ideal) .f32 (A3 (ix3 (if j.val < 16 then 0 else if j.val < 40 then 1 else 2) b s)) * freq j
/-- The cosines and the sines of a token. -/
def tcos (A3 : S3x3x640.Idx → BitVec 32) (b : Fin 3) (s : Fin 640) (j : Fin 64) : EReal := Ideal.cos (ang A3 b s j)
def tsin (A3 : S3x3x640.Idx → BitVec 32) (b : Fin 3) (s : Fin 640) (j : Fin 64) : EReal := Ideal.sin (ang A3 b s j)

section G
variable {n : Nat} (A3 : S3x3x640.Idx → BitVec 32) (A : (⟨4, ![3, 640, n, 128]⟩ : Shape).Idx → EReal)
/-- The codes of head `h` of token `s`. -/
def tcode (b : Fin 3) (s : Fin 640) (h : Fin n) (d : Fin 128) : EReal := hcode (tcos A3 b s) (tsin A3 b s) (fun d => A (ix4 b s h d)) d
/-- The scale of head `h` of token `s`. -/
def tscale (b : Fin 3) (s : Fin 640) (h : Fin n) : EReal := hscale (tcos A3 b s) (tsin A3 b s) (fun d => A (ix4 b s h d))
end G

variable (m : (ℓ : Loc nD τ sig) → Buf (Elt Ideal) ℓ) (ρ : Dev nD → PrngReg)

theorem V14 (c : Dev nD) : V m c main_v14 = shapeCast S76800x128 (m ((c : Thread nD τ).loc main_arg0)) shapeCasts_S3x640x40x128_S76800x128 := by
  unfold V
  simp only [hostOps0]
  after_results_simp
  all_goals rfl
theorem V15 (c : Dev nD) : V m c main_v15 = shapeCast S15360x128 (m ((c : Thread nD τ).loc main_arg1)) shapeCasts_S3x640x8x128_S15360x128 := by
  unfold V
  simp only [hostOps0]
  after_results_simp
  all_goals rfl
theorem V13 (c : Dev nD) : V m c main_v13 = transpose S3x3x640 [1, 0, 2] (m ((c : Thread nD τ).loc main_arg3)) transposes_S3x3x640_S3x3x640_1_0_2 := by
  unfold V
  simp only [hostOps0]
  after_results_simp
  all_goals rfl
theorem V12 (c : Dev nD) (j : Fin 64) (r : Fin 128) : (V m c main_v12 : S64x128.Idx → EReal) (ix2 j r) = freq j := by
  unfold V
  simp only [hostOps0]
  after_results_simp
  rfl

theorem ix0 : ∀ t : Fin cfg0.N, win0_0.index t = ![t.val, 0] := (by decide +kernel : ∀ t : Fin grid0.N, _)
theorem ix1' : ∀ t : Fin cfg0.N, win0_1.index t = ![t.val, 0] := (by decide +kernel : ∀ t : Fin grid0.N, _)
theorem ix3' : ∀ t : Fin cfg0.N, win0_3.index t = ![t.val / 5, 0, t.val % 5] := (by decide +kernel : ∀ t : Fin grid0.N, _)
theorem ix4' : ∀ t : Fin cfg0.N, win0_4.index t = ![0, 0] := (by decide +kernel : ∀ t : Fin grid0.N, _)
theorem ix6 : ∀ t : Fin cfg0.N, win0_6.index t = ![t.val, 0] := (by decide +kernel : ∀ t : Fin grid0.N, _)
theorem ix7 : ∀ t : Fin cfg0.N, win0_7.index t = ![t.val / 5, 0, t.val % 5] := (by decide +kernel : ∀ t : Fin grid0.N, _)
theorem ix8 : ∀ t : Fin cfg0.N, win0_8.index t = ![t.val, 0] := (by decide +kernel : ∀ t : Fin grid0.N, _)
theorem ix9 : ∀ t : Fin cfg0.N, win0_9.index t = ![t.val / 5, 0, t.val % 5] := (by decide +kernel : ∀ t : Fin grid0.N, _)

/-- The batch of a grid point. -/
def tb (t : Fin cfg0.N) : Fin 3 := ⟨t.val / 5, by have h : t.val < 15 := t.isLt; omega⟩
/-- Token `r` of a grid point. -/
def tk (t : Fin cfg0.N) (r : Fin 128) : Fin 640 := ⟨128 * (t.val % 5) + r.val, by omega⟩

theorem castT14_apply (X : S3x640x40x128.Idx → EReal) (y : Fin 76800) (d : Fin 128) (b : Fin 3) (s : Fin 640) (h : Fin 40) (e : y.val = (b.val * 640 + s.val) * 40 + h.val) :
    shapeCast S76800x128 X shapeCasts_S3x640x40x128_S76800x128 (ix2 y d) = X (ix4 b s h d) := by
  pointwise
  refine congrArg X ?_
  congr 1 <;> apply Fin.ext <;> simp <;> omega

theorem iblk0_apply (c : Dev nD) (t : Fin cfg0.N) (h : Fin 40) (r d : Fin 128) :
    row40 (bq m c t) h r d = m ((c : Thread nD τ).loc main_arg0) (ix4 (tb t) (tk t r) h d) := by
  have e := ix0 t
  have ht : t.val < 15 := t.isLt
  rw [← castT14_apply (m ((c : Thread nD τ).loc main_arg0)) ⟨t.val * 5120 + (40 * r.val + h.val), by omega⟩ d (tb t) (tk t r) h (by show _ = (t.val / 5 * 640 + (128 * (t.val % 5) + r.val)) * 40 + h.val; simp only []; omega), ← V14 m c]
  unfold row40 bq iblk
  blk_simp
  refine congrArg (V m c main_v14) ?_
  blk_ext [e]

theorem castT15_apply (X : S3x640x8x128.Idx → EReal) (y : Fin 15360) (d : Fin 128) (b : Fin 3) (s : Fin 640) (h : Fin 8) (e : y.val = (b.val * 640 + s.val) * 8 + h.val) :
    shapeCast S15360x128 X shapeCasts_S3x640x8x128_S15360x128 (ix2 y d) = X (ix4 b s h d) := by
  pointwise
  refine congrArg X ?_
  congr 1 <;> apply Fin.ext <;> simp <;> omega

theorem iblk1_apply (c : Dev nD) (t : Fin cfg0.N) (h : Fin 8) (r d : Fin 128) :
    row8 (bk m c t) h r d = m ((c : Thread nD τ).loc main_arg1) (ix4 (tb t) (tk t r) h d) := by
  have e := ix1' t
  have ht : t.val < 15 := t.isLt
  rw [← castT15_apply (m ((c : Thread nD τ).loc main_arg1)) ⟨t.val * 1024 + (8 * r.val + h.val), by omega⟩ d (tb t) (tk t r) h (by show _ = (t.val / 5 * 640 + (128 * (t.val % 5) + r.val)) * 8 + h.val; simp only []; omega), ← V15 m c]
  unfold row8 bk iblk
  blk_simp
  refine congrArg (V m c main_v15) ?_
  blk_ext [e]

theorem iblk3_apply (c : Dev nD) (t : Fin cfg0.N) (k : Fin 3) (r : Fin 128) :
    (iblk m c 3 t : S1x3x128.Idx → BitVec 32) (ix3 0 k r) = m ((c : Thread nD τ).loc main_arg3) (ix3 k (tb t) (tk t r)) := by
  have e := ix3' t
  have e2 : m ((c : Thread nD τ).loc main_arg3) (ix3 k (tb t) (tk t r)) = (V m c main_v13 : S3x3x640.Idx → BitVec 32) (ix3 (tb t) k (tk t r)) := by
    rw [V13]; pointwise
  rw [e2]
  unfold iblk
  blk_simp
  refine congrArg (V m c main_v13) ?_
  blk_ext [e, tb, tk]

theorem iblk4_apply (c : Dev nD) (t : Fin cfg0.N) (j : Fin 64) (r : Fin 128) :
    (iblk m c 4 t : S64x128.Idx → EReal) (ix2 j r) = freq j := by
  have e := ix4' t
  rw [← V12 m c j r]
  unfold iblk
  blk_simp
  refine congrArg (V m c main_v12) ?_
  blk_ext [e]

theorem bC_apply (c : Dev nD) (t : Fin cfg0.N) (j : Fin 64) (r : Fin 128) :
    bC m c t (ix2 j r) = tcos (m ((c : Thread nD τ).loc main_arg3)) (tb t) (tk t r) j := by
  unfold bC tcos ang
  rw [pay69_apply, kang, kpos, iblk3_apply, iblk4_apply]

theorem bS_apply (c : Dev nD) (t : Fin cfg0.N) (j : Fin 64) (r : Fin 128) :
    bS m c t (ix2 j r) = tsin (m ((c : Thread nD τ).loc main_arg3)) (tb t) (tk t r) j := by
  unfold bS tsin ang
  rw [pay70_apply, kang, kpos, iblk3_apply, iblk4_apply]

section
variable (c : Dev nD) (t : Fin cfg0.N)
theorem codes_q (h : Fin 40) (r d : Fin 128) : codes (bC m c t) (bS m c t) (row40 (bq m c t)) h r d
    = tcode (m ((c : Thread nD τ).loc main_arg3)) (m ((c : Thread nD τ).loc main_arg0)) (tb t) (tk t r) h d := by
  unfold codes tcode; simp only [bC_apply, bS_apply]; rw [show row40 (bq m c t) h r = _ from funext fun d => iblk0_apply m c t h r d]
theorem codes_k (h : Fin 8) (r d : Fin 128) : codes (bC m c t) (bS m c t) (row8 (bk m c t)) h r d
    = tcode (m ((c : Thread nD τ).loc main_arg3)) (m ((c : Thread nD τ).loc main_arg1)) (tb t) (tk t r) h d := by
  unfold codes tcode; simp only [bC_apply, bS_apply]; rw [show row8 (bk m c t) h r = _ from funext fun d => iblk1_apply m c t h r d]
theorem scales_q (h : Fin 40) (r : Fin 128) : scales (bC m c t) (bS m c t) (row40 (bq m c t)) h r
    = tscale (m ((c : Thread nD τ).loc main_arg3)) (m ((c : Thread nD τ).loc main_arg0)) (tb t) (tk t r) h := by
  unfold scales tscale; simp only [bC_apply, bS_apply]; rw [show row40 (bq m c t) h r = _ from funext fun d => iblk0_apply m c t h r d]
theorem scales_k (h : Fin 8) (r : Fin 128) : scales (bC m c t) (bS m c t) (row8 (bk m c t)) h r
    = tscale (m ((c : Thread nD τ).loc main_arg3)) (m ((c : Thread nD τ).loc main_arg1)) (tb t) (tk t r) h := by
  unfold scales tscale; simp only [bC_apply, bS_apply]; rw [show row8 (bk m c t) h r = _ from funext fun d => iblk1_apply m c t h r d]
end

/-- The result arrays of codes and scales. -/
def GC {n N : Nat} (hn : N = 3 * 640 * n) (A3 : S3x3x640.Idx → BitVec 32) (A : (⟨4, ![3, 640, n, 128]⟩ : Shape).Idx → EReal) (y : (⟨2, ![N, 128]⟩ : Shape).Idx) : EReal :=
  have h0 : 0 < n := Nat.pos_of_ne_zero (by rintro rfl; subst hn; exact absurd (y 0).isLt (by simp))
  tcode A3 A ⟨(y 0).val / n / 640 % 3, Nat.mod_lt _ (by decide)⟩ ⟨(y 0).val / n % 640, Nat.mod_lt _ (by decide)⟩ ⟨(y 0).val % n, Nat.mod_lt _ h0⟩ (y 1)
def GS {n : Nat} (A3 : S3x3x640.Idx → BitVec 32) (A : (⟨4, ![3, 640, n, 128]⟩ : Shape).Idx → EReal) (y : (⟨3, ![3, n, 640]⟩ : Shape).Idx) : EReal :=
  tscale A3 A (y 0) (y 2) (y 1)

theorem final6 (c : Dev nD) : (dats m 0 c).arrAt 6 cfg0.N
    = GC (n := 40) (N := 76800) rfl (m ((c : Thread nD τ).loc main_arg3)) (m ((c : Thread nD τ).loc main_arg0)) := by
  refine (dats m 0 c).arrAt_eq_of_covers 6 _ (by decide +kernel) fun t hf y => ?_
  have e := ix6 t
  have ht : t.val < 15 := t.isLt
  have hy : (y 0).val < 5120 := (y 0).isLt
  have e0 : ((win0_6.blk t).view.emb y 0 : Fin _).val = t.val * 5120 + (y 0).val := by blk_simp [e] <;> rfl
  have e1 : ((win0_6.blk t).view.emb y 1 : Fin _) = y 1 := Fin.ext (by blk_simp [e] <;> simp)
  blk_simp
  show outCodes 40 (N := 5120) rfl _ _ _ y = _
  unfold outCodes
  refine (codes_q m c t _ _ _).trans ?_
  unfold GC
  simp only [e0, e1]
  congr 1
  all_goals (apply Fin.ext; simp only [tb, tk]; omega)

theorem final8 (c : Dev nD) : (dats m 0 c).arrAt 8 cfg0.N
    = GC (n := 8) (N := 15360) rfl (m ((c : Thread nD τ).loc main_arg3)) (m ((c : Thread nD τ).loc main_arg1)) := by
  refine (dats m 0 c).arrAt_eq_of_covers 8 _ (by decide +kernel) fun t hf y => ?_
  have e := ix8 t
  have ht : t.val < 15 := t.isLt
  have hy : (y 0).val < 1024 := (y 0).isLt
  have e0 : ((win0_8.blk t).view.emb y 0 : Fin _).val = t.val * 1024 + (y 0).val := by blk_simp [e] <;> rfl
  have e1 : ((win0_8.blk t).view.emb y 1 : Fin _) = y 1 := Fin.ext (by blk_simp [e] <;> simp)
  blk_simp
  show outCodes 8 (N := 1024) rfl _ _ _ y = _
  unfold outCodes
  refine (codes_k m c t _ _ _).trans ?_
  unfold GC
  simp only [e0, e1]
  congr 1
  all_goals (apply Fin.ext; simp only [tb, tk]; omega)

theorem final7 (c : Dev nD) : (dats m 0 c).arrAt 7 cfg0.N
    = GS (n := 40) (m ((c : Thread nD τ).loc main_arg3)) (m ((c : Thread nD τ).loc main_arg0)) := by
  refine (dats m 0 c).arrAt_eq_of_covers 7 _ (by decide +kernel) fun t hf y => ?_
  have e := ix7 t
  have ht : t.val < 15 := t.isLt
  have hy : (y 0).val < 1 := (y 0).isLt
  have e0 : ((win0_7.blk t).view.emb y 0 : Fin _) = tb t := Fin.ext (by blk_simp [e]; simp [tb] <;> omega)
  have e1 : ((win0_7.blk t).view.emb y 1 : Fin _) = y 1 := Fin.ext (by blk_simp [e] <;> simp)
  have e2 : ((win0_7.blk t).view.emb y 2 : Fin _) = tk t (y 2) := Fin.ext (by blk_simp [e]; simp [tk] <;> omega)
  blk_simp
  show outScales 40 _ _ _ y = _
  unfold outScales
  refine (scales_q m c t _ _).trans ?_
  unfold GS
  rw [e0, e1, e2]

theorem final9 (c : Dev nD) : (dats m 0 c).arrAt 9 cfg0.N
    = GS (n := 8) (m ((c : Thread nD τ).loc main_arg3)) (m ((c : Thread nD τ).loc main_arg1)) := by
  refine (dats m 0 c).arrAt_eq_of_covers 9 _ (by decide +kernel) fun t hf y => ?_
  have e := ix9 t
  have ht : t.val < 15 := t.isLt
  have hy : (y 0).val < 1 := (y 0).isLt
  have e0 : ((win0_9.blk t).view.emb y 0 : Fin _) = tb t := Fin.ext (by blk_simp [e]; simp [tb] <;> omega)
  have e1 : ((win0_9.blk t).view.emb y 1 : Fin _) = y 1 := Fin.ext (by blk_simp [e] <;> simp)
  have e2 : ((win0_9.blk t).view.emb y 2 : Fin _) = tk t (y 2) := Fin.ext (by blk_simp [e]; simp [tk] <;> omega)
  blk_simp
  show outScales 8 _ _ _ y = _
  unfold outScales
  refine (scales_k m c t _ _).trans ?_
  unfold GS
  rw [e0, e1, e2]

end Cert.Proof.Val

end
-- ==== Proof.Value.AttArrays.lean ====
module

public import proofs.«01_k».proof.Proof.Value.Arrays

/-!
# The result arrays of the attention as functions of the arguments
-/

@[expose] public section

set_option warn.classDefReducibility false
set_option maxRecDepth 16384

noncomputable section

namespace Cert.Proof.Val

open Cert.KernelIdeal Cert.KernelIdeal.Gen
open Idealize.ShloMosaic Idealize.ShloMosaic.TcCoe Idealize.ShloMosaic.Tactic

section G
variable (A0 : S3x640x40x128.Idx → EReal) (A1 A2 : S3x640x8x128.Idx → EReal) (A3 : S3x3x640.Idx → BitVec 32)
/-- The score of key `k` for query `q` of head `h`. -/
def tscore (b : Fin 3) (h : Fin 40) (q k : Fin 640) : EReal :=
  if k.val ≤ q.val then (∑ d : Fin 128, tcode A3 A1 b k ⟨h.val / 5, by omega⟩ d * tcode A3 A0 b q h d) * tscale A3 A0 b q h
    * tscale A3 A1 b k ⟨h.val / 5, by omega⟩ * bits 0x3DB504F3#32 else ⊥
/-- The output of head `h` of query `q` at lane `d`. -/
def tatt (b : Fin 3) (h : Fin 40) (q : Fin 640) (d : Fin 128) : EReal :=
  ratt (tscore A0 A1 A3 b h q) fun k => A2 (ix4 b k ⟨h.val / 5, by omega⟩ d)
/-- The output at a column. -/
def tout (b : Fin 3) (q : Fin 640) (c : Fin 5120) : EReal := tatt A0 A1 A2 A3 b ⟨c.val / 128, by omega⟩ q ⟨c.val % 128, by omega⟩
/-- The exponent of the scale of a query's outputs. -/
def texp (b : Fin 3) (q : Fin 640) : EReal := kexp (kmax (tout A0 A1 A2 A3 b q))
/-- The three result arrays of the attention. -/
def GO (y : S3x640x5120.Idx) : EReal := tout A0 A1 A2 A3 (y 0) (y 1) (y 2)
def GOC (y : S3x640x5120.Idx) : EReal := kclip (tout A0 A1 A2 A3 (y 0) (y 1) (y 2)) (texp A0 A1 A2 A3 (y 0) (y 1))
def GOS (y : S3x1x640.Idx) : EReal := Ideal.exp2 (texp A0 A1 A2 A3 (y 0) (y 2))

theorem score_scale : bits 0x3DB504F3#32 = ((11863283 / 134217728 : ℝ) : EReal) := by
  simp [bits, Ideal.ofBits, Ideal.ieee, -EReal.coe_mul]; norm_num

theorem scoreC_mul : scoreC = bits 0x3DB504F3#32 * l2e := by
  rw [score_scale, scoreC_eq, l2e_eq, ← EReal.coe_mul]

/-- A score inside the mask is real. -/
theorem tscore_real (b : Fin 3) (h : Fin 40) (q k : Fin 640) (e : k.val ≤ q.val) : IsR (tscore A0 A1 A3 b h q k) := by
  rw [tscore, if_pos e]
  exact score_real _ _ _ _ _ _ _ ⟨_, score_scale⟩

theorem tscale_pos {n : Nat} (A : (⟨4, ![3, 640, n, 128]⟩ : Shape).Idx → EReal) (b : Fin 3) (s : Fin 640) (h : Fin n) : 0 < tscale A3 A b s h :=
  hscale_pos _ _ _

/-- The kernel's form of one output, over the keys up to the end of the query's block. -/
theorem katt_tatt {n : Nat} (hn : n ≤ 640) (b : Fin 3) (h : Fin 40) (q : Fin 640) (d : Fin 128) (hq : q.val < n)
    (w v : Fin n → EReal)
    (hv : ∀ k : Fin n, v k = A2 (ix4 b (Fin.castLE hn k) ⟨h.val / 5, by omega⟩ d))
    (hw : ∀ k : Fin n, w k = (∑ d : Fin 128, tcode A3 A1 b (Fin.castLE hn k) ⟨h.val / 5, by omega⟩ d * tcode A3 A0 b q h d)
      * (tscale A3 A1 b (Fin.castLE hn k) ⟨h.val / 5, by omega⟩ * scoreC) + (if k.val ≤ q.val then 0 else ⊥)) :
    katt w (tscale A3 A0 b q h) v = tatt A0 A1 A2 A3 b h q d := by
  refine katt_eq hn w v (tscale_pos A3 A0 b q h) (tscore A0 A1 A3 b h q) (fun k => A2 (ix4 b k ⟨h.val / 5, by omega⟩ d)) hv (fun k => ?_)
    (fun k hk => if_neg (by omega)) (fun k => ?_) ⟨q, ?_⟩
  · rw [hw, tscore]
    by_cases e : k.val ≤ q.val
    · rw [if_pos e, if_pos (show (Fin.castLE hn k).val ≤ q.val from e), add_zero, scoreC_mul]; ac_rfl
    · rw [if_neg e, if_neg (show ¬ (Fin.castLE hn k).val ≤ q.val from e), EReal.add_bot, EReal.bot_mul_of_pos (tscale_pos A3 A0 b q h), EReal.bot_mul_of_pos l2e_pos]
  · by_cases e : k.val ≤ q.val
    · obtain ⟨r, hr⟩ := tscore_real A0 A1 A3 b h q k e
      rw [hr]; exact EReal.coe_ne_top _
    · rw [tscore, if_neg e]; exact bot_ne_top
  · obtain ⟨r, hr⟩ := tscore_real A0 A1 A3 b h q q le_rfl
    rw [hr]; exact EReal.coe_ne_bot _
end G

variable (m : (ℓ : Loc nD τ sig) → Buf (Elt Ideal) ℓ)

theorem V16 (c : Dev nD) : V m c main_v16 = shapeCast S15360x128 (m ((c : Thread nD τ).loc main_arg2)) shapeCasts_S3x640x8x128_S15360x128 := by
  unfold V
  simp only [hostOps0]
  after_results_simp
  all_goals rfl

theorem ix2' : ∀ t : Fin cfg0.N, win0_2.index t = ![t.val, 0] := (by decide +kernel : ∀ t : Fin grid0.N, _)
theorem ix5' : ∀ t : Fin cfg0.N, win0_5.index t = ![t.val / 5, t.val % 5, 0] := (by decide +kernel : ∀ t : Fin grid0.N, _)
theorem ix10' : ∀ t : Fin cfg0.N, win0_10.index t = ![t.val / 5, t.val % 5, 0] := (by decide +kernel : ∀ t : Fin grid0.N, _)
theorem ix11' : ∀ t : Fin cfg0.N, win0_11.index t = ![t.val / 5, 0, t.val % 5] := (by decide +kernel : ∀ t : Fin grid0.N, _)

theorem iblk2_apply (c : Dev nD) (t : Fin cfg0.N) (h : Fin 8) (r d : Fin 128) :
    row8 (bv m c t) h r d = m ((c : Thread nD τ).loc main_arg2) (ix4 (tb t) (tk t r) h d) := by
  have e := ix2' t
  have ht : t.val < 15 := t.isLt
  rw [← castT15_apply (m ((c : Thread nD τ).loc main_arg2)) ⟨t.val * 1024 + (8 * r.val + h.val), by omega⟩ d (tb t) (tk t r) h (by show _ = (t.val / 5 * 640 + (128 * (t.val % 5) + r.val)) * 8 + h.val; simp only []; omega), ← V16 m c]
  unfold row8 bv iblk
  blk_simp
  refine congrArg (V m c main_v16) ?_
  blk_ext [e]

section
variable (c : Dev nD) (t : Fin cfg0.N) (key : Fin 640)
theorem kp_batch : tb (kp t.val (key.val / 128)) = tb t :=
  Fin.ext (by have h : t.val < 15 := t.isLt; show (5 * (t.val / 5) + key.val / 128) % 15 / 5 = t.val / 5; omega)
theorem kp_token : tk (kp t.val (key.val / 128)) ⟨key.val % 128, Nat.mod_lt _ (by decide)⟩ = key :=
  Fin.ext (by have h : t.val < 15 := t.isLt; show 128 * ((5 * (t.val / 5) + key.val / 128) % 15 % 5) + key.val % 128 = key.val; omega)

theorem KC_apply (h : Fin 8) (d : Fin 128) : KC m c t.val h key d
    = tcode (m ((c : Thread nD τ).loc main_arg3)) (m ((c : Thread nD τ).loc main_arg1)) (tb t) key h d := by
  rw [KC, codes_k, kp_batch, kp_token]
theorem KS_apply (h : Fin 8) : KS m c t.val h key
    = tscale (m ((c : Thread nD τ).loc main_arg3)) (m ((c : Thread nD τ).loc main_arg1)) (tb t) key h * scoreC := by
  rw [KS, scales_k, kp_batch, kp_token]
theorem VT_apply (h : Fin 8) (d : Fin 128) : VT m c t.val h d key = m ((c : Thread nD τ).loc main_arg2) (ix4 (tb t) key h d) := by
  rw [VT, iblk2_apply, kp_batch, kp_token]

/-- The outputs at a grid point. -/
theorem att_apply (h : Fin 40) (q d : Fin 128) : att m c t h q d
    = tatt (m ((c : Thread nD τ).loc main_arg0)) (m ((c : Thread nD τ).loc main_arg1)) (m ((c : Thread nD τ).loc main_arg2))
      (m ((c : Thread nD τ).loc main_arg3)) (tb t) h (tk t q) d := by
  unfold att attn
  simp only [KC_apply, KS_apply, VT_apply, codes_q, scales_q]
  refine katt_tatt _ _ _ _ _ (tb t) h (tk t q) d (by show 128 * (t.val % 5) + q.val < 128 * (t.val % 5) + 128; omega) _ _ (fun k => rfl) fun k => ?_
  refine congrArg _ ?_
  unfold kbias
  refine if_congr ?_ rfl rfl
  show k.val + 128 ≤ 128 * (t.val % 5) + 128 + q.val ↔ k.val ≤ 128 * (t.val % 5) + q.val
  omega

theorem oexp_apply (q : Fin 128) : oexp (att m c t) q
    = texp (m ((c : Thread nD τ).loc main_arg0)) (m ((c : Thread nD τ).loc main_arg1)) (m ((c : Thread nD τ).loc main_arg2))
      (m ((c : Thread nD τ).loc main_arg3)) (tb t) (tk t q) := by
  unfold oexp texp tout
  simp only [att_apply]
end

theorem final5 (c : Dev nD) : (dats m 0 c).arrAt 5 cfg0.N
    = GO (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have e := ix5' t
  have ht : t.val < 15 := t.isLt
  have hy : (y 0).val < 1 := (y 0).isLt
  have e0 : ((win0_5.blk t).view.emb y 0 : Fin _) = tb t := Fin.ext (by blk_simp [e]; simp [tb] <;> omega)
  have e1 : ((win0_5.blk t).view.emb y 1 : Fin _) = tk t (y 1) := Fin.ext (by blk_simp [e]; simp [tk] <;> omega)
  have e2 : ((win0_5.blk t).view.emb y 2 : Fin _) = y 2 := Fin.ext (by blk_simp [e] <;> simp)
  blk_simp
  show outHeads (att m c t) y = _
  unfold outHeads
  refine (att_apply m c t _ _ _).trans ?_
  unfold GO
  rw [e0, e1, e2]
  rfl

theorem final10 (c : Dev nD) : (dats m 0 c).arrAt 10 cfg0.N
    = GOC (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  have e := ix10' t
  have ht : t.val < 15 := t.isLt
  have hy : (y 0).val < 1 := (y 0).isLt
  have e0 : ((win0_10.blk t).view.emb y 0 : Fin _) = tb t := Fin.ext (by blk_simp [e]; simp [tb] <;> omega)
  have e1 : ((win0_10.blk t).view.emb y 1 : Fin _) = tk t (y 1) := Fin.ext (by blk_simp [e]; simp [tk] <;> omega)
  have e2 : ((win0_10.blk t).view.emb y 2 : Fin _) = y 2 := Fin.ext (by blk_simp [e] <;> simp)
  blk_simp
  show outHeads (ocode (att m c t)) y = _
  unfold outHeads
  refine (congrArg₂ kclip (att_apply m c t _ _ _) (oexp_apply m c t _)).trans ?_
  unfold GOC
  rw [e0, e1, e2]
  rfl

theorem final11 (c : Dev nD) : (dats m 0 c).arrAt 11 cfg0.N
    = GOS (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t hf y => ?_
  have e := ix11' t
  have ht : t.val < 15 := t.isLt
  have hy : (y 0).val < 1 := (y 0).isLt
  have e0 : ((win0_11.blk t).view.emb y 0 : Fin _) = tb t := Fin.ext (by blk_simp [e]; simp [tb] <;> omega)
  have e2 : ((win0_11.blk t).view.emb y 2 : Fin _) = tk t (y 2) := Fin.ext (by blk_simp [e]; simp [tk] <;> omega)
  blk_simp
  show outRow (att m c t) y = _
  unfold outRow
  refine (congrArg Ideal.exp2 (oexp_apply m c t _)).trans ?_
  unfold GOS
  rw [e0, e2]

end Cert.Proof.Val

end
-- ==== Proof.Value.RefVec.lean ====
module

public import proofs.«01_k».proof.Proof.Value.Att
public import proofs.«01_k».proof.Proof.Gen.ReferenceIdeal.Run

/-!
# The reference's vector steps, entry by entry

The reference's quantiser and attention at an index, each for any array they are applied to.
-/

@[expose] public section

set_option maxRecDepth 16384

noncomputable section

namespace Cert.Proof.Val

open Cert.ReferenceIdeal Cert.ReferenceIdeal.Gen Cert.ReferenceIdeal.Value
open Idealize.ShloMosaic Idealize.ShloMosaic.TcCoe Idealize.ShloMosaic.Tactic

/-- The constant two is two. -/
theorem bits_two : bits 0x40000000#32 = ((2 : ℝ) : EReal) := by
  simp [bits, Ideal.ofBits, Ideal.ieee, -EReal.coe_mul]; norm_num

/-- The constant near 1 / 448 is not zero. -/
theorem c448_pos : ∃ r : ℝ, 0 < r ∧ c448 = (r : EReal) := by
  refine ⟨_, ?_, by simp [c448, bits, Ideal.ofBits, Ideal.ieee, -EReal.coe_mul]; rfl⟩
  norm_num

/-- A power of two, spelled as a power or as an exponential. -/
theorem pow_two (e : EReal) : Ideal.pow (bits 0x40000000#32) e = Ideal.exp2 e := by
  rw [bits_two]
  induction e using EReal.rec with
  | bot => exact (if_neg (by norm_num)).trans (if_pos (by norm_num))
  | top => exact (if_neg (by norm_num)).trans (if_pos (by norm_num))
  | coe r => rfl

/-- Dividing by log 2 is multiplying by its named inverse. -/
theorem div_log_two (x : EReal) : Ideal.div x (Ideal.log (bits 0x40000000#32)) = x * l2e := by
  have h : Real.log 2 ≠ 0 := (Real.log_pos one_lt_two).ne'
  rw [bits_two, show Ideal.log ((2 : ℝ) : EReal) = ((Real.log 2 : ℝ) : EReal) from if_neg (by norm_num), Ideal.div_coe h, one_div]
  rfl

/-- The reference's exponent of the scale that quantises a vector of largest magnitude `a`. -/
def rexp (a : EReal) : EReal :=
  if a = 0 then 0 else Ideal.liftRound Int.floor (Ideal.div (Ideal.log (a * c448)) (Ideal.log (bits 0x40000000#32))) + 1
/-- The reference's codes. -/
def rclip (x e : EReal) : EReal := min (bits 0x43E00000#32) (max (bits 0xC3E00000#32) (x * Ideal.pow (bits 0x40000000#32) (-e)))

/-- The scaled magnitude is zero exactly when the magnitude is. -/
theorem scaled_eq_zero (a : EReal) : a * c448 = 0 ↔ a = 0 := by
  obtain ⟨r, h, e⟩ := c448_pos
  rw [e, mul_eq_zero]
  exact or_iff_left (by exact_mod_cast h.ne')

theorem rexp_eq (a : EReal) : rexp a = kexp a := by
  unfold rexp kexp
  rw [div_log_two]
  by_cases h : a = 0
  · rw [if_pos h, if_pos ((scaled_eq_zero a).2 h)]
  · rw [if_neg h, if_neg (mt (scaled_eq_zero a).1 h)]

theorem rclip_eq (x e : EReal) : rclip x e = kclip x e := by
  unfold rclip kclip
  rw [pow_two, show -e = 0 - e from (zero_sub e).symm]

theorem const_zero : (id (constant (F := Ideal) S_ .f32 0x00000000#32) Idealize.ShloMosaic.ix0 : EReal) = 0 := by
  show Ideal.ofBits .f32 0#32 = 0
  simp [Ideal.ofBits, Ideal.ieee]

theorem exp_q (A : FVec Ideal S3x640x40x1 .f32) (i : S3x640x40x1.Idx) :
    select (cmpf .oeq A (broadcastInDim S3x640x40x1 ![] bcast_S_S3x640x40x1 (constant S_ .f32 0x00000000#32))) (broadcastInDim S3x640x40x1 ![] bcast_S_S3x640x40x1 (id (constant S_ .f32 0x00000000#32))) (addf (Host.floor (Host.divf (Host.log (mulf A (broadcastInDim S3x640x40x1 ![] bcast_S_S3x640x40x1 (constant S_ .f32 0x3B124925#32)))) (Host.log (broadcastInDim S3x640x40x1 ![] bcast_S_S3x640x40x1 (constant S_ .f32 0x40000000#32))))) (broadcastInDim S3x640x40x1 ![] bcast_S_S3x640x40x1 (constant S_ .f32 0x3F800000#32))) i
      = rexp (A i) := by
  pointwise
  rw [const_zero]
  rfl

theorem clip_q (X : FVec Ideal S3x640x40x128 .f32) (E : FVec Ideal S3x640x40x1 .f32) (b : Fin 3) (s : Fin 640) (h : Fin 40) (d : Fin 128) :
    minimumf (broadcastInDim S3x640x40x128 ![] bcast_S_S3x640x40x128 (id (constant S_ .f32 0x43E00000#32))) (maximumf (broadcastInDim S3x640x40x128 ![] bcast_S_S3x640x40x128 (id (constant S_ .f32 0xC3E00000#32))) (mulf X (broadcastInDim S3x640x40x128 ![0, 1, 2, 3] bcast_S3x640x40x1_S3x640x40x128_0_1_2_3 (Host.powf (broadcastInDim S3x640x40x1 ![] bcast_S_S3x640x40x1 (constant S_ .f32 0x40000000#32)) (Host.negf E))))) (ix4 b s h d)
      = rclip (X (ix4 b s h d)) (E (ix4 b s h 0)) := by
  pointwise
  rfl

theorem pow_q (E : FVec Ideal S3x640x40x1 .f32) (b : Fin 3) (s : Fin 640) (h : Fin 40) :
    shapeCast S3x640x40 (Host.powf (broadcastInDim S3x640x40x1 ![] bcast_S_S3x640x40x1 (constant S_ .f32 0x40000000#32)) E) shapeCasts_S3x640x40x1_S3x640x40 (ix3 b s h)
      = Ideal.pow (bits 0x40000000#32) (E (ix4 b s h 0)) := by
  pointwise

theorem max_q (X : FVec Ideal S3x640x40x128 .f32) (b : Fin 3) (s : Fin 640) (h : Fin 40) :
    broadcastInDim S3x640x40x1 ![0, 1, 2] bcast_S3x640x40_S3x640x40x1_0_1_2 (Host.reduce FloatOps.maximumf (Host.absf X) (constant S_ .f32 0xFF800000#32) reducesTo_S3x640x40x128_S3x640x40_d3 h_S_) (ix4 b s h 0)
      = kmax fun d => X (ix4 b s h d) := by
  pointwise
  rw [show Ideal.ofBits FTy.f32 4286578688#32 = ⊥ from bits_neg_inf]
  rfl

theorem exp_k (A : FVec Ideal S3x640x8x1 .f32) (i : S3x640x8x1.Idx) :
    select (cmpf .oeq A (broadcastInDim S3x640x8x1 ![] bcast_S_S3x640x8x1 (constant S_ .f32 0x00000000#32))) (broadcastInDim S3x640x8x1 ![] bcast_S_S3x640x8x1 (id (constant S_ .f32 0x00000000#32))) (addf (Host.floor (Host.divf (Host.log (mulf A (broadcastInDim S3x640x8x1 ![] bcast_S_S3x640x8x1 (constant S_ .f32 0x3B124925#32)))) (Host.log (broadcastInDim S3x640x8x1 ![] bcast_S_S3x640x8x1 (constant S_ .f32 0x40000000#32))))) (broadcastInDim S3x640x8x1 ![] bcast_S_S3x640x8x1 (constant S_ .f32 0x3F800000#32))) i
      = rexp (A i) := by
  pointwise
  rw [const_zero]
  rfl

theorem clip_k (X : FVec Ideal S3x640x8x128 .f32) (E : FVec Ideal S3x640x8x1 .f32) (b : Fin 3) (s : Fin 640) (h : Fin 8) (d : Fin 128) :
    minimumf (broadcastInDim S3x640x8x128 ![] bcast_S_S3x640x8x128 (id (constant S_ .f32 0x43E00000#32))) (maximumf (broadcastInDim S3x640x8x128 ![] bcast_S_S3x640x8x128 (id (constant S_ .f32 0xC3E00000#32))) (mulf X (broadcastInDim S3x640x8x128 ![0, 1, 2, 3] bcast_S3x640x8x1_S3x640x8x128_0_1_2_3 (Host.powf (broadcastInDim S3x640x8x1 ![] bcast_S_S3x640x8x1 (constant S_ .f32 0x40000000#32)) (Host.negf E))))) (ix4 b s h d)
      = rclip (X (ix4 b s h d)) (E (ix4 b s h 0)) := by
  pointwise
  rfl

theorem pow_k (E : FVec Ideal S3x640x8x1 .f32) (b : Fin 3) (s : Fin 640) (h : Fin 8) :
    shapeCast S3x640x8 (Host.powf (broadcastInDim S3x640x8x1 ![] bcast_S_S3x640x8x1 (constant S_ .f32 0x40000000#32)) E) shapeCasts_S3x640x8x1_S3x640x8 (ix3 b s h)
      = Ideal.pow (bits 0x40000000#32) (E (ix4 b s h 0)) := by
  pointwise

theorem max_k (X : FVec Ideal S3x640x8x128 .f32) (b : Fin 3) (s : Fin 640) (h : Fin 8) :
    broadcastInDim S3x640x8x1 ![0, 1, 2] bcast_S3x640x8_S3x640x8x1_0_1_2 (Host.reduce FloatOps.maximumf (Host.absf X) (constant S_ .f32 0xFF800000#32) reducesTo_S3x640x8x128_S3x640x8_d3 h_S_) (ix4 b s h 0)
      = kmax fun d => X (ix4 b s h d) := by
  pointwise
  rw [show Ideal.ofBits FTy.f32 4286578688#32 = ⊥ from bits_neg_inf]
  rfl

/-! ## The attention -/

theorem sle_key (k q : Fin 640) : IntOp.cmpi .sle (BitVec.ofNat 32 k.val) (BitVec.ofNat 32 q.val) = (if k.val ≤ q.val then 1#1 else 0#1) := by
  have e : ∀ x : Fin 640, (BitVec.ofNat 32 x.val).toInt = (x.val : Int) := fun x => by
    have h : (BitVec.ofNat 32 x.val).toNat = x.val := by rw [BitVec.toNat_ofNat]; omega
    rw [BitVec.toInt_eq_toNat_of_lt (by omega), h]
  show BitVec.ofBool (BitVec.sle _ _) = _
  rw [BitVec.sle_eq_decide, e, e]
  by_cases h : k.val ≤ q.val
  · rw [if_pos h, decide_eq_true (by exact_mod_cast h)]; rfl
  · rw [if_neg h, decide_eq_false (by exact_mod_cast h)]; rfl

theorem const_bot : (id (constant (F := Ideal) S_ .f32 0xFF800000#32) Idealize.ShloMosaic.ix0 : EReal) = ⊥ := bits_neg_inf

section
variable (b : Fin 3) (h : Fin 8) (g : Fin 5) (q k : Fin 640) (c : Fin 5120)

/-- The masked scores. -/
theorem score_apply (KC : FVec Ideal S3x640x8x128 .f32) (QC : FVec Ideal S3x640x40x128 .f32) (QS : FVec Ideal S3x640x40 .f32) (KS : FVec Ideal S3x640x8 .f32) :
    (select (broadcastInDim S3x8x5x640x640 ![3, 4] bcast_S640x640_S3x8x5x640x640_3_4 (cmpi .sle (broadcastInDim S640x640 ![0, 1] bcast_S1x640_S640x640_0_1 (broadcastInDim S1x640 ![1] bcast_S640_S1x640_1 (iotaInDim S640 32 0))) (broadcastInDim S640x640 ![0, 1] bcast_S640x1_S640x640_0_1 (broadcastInDim S640x1 ![0] bcast_S640_S640x1_0 (iotaInDim S640 32 0))))) (mulf (mulf (mulf (transpose S3x8x5x640x640 [0, 1, 4, 3, 2] (Host.dotGeneral dot_S3x640x8x128_S3x640x8x5x128_S3x8x640x640x5_3_4_1_13_02_02 none KC (shapeCast S3x640x8x5x128 QC shapeCasts_S3x640x40x128_S3x640x8x5x128)) transposes_S3x8x640x640x5_S3x8x5x640x640_0_1_4_3_2) (broadcastInDim S3x8x5x640x640 ![0, 1, 2, 3, 4] bcast_S3x8x5x640x1_S3x8x5x640x640_0_1_2_3_4 (broadcastInDim S3x8x5x640x1 ![0, 1, 2, 3] bcast_S3x8x5x640_S3x8x5x640x1_0_1_2_3 (transpose S3x8x5x640 [0, 2, 3, 1] (shapeCast S3x640x8x5 QS shapeCasts_S3x640x40_S3x640x8x5) transposes_S3x640x8x5_S3x8x5x640_0_2_3_1)))) (broadcastInDim S3x8x5x640x640 ![0, 1, 2, 3, 4] bcast_S3x8x1x1x640_S3x8x5x640x640_0_1_2_3_4 (broadcastInDim S3x8x1x1x640 ![0, 1, 4] bcast_S3x8x640_S3x8x1x1x640_0_1_4 (transpose S3x8x640 [0, 2, 1] KS transposes_S3x640x8_S3x8x640_0_2_1)))) (broadcastInDim S3x8x5x640x640 ![] bcast_S_S3x8x5x640x640 (constant S_ .f32 0x3DB504F3#32))) (broadcastInDim S3x8x5x640x640 ![] bcast_S_S3x8x5x640x640 (id (constant S_ .f32 0xFF800000#32))) : FVec Ideal S3x8x5x640x640 .f32) (ix5 b h g q k)
      = if k.val ≤ q.val then (∑ d : Fin 128, KC (ix4 b k h d) * QC (ix4 b q ⟨h.val * 5 + g.val, by omega⟩ d)) * QS (ix3 b q ⟨h.val * 5 + g.val, by omega⟩)
          * KS (ix3 b k h) * bits 0x3DB504F3#32 else ⊥ := by
  pointwise
  rw [sle_key, const_bot]
  by_cases e : k.val ≤ q.val
  · rw [if_pos e, if_pos e]; rfl
  · rw [if_neg e, if_neg e]; rfl

theorem max_of (R : FVec Ideal S3x8x5x640 .f32) (i : S3x8x5x640.Idx) : maximumf (broadcastInDim S3x8x5x640 ![] bcast_S_S3x8x5x640 (constant S_ .f32 0xFF800000#32)) R i = max (bits 0xFF800000#32) (R i) := by
  pointwise

theorem fold_of (X : FVec Ideal S3x8x5x640x640 .f32) :
    (Host.reduce FloatOps.maximumf X (constant S_ .f32 0xFF800000#32) reducesTo_S3x8x5x640x640_S3x8x5x640_d4 h_S_ : FVec Ideal S3x8x5x640 .f32) (ix4 b h g q) = Finset.univ.fold max (bits 0xFF800000#32) fun k => X (ix5 b h g q k) := by
  pointwise

/-- The largest score of a query. -/
theorem row_max (X : FVec Ideal S3x8x5x640x640 .f32) :
    (maximumf (broadcastInDim S3x8x5x640 ![] bcast_S_S3x8x5x640 (constant S_ .f32 0xFF800000#32)) (Host.reduce FloatOps.maximumf X (constant S_ .f32 0xFF800000#32) reducesTo_S3x8x5x640x640_S3x8x5x640_d4 h_S_) : FVec Ideal S3x8x5x640 .f32) (ix4 b h g q) = vmax fun k => X (ix5 b h g q k) := by
  rw [max_of, fold_of, bits_neg_inf, max_eq_right bot_le, vmax]

theorem weight_of (X : FVec Ideal S3x8x5x640x640 .f32) (M : FVec Ideal S3x8x5x640 .f32) :
    (Host.exp (subf X (broadcastInDim S3x8x5x640x640 ![0, 1, 2, 3, 4] bcast_S3x8x5x640x1_S3x8x5x640x640_0_1_2_3_4 (broadcastInDim S3x8x5x640x1 ![0, 1, 2, 3] bcast_S3x8x5x640_S3x8x5x640x1_0_1_2_3 M))) : FVec Ideal S3x8x5x640x640 .f32) (ix5 b h g q k) = Ideal.exp (X (ix5 b h g q k) - M (ix4 b h g q)) := by
  pointwise

/-- The weights, before they are normalised. -/
theorem weight_apply (X : FVec Ideal S3x8x5x640x640 .f32) :
    (Host.exp (subf X (broadcastInDim S3x8x5x640x640 ![0, 1, 2, 3, 4] bcast_S3x8x5x640x1_S3x8x5x640x640_0_1_2_3_4 (broadcastInDim S3x8x5x640x1 ![0, 1, 2, 3] bcast_S3x8x5x640_S3x8x5x640x1_0_1_2_3 (maximumf (broadcastInDim S3x8x5x640 ![] bcast_S_S3x8x5x640 (constant S_ .f32 0xFF800000#32)) (Host.reduce FloatOps.maximumf X (constant S_ .f32 0xFF800000#32) reducesTo_S3x8x5x640x640_S3x8x5x640_d4 h_S_))))) : FVec Ideal S3x8x5x640x640 .f32) (ix5 b h g q k)
      = rwt (fun k => X (ix5 b h g q k)) k := by
  rw [weight_of, row_max]
  rfl

/-- The outputs. -/
theorem out_apply (A : FVec Ideal S3x640x8x128 .bf16) (W : FVec Ideal S3x8x5x640x640 .f32) :
    (shapeCast S3x640x5120 (transpose S3x640x8x5x128 [0, 4, 1, 3, 2] (Host.dotGeneral dot_S3x640x8x128_S3x8x5x640x640_S3x8x128x5x640_1_4_3_23_02_01 none A (truncf .bf16 (Host.divf W (broadcastInDim S3x8x5x640x640 ![0, 1, 2, 3, 4] bcast_S3x8x5x640x1_S3x8x5x640x640_0_1_2_3_4 (broadcastInDim S3x8x5x640x1 ![0, 1, 2, 3] bcast_S3x8x5x640_S3x8x5x640x1_0_1_2_3 (Host.reduceAdd W (constant S_ .f32 0x00000000#32) reducesTo_S3x8x5x640x640_S3x8x5x640_d4 h_S_)))) bitsLt_bf16_f32)) transposes_S3x8x128x5x640_S3x640x8x5x128_0_4_1_3_2) shapeCasts_S3x640x8x5x128_S3x640x5120 : FVec Ideal S3x640x5120 .f32) (ix3 b q c)
      = ∑ k : Fin 640, A (ix4 b k ⟨c.val / 640, by omega⟩ ⟨c.val % 128, by omega⟩)
          * Ideal.div (W (ix5 b ⟨c.val / 640, by omega⟩ ⟨c.val / 128 % 5, by omega⟩ q k)) (∑ k : Fin 640, W (ix5 b ⟨c.val / 640, by omega⟩ ⟨c.val / 128 % 5, by omega⟩ q k)) := by
  pointwise

theorem max_o (O : FVec Ideal S3x640x5120 .f32) :
    (broadcastInDim S3x640x1 ![0, 1] bcast_S3x640_S3x640x1_0_1 (Host.reduce FloatOps.maximumf (Host.absf O) (constant S_ .f32 0xFF800000#32) reducesTo_S3x640x5120_S3x640_d2 h_S_) : FVec Ideal S3x640x1 .f32) (ix3 b q 0) = kmax fun c => O (ix3 b q c) := by
  pointwise
  rw [show Ideal.ofBits FTy.f32 4286578688#32 = ⊥ from bits_neg_inf]
  rfl

theorem exp_o (A : FVec Ideal S3x640x1 .f32) (i : S3x640x1.Idx) :
    (select (cmpf .oeq A (broadcastInDim S3x640x1 ![] bcast_S_S3x640x1 (constant S_ .f32 0x00000000#32))) (broadcastInDim S3x640x1 ![] bcast_S_S3x640x1 (id (constant S_ .f32 0x00000000#32))) (addf (Host.floor (Host.divf (Host.log (mulf A (broadcastInDim S3x640x1 ![] bcast_S_S3x640x1 (constant S_ .f32 0x3B124925#32)))) (Host.log (broadcastInDim S3x640x1 ![] bcast_S_S3x640x1 (constant S_ .f32 0x40000000#32))))) (broadcastInDim S3x640x1 ![] bcast_S_S3x640x1 (constant S_ .f32 0x3F800000#32))) : FVec Ideal S3x640x1 .f32) i = rexp (A i) := by
  pointwise
  rw [const_zero]
  rfl

theorem clip_o (O : FVec Ideal S3x640x5120 .f32) (E : FVec Ideal S3x640x1 .f32) :
    (minimumf (broadcastInDim S3x640x5120 ![] bcast_S_S3x640x5120 (id (constant S_ .f32 0x43E00000#32))) (maximumf (broadcastInDim S3x640x5120 ![] bcast_S_S3x640x5120 (id (constant S_ .f32 0xC3E00000#32))) (mulf O (broadcastInDim S3x640x5120 ![0, 1, 2] bcast_S3x640x1_S3x640x5120_0_1_2 (Host.powf (broadcastInDim S3x640x1 ![] bcast_S_S3x640x1 (constant S_ .f32 0x40000000#32)) (Host.negf E))))) : FVec Ideal S3x640x5120 .f32) (ix3 b q c) = rclip (O (ix3 b q c)) (E (ix3 b q 0)) := by
  pointwise
  rfl

theorem pow_o (E : FVec Ideal S3x640x1 .f32) :
    (broadcastInDim S3x1x640 ![0, 2] bcast_S3x640_S3x1x640_0_2 (shapeCast S3x640 (Host.powf (broadcastInDim S3x640x1 ![] bcast_S_S3x640x1 (constant S_ .f32 0x40000000#32)) E) shapeCasts_S3x640x1_S3x640) : FVec Ideal S3x1x640 .f32) (ix3 b 0 q) = Ideal.pow (bits 0x40000000#32) (E (ix3 b q 0)) := by
  pointwise
end

end Cert.Proof.Val

end
-- ==== Proof.Value.Ref.lean ====
module

public import proofs.«01_k».proof.Proof.Value.AttArrays
public import proofs.«01_k».proof.Proof.Value.RefVec
public import proofs.«01_k».proof.Proof.Gen.ReferenceIdeal.Run

/-!
# The reference's results, entry by entry

The reference's rotation, quantiser and attention are read at an index and come out as the functions the kernel's
result arrays hold.
-/

@[expose] public section

set_option maxRecDepth 16384

noncomputable section

namespace Cert.Proof.Val

open Cert.ReferenceIdeal Cert.ReferenceIdeal.Gen Cert.ReferenceIdeal.Value
open Idealize.ShloMosaic Idealize.ShloMosaic.TcCoe Idealize.ShloMosaic.Tactic

variable (V0 : Valuation τ sig (Elt Ideal))

theorem v27_apply (b : Fin 3) (s : Fin 640) (j : Fin 64) :
    res_main_v27 V0 (ix3 b s j) = ang (V0 (Proc.devRef .tc main_arg3)) b s j := by
  have e : freq j = Ideal.div 1 (Ideal.pow (bits 0x49742400#32) (Ideal.div (bits 0x40000000#32 * FloatOps.sitofp (F := Ideal) FTy.f32 (BitVec.ofNat 32 j.val)) (bits 0x43000000#32))) := by
    unfold freq
    pointwise
  pointwise [res_main_v27]
  rw [ang, e]
  by_cases h : j.val < 16
  · rw [dif_pos h, if_pos h]
  · rw [dif_neg h, if_neg h]
    by_cases h' : j.val < 40
    · rw [dif_pos (by omega), if_pos h']
    · rw [dif_neg (by omega), if_neg h']

section
variable (b : Fin 3) (s : Fin 640) (h : Fin 40) (d : Fin 128)
/-- The rotation. -/
theorem v43_apply : res_main_v43 V0 (ix4 b s h d)
    = krope (tcos (V0 (Proc.devRef .tc main_arg3)) b s) (tsin (V0 (Proc.devRef .tc main_arg3)) b s) (fun d => V0 (Proc.devRef .tc main_arg0) (ix4 b s h d)) d := by
  pointwise [res_main_v43, res_main_v32, res_main_v30, res_main_v31, res_main_v28, res_main_v29, v27_apply]
  unfold krope tcos tsin
  by_cases h : d.val < 64
  · simp only [dif_pos h, EReal.neg_mul, sub_eq_add_neg]
  · have e : (⟨64 + (d.val - 64), by omega⟩ : Fin 128) = d := Fin.ext (by simp only []; omega)
    simp only [dif_neg h, e]

/-- The largest magnitude of a head. -/
theorem v46_apply : res_main_v46 V0 (ix4 b s h 0) = kmax fun d => res_main_v43 V0 (ix4 b s h d) := by
  exact max_q _ b s h

/-- The exponent of a head's scale. -/
theorem v58_apply : res_main_v58 V0 (ix4 b s h 0)
    = hexp (tcos (V0 (Proc.devRef .tc main_arg3)) b s) (tsin (V0 (Proc.devRef .tc main_arg3)) b s) (fun d => V0 (Proc.devRef .tc main_arg0) (ix4 b s h d)) := by
  rw [res_main_v58, exp_q, rexp_eq, v46_apply, hexp]
  simp only [v43_apply]

/-- The codes. -/
theorem v64_apply : res_main_v64 V0 (ix4 b s h d) = tcode (V0 (Proc.devRef .tc main_arg3)) (V0 (Proc.devRef .tc main_arg0)) b s h d := by
  rw [res_main_v64, res_main_v59, clip_q, rclip_eq, v43_apply, v58_apply]
  rfl

/-- The scales. -/
theorem v66_apply : res_main_v66 V0 (ix3 b s h) = tscale (V0 (Proc.devRef .tc main_arg3)) (V0 (Proc.devRef .tc main_arg0)) b s h := by
  rw [res_main_v66, res_main_v59]
  exact (pow_q _ b s h).trans (by rw [pow_two, v58_apply]; rfl)
end

/-- The reference's codes, in the order of the kernel's. -/
theorem ref_codes_q : (shapeCast S76800x128 (Host.convertf .fp8e4m3 (res_main_v64 V0)) shapeCasts_S3x640x40x128_S76800x128 : S76800x128.Idx → EReal)
    = GC (n := 40) (N := 76800) rfl (V0 (Proc.devRef .tc main_arg3)) (V0 (Proc.devRef .tc main_arg0)) := by
  funext y
  have hy : (y 0).val < 76800 := (y 0).isLt
  pointwise [v64_apply]
  exact congrArg (fun b => tcode _ _ b _ _ _) (Fin.ext (by simp only []; omega))

theorem ref_scales_q : (transpose S3x40x640 [0, 2, 1] (res_main_v66 V0) transposes_S3x640x40_S3x40x640_0_2_1 : S3x40x640.Idx → EReal)
    = GS (n := 40) (V0 (Proc.devRef .tc main_arg3)) (V0 (Proc.devRef .tc main_arg0)) := by
  funext y
  pointwise [v66_apply]
  rfl

section
variable (b : Fin 3) (s : Fin 640) (h : Fin 8) (d : Fin 128)
/-- The rotation. -/
theorem v78_apply : res_main_v78 V0 (ix4 b s h d)
    = krope (tcos (V0 (Proc.devRef .tc main_arg3)) b s) (tsin (V0 (Proc.devRef .tc main_arg3)) b s) (fun d => V0 (Proc.devRef .tc main_arg1) (ix4 b s h d)) d := by
  pointwise [res_main_v78, res_main_v67, res_main_v30, res_main_v31, res_main_v28, res_main_v29, v27_apply]
  unfold krope tcos tsin
  by_cases h : d.val < 64
  · simp only [dif_pos h, EReal.neg_mul, sub_eq_add_neg]
  · have e : (⟨64 + (d.val - 64), by omega⟩ : Fin 128) = d := Fin.ext (by simp only []; omega)
    simp only [dif_neg h, e]

/-- The largest magnitude of a head. -/
theorem v81_apply : res_main_v81 V0 (ix4 b s h 0) = kmax fun d => res_main_v78 V0 (ix4 b s h d) := by
  exact max_k _ b s h

/-- The exponent of a head's scale. -/
theorem v93_apply : res_main_v93 V0 (ix4 b s h 0)
    = hexp (tcos (V0 (Proc.devRef .tc main_arg3)) b s) (tsin (V0 (Proc.devRef .tc main_arg3)) b s) (fun d => V0 (Proc.devRef .tc main_arg1) (ix4 b s h d)) := by
  rw [res_main_v93, exp_k, rexp_eq, v81_apply, hexp]
  simp only [v78_apply]

/-- The codes. -/
theorem v99_apply : res_main_v99 V0 (ix4 b s h d) = tcode (V0 (Proc.devRef .tc main_arg3)) (V0 (Proc.devRef .tc main_arg1)) b s h d := by
  rw [res_main_v99, res_main_v94, clip_k, rclip_eq, v78_apply, v93_apply]
  rfl

/-- The scales. -/
theorem v101_apply : res_main_v101 V0 (ix3 b s h) = tscale (V0 (Proc.devRef .tc main_arg3)) (V0 (Proc.devRef .tc main_arg1)) b s h := by
  rw [res_main_v101, res_main_v94]
  exact (pow_k _ b s h).trans (by rw [pow_two, v93_apply]; rfl)
end

/-- The reference's codes, in the order of the kernel's. -/
theorem ref_codes_k : (shapeCast S15360x128 (Host.convertf .fp8e4m3 (res_main_v99 V0)) shapeCasts_S3x640x8x128_S15360x128 : S15360x128.Idx → EReal)
    = GC (n := 8) (N := 15360) rfl (V0 (Proc.devRef .tc main_arg3)) (V0 (Proc.devRef .tc main_arg1)) := by
  funext y
  have hy : (y 0).val < 15360 := (y 0).isLt
  pointwise [v99_apply]
  exact congrArg (fun b => tcode _ _ b _ _ _) (Fin.ext (by simp only []; omega))

theorem ref_scales_k : (transpose S3x8x640 [0, 2, 1] (res_main_v101 V0) transposes_S3x640x8_S3x8x640_0_2_1 : S3x8x640.Idx → EReal)
    = GS (n := 8) (V0 (Proc.devRef .tc main_arg3)) (V0 (Proc.devRef .tc main_arg1)) := by
  funext y
  pointwise [v101_apply]
  rfl

/-! ## The attention -/

section
variable (b : Fin 3) (h : Fin 8) (g : Fin 5) (q k : Fin 640) (c : Fin 5120)

/-- The masked scores. -/
theorem v122_apply : res_main_v122 V0 (ix5 b h g q k)
    = tscore (V0 (Proc.devRef .tc main_arg0)) (V0 (Proc.devRef .tc main_arg1)) (V0 (Proc.devRef .tc main_arg3)) b ⟨h.val * 5 + g.val, by omega⟩ q k := by
  unfold res_main_v122 res_main_v116
  refine (score_apply b h g q k _ _ _ _).trans ?_
  have e : (⟨(h.val * 5 + g.val) / 5, by omega⟩ : Fin 8) = h := Fin.ext (by simp only []; omega)
  unfold tscore
  simp only [v99_apply, v64_apply, v66_apply, v101_apply, e]

/-- The weights, before they are normalised. -/
theorem v129_apply : res_main_v129 V0 (ix5 b h g q k)
    = rwt (tscore (V0 (Proc.devRef .tc main_arg0)) (V0 (Proc.devRef .tc main_arg1)) (V0 (Proc.devRef .tc main_arg3)) b ⟨h.val * 5 + g.val, by omega⟩ q) k := by
  unfold res_main_v129
  refine (weight_apply b h g q k _).trans ?_
  simp only [v122_apply]

/-- The outputs. -/
theorem v137_apply : res_main_v137 V0 (ix3 b q c)
    = tout (V0 (Proc.devRef .tc main_arg0)) (V0 (Proc.devRef .tc main_arg1)) (V0 (Proc.devRef .tc main_arg2)) (V0 (Proc.devRef .tc main_arg3)) b q c := by
  unfold res_main_v137
  refine (out_apply b q c _ _).trans ?_
  have e1 : (⟨c.val / 640 * 5 + c.val / 128 % 5, by omega⟩ : Fin 40) = ⟨c.val / 128, by omega⟩ := Fin.ext (by simp only []; omega)
  have e2 : (⟨c.val / 640, by omega⟩ : Fin 8) = ⟨c.val / 128 / 5, by omega⟩ := Fin.ext (by simp only []; omega)
  simp only [v129_apply, e1]
  unfold tout tatt ratt
  simp only [e2]

/-- The exponent of the outputs' scale. -/
theorem v152_apply : res_main_v152 V0 (ix3 b q 0)
    = texp (V0 (Proc.devRef .tc main_arg0)) (V0 (Proc.devRef .tc main_arg1)) (V0 (Proc.devRef .tc main_arg2)) (V0 (Proc.devRef .tc main_arg3)) b q := by
  unfold res_main_v152 res_main_v140
  refine (exp_o _ _).trans ?_
  rw [rexp_eq, max_o, texp]
  simp only [v137_apply]
end

theorem ref_out : (truncf .bf16 (res_main_v137 V0) bitsLt_bf16_f32 : S3x640x5120.Idx → EReal)
    = GO (V0 (Proc.devRef .tc main_arg0)) (V0 (Proc.devRef .tc main_arg1)) (V0 (Proc.devRef .tc main_arg2)) (V0 (Proc.devRef .tc main_arg3)) := by
  funext y
  obtain ⟨a, rfl⟩ : ∃ a : Fin 3 × Fin 640 × Fin 5120, y = ix3 a.1 a.2.1 a.2.2 := ⟨(y 0, y 1, y 2), eq_ix3 y⟩
  exact v137_apply V0 _ _ _

theorem ref_codes_o : (Host.convertf .fp8e4m3 (minimumf (broadcastInDim S3x640x5120 ![] bcast_S_S3x640x5120 (id (constant S_ .f32 0x43E00000#32))) (maximumf (broadcastInDim S3x640x5120 ![] bcast_S_S3x640x5120 (id (constant S_ .f32 0xC3E00000#32))) (mulf (res_main_v137 V0) (broadcastInDim S3x640x5120 ![0, 1, 2] bcast_S3x640x1_S3x640x5120_0_1_2 (Host.powf (res_main_v153 V0) (Host.negf (res_main_v152 V0))))))) : S3x640x5120.Idx → EReal)
    = GOC (V0 (Proc.devRef .tc main_arg0)) (V0 (Proc.devRef .tc main_arg1)) (V0 (Proc.devRef .tc main_arg2)) (V0 (Proc.devRef .tc main_arg3)) := by
  funext y
  obtain ⟨a, rfl⟩ : ∃ a : Fin 3 × Fin 640 × Fin 5120, y = ix3 a.1 a.2.1 a.2.2 := ⟨(y 0, y 1, y 2), eq_ix3 y⟩
  unfold res_main_v153
  refine (clip_o _ _ _ _ _).trans ?_
  rw [rclip_eq, v137_apply, v152_apply]
  rfl

theorem ref_scales_o : (broadcastInDim S3x1x640 ![0, 2] bcast_S3x640_S3x1x640_0_2 (shapeCast S3x640 (Host.powf (res_main_v153 V0) (res_main_v152 V0)) shapeCasts_S3x640x1_S3x640) : S3x1x640.Idx → EReal)
    = GOS (V0 (Proc.devRef .tc main_arg0)) (V0 (Proc.devRef .tc main_arg1)) (V0 (Proc.devRef .tc main_arg2)) (V0 (Proc.devRef .tc main_arg3)) := by
  funext y
  obtain ⟨a, rfl⟩ : ∃ a : Fin 3 × Fin 640, y = ix3 a.1 0 a.2 := ⟨(y 0, y 2),
    (eq_ix3 y).trans (congrArg (fun z : Fin 1 => ix3 (y 0) z (y 2)) (Subsingleton.elim _ _))⟩
  unfold res_main_v153
  refine (pow_o _ _ _).trans ?_
  rw [pow_two, v152_apply]
  rfl

end Cert.Proof.Val

end
-- ==== Proof.Value.Claim.lean ====
module

public import proofs.«01_k».proof.Defs
public import proofs.«01_k».proof.Proof.Value.Ref

/-!
# Both programs end with the same results

The kernel's run, its seven arrays as functions of the arguments, beside the reference's run.
-/

@[expose] public section

set_option maxRecDepth 16384

noncomputable section

namespace Cert.Proof.Val

open Idealize.ShloMosaic

open Cert.KernelIdeal in
/-- The kernel and the reference end with the same seven results. -/
theorem algebraic : Cert.algebraic_KernelIdeal_ReferenceIdeal
    (hKernelIdeal := Cert.KernelIdeal.Gen.facts) (hReferenceIdeal := Cert.ReferenceIdeal.Gen.facts) := by
  intro m g m' g' _ hm
  refine ⟨fun c => GO (m ((c.tc : Thread nD τ).loc main_arg0)) (m ((c.tc : Thread nD τ).loc main_arg1)) (m ((c.tc : Thread nD τ).loc main_arg2)) (m ((c.tc : Thread nD τ).loc main_arg3)),
    fun c => GC (n := 40) (N := 76800) rfl (m ((c.tc : Thread nD τ).loc main_arg3)) (m ((c.tc : Thread nD τ).loc main_arg0)),
    fun c => GS (n := 40) (m ((c.tc : Thread nD τ).loc main_arg3)) (m ((c.tc : Thread nD τ).loc main_arg0)),
    fun c => GC (n := 8) (N := 15360) rfl (m ((c.tc : Thread nD τ).loc main_arg3)) (m ((c.tc : Thread nD τ).loc main_arg1)),
    fun c => GS (n := 8) (m ((c.tc : Thread nD τ).loc main_arg3)) (m ((c.tc : Thread nD τ).loc main_arg1)),
    fun c => GOC (m ((c.tc : Thread nD τ).loc main_arg0)) (m ((c.tc : Thread nD τ).loc main_arg1)) (m ((c.tc : Thread nD τ).loc main_arg2)) (m ((c.tc : Thread nD τ).loc main_arg3)),
    fun c => GOS (m ((c.tc : Thread nD τ).loc main_arg0)) (m ((c.tc : Thread nD τ).loc main_arg1)) (m ((c.tc : Thread nD τ).loc main_arg2)) (m ((c.tc : Thread nD τ).loc main_arg3)), ?_, ?_⟩
  · refine (θ_run _ _ _).mono (fun r h c => ?_) (run_blocks m g)
    obtain ⟨h0, h1, h2, h3, h4, h5, h6, a⟩ := h c
    exact ⟨h0.trans (final5 m c), h1.trans (final6 m c), h2.trans (final7 m c), h3.trans (final8 m c), h4.trans (final9 m c),
      h5.trans (final10 m c), h6.trans (final11 m c), a⟩
  · refine (θ_run _ _ _).mono (fun r h c => ?_) (Cert.ReferenceIdeal.Value.run (F := Ideal) m' g')
    obtain ⟨h0, h1, h2, h3, h4, h5, h6, a⟩ := h c
    obtain ⟨e0, e1, e2, e3⟩ := hm c
    have o : ∀ {β : Type} (G : (S3x640x40x128.Idx → EReal) → (S3x640x8x128.Idx → EReal) → (S3x640x8x128.Idx → EReal) → (S3x3x640.Idx → BitVec 32) → β),
        G (StableHlo.launchContents m' c (Proc.devRef .tc Cert.ReferenceIdeal.main_arg0)) (StableHlo.launchContents m' c (Proc.devRef .tc Cert.ReferenceIdeal.main_arg1))
          (StableHlo.launchContents m' c (Proc.devRef .tc Cert.ReferenceIdeal.main_arg2)) (StableHlo.launchContents m' c (Proc.devRef .tc Cert.ReferenceIdeal.main_arg3))
        = G (m ((c.tc : Thread nD τ).loc main_arg0)) (m ((c.tc : Thread nD τ).loc main_arg1)) (m ((c.tc : Thread nD τ).loc main_arg2)) (m ((c.tc : Thread nD τ).loc main_arg3)) :=
      fun G => (congrArg₂ (fun x y => G x y _ _) e0 e1).trans (congrArg₂ (G _ _) e2 e3)
    exact ⟨h0.trans ((ref_out _).trans (o GO)),
      h1.trans ((ref_codes_q _).trans (o fun x _ _ p => GC (n := 40) (N := 76800) rfl p x)),
      h2.trans ((ref_scales_q _).trans (o fun x _ _ p => GS (n := 40) p x)),
      h3.trans ((ref_codes_k _).trans (o fun _ x _ p => GC (n := 8) (N := 15360) rfl p x)),
      h4.trans ((ref_scales_k _).trans (o fun _ x _ p => GS (n := 8) p x)),
      h5.trans ((ref_codes_o _).trans (o GOC)), h6.trans ((ref_scales_o _).trans (o GOS)), a⟩

end Cert.Proof.Val

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Frame
public import proofs.«01_k».proof.Proof.Ideal.Frame
public import proofs.«01_k».proof.Proof.Value.Claim
public import Idealize.ShloMosaic.Lib.Bf16Pair

@[expose] public section

namespace Cert.Proof

open Idealize.ShloMosaic

/-- The reference leaves its arguments as they were and every counter at zero: its run, read at the arguments; it
    declares no semaphore. -/
theorem frame_reference : Cert.quiescent_ReferenceIdeal (hReferenceIdeal := Cert.ReferenceIdeal.Gen.facts) := fun m g _ =>
  (θ_run _ _ _).mono
    (fun r h => ⟨fun c => (h c).2.2.2.2.2.2.2, sem_eq_zero_of_no_sems (by decide) r.2⟩)
    (Cert.ReferenceIdeal.Value.run (F := Ideal) m g)

/-- The rewrites that lead from the kernel to its ideal reading, each the rule's own theorem. -/
theorem preserved : Cert.preserves_Kernel_KernelIdeal :=
  ⟨IdealRules.bf16_pair.statement _ _, IdealRules.bf16_pair.statement _ _,
    IdealRules.named_const.statement Cert.KernelIdeal.κ "log2e" .f32 0x3FB8AA3B#32 _ rfl,
    IdealRules.named_const.statement Cert.KernelIdeal.κ "score_c" .f32 0x3E0293EE#32 _ rfl⟩

/-- The certificate's claim. -/
theorem claim : Cert.Claim :=
  ⟨Cert.Kernel.Gen.facts, Cert.KernelIdeal.Gen.facts, Cert.ReferenceIdeal.Gen.facts,
    fun m g _ => Kernel.frame (F := Bits) m g, fun m g _ => KernelIdeal.frame (F := Ideal) m g, frame_reference, preserved, Val.algebraic⟩

end Cert.Proof
